-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwRefIdeal (m : (ℓ : Loc Cert.QueryDwRefIdeal.nD Cert.QueryDwRefIdeal.τ Cert.QueryDwRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_KvfFwd (m : (ℓ : Loc Cert.KvfFwd.nD Cert.KvfFwd.τ Cert.KvfFwd.sig) → Buf (Elt Bits) ℓ) : Prop :=
  True

def Pre_KvfFwdIdeal (m : (ℓ : Loc Cert.KvfFwdIdeal.nD Cert.KvfFwdIdeal.τ Cert.KvfFwdIdeal.sig) → Buf (Elt Ideal) ℓ) : Prop :=
  True

def Pre_KvfFwdRefIdeal (m : (ℓ : Loc Cert.KvfFwdRefIdeal.nD Cert.KvfFwdRefIdeal.τ Cert.KvfFwdRefIdeal.sig) → Buf (Elt Ideal) ℓ) : Prop :=
  True

def Pre_KvfDw (m : (ℓ : Loc Cert.KvfDw.nD Cert.KvfDw.τ Cert.KvfDw.sig) → Buf (Elt Bits) ℓ) : Prop :=
  True

def Pre_KvfDwIdeal (m : (ℓ : Loc Cert.KvfDwIdeal.nD Cert.KvfDwIdeal.τ Cert.KvfDwIdeal.sig) → Buf (Elt Ideal) ℓ) : Prop :=
  True

def Pre_KvfDwRefIdeal (m : (ℓ : Loc Cert.KvfDwRefIdeal.nD Cert.KvfDwRefIdeal.τ Cert.KvfDwRefIdeal.sig) → Buf (Elt Ideal) ℓ) : Prop :=
  True

def Pre_KvfDx (m : (ℓ : Loc Cert.KvfDx.nD Cert.KvfDx.τ Cert.KvfDx.sig) → Buf (Elt Bits) ℓ) : Prop :=
  True

def Pre_KvfDxIdeal (m : (ℓ : Loc Cert.KvfDxIdeal.nD Cert.KvfDxIdeal.τ Cert.KvfDxIdeal.sig) → Buf (Elt Ideal) ℓ) : Prop :=
  True

def Pre_KvfDxRefIdeal (m : (ℓ : Loc Cert.KvfDxRefIdeal.nD Cert.KvfDxRefIdeal.τ Cert.KvfDxRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_QueryFwd (m : (ℓ : Loc Cert.QueryFwd.nD Cert.QueryFwd.τ Cert.QueryFwd.sig) → Buf (Elt Bits) ℓ) : Prop :=
  True

def Pre_QueryFwdIdeal (m : (ℓ : Loc Cert.QueryFwdIdeal.nD Cert.QueryFwdIdeal.τ Cert.QueryFwdIdeal.sig) → Buf (Elt Ideal) ℓ) : Prop :=
  True

def Pre_QueryFwdRefIdeal (m : (ℓ : Loc Cert.QueryFwdRefIdeal.nD Cert.QueryFwdRefIdeal.τ Cert.QueryFwdRefIdeal.sig) → Buf (Elt Ideal) ℓ) : Prop :=
  True

def Pre_CumDx (m : (ℓ : Loc Cert.CumDx.nD Cert.CumDx.τ Cert.CumDx.sig) → Buf (Elt Bits) ℓ) : Prop :=
  True

def Pre_CumDxIdeal (m : (ℓ : Loc Cert.CumDxIdeal.nD Cert.CumDxIdeal.τ Cert.CumDxIdeal.sig) → Buf (Elt Ideal) ℓ) : Prop :=
  True

def Pre_CumDxRefIdeal (m : (ℓ : Loc Cert.CumDxRefIdeal.nD Cert.CumDxRefIdeal.τ Cert.CumDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwRefIdeal [hQueryDwRefIdeal : Cert.QueryDwRefIdeal.Facts] : Prop :=
  ∀ (m : (ℓ : Loc Cert.QueryDwRefIdeal.nD Cert.QueryDwRefIdeal.τ Cert.QueryDwRefIdeal.sig) → Buf (Elt Ideal) ℓ) (g : Dev Cert.QueryDwRefIdeal.nD → PrngReg), Pre_QueryDwRefIdeal m →
    θ_run (Cert.QueryDwRefIdeal.defs (F := Ideal)) (onTc (τ := Cert.QueryDwRefIdeal.τ) (Cert.QueryDwRefIdeal.main (F := Ideal))) ⟨m, fun _ => 0, g⟩ (fun r => (∀ c : Dev Cert.QueryDwRefIdeal.nD,
      r.2.mem ((c.tc : Thread Cert.QueryDwRefIdeal.nD Cert.QueryDwRefIdeal.τ).loc Cert.QueryDwRefIdeal.main_arg0) = m ((c.tc : Thread Cert.QueryDwRefIdeal.nD Cert.QueryDwRefIdeal.τ).loc Cert.QueryDwRefIdeal.main_arg0)
      ∧ r.2.mem ((c.tc : Thread Cert.QueryDwRefIdeal.nD Cert.QueryDwRefIdeal.τ).loc Cert.QueryDwRefIdeal.main_arg1) = m ((c.tc : Thread Cert.QueryDwRefIdeal.nD Cert.QueryDwRefIdeal.τ).loc Cert.QueryDwRefIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1)
      ∧ r.2.mem ((c.tc : Thread Cert.QueryDx.nD Cert.QueryDx.τ).loc Cert.QueryDx.main_arg2) = m ((c.tc : Thread Cert.QueryDx.nD Cert.QueryDx.τ).loc Cert.QueryDx.main_arg2)
      ∧ r.2.mem ((c.tc : Thread Cert.QueryDx.nD Cert.QueryDx.τ).loc Cert.QueryDx.main_arg3) = m ((c.tc : Thread Cert.QueryDx.nD Cert.QueryDx.τ).loc Cert.QueryDx.main_arg3)
      ∧ r.2.mem ((c.tc : Thread Cert.QueryDx.nD Cert.QueryDx.τ).loc Cert.QueryDx.main_arg4) = m ((c.tc : Thread Cert.QueryDx.nD Cert.QueryDx.τ).loc Cert.QueryDx.main_arg4))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
      ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
      ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
      ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1)
      ∧ r.2.mem ((c.tc : Thread Cert.QueryDxRefIdeal.nD Cert.QueryDxRefIdeal.τ).loc Cert.QueryDxRefIdeal.main_arg2) = m ((c.tc : Thread Cert.QueryDxRefIdeal.nD Cert.QueryDxRefIdeal.τ).loc Cert.QueryDxRefIdeal.main_arg2)
      ∧ r.2.mem ((c.tc : Thread Cert.QueryDxRefIdeal.nD Cert.QueryDxRefIdeal.τ).loc Cert.QueryDxRefIdeal.main_arg3) = m ((c.tc : Thread Cert.QueryDxRefIdeal.nD Cert.QueryDxRefIdeal.τ).loc Cert.QueryDxRefIdeal.main_arg3)
      ∧ r.2.mem ((c.tc : Thread Cert.QueryDxRefIdeal.nD Cert.QueryDxRefIdeal.τ).loc Cert.QueryDxRefIdeal.main_arg4) = m ((c.tc : Thread Cert.QueryDxRefIdeal.nD Cert.QueryDxRefIdeal.τ).loc Cert.QueryDxRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_KvfFwd [hKvfFwd : Cert.KvfFwd.Facts] : Prop :=
  ∀ (m : (ℓ : Loc Cert.KvfFwd.nD Cert.KvfFwd.τ Cert.KvfFwd.sig) → Buf (Elt Bits) ℓ) (g : Dev Cert.KvfFwd.nD → PrngReg), Pre_KvfFwd m →
    θ_run (Cert.KvfFwd.defs (F := Bits)) (onTc (τ := Cert.KvfFwd.τ) (Cert.KvfFwd.main (F := Bits))) ⟨m, fun _ => 0, g⟩ (fun r => (∀ c : Dev Cert.KvfFwd.nD,
      r.2.mem ((c.tc : Thread Cert.KvfFwd.nD Cert.KvfFwd.τ).loc Cert.KvfFwd.main_arg0) = m ((c.tc : Thread Cert.KvfFwd.nD Cert.KvfFwd.τ).loc Cert.KvfFwd.main_arg0)
      ∧ r.2.mem ((c.tc : Thread Cert.KvfFwd.nD Cert.KvfFwd.τ).loc Cert.KvfFwd.main_arg1) = m ((c.tc : Thread Cert.KvfFwd.nD Cert.KvfFwd.τ).loc Cert.KvfFwd.main_arg1))
      ∧ r.2.sem = fun _ => 0)

def quiescent_KvfFwdIdeal [hKvfFwdIdeal : Cert.KvfFwdIdeal.Facts] : Prop :=
  ∀ (m : (ℓ : Loc Cert.KvfFwdIdeal.nD Cert.KvfFwdIdeal.τ Cert.KvfFwdIdeal.sig) → Buf (Elt Ideal) ℓ) (g : Dev Cert.KvfFwdIdeal.nD → PrngReg), Pre_KvfFwdIdeal m →
    θ_run (Cert.KvfFwdIdeal.defs (F := Ideal)) (onTc (τ := Cert.KvfFwdIdeal.τ) (Cert.KvfFwdIdeal.main (F := Ideal))) ⟨m, fun _ => 0, g⟩ (fun r => (∀ c : Dev Cert.KvfFwdIdeal.nD,
      r.2.mem ((c.tc : Thread Cert.KvfFwdIdeal.nD Cert.KvfFwdIdeal.τ).loc Cert.KvfFwdIdeal.main_arg0) = m ((c.tc : Thread Cert.KvfFwdIdeal.nD Cert.KvfFwdIdeal.τ).loc Cert.KvfFwdIdeal.main_arg0)
      ∧ r.2.mem ((c.tc : Thread Cert.KvfFwdIdeal.nD Cert.KvfFwdIdeal.τ).loc Cert.KvfFwdIdeal.main_arg1) = m ((c.tc : Thread Cert.KvfFwdIdeal.nD Cert.KvfFwdIdeal.τ).loc Cert.KvfFwdIdeal.main_arg1))
      ∧ r.2.sem = fun _ => 0)

def quiescent_KvfFwdRefIdeal [hKvfFwdRefIdeal : Cert.KvfFwdRefIdeal.Facts] : Prop :=
  ∀ (m : (ℓ : Loc Cert.KvfFwdRefIdeal.nD Cert.KvfFwdRefIdeal.τ Cert.KvfFwdRefIdeal.sig) → Buf (Elt Ideal) ℓ) (g : Dev Cert.KvfFwdRefIdeal.nD → PrngReg), Pre_KvfFwdRefIdeal m →
    θ_run (Cert.KvfFwdRefIdeal.defs (F := Ideal)) (onTc (τ := Cert.KvfFwdRefIdeal.τ) (Cert.KvfFwdRefIdeal.main (F := Ideal))) ⟨m, fun _ => 0, g⟩ (fun r => (∀ c : Dev Cert.KvfFwdRefIdeal.nD,
      r.2.mem ((c.tc : Thread Cert.KvfFwdRefIdeal.nD Cert.KvfFwdRefIdeal.τ).loc Cert.KvfFwdRefIdeal.main_arg0) = m ((c.tc : Thread Cert.KvfFwdRefIdeal.nD Cert.KvfFwdRefIdeal.τ).loc Cert.KvfFwdRefIdeal.main_arg0)
      ∧ r.2.mem ((c.tc : Thread Cert.KvfFwdRefIdeal.nD Cert.KvfFwdRefIdeal.τ).loc Cert.KvfFwdRefIdeal.main_arg1) = m ((c.tc : Thread Cert.KvfFwdRefIdeal.nD Cert.KvfFwdRefIdeal.τ).loc Cert.KvfFwdRefIdeal.main_arg1))
      ∧ r.2.sem = fun _ => 0)

def quiescent_KvfDw [hKvfDw : Cert.KvfDw.Facts] : Prop :=
  ∀ (m : (ℓ : Loc Cert.KvfDw.nD Cert.KvfDw.τ Cert.KvfDw.sig) → Buf (Elt Bits) ℓ) (g : Dev Cert.KvfDw.nD → PrngReg), Pre_KvfDw m →
    θ_run (Cert.KvfDw.defs (F := Bits)) (onTc (τ := Cert.KvfDw.τ) (Cert.KvfDw.main (F := Bits))) ⟨m, fun _ => 0, g⟩ (fun r => (∀ c : Dev Cert.KvfDw.nD,
      r.2.mem ((c.tc : Thread Cert.KvfDw.nD Cert.KvfDw.τ).loc Cert.KvfDw.main_arg0) = m ((c.tc : Thread Cert.KvfDw.nD Cert.KvfDw.τ).loc Cert.KvfDw.main_arg0)
      ∧ r.2.mem ((c.tc : Thread Cert.KvfDw.nD Cert.KvfDw.τ).loc Cert.KvfDw.main_arg1) = m ((c.tc : Thread Cert.KvfDw.nD Cert.KvfDw.τ).loc Cert.KvfDw.main_arg1))
      ∧ r.2.sem = fun _ => 0)

def quiescent_KvfDwIdeal [hKvfDwIdeal : Cert.KvfDwIdeal.Facts] : Prop :=
  ∀ (m : (ℓ : Loc Cert.KvfDwIdeal.nD Cert.KvfDwIdeal.τ Cert.KvfDwIdeal.sig) → Buf (Elt Ideal) ℓ) (g : Dev Cert.KvfDwIdeal.nD → PrngReg), Pre_KvfDwIdeal m →
    θ_run (Cert.KvfDwIdeal.defs (F := Ideal)) (onTc (τ := Cert.KvfDwIdeal.τ) (Cert.KvfDwIdeal.main (F := Ideal))) ⟨m, fun _ => 0, g⟩ (fun r => (∀ c : Dev Cert.KvfDwIdeal.nD,
      r.2.mem ((c.tc : Thread Cert.KvfDwIdeal.nD Cert.KvfDwIdeal.τ).loc Cert.KvfDwIdeal.main_arg0) = m ((c.tc : Thread Cert.KvfDwIdeal.nD Cert.KvfDwIdeal.τ).loc Cert.KvfDwIdeal.main_arg0)
      ∧ r.2.mem ((c.tc : Thread Cert.KvfDwIdeal.nD Cert.KvfDwIdeal.τ).loc Cert.KvfDwIdeal.main_arg1) = m ((c.tc : Thread Cert.KvfDwIdeal.nD Cert.KvfDwIdeal.τ).loc Cert.KvfDwIdeal.main_arg1))
      ∧ r.2.sem = fun _ => 0)

def quiescent_KvfDwRefIdeal [hKvfDwRefIdeal : Cert.KvfDwRefIdeal.Facts] : Prop :=
  ∀ (m : (ℓ : Loc Cert.KvfDwRefIdeal.nD Cert.KvfDwRefIdeal.τ Cert.KvfDwRefIdeal.sig) → Buf (Elt Ideal) ℓ) (g : Dev Cert.KvfDwRefIdeal.nD → PrngReg), Pre_KvfDwRefIdeal m →
    θ_run (Cert.KvfDwRefIdeal.defs (F := Ideal)) (onTc (τ := Cert.KvfDwRefIdeal.τ) (Cert.KvfDwRefIdeal.main (F := Ideal))) ⟨m, fun _ => 0, g⟩ (fun r => (∀ c : Dev Cert.KvfDwRefIdeal.nD,
      r.2.mem ((c.tc : Thread Cert.KvfDwRefIdeal.nD Cert.KvfDwRefIdeal.τ).loc Cert.KvfDwRefIdeal.main_arg0) = m ((c.tc : Thread Cert.KvfDwRefIdeal.nD Cert.KvfDwRefIdeal.τ).loc Cert.KvfDwRefIdeal.main_arg0)
      ∧ r.2.mem ((c.tc : Thread Cert.KvfDwRefIdeal.nD Cert.KvfDwRefIdeal.τ).loc Cert.KvfDwRefIdeal.main_arg1) = m ((c.tc : Thread Cert.KvfDwRefIdeal.nD Cert.KvfDwRefIdeal.τ).loc Cert.KvfDwRefIdeal.main_arg1))
      ∧ r.2.sem = fun _ => 0)

def quiescent_KvfDx [hKvfDx : Cert.KvfDx.Facts] : Prop :=
  ∀ (m : (ℓ : Loc Cert.KvfDx.nD Cert.KvfDx.τ Cert.KvfDx.sig) → Buf (Elt Bits) ℓ) (g : Dev Cert.KvfDx.nD → PrngReg), Pre_KvfDx m →
    θ_run (Cert.KvfDx.defs (F := Bits)) (onTc (τ := Cert.KvfDx.τ) (Cert.KvfDx.main (F := Bits))) ⟨m, fun _ => 0, g⟩ (fun r => (∀ c : Dev Cert.KvfDx.nD,
      r.2.mem ((c.tc : Thread Cert.KvfDx.nD Cert.KvfDx.τ).loc Cert.KvfDx.main_arg0) = m ((c.tc : Thread Cert.KvfDx.nD Cert.KvfDx.τ).loc Cert.KvfDx.main_arg0)
      ∧ r.2.mem ((c.tc : Thread Cert.KvfDx.nD Cert.KvfDx.τ).loc Cert.KvfDx.main_arg1) = m ((c.tc : Thread Cert.KvfDx.nD Cert.KvfDx.τ).loc Cert.KvfDx.main_arg1)
      ∧ r.2.mem ((c.tc : Thread Cert.KvfDx.nD Cert.KvfDx.τ).loc Cert.KvfDx.main_arg2) = m ((c.tc : Thread Cert.KvfDx.nD Cert.KvfDx.τ).loc Cert.KvfDx.main_arg2)
      ∧ r.2.mem ((c.tc : Thread Cert.KvfDx.nD Cert.KvfDx.τ).loc Cert.KvfDx.main_arg3) = m ((c.tc : Thread Cert.KvfDx.nD Cert.KvfDx.τ).loc Cert.KvfDx.main_arg3)
      ∧ r.2.mem ((c.tc : Thread Cert.KvfDx.nD Cert.KvfDx.τ).loc Cert.KvfDx.main_arg4) = m ((c.tc : Thread Cert.KvfDx.nD Cert.KvfDx.τ).loc Cert.KvfDx.main_arg4))
      ∧ r.2.sem = fun _ => 0)

def quiescent_KvfDxIdeal [hKvfDxIdeal : Cert.KvfDxIdeal.Facts] : Prop :=
  ∀ (m : (ℓ : Loc Cert.KvfDxIdeal.nD Cert.KvfDxIdeal.τ Cert.KvfDxIdeal.sig) → Buf (Elt Ideal) ℓ) (g : Dev Cert.KvfDxIdeal.nD → PrngReg), Pre_KvfDxIdeal m →
    θ_run (Cert.KvfDxIdeal.defs (F := Ideal)) (onTc (τ := Cert.KvfDxIdeal.τ) (Cert.KvfDxIdeal.main (F := Ideal))) ⟨m, fun _ => 0, g⟩ (fun r => (∀ c : Dev Cert.KvfDxIdeal.nD,
      r.2.mem ((c.tc : Thread Cert.KvfDxIdeal.nD Cert.KvfDxIdeal.τ).loc Cert.KvfDxIdeal.main_arg0) = m ((c.tc : Thread Cert.KvfDxIdeal.nD Cert.KvfDxIdeal.τ).loc Cert.KvfDxIdeal.main_arg0)
      ∧ r.2.mem ((c.tc : Thread Cert.KvfDxIdeal.nD Cert.KvfDxIdeal.τ).loc Cert.KvfDxIdeal.main_arg1) = m ((c.tc : Thread Cert.KvfDxIdeal.nD Cert.KvfDxIdeal.τ).loc Cert.KvfDxIdeal.main_arg1)
      ∧ r.2.mem ((c.tc : Thread Cert.KvfDxIdeal.nD Cert.KvfDxIdeal.τ).loc Cert.KvfDxIdeal.main_arg2) = m ((c.tc : Thread Cert.KvfDxIdeal.nD Cert.KvfDxIdeal.τ).loc Cert.KvfDxIdeal.main_arg2)
      ∧ r.2.mem ((c.tc : Thread Cert.KvfDxIdeal.nD Cert.KvfDxIdeal.τ).loc Cert.KvfDxIdeal.main_arg3) = m ((c.tc : Thread Cert.KvfDxIdeal.nD Cert.KvfDxIdeal.τ).loc Cert.KvfDxIdeal.main_arg3)
      ∧ r.2.mem ((c.tc : Thread Cert.KvfDxIdeal.nD Cert.KvfDxIdeal.τ).loc Cert.KvfDxIdeal.main_arg4) = m ((c.tc : Thread Cert.KvfDxIdeal.nD Cert.KvfDxIdeal.τ).loc Cert.KvfDxIdeal.main_arg4))
      ∧ r.2.sem = fun _ => 0)

def quiescent_KvfDxRefIdeal [hKvfDxRefIdeal : Cert.KvfDxRefIdeal.Facts] : Prop :=
  ∀ (m : (ℓ : Loc Cert.KvfDxRefIdeal.nD Cert.KvfDxRefIdeal.τ Cert.KvfDxRefIdeal.sig) → Buf (Elt Ideal) ℓ) (g : Dev Cert.KvfDxRefIdeal.nD → PrngReg), Pre_KvfDxRefIdeal m →
    θ_run (Cert.KvfDxRefIdeal.defs (F := Ideal)) (onTc (τ := Cert.KvfDxRefIdeal.τ) (Cert.KvfDxRefIdeal.main (F := Ideal))) ⟨m, fun _ => 0, g⟩ (fun r => (∀ c : Dev Cert.KvfDxRefIdeal.nD,
      r.2.mem ((c.tc : Thread Cert.KvfDxRefIdeal.nD Cert.KvfDxRefIdeal.τ).loc Cert.KvfDxRefIdeal.main_arg0) = m ((c.tc : Thread Cert.KvfDxRefIdeal.nD Cert.KvfDxRefIdeal.τ).loc Cert.KvfDxRefIdeal.main_arg0)
      ∧ r.2.mem ((c.tc : Thread Cert.KvfDxRefIdeal.nD Cert.KvfDxRefIdeal.τ).loc Cert.KvfDxRefIdeal.main_arg1) = m ((c.tc : Thread Cert.KvfDxRefIdeal.nD Cert.KvfDxRefIdeal.τ).loc Cert.KvfDxRefIdeal.main_arg1)
      ∧ r.2.mem ((c.tc : Thread Cert.KvfDxRefIdeal.nD Cert.KvfDxRefIdeal.τ).loc Cert.KvfDxRefIdeal.main_arg2) = m ((c.tc : Thread Cert.KvfDxRefIdeal.nD Cert.KvfDxRefIdeal.τ).loc Cert.KvfDxRefIdeal.main_arg2)
      ∧ r.2.mem ((c.tc : Thread Cert.KvfDxRefIdeal.nD Cert.KvfDxRefIdeal.τ).loc Cert.KvfDxRefIdeal.main_arg3) = m ((c.tc : Thread Cert.KvfDxRefIdeal.nD Cert.KvfDxRefIdeal.τ).loc Cert.KvfDxRefIdeal.main_arg3)
      ∧ r.2.mem ((c.tc : Thread Cert.KvfDxRefIdeal.nD Cert.KvfDxRefIdeal.τ).loc Cert.KvfDxRefIdeal.main_arg4) = m ((c.tc : Thread Cert.KvfDxRefIdeal.nD Cert.KvfDxRefIdeal.τ).loc Cert.KvfDxRefIdeal.main_arg4))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_QueryFwd [hQueryFwd : Cert.QueryFwd.Facts] : Prop :=
  ∀ (m : (ℓ : Loc Cert.QueryFwd.nD Cert.QueryFwd.τ Cert.QueryFwd.sig) → Buf (Elt Bits) ℓ) (g : Dev Cert.QueryFwd.nD → PrngReg), Pre_QueryFwd m →
    θ_run (Cert.QueryFwd.defs (F := Bits)) (onTc (τ := Cert.QueryFwd.τ) (Cert.QueryFwd.main (F := Bits))) ⟨m, fun _ => 0, g⟩ (fun r => (∀ c : Dev Cert.QueryFwd.nD,
      r.2.mem ((c.tc : Thread Cert.QueryFwd.nD Cert.QueryFwd.τ).loc Cert.QueryFwd.main_arg0) = m ((c.tc : Thread Cert.QueryFwd.nD Cert.QueryFwd.τ).loc Cert.QueryFwd.main_arg0)
      ∧ r.2.mem ((c.tc : Thread Cert.QueryFwd.nD Cert.QueryFwd.τ).loc Cert.QueryFwd.main_arg1) = m ((c.tc : Thread Cert.QueryFwd.nD Cert.QueryFwd.τ).loc Cert.QueryFwd.main_arg1))
      ∧ r.2.sem = fun _ => 0)

def quiescent_QueryFwdIdeal [hQueryFwdIdeal : Cert.QueryFwdIdeal.Facts] : Prop :=
  ∀ (m : (ℓ : Loc Cert.QueryFwdIdeal.nD Cert.QueryFwdIdeal.τ Cert.QueryFwdIdeal.sig) → Buf (Elt Ideal) ℓ) (g : Dev Cert.QueryFwdIdeal.nD → PrngReg), Pre_QueryFwdIdeal m →
    θ_run (Cert.QueryFwdIdeal.defs (F := Ideal)) (onTc (τ := Cert.QueryFwdIdeal.τ) (Cert.QueryFwdIdeal.main (F := Ideal))) ⟨m, fun _ => 0, g⟩ (fun r => (∀ c : Dev Cert.QueryFwdIdeal.nD,
      r.2.mem ((c.tc : Thread Cert.QueryFwdIdeal.nD Cert.QueryFwdIdeal.τ).loc Cert.QueryFwdIdeal.main_arg0) = m ((c.tc : Thread Cert.QueryFwdIdeal.nD Cert.QueryFwdIdeal.τ).loc Cert.QueryFwdIdeal.main_arg0)
      ∧ r.2.mem ((c.tc : Thread Cert.QueryFwdIdeal.nD Cert.QueryFwdIdeal.τ).loc Cert.QueryFwdIdeal.main_arg1) = m ((c.tc : Thread Cert.QueryFwdIdeal.nD Cert.QueryFwdIdeal.τ).loc Cert.QueryFwdIdeal.main_arg1))
      ∧ r.2.sem = fun _ => 0)

def quiescent_QueryFwdRefIdeal [hQueryFwdRefIdeal : Cert.QueryFwdRefIdeal.Facts] : Prop :=
  ∀ (m : (ℓ : Loc Cert.QueryFwdRefIdeal.nD Cert.QueryFwdRefIdeal.τ Cert.QueryFwdRefIdeal.sig) → Buf (Elt Ideal) ℓ) (g : Dev Cert.QueryFwdRefIdeal.nD → PrngReg), Pre_QueryFwdRefIdeal m →
    θ_run (Cert.QueryFwdRefIdeal.defs (F := Ideal)) (onTc (τ := Cert.QueryFwdRefIdeal.τ) (Cert.QueryFwdRefIdeal.main (F := Ideal))) ⟨m, fun _ => 0, g⟩ (fun r => (∀ c : Dev Cert.QueryFwdRefIdeal.nD,
      r.2.mem ((c.tc : Thread Cert.QueryFwdRefIdeal.nD Cert.QueryFwdRefIdeal.τ).loc Cert.QueryFwdRefIdeal.main_arg0) = m ((c.tc : Thread Cert.QueryFwdRefIdeal.nD Cert.QueryFwdRefIdeal.τ).loc Cert.QueryFwdRefIdeal.main_arg0)
      ∧ r.2.mem ((c.tc : Thread Cert.QueryFwdRefIdeal.nD Cert.QueryFwdRefIdeal.τ).loc Cert.QueryFwdRefIdeal.main_arg1) = m ((c.tc : Thread Cert.QueryFwdRefIdeal.nD Cert.QueryFwdRefIdeal.τ).loc Cert.QueryFwdRefIdeal.main_arg1))
      ∧ r.2.sem = fun _ => 0)

def quiescent_CumDx [hCumDx : Cert.CumDx.Facts] : Prop :=
  ∀ (m : (ℓ : Loc Cert.CumDx.nD Cert.CumDx.τ Cert.CumDx.sig) → Buf (Elt Bits) ℓ) (g : Dev Cert.CumDx.nD → PrngReg), Pre_CumDx m →
    θ_run (Cert.CumDx.defs (F := Bits)) (onTc (τ := Cert.CumDx.τ) (Cert.CumDx.main (F := Bits))) ⟨m, fun _ => 0, g⟩ (fun r => (∀ c : Dev Cert.CumDx.nD,
      r.2.mem ((c.tc : Thread Cert.CumDx.nD Cert.CumDx.τ).loc Cert.CumDx.main_arg0) = m ((c.tc : Thread Cert.CumDx.nD Cert.CumDx.τ).loc Cert.CumDx.main_arg0)
      ∧ r.2.mem ((c.tc : Thread Cert.CumDx.nD Cert.CumDx.τ).loc Cert.CumDx.main_arg1) = m ((c.tc : Thread Cert.CumDx.nD Cert.CumDx.τ).loc Cert.CumDx.main_arg1)
      ∧ r.2.mem ((c.tc : Thread Cert.CumDx.nD Cert.CumDx.τ).loc Cert.CumDx.main_arg2) = m ((c.tc : Thread Cert.CumDx.nD Cert.CumDx.τ).loc Cert.CumDx.main_arg2)
      ∧ r.2.mem ((c.tc : Thread Cert.CumDx.nD Cert.CumDx.τ).loc Cert.CumDx.main_arg3) = m ((c.tc : Thread Cert.CumDx.nD Cert.CumDx.τ).loc Cert.CumDx.main_arg3)
      ∧ r.2.mem ((c.tc : Thread Cert.CumDx.nD Cert.CumDx.τ).loc Cert.CumDx.main_arg4) = m ((c.tc : Thread Cert.CumDx.nD Cert.CumDx.τ).loc Cert.CumDx.main_arg4))
      ∧ r.2.sem = fun _ => 0)

def quiescent_CumDxIdeal [hCumDxIdeal : Cert.CumDxIdeal.Facts] : Prop :=
  ∀ (m : (ℓ : Loc Cert.CumDxIdeal.nD Cert.CumDxIdeal.τ Cert.CumDxIdeal.sig) → Buf (Elt Ideal) ℓ) (g : Dev Cert.CumDxIdeal.nD → PrngReg), Pre_CumDxIdeal m →
    θ_run (Cert.CumDxIdeal.defs (F := Ideal)) (onTc (τ := Cert.CumDxIdeal.τ) (Cert.CumDxIdeal.main (F := Ideal))) ⟨m, fun _ => 0, g⟩ (fun r => (∀ c : Dev Cert.CumDxIdeal.nD,
      r.2.mem ((c.tc : Thread Cert.CumDxIdeal.nD Cert.CumDxIdeal.τ).loc Cert.CumDxIdeal.main_arg0) = m ((c.tc : Thread Cert.CumDxIdeal.nD Cert.CumDxIdeal.τ).loc Cert.CumDxIdeal.main_arg0)
      ∧ r.2.mem ((c.tc : Thread Cert.CumDxIdeal.nD Cert.CumDxIdeal.τ).loc Cert.CumDxIdeal.main_arg1) = m ((c.tc : Thread Cert.CumDxIdeal.nD Cert.CumDxIdeal.τ).loc Cert.CumDxIdeal.main_arg1)
      ∧ r.2.mem ((c.tc : Thread Cert.CumDxIdeal.nD Cert.CumDxIdeal.τ).loc Cert.CumDxIdeal.main_arg2) = m ((c.tc : Thread Cert.CumDxIdeal.nD Cert.CumDxIdeal.τ).loc Cert.CumDxIdeal.main_arg2)
      ∧ r.2.mem ((c.tc : Thread Cert.CumDxIdeal.nD Cert.CumDxIdeal.τ).loc Cert.CumDxIdeal.main_arg3) = m ((c.tc : Thread Cert.CumDxIdeal.nD Cert.CumDxIdeal.τ).loc Cert.CumDxIdeal.main_arg3)
      ∧ r.2.mem ((c.tc : Thread Cert.CumDxIdeal.nD Cert.CumDxIdeal.τ).loc Cert.CumDxIdeal.main_arg4) = m ((c.tc : Thread Cert.CumDxIdeal.nD Cert.CumDxIdeal.τ).loc Cert.CumDxIdeal.main_arg4))
      ∧ r.2.sem = fun _ => 0)

def quiescent_CumDxRefIdeal [hCumDxRefIdeal : Cert.CumDxRefIdeal.Facts] : Prop :=
  ∀ (m : (ℓ : Loc Cert.CumDxRefIdeal.nD Cert.CumDxRefIdeal.τ Cert.CumDxRefIdeal.sig) → Buf (Elt Ideal) ℓ) (g : Dev Cert.CumDxRefIdeal.nD → PrngReg), Pre_CumDxRefIdeal m →
    θ_run (Cert.CumDxRefIdeal.defs (F := Ideal)) (onTc (τ := Cert.CumDxRefIdeal.τ) (Cert.CumDxRefIdeal.main (F := Ideal))) ⟨m, fun _ => 0, g⟩ (fun r => (∀ c : Dev Cert.CumDxRefIdeal.nD,
      r.2.mem ((c.tc : Thread Cert.CumDxRefIdeal.nD Cert.CumDxRefIdeal.τ).loc Cert.CumDxRefIdeal.main_arg0) = m ((c.tc : Thread Cert.CumDxRefIdeal.nD Cert.CumDxRefIdeal.τ).loc Cert.CumDxRefIdeal.main_arg0)
      ∧ r.2.mem ((c.tc : Thread Cert.CumDxRefIdeal.nD Cert.CumDxRefIdeal.τ).loc Cert.CumDxRefIdeal.main_arg1) = m ((c.tc : Thread Cert.CumDxRefIdeal.nD Cert.CumDxRefIdeal.τ).loc Cert.CumDxRefIdeal.main_arg1)
      ∧ r.2.mem ((c.tc : Thread Cert.CumDxRefIdeal.nD Cert.CumDxRefIdeal.τ).loc Cert.CumDxRefIdeal.main_arg2) = m ((c.tc : Thread Cert.CumDxRefIdeal.nD Cert.CumDxRefIdeal.τ).loc Cert.CumDxRefIdeal.main_arg2)
      ∧ r.2.mem ((c.tc : Thread Cert.CumDxRefIdeal.nD Cert.CumDxRefIdeal.τ).loc Cert.CumDxRefIdeal.main_arg3) = m ((c.tc : Thread Cert.CumDxRefIdeal.nD Cert.CumDxRefIdeal.τ).loc Cert.CumDxRefIdeal.main_arg3)
      ∧ r.2.mem ((c.tc : Thread Cert.CumDxRefIdeal.nD Cert.CumDxRefIdeal.τ).loc Cert.CumDxRefIdeal.main_arg4) = m ((c.tc : Thread Cert.CumDxRefIdeal.nD Cert.CumDxRefIdeal.τ).loc Cert.CumDxRefIdeal.main_arg4))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v116)) (v2 : (c : Dev Cert.KernelIdeal.nD) → Buf (Elt Ideal) ((c.tc : Thread Cert.KernelIdeal.nD Cert.KernelIdeal.τ).loc Cert.KernelIdeal.main_v117)) (v3 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_v122) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v21) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v2) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v3) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v1) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v1) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_QueryDw_QueryDwIdeal : Prop :=
  True

def algebraic_QueryDwIdeal_QueryDwRefIdeal [hQueryDwIdeal : Cert.QueryDwIdeal.Facts] [hQueryDwRefIdeal : Cert.QueryDwRefIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwRefIdeal.nD Cert.QueryDwRefIdeal.τ Cert.QueryDwRefIdeal.sig) → Buf (Elt Ideal) ℓ) (g' : Dev Cert.QueryDwRefIdeal.nD → PrngReg), Pre_QueryDwIdeal m →
    (∀ c : Dev Cert.QueryDwIdeal.nD,
      m' ((c.tc : Thread Cert.QueryDwRefIdeal.nD Cert.QueryDwRefIdeal.τ).loc Cert.QueryDwRefIdeal.main_arg0) = m ((c.tc : Thread Cert.QueryDwIdeal.nD Cert.QueryDwIdeal.τ).loc Cert.QueryDwIdeal.main_arg0)
      ∧ m' ((c.tc : Thread Cert.QueryDwRefIdeal.nD Cert.QueryDwRefIdeal.τ).loc Cert.QueryDwRefIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwRefIdeal.defs (F := Ideal)) (onTc (τ := Cert.QueryDwRefIdeal.τ) (Cert.QueryDwRefIdeal.main (F := Ideal))) ⟨m', fun _ => 0, g'⟩ (fun r => ∀ c : Dev Cert.QueryDwRefIdeal.nD,
          r.2.mem ((c.tc : Thread Cert.QueryDwRefIdeal.nD Cert.QueryDwRefIdeal.τ).loc Cert.QueryDwRefIdeal.main_v4) = v0 c
          ∧ r.2.mem ((c.tc : Thread Cert.QueryDwRefIdeal.nD Cert.QueryDwRefIdeal.τ).loc Cert.QueryDwRefIdeal.main_arg0) = m' ((c.tc : Thread Cert.QueryDwRefIdeal.nD Cert.QueryDwRefIdeal.τ).loc Cert.QueryDwRefIdeal.main_arg0)
          ∧ r.2.mem ((c.tc : Thread Cert.QueryDwRefIdeal.nD Cert.QueryDwRefIdeal.τ).loc Cert.QueryDwRefIdeal.main_arg1) = m' ((c.tc : Thread Cert.QueryDwRefIdeal.nD Cert.QueryDwRefIdeal.τ).loc Cert.QueryDwRefIdeal.main_arg1))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)
      ∧ m' ((c.tc : Thread Cert.QueryDxRefIdeal.nD Cert.QueryDxRefIdeal.τ).loc Cert.QueryDxRefIdeal.main_arg2) = m ((c.tc : Thread Cert.QueryDxIdeal.nD Cert.QueryDxIdeal.τ).loc Cert.QueryDxIdeal.main_arg2)
      ∧ m' ((c.tc : Thread Cert.QueryDxRefIdeal.nD Cert.QueryDxRefIdeal.τ).loc Cert.QueryDxRefIdeal.main_arg3) = m ((c.tc : Thread Cert.QueryDxIdeal.nD Cert.QueryDxIdeal.τ).loc Cert.QueryDxIdeal.main_arg3)
      ∧ m' ((c.tc : Thread Cert.QueryDxRefIdeal.nD Cert.QueryDxRefIdeal.τ).loc Cert.QueryDxRefIdeal.main_arg4) = m ((c.tc : Thread Cert.QueryDxIdeal.nD Cert.QueryDxIdeal.τ).loc Cert.QueryDxIdeal.main_arg4)) →
    ∃ (v0 : (c : Dev Cert.QueryDxIdeal.nD) → Buf (Elt Ideal) ((c.tc : Thread Cert.QueryDxIdeal.nD Cert.QueryDxIdeal.τ).loc Cert.QueryDxIdeal.main_v0_0)) (v1 : (c : Dev Cert.QueryDxIdeal.nD) → Buf (Elt Ideal) ((c.tc : Thread Cert.QueryDxIdeal.nD Cert.QueryDxIdeal.τ).loc Cert.QueryDxIdeal.main_v0_1)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v0_0) = v0 c
          ∧ r.2.mem ((c.tc : Thread Cert.QueryDxIdeal.nD Cert.QueryDxIdeal.τ).loc Cert.QueryDxIdeal.main_v0_1) = v1 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
          ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
          ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
          ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v41) = v0 c
          ∧ r.2.mem ((c.tc : Thread Cert.QueryDxRefIdeal.nD Cert.QueryDxRefIdeal.τ).loc Cert.QueryDxRefIdeal.main_v24) = v1 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1)
          ∧ r.2.mem ((c.tc : Thread Cert.QueryDxRefIdeal.nD Cert.QueryDxRefIdeal.τ).loc Cert.QueryDxRefIdeal.main_arg2) = m' ((c.tc : Thread Cert.QueryDxRefIdeal.nD Cert.QueryDxRefIdeal.τ).loc Cert.QueryDxRefIdeal.main_arg2)
          ∧ r.2.mem ((c.tc : Thread Cert.QueryDxRefIdeal.nD Cert.QueryDxRefIdeal.τ).loc Cert.QueryDxRefIdeal.main_arg3) = m' ((c.tc : Thread Cert.QueryDxRefIdeal.nD Cert.QueryDxRefIdeal.τ).loc Cert.QueryDxRefIdeal.main_arg3)
          ∧ r.2.mem ((c.tc : Thread Cert.QueryDxRefIdeal.nD Cert.QueryDxRefIdeal.τ).loc Cert.QueryDxRefIdeal.main_arg4) = m' ((c.tc : Thread Cert.QueryDxRefIdeal.nD Cert.QueryDxRefIdeal.τ).loc Cert.QueryDxRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v5) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v2) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_KvfFwd_KvfFwdIdeal : Prop :=
  True

def algebraic_KvfFwdIdeal_KvfFwdRefIdeal [hKvfFwdIdeal : Cert.KvfFwdIdeal.Facts] [hKvfFwdRefIdeal : Cert.KvfFwdRefIdeal.Facts] : Prop :=
  ∀ (m : (ℓ : Loc Cert.KvfFwdIdeal.nD Cert.KvfFwdIdeal.τ Cert.KvfFwdIdeal.sig) → Buf (Elt Ideal) ℓ) (g : Dev Cert.KvfFwdIdeal.nD → PrngReg)
    (m' : (ℓ : Loc Cert.KvfFwdRefIdeal.nD Cert.KvfFwdRefIdeal.τ Cert.KvfFwdRefIdeal.sig) → Buf (Elt Ideal) ℓ) (g' : Dev Cert.KvfFwdRefIdeal.nD → PrngReg), Pre_KvfFwdIdeal m →
    (∀ c : Dev Cert.KvfFwdIdeal.nD,
      m' ((c.tc : Thread Cert.KvfFwdRefIdeal.nD Cert.KvfFwdRefIdeal.τ).loc Cert.KvfFwdRefIdeal.main_arg0) = m ((c.tc : Thread Cert.KvfFwdIdeal.nD Cert.KvfFwdIdeal.τ).loc Cert.KvfFwdIdeal.main_arg0)
      ∧ m' ((c.tc : Thread Cert.KvfFwdRefIdeal.nD Cert.KvfFwdRefIdeal.τ).loc Cert.KvfFwdRefIdeal.main_arg1) = m ((c.tc : Thread Cert.KvfFwdIdeal.nD Cert.KvfFwdIdeal.τ).loc Cert.KvfFwdIdeal.main_arg1)) →
    ∃ (v0 : (c : Dev Cert.KvfFwdIdeal.nD) → Buf (Elt Ideal) ((c.tc : Thread Cert.KvfFwdIdeal.nD Cert.KvfFwdIdeal.τ).loc Cert.KvfFwdIdeal.main_v0)),
      θ_run (Cert.KvfFwdIdeal.defs (F := Ideal)) (onTc (τ := Cert.KvfFwdIdeal.τ) (Cert.KvfFwdIdeal.main (F := Ideal))) ⟨m, fun _ => 0, g⟩ (fun r => ∀ c : Dev Cert.KvfFwdIdeal.nD,
          r.2.mem ((c.tc : Thread Cert.KvfFwdIdeal.nD Cert.KvfFwdIdeal.τ).loc Cert.KvfFwdIdeal.main_v0) = v0 c
          ∧ r.2.mem ((c.tc : Thread Cert.KvfFwdIdeal.nD Cert.KvfFwdIdeal.τ).loc Cert.KvfFwdIdeal.main_arg0) = m ((c.tc : Thread Cert.KvfFwdIdeal.nD Cert.KvfFwdIdeal.τ).loc Cert.KvfFwdIdeal.main_arg0)
          ∧ r.2.mem ((c.tc : Thread Cert.KvfFwdIdeal.nD Cert.KvfFwdIdeal.τ).loc Cert.KvfFwdIdeal.main_arg1) = m ((c.tc : Thread Cert.KvfFwdIdeal.nD Cert.KvfFwdIdeal.τ).loc Cert.KvfFwdIdeal.main_arg1))
      ∧ θ_run (Cert.KvfFwdRefIdeal.defs (F := Ideal)) (onTc (τ := Cert.KvfFwdRefIdeal.τ) (Cert.KvfFwdRefIdeal.main (F := Ideal))) ⟨m', fun _ => 0, g'⟩ (fun r => ∀ c : Dev Cert.KvfFwdRefIdeal.nD,
          r.2.mem ((c.tc : Thread Cert.KvfFwdRefIdeal.nD Cert.KvfFwdRefIdeal.τ).loc Cert.KvfFwdRefIdeal.main_v2) = v0 c
          ∧ r.2.mem ((c.tc : Thread Cert.KvfFwdRefIdeal.nD Cert.KvfFwdRefIdeal.τ).loc Cert.KvfFwdRefIdeal.main_arg0) = m' ((c.tc : Thread Cert.KvfFwdRefIdeal.nD Cert.KvfFwdRefIdeal.τ).loc Cert.KvfFwdRefIdeal.main_arg0)
          ∧ r.2.mem ((c.tc : Thread Cert.KvfFwdRefIdeal.nD Cert.KvfFwdRefIdeal.τ).loc Cert.KvfFwdRefIdeal.main_arg1) = m' ((c.tc : Thread Cert.KvfFwdRefIdeal.nD Cert.KvfFwdRefIdeal.τ).loc Cert.KvfFwdRefIdeal.main_arg1))

def preserves_KvfDw_KvfDwIdeal : Prop :=
  True

def algebraic_KvfDwIdeal_KvfDwRefIdeal [hKvfDwIdeal : Cert.KvfDwIdeal.Facts] [hKvfDwRefIdeal : Cert.KvfDwRefIdeal.Facts] : Prop :=
  ∀ (m : (ℓ : Loc Cert.KvfDwIdeal.nD Cert.KvfDwIdeal.τ Cert.KvfDwIdeal.sig) → Buf (Elt Ideal) ℓ) (g : Dev Cert.KvfDwIdeal.nD → PrngReg)
    (m' : (ℓ : Loc Cert.KvfDwRefIdeal.nD Cert.KvfDwRefIdeal.τ Cert.KvfDwRefIdeal.sig) → Buf (Elt Ideal) ℓ) (g' : Dev Cert.KvfDwRefIdeal.nD → PrngReg), Pre_KvfDwIdeal m →
    (∀ c : Dev Cert.KvfDwIdeal.nD,
      m' ((c.tc : Thread Cert.KvfDwRefIdeal.nD Cert.KvfDwRefIdeal.τ).loc Cert.KvfDwRefIdeal.main_arg0) = m ((c.tc : Thread Cert.KvfDwIdeal.nD Cert.KvfDwIdeal.τ).loc Cert.KvfDwIdeal.main_arg0)
      ∧ m' ((c.tc : Thread Cert.KvfDwRefIdeal.nD Cert.KvfDwRefIdeal.τ).loc Cert.KvfDwRefIdeal.main_arg1) = m ((c.tc : Thread Cert.KvfDwIdeal.nD Cert.KvfDwIdeal.τ).loc Cert.KvfDwIdeal.main_arg1)) →
    ∃ (v0 : (c : Dev Cert.KvfDwIdeal.nD) → Buf (Elt Ideal) ((c.tc : Thread Cert.KvfDwIdeal.nD Cert.KvfDwIdeal.τ).loc Cert.KvfDwIdeal.main_v0)),
      θ_run (Cert.KvfDwIdeal.defs (F := Ideal)) (onTc (τ := Cert.KvfDwIdeal.τ) (Cert.KvfDwIdeal.main (F := Ideal))) ⟨m, fun _ => 0, g⟩ (fun r => ∀ c : Dev Cert.KvfDwIdeal.nD,
          r.2.mem ((c.tc : Thread Cert.KvfDwIdeal.nD Cert.KvfDwIdeal.τ).loc Cert.KvfDwIdeal.main_v0) = v0 c
          ∧ r.2.mem ((c.tc : Thread Cert.KvfDwIdeal.nD Cert.KvfDwIdeal.τ).loc Cert.KvfDwIdeal.main_arg0) = m ((c.tc : Thread Cert.KvfDwIdeal.nD Cert.KvfDwIdeal.τ).loc Cert.KvfDwIdeal.main_arg0)
          ∧ r.2.mem ((c.tc : Thread Cert.KvfDwIdeal.nD Cert.KvfDwIdeal.τ).loc Cert.KvfDwIdeal.main_arg1) = m ((c.tc : Thread Cert.KvfDwIdeal.nD Cert.KvfDwIdeal.τ).loc Cert.KvfDwIdeal.main_arg1))
      ∧ θ_run (Cert.KvfDwRefIdeal.defs (F := Ideal)) (onTc (τ := Cert.KvfDwRefIdeal.τ) (Cert.KvfDwRefIdeal.main (F := Ideal))) ⟨m', fun _ => 0, g'⟩ (fun r => ∀ c : Dev Cert.KvfDwRefIdeal.nD,
          r.2.mem ((c.tc : Thread Cert.KvfDwRefIdeal.nD Cert.KvfDwRefIdeal.τ).loc Cert.KvfDwRefIdeal.main_v3) = v0 c
          ∧ r.2.mem ((c.tc : Thread Cert.KvfDwRefIdeal.nD Cert.KvfDwRefIdeal.τ).loc Cert.KvfDwRefIdeal.main_arg0) = m' ((c.tc : Thread Cert.KvfDwRefIdeal.nD Cert.KvfDwRefIdeal.τ).loc Cert.KvfDwRefIdeal.main_arg0)
          ∧ r.2.mem ((c.tc : Thread Cert.KvfDwRefIdeal.nD Cert.KvfDwRefIdeal.τ).loc Cert.KvfDwRefIdeal.main_arg1) = m' ((c.tc : Thread Cert.KvfDwRefIdeal.nD Cert.KvfDwRefIdeal.τ).loc Cert.KvfDwRefIdeal.main_arg1))

def preserves_KvfDx_KvfDxIdeal : Prop :=
  True

def algebraic_KvfDxIdeal_KvfDxRefIdeal [hKvfDxIdeal : Cert.KvfDxIdeal.Facts] [hKvfDxRefIdeal : Cert.KvfDxRefIdeal.Facts] : Prop :=
  ∀ (m : (ℓ : Loc Cert.KvfDxIdeal.nD Cert.KvfDxIdeal.τ Cert.KvfDxIdeal.sig) → Buf (Elt Ideal) ℓ) (g : Dev Cert.KvfDxIdeal.nD → PrngReg)
    (m' : (ℓ : Loc Cert.KvfDxRefIdeal.nD Cert.KvfDxRefIdeal.τ Cert.KvfDxRefIdeal.sig) → Buf (Elt Ideal) ℓ) (g' : Dev Cert.KvfDxRefIdeal.nD → PrngReg), Pre_KvfDxIdeal m →
    (∀ c : Dev Cert.KvfDxIdeal.nD,
      m' ((c.tc : Thread Cert.KvfDxRefIdeal.nD Cert.KvfDxRefIdeal.τ).loc Cert.KvfDxRefIdeal.main_arg0) = m ((c.tc : Thread Cert.KvfDxIdeal.nD Cert.KvfDxIdeal.τ).loc Cert.KvfDxIdeal.main_arg0)
      ∧ m' ((c.tc : Thread Cert.KvfDxRefIdeal.nD Cert.KvfDxRefIdeal.τ).loc Cert.KvfDxRefIdeal.main_arg1) = m ((c.tc : Thread Cert.KvfDxIdeal.nD Cert.KvfDxIdeal.τ).loc Cert.KvfDxIdeal.main_arg1)
      ∧ m' ((c.tc : Thread Cert.KvfDxRefIdeal.nD Cert.KvfDxRefIdeal.τ).loc Cert.KvfDxRefIdeal.main_arg2) = m ((c.tc : Thread Cert.KvfDxIdeal.nD Cert.KvfDxIdeal.τ).loc Cert.KvfDxIdeal.main_arg2)
      ∧ m' ((c.tc : Thread Cert.KvfDxRefIdeal.nD Cert.KvfDxRefIdeal.τ).loc Cert.KvfDxRefIdeal.main_arg3) = m ((c.tc : Thread Cert.KvfDxIdeal.nD Cert.KvfDxIdeal.τ).loc Cert.KvfDxIdeal.main_arg3)
      ∧ m' ((c.tc : Thread Cert.KvfDxRefIdeal.nD Cert.KvfDxRefIdeal.τ).loc Cert.KvfDxRefIdeal.main_arg4) = m ((c.tc : Thread Cert.KvfDxIdeal.nD Cert.KvfDxIdeal.τ).loc Cert.KvfDxIdeal.main_arg4)) →
    ∃ (v0 : (c : Dev Cert.KvfDxIdeal.nD) → Buf (Elt Ideal) ((c.tc : Thread Cert.KvfDxIdeal.nD Cert.KvfDxIdeal.τ).loc Cert.KvfDxIdeal.main_v0_0)) (v1 : (c : Dev Cert.KvfDxIdeal.nD) → Buf (Elt Ideal) ((c.tc : Thread Cert.KvfDxIdeal.nD Cert.KvfDxIdeal.τ).loc Cert.KvfDxIdeal.main_v0_1)),
      θ_run (Cert.KvfDxIdeal.defs (F := Ideal)) (onTc (τ := Cert.KvfDxIdeal.τ) (Cert.KvfDxIdeal.main (F := Ideal))) ⟨m, fun _ => 0, g⟩ (fun r => ∀ c : Dev Cert.KvfDxIdeal.nD,
          r.2.mem ((c.tc : Thread Cert.KvfDxIdeal.nD Cert.KvfDxIdeal.τ).loc Cert.KvfDxIdeal.main_v0_0) = v0 c
          ∧ r.2.mem ((c.tc : Thread Cert.KvfDxIdeal.nD Cert.KvfDxIdeal.τ).loc Cert.KvfDxIdeal.main_v0_1) = v1 c
          ∧ r.2.mem ((c.tc : Thread Cert.KvfDxIdeal.nD Cert.KvfDxIdeal.τ).loc Cert.KvfDxIdeal.main_arg0) = m ((c.tc : Thread Cert.KvfDxIdeal.nD Cert.KvfDxIdeal.τ).loc Cert.KvfDxIdeal.main_arg0)
          ∧ r.2.mem ((c.tc : Thread Cert.KvfDxIdeal.nD Cert.KvfDxIdeal.τ).loc Cert.KvfDxIdeal.main_arg1) = m ((c.tc : Thread Cert.KvfDxIdeal.nD Cert.KvfDxIdeal.τ).loc Cert.KvfDxIdeal.main_arg1)
          ∧ r.2.mem ((c.tc : Thread Cert.KvfDxIdeal.nD Cert.KvfDxIdeal.τ).loc Cert.KvfDxIdeal.main_arg2) = m ((c.tc : Thread Cert.KvfDxIdeal.nD Cert.KvfDxIdeal.τ).loc Cert.KvfDxIdeal.main_arg2)
          ∧ r.2.mem ((c.tc : Thread Cert.KvfDxIdeal.nD Cert.KvfDxIdeal.τ).loc Cert.KvfDxIdeal.main_arg3) = m ((c.tc : Thread Cert.KvfDxIdeal.nD Cert.KvfDxIdeal.τ).loc Cert.KvfDxIdeal.main_arg3)
          ∧ r.2.mem ((c.tc : Thread Cert.KvfDxIdeal.nD Cert.KvfDxIdeal.τ).loc Cert.KvfDxIdeal.main_arg4) = m ((c.tc : Thread Cert.KvfDxIdeal.nD Cert.KvfDxIdeal.τ).loc Cert.KvfDxIdeal.main_arg4))
      ∧ θ_run (Cert.KvfDxRefIdeal.defs (F := Ideal)) (onTc (τ := Cert.KvfDxRefIdeal.τ) (Cert.KvfDxRefIdeal.main (F := Ideal))) ⟨m', fun _ => 0, g'⟩ (fun r => ∀ c : Dev Cert.KvfDxRefIdeal.nD,
          r.2.mem ((c.tc : Thread Cert.KvfDxRefIdeal.nD Cert.KvfDxRefIdeal.τ).loc Cert.KvfDxRefIdeal.main_v38) = v0 c
          ∧ r.2.mem ((c.tc : Thread Cert.KvfDxRefIdeal.nD Cert.KvfDxRefIdeal.τ).loc Cert.KvfDxRefIdeal.main_v21) = v1 c
          ∧ r.2.mem ((c.tc : Thread Cert.KvfDxRefIdeal.nD Cert.KvfDxRefIdeal.τ).loc Cert.KvfDxRefIdeal.main_arg0) = m' ((c.tc : Thread Cert.KvfDxRefIdeal.nD Cert.KvfDxRefIdeal.τ).loc Cert.KvfDxRefIdeal.main_arg0)
          ∧ r.2.mem ((c.tc : Thread Cert.KvfDxRefIdeal.nD Cert.KvfDxRefIdeal.τ).loc Cert.KvfDxRefIdeal.main_arg1) = m' ((c.tc : Thread Cert.KvfDxRefIdeal.nD Cert.KvfDxRefIdeal.τ).loc Cert.KvfDxRefIdeal.main_arg1)
          ∧ r.2.mem ((c.tc : Thread Cert.KvfDxRefIdeal.nD Cert.KvfDxRefIdeal.τ).loc Cert.KvfDxRefIdeal.main_arg2) = m' ((c.tc : Thread Cert.KvfDxRefIdeal.nD Cert.KvfDxRefIdeal.τ).loc Cert.KvfDxRefIdeal.main_arg2)
          ∧ r.2.mem ((c.tc : Thread Cert.KvfDxRefIdeal.nD Cert.KvfDxRefIdeal.τ).loc Cert.KvfDxRefIdeal.main_arg3) = m' ((c.tc : Thread Cert.KvfDxRefIdeal.nD Cert.KvfDxRefIdeal.τ).loc Cert.KvfDxRefIdeal.main_arg3)
          ∧ r.2.mem ((c.tc : Thread Cert.KvfDxRefIdeal.nD Cert.KvfDxRefIdeal.τ).loc Cert.KvfDxRefIdeal.main_arg4) = m' ((c.tc : Thread Cert.KvfDxRefIdeal.nD Cert.KvfDxRefIdeal.τ).loc Cert.KvfDxRefIdeal.main_arg4))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)) →
    ∃ (v0 : (c : Dev Cert.MixDxIdeal.nD) → Buf (Elt Ideal) ((c.tc : Thread Cert.MixDxIdeal.nD Cert.MixDxIdeal.τ).loc Cert.MixDxIdeal.main_v0_0)) (v1 : (c : Dev Cert.MixDxIdeal.nD) → Buf (Elt Ideal) ((c.tc : Thread Cert.MixDxIdeal.nD Cert.MixDxIdeal.τ).loc Cert.MixDxIdeal.main_v0_1)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0_0) = v0 c
          ∧ r.2.mem ((c.tc : Thread Cert.MixDxIdeal.nD Cert.MixDxIdeal.τ).loc Cert.MixDxIdeal.main_v0_1) = v1 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v34) = v0 c
          ∧ r.2.mem ((c.tc : Thread Cert.MixDxRefIdeal.nD Cert.MixDxRefIdeal.τ).loc Cert.MixDxRefIdeal.main_v17) = v1 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v16) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v9) = v0 c
          ∧ r.2.mem ((c.tc : Thread Cert.GateFwdRefIdeal.nD Cert.GateFwdRefIdeal.τ).loc Cert.GateFwdRefIdeal.main_v22) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_QueryFwd_QueryFwdIdeal : Prop :=
  IdealRules.named_const.Statement Cert.QueryFwdIdeal.κ "scale" .f32 0x3E38AA3B#32 (((8 * (Real.log 2))⁻¹ : ℝ) : EReal)

def algebraic_QueryFwdIdeal_QueryFwdRefIdeal [hQueryFwdIdeal : Cert.QueryFwdIdeal.Facts] [hQueryFwdRefIdeal : Cert.QueryFwdRefIdeal.Facts] : Prop :=
  ∀ (m : (ℓ : Loc Cert.QueryFwdIdeal.nD Cert.QueryFwdIdeal.τ Cert.QueryFwdIdeal.sig) → Buf (Elt Ideal) ℓ) (g : Dev Cert.QueryFwdIdeal.nD → PrngReg)
    (m' : (ℓ : Loc Cert.QueryFwdRefIdeal.nD Cert.QueryFwdRefIdeal.τ Cert.QueryFwdRefIdeal.sig) → Buf (Elt Ideal) ℓ) (g' : Dev Cert.QueryFwdRefIdeal.nD → PrngReg), Pre_QueryFwdIdeal m →
    (∀ c : Dev Cert.QueryFwdIdeal.nD,
      m' ((c.tc : Thread Cert.QueryFwdRefIdeal.nD Cert.QueryFwdRefIdeal.τ).loc Cert.QueryFwdRefIdeal.main_arg0) = m ((c.tc : Thread Cert.QueryFwdIdeal.nD Cert.QueryFwdIdeal.τ).loc Cert.QueryFwdIdeal.main_arg0)
      ∧ m' ((c.tc : Thread Cert.QueryFwdRefIdeal.nD Cert.QueryFwdRefIdeal.τ).loc Cert.QueryFwdRefIdeal.main_arg1) = m ((c.tc : Thread Cert.QueryFwdIdeal.nD Cert.QueryFwdIdeal.τ).loc Cert.QueryFwdIdeal.main_arg1)) →
    ∃ (v0 : (c : Dev Cert.QueryFwdIdeal.nD) → Buf (Elt Ideal) ((c.tc : Thread Cert.QueryFwdIdeal.nD Cert.QueryFwdIdeal.τ).loc Cert.QueryFwdIdeal.main_v0)),
      θ_run (Cert.QueryFwdIdeal.defs (F := Ideal)) (onTc (τ := Cert.QueryFwdIdeal.τ) (Cert.QueryFwdIdeal.main (F := Ideal))) ⟨m, fun _ => 0, g⟩ (fun r => ∀ c : Dev Cert.QueryFwdIdeal.nD,
          r.2.mem ((c.tc : Thread Cert.QueryFwdIdeal.nD Cert.QueryFwdIdeal.τ).loc Cert.QueryFwdIdeal.main_v0) = v0 c
          ∧ r.2.mem ((c.tc : Thread Cert.QueryFwdIdeal.nD Cert.QueryFwdIdeal.τ).loc Cert.QueryFwdIdeal.main_arg0) = m ((c.tc : Thread Cert.QueryFwdIdeal.nD Cert.QueryFwdIdeal.τ).loc Cert.QueryFwdIdeal.main_arg0)
          ∧ r.2.mem ((c.tc : Thread Cert.QueryFwdIdeal.nD Cert.QueryFwdIdeal.τ).loc Cert.QueryFwdIdeal.main_arg1) = m ((c.tc : Thread Cert.QueryFwdIdeal.nD Cert.QueryFwdIdeal.τ).loc Cert.QueryFwdIdeal.main_arg1))
      ∧ θ_run (Cert.QueryFwdRefIdeal.defs (F := Ideal)) (onTc (τ := Cert.QueryFwdRefIdeal.τ) (Cert.QueryFwdRefIdeal.main (F := Ideal))) ⟨m', fun _ => 0, g'⟩ (fun r => ∀ c : Dev Cert.QueryFwdRefIdeal.nD,
          r.2.mem ((c.tc : Thread Cert.QueryFwdRefIdeal.nD Cert.QueryFwdRefIdeal.τ).loc Cert.QueryFwdRefIdeal.main_v8) = v0 c
          ∧ r.2.mem ((c.tc : Thread Cert.QueryFwdRefIdeal.nD Cert.QueryFwdRefIdeal.τ).loc Cert.QueryFwdRefIdeal.main_arg0) = m' ((c.tc : Thread Cert.QueryFwdRefIdeal.nD Cert.QueryFwdRefIdeal.τ).loc Cert.QueryFwdRefIdeal.main_arg0)
          ∧ r.2.mem ((c.tc : Thread Cert.QueryFwdRefIdeal.nD Cert.QueryFwdRefIdeal.τ).loc Cert.QueryFwdRefIdeal.main_arg1) = m' ((c.tc : Thread Cert.QueryFwdRefIdeal.nD Cert.QueryFwdRefIdeal.τ).loc Cert.QueryFwdRefIdeal.main_arg1))

def preserves_CumDx_CumDxIdeal : Prop :=
  True

def algebraic_CumDxIdeal_CumDxRefIdeal [hCumDxIdeal : Cert.CumDxIdeal.Facts] [hCumDxRefIdeal : Cert.CumDxRefIdeal.Facts] : Prop :=
  ∀ (m : (ℓ : Loc Cert.CumDxIdeal.nD Cert.CumDxIdeal.τ Cert.CumDxIdeal.sig) → Buf (Elt Ideal) ℓ) (g : Dev Cert.CumDxIdeal.nD → PrngReg)
    (m' : (ℓ : Loc Cert.CumDxRefIdeal.nD Cert.CumDxRefIdeal.τ Cert.CumDxRefIdeal.sig) → Buf (Elt Ideal) ℓ) (g' : Dev Cert.CumDxRefIdeal.nD → PrngReg), Pre_CumDxIdeal m →
    (∀ c : Dev Cert.CumDxIdeal.nD,
      m' ((c.tc : Thread Cert.CumDxRefIdeal.nD Cert.CumDxRefIdeal.τ).loc Cert.CumDxRefIdeal.main_arg0) = m ((c.tc : Thread Cert.CumDxIdeal.nD Cert.CumDxIdeal.τ).loc Cert.CumDxIdeal.main_arg0)
      ∧ m' ((c.tc : Thread Cert.CumDxRefIdeal.nD Cert.CumDxRefIdeal.τ).loc Cert.CumDxRefIdeal.main_arg1) = m ((c.tc : Thread Cert.CumDxIdeal.nD Cert.CumDxIdeal.τ).loc Cert.CumDxIdeal.main_arg1)
      ∧ m' ((c.tc : Thread Cert.CumDxRefIdeal.nD Cert.CumDxRefIdeal.τ).loc Cert.CumDxRefIdeal.main_arg2) = m ((c.tc : Thread Cert.CumDxIdeal.nD Cert.CumDxIdeal.τ).loc Cert.CumDxIdeal.main_arg2)
      ∧ m' ((c.tc : Thread Cert.CumDxRefIdeal.nD Cert.CumDxRefIdeal.τ).loc Cert.CumDxRefIdeal.main_arg3) = m ((c.tc : Thread Cert.CumDxIdeal.nD Cert.CumDxIdeal.τ).loc Cert.CumDxIdeal.main_arg3)
      ∧ m' ((c.tc : Thread Cert.CumDxRefIdeal.nD Cert.CumDxRefIdeal.τ).loc Cert.CumDxRefIdeal.main_arg4) = m ((c.tc : Thread Cert.CumDxIdeal.nD Cert.CumDxIdeal.τ).loc Cert.CumDxIdeal.main_arg4)) →
    ∃ (v0 : (c : Dev Cert.CumDxIdeal.nD) → Buf (Elt Ideal) ((c.tc : Thread Cert.CumDxIdeal.nD Cert.CumDxIdeal.τ).loc Cert.CumDxIdeal.main_v0_0)) (v1 : (c : Dev Cert.CumDxIdeal.nD) → Buf (Elt Ideal) ((c.tc : Thread Cert.CumDxIdeal.nD Cert.CumDxIdeal.τ).loc Cert.CumDxIdeal.main_v0_1)),
      θ_run (Cert.CumDxIdeal.defs (F := Ideal)) (onTc (τ := Cert.CumDxIdeal.τ) (Cert.CumDxIdeal.main (F := Ideal))) ⟨m, fun _ => 0, g⟩ (fun r => ∀ c : Dev Cert.CumDxIdeal.nD,
          r.2.mem ((c.tc : Thread Cert.CumDxIdeal.nD Cert.CumDxIdeal.τ).loc Cert.CumDxIdeal.main_v0_0) = v0 c
          ∧ r.2.mem ((c.tc : Thread Cert.CumDxIdeal.nD Cert.CumDxIdeal.τ).loc Cert.CumDxIdeal.main_v0_1) = v1 c
          ∧ r.2.mem ((c.tc : Thread Cert.CumDxIdeal.nD Cert.CumDxIdeal.τ).loc Cert.CumDxIdeal.main_arg0) = m ((c.tc : Thread Cert.CumDxIdeal.nD Cert.CumDxIdeal.τ).loc Cert.CumDxIdeal.main_arg0)
          ∧ r.2.mem ((c.tc : Thread Cert.CumDxIdeal.nD Cert.CumDxIdeal.τ).loc Cert.CumDxIdeal.main_arg1) = m ((c.tc : Thread Cert.CumDxIdeal.nD Cert.CumDxIdeal.τ).loc Cert.CumDxIdeal.main_arg1)
          ∧ r.2.mem ((c.tc : Thread Cert.CumDxIdeal.nD Cert.CumDxIdeal.τ).loc Cert.CumDxIdeal.main_arg2) = m ((c.tc : Thread Cert.CumDxIdeal.nD Cert.CumDxIdeal.τ).loc Cert.CumDxIdeal.main_arg2)
          ∧ r.2.mem ((c.tc : Thread Cert.CumDxIdeal.nD Cert.CumDxIdeal.τ).loc Cert.CumDxIdeal.main_arg3) = m ((c.tc : Thread Cert.CumDxIdeal.nD Cert.CumDxIdeal.τ).loc Cert.CumDxIdeal.main_arg3)
          ∧ r.2.mem ((c.tc : Thread Cert.CumDxIdeal.nD Cert.CumDxIdeal.τ).loc Cert.CumDxIdeal.main_arg4) = m ((c.tc : Thread Cert.CumDxIdeal.nD Cert.CumDxIdeal.τ).loc Cert.CumDxIdeal.main_arg4))
      ∧ θ_run (Cert.CumDxRefIdeal.defs (F := Ideal)) (onTc (τ := Cert.CumDxRefIdeal.τ) (Cert.CumDxRefIdeal.main (F := Ideal))) ⟨m', fun _ => 0, g'⟩ (fun r => ∀ c : Dev Cert.CumDxRefIdeal.nD,
          r.2.mem ((c.tc : Thread Cert.CumDxRefIdeal.nD Cert.CumDxRefIdeal.τ).loc Cert.CumDxRefIdeal.main_v7) = v0 c
          ∧ r.2.mem ((c.tc : Thread Cert.CumDxRefIdeal.nD Cert.CumDxRefIdeal.τ).loc Cert.CumDxRefIdeal.main_v9) = v1 c
          ∧ r.2.mem ((c.tc : Thread Cert.CumDxRefIdeal.nD Cert.CumDxRefIdeal.τ).loc Cert.CumDxRefIdeal.main_arg0) = m' ((c.tc : Thread Cert.CumDxRefIdeal.nD Cert.CumDxRefIdeal.τ).loc Cert.CumDxRefIdeal.main_arg0)
          ∧ r.2.mem ((c.tc : Thread Cert.CumDxRefIdeal.nD Cert.CumDxRefIdeal.τ).loc Cert.CumDxRefIdeal.main_arg1) = m' ((c.tc : Thread Cert.CumDxRefIdeal.nD Cert.CumDxRefIdeal.τ).loc Cert.CumDxRefIdeal.main_arg1)
          ∧ r.2.mem ((c.tc : Thread Cert.CumDxRefIdeal.nD Cert.CumDxRefIdeal.τ).loc Cert.CumDxRefIdeal.main_arg2) = m' ((c.tc : Thread Cert.CumDxRefIdeal.nD Cert.CumDxRefIdeal.τ).loc Cert.CumDxRefIdeal.main_arg2)
          ∧ r.2.mem ((c.tc : Thread Cert.CumDxRefIdeal.nD Cert.CumDxRefIdeal.τ).loc Cert.CumDxRefIdeal.main_arg3) = m' ((c.tc : Thread Cert.CumDxRefIdeal.nD Cert.CumDxRefIdeal.τ).loc Cert.CumDxRefIdeal.main_arg3)
          ∧ r.2.mem ((c.tc : Thread Cert.CumDxRefIdeal.nD Cert.CumDxRefIdeal.τ).loc Cert.CumDxRefIdeal.main_arg4) = m' ((c.tc : Thread Cert.CumDxRefIdeal.nD Cert.CumDxRefIdeal.τ).loc Cert.CumDxRefIdeal.main_arg4))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hQueryDw : Cert.QueryDw.Facts) (hQueryDwIdeal : Cert.QueryDwIdeal.Facts) (hQueryDwRefIdeal : Cert.QueryDwRefIdeal.Facts) (hQueryDx : Cert.QueryDx.Facts) (hQueryDxIdeal : Cert.QueryDxIdeal.Facts) (hQueryDxRefIdeal : Cert.QueryDxRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hGluFwd : Cert.GluFwd.Facts) (hGluFwdIdeal : Cert.GluFwdIdeal.Facts) (hGluFwdRefIdeal : Cert.GluFwdRefIdeal.Facts) (hOutFwd : Cert.OutFwd.Facts) (hOutFwdIdeal : Cert.OutFwdIdeal.Facts) (hOutFwdRefIdeal : Cert.OutFwdRefIdeal.Facts) (hKvfFwd : Cert.KvfFwd.Facts) (hKvfFwdIdeal : Cert.KvfFwdIdeal.Facts) (hKvfFwdRefIdeal : Cert.KvfFwdRefIdeal.Facts) (hKvfDw : Cert.KvfDw.Facts) (hKvfDwIdeal : Cert.KvfDwIdeal.Facts) (hKvfDwRefIdeal : Cert.KvfDwRefIdeal.Facts) (hKvfDx : Cert.KvfDx.Facts) (hKvfDxIdeal : Cert.KvfDxIdeal.Facts) (hKvfDxRefIdeal : Cert.KvfDxRefIdeal.Facts) (hMixDx : Cert.MixDx.Facts) (hMixDxIdeal : Cert.MixDxIdeal.Facts) (hMixDxRefIdeal : Cert.MixDxRefIdeal.Facts) (hGateDx : Cert.GateDx.Facts) (hGateDxIdeal : Cert.GateDxIdeal.Facts) (hGateDxRefIdeal : Cert.GateDxRefIdeal.Facts) (hGateFwd : Cert.GateFwd.Facts) (hGateFwdIdeal : Cert.GateFwdIdeal.Facts) (hGateFwdRefIdeal : Cert.GateFwdRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hAdamUp : Cert.AdamUp.Facts) (hAdamUpIdeal : Cert.AdamUpIdeal.Facts) (hAdamUpRefIdeal : Cert.AdamUpRefIdeal.Facts) (hQueryFwd : Cert.QueryFwd.Facts) (hQueryFwdIdeal : Cert.QueryFwdIdeal.Facts) (hQueryFwdRefIdeal : Cert.QueryFwdRefIdeal.Facts) (hCumDx : Cert.CumDx.Facts) (hCumDxIdeal : Cert.CumDxIdeal.Facts) (hCumDxRefIdeal : Cert.CumDxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_QueryDw (hQueryDw := hQueryDw)
    ∧ quiescent_QueryDwIdeal (hQueryDwIdeal := hQueryDwIdeal)
    ∧ quiescent_QueryDwRefIdeal (hQueryDwRefIdeal := hQueryDwRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_KvfFwd (hKvfFwd := hKvfFwd)
    ∧ quiescent_KvfFwdIdeal (hKvfFwdIdeal := hKvfFwdIdeal)
    ∧ quiescent_KvfFwdRefIdeal (hKvfFwdRefIdeal := hKvfFwdRefIdeal)
    ∧ quiescent_KvfDw (hKvfDw := hKvfDw)
    ∧ quiescent_KvfDwIdeal (hKvfDwIdeal := hKvfDwIdeal)
    ∧ quiescent_KvfDwRefIdeal (hKvfDwRefIdeal := hKvfDwRefIdeal)
    ∧ quiescent_KvfDx (hKvfDx := hKvfDx)
    ∧ quiescent_KvfDxIdeal (hKvfDxIdeal := hKvfDxIdeal)
    ∧ quiescent_KvfDxRefIdeal (hKvfDxRefIdeal := hKvfDxRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_QueryFwd (hQueryFwd := hQueryFwd)
    ∧ quiescent_QueryFwdIdeal (hQueryFwdIdeal := hQueryFwdIdeal)
    ∧ quiescent_QueryFwdRefIdeal (hQueryFwdRefIdeal := hQueryFwdRefIdeal)
    ∧ quiescent_CumDx (hCumDx := hCumDx)
    ∧ quiescent_CumDxIdeal (hCumDxIdeal := hCumDxIdeal)
    ∧ quiescent_CumDxRefIdeal (hCumDxRefIdeal := hCumDxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_QueryDw_QueryDwIdeal
    ∧ algebraic_QueryDwIdeal_QueryDwRefIdeal (hQueryDwIdeal := hQueryDwIdeal) (hQueryDwRefIdeal := hQueryDwRefIdeal)
    ∧ preserves_QueryDx_QueryDxIdeal
    ∧ algebraic_QueryDxIdeal_QueryDxRefIdeal (hQueryDxIdeal := hQueryDxIdeal) (hQueryDxRefIdeal := hQueryDxRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_GluFwd_GluFwdIdeal
    ∧ algebraic_GluFwdIdeal_GluFwdRefIdeal (hGluFwdIdeal := hGluFwdIdeal) (hGluFwdRefIdeal := hGluFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_KvfFwd_KvfFwdIdeal
    ∧ algebraic_KvfFwdIdeal_KvfFwdRefIdeal (hKvfFwdIdeal := hKvfFwdIdeal) (hKvfFwdRefIdeal := hKvfFwdRefIdeal)
    ∧ preserves_KvfDw_KvfDwIdeal
    ∧ algebraic_KvfDwIdeal_KvfDwRefIdeal (hKvfDwIdeal := hKvfDwIdeal) (hKvfDwRefIdeal := hKvfDwRefIdeal)
    ∧ preserves_KvfDx_KvfDxIdeal
    ∧ algebraic_KvfDxIdeal_KvfDxRefIdeal (hKvfDxIdeal := hKvfDxIdeal) (hKvfDxRefIdeal := hKvfDxRefIdeal)
    ∧ preserves_MixDx_MixDxIdeal
    ∧ algebraic_MixDxIdeal_MixDxRefIdeal (hMixDxIdeal := hMixDxIdeal) (hMixDxRefIdeal := hMixDxRefIdeal)
    ∧ preserves_GateDx_GateDxIdeal
    ∧ algebraic_GateDxIdeal_GateDxRefIdeal (hGateDxIdeal := hGateDxIdeal) (hGateDxRefIdeal := hGateDxRefIdeal)
    ∧ preserves_GateFwd_GateFwdIdeal
    ∧ algebraic_GateFwdIdeal_GateFwdRefIdeal (hGateFwdIdeal := hGateFwdIdeal) (hGateFwdRefIdeal := hGateFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamUp_AdamUpIdeal
    ∧ algebraic_AdamUpIdeal_AdamUpRefIdeal (hAdamUpIdeal := hAdamUpIdeal) (hAdamUpRefIdeal := hAdamUpRefIdeal)
    ∧ preserves_QueryFwd_QueryFwdIdeal
    ∧ algebraic_QueryFwdIdeal_QueryFwdRefIdeal (hQueryFwdIdeal := hQueryFwdIdeal) (hQueryFwdRefIdeal := hQueryFwdRefIdeal)
    ∧ preserves_CumDx_CumDxIdeal
    ∧ algebraic_CumDxIdeal_CumDxRefIdeal (hCumDxIdeal := hCumDxIdeal) (hCumDxRefIdeal := hCumDxRefIdeal)
-- ==== Pre_finite.lean ====
abbrev S16x8192x64 : Shape := ⟨3, ![16, 8192, 64]⟩
abbrev S16x8192 : Shape := ⟨2, ![16, 8192]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S16x8192x64 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S16x8192x64 .f32 := Host.absf main_arg4
  let main_cst_6 : FVec F S_ .f32 := constant S_ .f32 0x7F800000#32
  let main_v20 : FVec F S16x8192x64 .f32 := broadcastInDim S16x8192x64 ![] bcast_S_S16x8192x64 main_cst_6
  let main_v21 : IVec S16x8192x64 1 := cmpf .olt main_v19 main_v20
  let main_c_7 : IVec S_ 1 := constantI S_ 1 1#1
  let main_v22 : IVec S_ 1 := (fun x v => Host.reduce IntOp.andi x v reducesTo_S16x8192x64_S_d0_1_2 h_S_) main_v21 main_c_7
  let main_v23 : IVec S_ 1 := andi main_v18 main_v22
  main_v23

def fn {F : FTy → Type} [FloatOps F] (main_arg0 : FVec F S16x8192x64 .f32) (main_arg1 : FVec F S16x8192x64 .f32) (main_arg2 : FVec F S16x8192x64 .f32) (main_arg3 : FVec F S16x8192 .f32) (main_arg4 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Kernel.lean ====
abbrev S16x8192x64 : Shape := ⟨3, ![16, 8192, 64]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S16x8192x58 : Shape := ⟨3, ![16, 8192, 58]⟩
abbrev S16x8192x128 : Shape := ⟨3, ![16, 8192, 128]⟩
abbrev S16x8192x57 : Shape := ⟨3, ![16, 8192, 57]⟩
abbrev S16x8192x60 : Shape := ⟨3, ![16, 8192, 60]⟩
abbrev S1x8192x128 : Shape := ⟨3, ![1, 8192, 128]⟩
abbrev S1x1024x128 : Shape := ⟨3, ![1, 1024, 128]⟩
abbrev S8192x128 : Shape := ⟨2, ![8192, 128]⟩
abbrev S1024x128 : Shape := ⟨2, ![1024, 128]⟩
abbrev S1x512x128 : Shape := ⟨3, ![1, 512, 128]⟩
abbrev S512x128 : Shape := ⟨2, ![512, 128]⟩
abbrev S512x512 : Shape := ⟨2, ![512, 512]⟩
abbrev S1024x1024 : Shape := ⟨2, ![1024, 1024]⟩

abbrev nBuf : Space → Nat
  | .hbm => 151
  | .vmem => 14
  | .smem => 0
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192, .f32⟩
  | 4 => ⟨S16x8192x64, .f32⟩
  | 5 => ⟨S16x8192x8192, .f32⟩
  | 6 => ⟨S16x8192x1, .f32⟩
  | 7 => ⟨S16x8192x8192, .f32⟩
  | 8 => ⟨S16x8192x8192, .f32⟩
  | 9 => ⟨S16x1x8192, .f32⟩
  | 10 => ⟨S16x8192x8192, .f32⟩
  | 11 => ⟨S16x8192x8192, .f32⟩
  | 12 => ⟨S8192, .i32⟩
  | 13 => ⟨S8192x1, .i32⟩
  | 14 => ⟨S1x8192, .i32⟩
  | 15 => ⟨S8192x8192, .i32⟩
  | 16 => ⟨S8192x8192, .i32⟩
  | 17 => ⟨S8192x8192, .i1⟩
  | 18 => ⟨S1x8192x8192, .i1⟩
  | 19 => ⟨S_, .f32⟩
  | 20 => ⟨S_, .f32⟩
  | 21 => ⟨S16x8192x8192, .i1⟩
  | 22 => ⟨S16x8192x8192, .f32⟩
  | 23 => ⟨S16x8192x8192, .f32⟩
  | 24 => ⟨S_, .f32⟩
  | 25 => ⟨S16x8192, .f32⟩
  | 26 => ⟨S_, .f32⟩
  | 27 => ⟨S_, .f32⟩
  | 28 => ⟨S16x8192x1, .f32⟩
  | 29 => ⟨S16x8192x8192, .f32⟩
  | 30 => ⟨S16x8192x8192, .f32⟩
  | 31 => ⟨S16x8192x8192, .f32⟩
  | 32 => ⟨S_, .f32⟩
  | 33 => ⟨S16x8192, .f32⟩
  | 34 => ⟨S16x8192, .f32⟩
  | 35 => ⟨S16x8192, .f32⟩
  | 36 => ⟨S16x8192, .f32⟩
  | 37 => ⟨S16x8192, .f32⟩
  | 38 => ⟨S16x8192, .f32⟩
  | 39 => ⟨S16x8192x8192, .f32⟩
  | 40 => ⟨S16x8192x1, .f32⟩
  | 41 => ⟨S16x8192x8192, .f32⟩
  | 42 => ⟨S16x8192x8192, .f32⟩
  | 43 => ⟨S16x1x8192, .f32⟩
  | 44 => ⟨S16x8192x8192, .f32⟩
  | 45 => ⟨S16x8192x8192, .f32⟩
  | 46 => ⟨S8192, .i32⟩
  | 47 => ⟨S8192x1, .i32⟩
  | 48 => ⟨S1x8192, .i32⟩
  | 49 => ⟨S8192x8192, .i32⟩
  | 50 => ⟨S8192x8192, .i32⟩
  | 51 => ⟨S8192x8192, .i1⟩
  | 52 => ⟨S1x8192x8192, .i1⟩
  | 53 => ⟨S_, .f32⟩
  | 54 => ⟨S_, .f32⟩
  | 55 => ⟨S16x8192x8192, .i1⟩
  | 56 => ⟨S16x8192x8192, .f32⟩
  | 57 => ⟨S16x8192x8192, .f32⟩
  | 58 => ⟨S_, .f32⟩
  | 59 => ⟨S16x8192, .f32⟩
  | 60 => ⟨S_, .f32⟩
  | 61 => ⟨S16x8192, .f32⟩
  | 62 => ⟨S16x8192, .f32⟩
  | 63 => ⟨S16x8192x1, .f32⟩
  | 64 => ⟨S16x8192x8192, .f32⟩
  | 65 => ⟨S16x8192x8192, .f32⟩
  | 66 => ⟨S16x8192x8192, .f32⟩
  | 67 => ⟨S_, .f32⟩
  | 68 => ⟨S16x8192, .f32⟩
  | 69 => ⟨S16x8192x1, .f32⟩
  | 70 => ⟨S16x8192x8192, .f32⟩
  | 71 => ⟨S16x8192x8192, .f32⟩
  | 72 => ⟨S16x8192x64, .f32⟩
  | 73 => ⟨S16x8192x64, .f32⟩
  | 74 => ⟨S_, .f32⟩
  | 75 => ⟨S16x8192, .f32⟩
  | 76 => ⟨S_, .f32⟩
  | 77 => ⟨S16x8192x1, .f32⟩
  | 78 => ⟨S16x8192x64, .f32⟩
  | 79 => ⟨S16x8192x64, .f32⟩
  | 80 => ⟨S16x8192, .bf16⟩
  | 81 => ⟨S16x8192, .f32⟩
  | 82 => ⟨S16x8192, .f32⟩
  | 83 => ⟨S16x8192, .bf16⟩
  | 84 => ⟨S16x8192, .f32⟩
  | 85 => ⟨S16x8192, .f32⟩
  | 86 => ⟨S16x8192, .bf16⟩
  | 87 => ⟨S16x8192, .f32⟩
  | 88 => ⟨S16x8192x1, .f32⟩
  | 89 => ⟨S16x8192x1, .f32⟩
  | 90 => ⟨S16x8192x1, .f32⟩
  | 91 => ⟨S_, .f32⟩
  | 92 => ⟨S16x8192x58, .f32⟩
  | 93 => ⟨S16x8192x128, .f32⟩
  | 94 => ⟨S16x8192x128, .bf16⟩
  | 95 => ⟨S16x8192, .f32⟩
  | 96 => ⟨S16x8192, .f32⟩
  | 97 => ⟨S16x8192, .f32⟩
  | 98 => ⟨S16x8192, .bf16⟩
  | 99 => ⟨S16x8192, .f32⟩
  | 100 => ⟨S16x8192, .f32⟩
  | 101 => ⟨S16x8192, .bf16⟩
  | 102 => ⟨S16x8192, .f32⟩
  | 103 => ⟨S16x8192, .f32⟩
  | 104 => ⟨S16x8192, .bf16⟩
  | 105 => ⟨S16x8192, .f32⟩
  | 106 => ⟨S16x8192x1, .f32⟩
  | 107 => ⟨S16x8192x1, .f32⟩
  | 108 => ⟨S16x8192x1, .f32⟩
  | 109 => ⟨S16x8192x1, .f32⟩
  | 110 => ⟨S16x8192x1, .f32⟩
  | 111 => ⟨S16x8192x1, .f32⟩
  | 112 => ⟨S_, .f32⟩
  | 113 => ⟨S16x8192x57, .f32⟩
  | 114 => ⟨S16x8192x128, .f32⟩
  | 115 => ⟨S16x8192x128, .bf16⟩
  | 116 => ⟨S16x8192x1, .f32⟩
  | 117 => ⟨S16x8192x1, .f32⟩
  | 118 => ⟨S16x8192x1, .f32⟩
  | 119 => ⟨S_, .f32⟩
  | 120 => ⟨S16x8192x60, .f32⟩
  | 121 => ⟨S16x8192x128, .f32⟩
  | 122 => ⟨S16x8192x128, .bf16⟩
  | 123 => ⟨S_, .f32⟩
  | 124 => ⟨S16x8192x1, .f32⟩
  | 125 => ⟨S16x8192, .bf16⟩
  | 126 => ⟨S16x8192, .f32⟩
  | 127 => ⟨S16x8192, .f32⟩
  | _ => ⟨S16x8192x64, .f32⟩

abbrev hbmTy0_1 (i : Nat) : BufTy := match i % 128 with
  | 0 => ⟨S16x8192, .bf16⟩
  | 1 => ⟨S16x8192, .f32⟩
  | 2 => ⟨S16x8192, .f32⟩
  | 3 => ⟨S16x8192, .bf16⟩
  | 4 => ⟨S16x8192, .f32⟩
  | 5 => ⟨S16x8192x1, .f32⟩
  | 6 => ⟨S16x8192x1, .f32⟩
  | 7 => ⟨S16x8192x1, .f32⟩
  | 8 => ⟨S_, .f32⟩
  | 9 => ⟨S16x8192x60, .f32⟩
  | 10 => ⟨S16x8192x128, .f32⟩
  | 11 => ⟨S16x8192x128, .bf16⟩
  | 12 => ⟨S16x8192x128, .f32⟩
  | 13 => ⟨S16x8192x128, .f32⟩
  | 14 => ⟨S16x8192x128, .f32⟩
  | 15 => ⟨S16x8192x64, .f32⟩
  | 16 => ⟨S16x8192x64, .f32⟩
  | 17 => ⟨S16x8192x64, .f32⟩
  | 18 => ⟨S16x8192x1, .f32⟩
  | 19 => ⟨S16x8192, .f32⟩
  | 20 => ⟨S16x8192x1, .f32⟩
  | 21 => ⟨S16x8192, .f32⟩
  | 22 => ⟨S16x8192, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x8192x128, .f32⟩
  | .local _ .vmem, ⟨9, _⟩ => ⟨S1x8192x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_12 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_13 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114_0 : Ref sig .tc := ⟨.hbm, 140, rfl⟩
abbrev main_v114_1 : Ref sig .tc := ⟨.hbm, 141, rfl⟩
abbrev main_v114_2 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 3 → Nat :=
  let c0_13 : Index := 0#32
  let arg1 : BitVec 32 := BitVec.ofNat 32 (i 1).val
  let c1024_i32 : BitVec 32 := 1024#32
  let v11 : BitVec 32 := Scalar.muli arg1 c1024_i32
  let v12 : BitVec 32 := v11
  let v17 : Index := Scalar.indexCast v12
  let c0_14 : Index := 0#32
  ![0, v17.toNat, 0]
def k0_mult2 (i : grid0.Coords) : BitVec 32 :=
  let arg1 : BitVec 32 := BitVec.ofNat 32 (i 1).val
  let c1024_i32_39 : BitVec 32 := 1024#32
  let v57 : BitVec 32 := Scalar.muli arg1 c1024_i32_39
  let c512_i32 : BitVec 32 := 512#32
  let v58 : BitVec 32 := Scalar.addi v57 c512_i32
  v58
def k0_off2 (i : grid0.Coords) : Fin 3 → Nat :=
  let c0_46 : Index := 0#32
  let arg1 : BitVec 32 := BitVec.ofNat 32 (i 1).val
  let c1024_i32_39 : BitVec 32 := 1024#32
  let v57 : BitVec 32 := Scalar.muli arg1 c1024_i32_39
  let c512_i32 : BitVec 32 := 512#32
  let v58 : BitVec 32 := Scalar.addi v57 c512_i32
  let v59 : BitVec 32 := v58
  let v64 : Index := Scalar.indexCast v59
  let c0_47 : Index := 0#32
  ![0, v64.toNat, 0]
def k0_mult3 (i : grid0.Coords) : BitVec 32 :=
  let arg1 : BitVec 32 := BitVec.ofNat 32 (i 1).val
  let c1024_i32_71 : BitVec 32 := 1024#32
  let v99 : BitVec 32 := Scalar.muli arg1 c1024_i32_71
  let c512_i32_72 : BitVec 32 := 512#32
  let v100 : BitVec 32 := Scalar.addi v99 c512_i32_72
  v100
@[reducible] def k0_t1_loop (i : grid0.Coords) : Scf.Loop 32 :=
  let arg1 : BitVec 32 := BitVec.ofNat 32 (i 1).val
  let c1_i32 : BitVec 32 := 1#32
  let v146 : BitVec 32 := Scalar.addi arg1 c1_i32
  let c8_i32 : BitVec 32 := 8#32
  let v147 : BitVec 32 := Scalar.subi c8_i32 v146
  let c1_i32_105 : BitVec 32 := 1#32
  let v149 : BitVec 32 := Scalar.divsi v147 c1_i32_105
  let v150 : BitVec 32 := Scalar.muli v149 c1_i32_105
  let v151 : BitVec 32 := Scalar.addi v146 v150
  let c1_i32_106 : BitVec 32 := 1#32
  ⟨v146, v151, c1_i32_106⟩
def k0_mult4 (i : grid0.Coords) (k0_t1 : Fin (k0_t1_loop i).trips) : BitVec 32 :=
  let arg1 : BitVec 32 := BitVec.ofNat 32 (i 1).val
  let c1_i32 : BitVec 32 := 1#32
  let v146 : BitVec 32 := Scalar.addi arg1 c1_i32
  let c1_i32_106 : BitVec 32 := 1#32
  let arg9 : BitVec 32 := Scf.iv v146 c1_i32_106 k0_t1
  let c1024_i32_116 : BitVec 32 := 1024#32
  let v164 : BitVec 32 := Scalar.muli arg9 c1024_i32_116
  v164
def k0_off3 (i : grid0.Coords) (k0_t1 : Fin (k0_t1_loop i).trips) : Fin 3 → Nat :=
  let c0_123 : Index := 0#32
  let arg1 : BitVec 32 := BitVec.ofNat 32 (i 1).val
  let c1_i32 : BitVec 32 := 1#32
  let v146 : BitVec 32 := Scalar.addi arg1 c1_i32
  let c1_i32_106 : BitVec 32 := 1#32
  let arg9 : BitVec 32 := Scf.iv v146 c1_i32_106 k0_t1
  let c1024_i32_116 : BitVec 32 := 1024#32
  let v164 : BitVec 32 := Scalar.muli arg9 c1024_i32_116
  let v165 : BitVec 32 := v164
  let v170 : Index := Scalar.indexCast v165
  let c0_124 : Index := 0#32
  ![0, v170.toNat, 0]
@[reducible] def k0_t2_loop (i : grid0.Coords) : Scf.Loop 32 :=
  let arg1 : BitVec 32 := BitVec.ofNat 32 (i 1).val
  let c1_i32 : BitVec 32 := 1#32
  let v146 : BitVec 32 := Scalar.addi arg1 c1_i32
  let c8_i32 : BitVec 32 := 8#32
  let v147 : BitVec 32 := Scalar.subi c8_i32 v146
  let c1_i32_105 : BitVec 32 := 1#32
  let v149 : BitVec 32 := Scalar.divsi v147 c1_i32_105
  let v150 : BitVec 32 := Scalar.muli v149 c1_i32_105
  let v151 : BitVec 32 := Scalar.addi v146 v150
  let v148 : BitVec 32 := Scalar.addi v146 v147
  let c1_i32_107 : BitVec 32 := 1#32
  ⟨v151, v148, c1_i32_107⟩
def k0_mult5 (i : grid0.Coords) (k0_t2 : Fin (k0_t2_loop i).trips) : BitVec 32 :=
  let arg1 : BitVec 32 := BitVec.ofNat 32 (i 1).val
  let c1_i32 : BitVec 32 := 1#32
  let v146 : BitVec 32 := Scalar.addi arg1 c1_i32
  let c8_i32 : BitVec 32 := 8#32
  let v147 : BitVec 32 := Scalar.subi c8_i32 v146
  let c1_i32_105 : BitVec 32 := 1#32
  let v149 : BitVec 32 := Scalar.divsi v147 c1_i32_105
  let v150 : BitVec 32 := Scalar.muli v149 c1_i32_105
  let v151 : BitVec 32 := Scalar.addi v146 v150
  let c1_i32_107 : BitVec 32 := 1#32
  let arg9 : BitVec 32 := Scf.iv v151 c1_i32_107 k0_t2
  let c1024_i32_116 : BitVec 32 := 1024#32
  let v164 : BitVec 32 := Scalar.muli arg9 c1024_i32_116
  v164
def k0_off4 (i : grid0.Coords) (k0_t2 : Fin (k0_t2_loop i).trips) : Fin 3 → Nat :=
  let c0_123 : Index := 0#32
  let arg1 : BitVec 32 := BitVec.ofNat 32 (i 1).val
  let c1_i32 : BitVec 32 := 1#32
  let v146 : BitVec 32 := Scalar.addi arg1 c1_i32
  let c8_i32 : BitVec 32 := 8#32
  let v147 : BitVec 32 := Scalar.subi c8_i32 v146
  let c1_i32_105 : BitVec 32 := 1#32
  let v149 : BitVec 32 := Scalar.divsi v147 c1_i32_105
  let v150 : BitVec 32 := Scalar.muli v149 c1_i32_105
  let v151 : BitVec 32 := Scalar.addi v146 v150
  let c1_i32_107 : BitVec 32 := 1#32
  let arg9 : BitVec 32 := Scf.iv v151 c1_i32_107 k0_t2
  let c1024_i32_116 : BitVec 32 := 1024#32
  let v164 : BitVec 32 := Scalar.muli arg9 c1024_i32_116
  let v165 : BitVec 32 := v164
  let v170 : Index := Scalar.indexCast v165
  let c0_124 : Index := 0#32
  ![0, v170.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16x8192x64 : Shape := ⟨3, ![16, 8192, 64]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S16x64x8192 : Shape := ⟨3, ![16, 64, 8192]⟩

abbrev nBuf : Space → Nat
  | .hbm => 99
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S16x8192x64, .f32⟩
  | .hbm, ⟨5, _⟩ => ⟨S16x8192x8192, .f32⟩
  | .hbm, ⟨6, _⟩ => ⟨S16x8192x1, .f32⟩
  | .hbm, ⟨7, _⟩ => ⟨S16x8192x8192, .f32⟩
  | .hbm, ⟨8, _⟩ => ⟨S16x8192x8192, .f32⟩
  | .hbm, ⟨9, _⟩ => ⟨S16x1x8192, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S16x8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S16x8192x1, .f32⟩
  | .hbm, ⟨29, _⟩ => ⟨S16x8192x8192, .f32⟩
  | .hbm, ⟨30, _⟩ => ⟨S16x8192x8192, .i1⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S_, .f32⟩
  | .hbm, ⟨35, _⟩ => ⟨S16x8192, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .i1⟩
  | .hbm, ⟨40, _⟩ => ⟨S_, .f32⟩
  | .hbm, ⟨41, _⟩ => ⟨S16x8192, .f32⟩
  | .hbm, ⟨42, _⟩ => ⟨S16x8192, .i1⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S16x8192, .f32⟩
  | .hbm, ⟨50, _⟩ => ⟨S16x8192, .f32⟩
  | .hbm, ⟨51, _⟩ => ⟨S16x8192x1, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x1, .f32⟩
  | .hbm, ⟨61, _⟩ => ⟨S_, .f32⟩
  | .hbm, ⟨62, _⟩ => ⟨S16x8192x1, .f32⟩
  | .hbm, ⟨63, _⟩ => ⟨S16x8192x1, .f32⟩
  | .hbm, ⟨64, _⟩ => ⟨S16x8192x64, .f32⟩
  | .hbm, ⟨65, _⟩ => ⟨S16x64x8192, .f32⟩
  | .hbm, ⟨66, _⟩ => ⟨S16x8192x64, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S16x8192, .f32⟩
  | .hbm, ⟨73, _⟩ => ⟨S16x8192x1, .f32⟩
  | .hbm, ⟨74, _⟩ => ⟨S16x8192x1, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192, .f32⟩
  | .hbm, ⟨79, _⟩ => ⟨S16x8192x8192, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192x8192, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x1x8192, .f32⟩
  | .hbm, ⟨89, _⟩ => ⟨S_, .f32⟩
  | .hbm, ⟨90, _⟩ => ⟨S16x8192, .f32⟩
  | .hbm, ⟨91, _⟩ => ⟨S_, .f32⟩
  | .hbm, ⟨92, _⟩ => ⟨S16x8192, .f32⟩
  | .hbm, ⟨93, _⟩ => ⟨S16x8192x1, .f32⟩
  | .hbm, ⟨94, _⟩ => ⟨S_, .f32⟩
  | .hbm, ⟨95, _⟩ => ⟨S16x8192, .f32⟩
  | .hbm, ⟨96, _⟩ => ⟨S16x8192, .f32⟩
  | .hbm, ⟨97, _⟩ => ⟨S16x8192x64, .f32⟩
  | .hbm, ⟨98, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== DownDx.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x4096 : Shape := ⟨2, ![8192, 4096]⟩
abbrev S4096x1024 : Shape := ⟨2, ![4096, 1024]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v50 : BitVec 1 := Scalar.cmpi .eq arg0 c0_i32_23
  let v51 : BitVec 32 := Scalar.extui v50
  let c0_i32_24 : BitVec 32 := 0#32
  let v52 : BitVec 1 := Scalar.cmpi .ne v51 c0_i32_24
  v52

def k0_cond5 (i : grid0.Coords) : BitVec 1 :=
  let arg0 : BitVec 32 := BitVec.ofNat 32 (i 0).val
  let c0_i32_23 : BitVec 32 := 0#32
  let v50 : BitVec 1 := Scalar.cmpi .eq arg0 c0_i32_23
  let v_true : BitVec 1 := 1#1
  let v53 : BitVec 1 := Scalar.xori v50 v_true
  let v54 : BitVec 32 := Scalar.extui v53
  let c0_i32_25 : BitVec 32 := 0#32
  let v55 : BitVec 1 := Scalar.cmpi .ne v54 c0_i32_25
  v55

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpDxRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GluDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S8192x2048 : Shape := ⟨2, ![8192, 2048]⟩
abbrev S1024x2048 : Shape := ⟨2, ![1024, 2048]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x2048, .f32⟩
  | .hbm, ⟨3, _⟩ => ⟨S8192x2048, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwRefIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryDx.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v46 : BitVec 1 := Scalar.xori v43 v_true
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== QueryDxRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpDown.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GluFwd.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluFwdRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvfFwd.lean ====
abbrev S8192x1024 : Shape := ⟨2, ![8192, 1024]⟩
abbrev S1024x2176 : Shape := ⟨2, ![1024, 2176]⟩
abbrev S8192x2176 : Shape := ⟨2, ![8192, 2176]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S8192x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .f32⟩
  | .local _ .vmem, ⟨4, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvfFwdRefIdeal.lean ====
abbrev S8192x1024 : Shape := ⟨2, ![8192, 1024]⟩
abbrev S1024x2176 : Shape := ⟨2, ![1024, 2176]⟩
abbrev S8192x2176 : Shape := ⟨2, ![8192, 2176]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S8192x1024, .f32⟩
  | .hbm, ⟨3, _⟩ => ⟨S1024x2176, .f32⟩
  | .hbm, ⟨4, _⟩ => ⟨S8192x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvfDw.lean ====
abbrev S8192x1024 : Shape := ⟨2, ![8192, 1024]⟩
abbrev S8192x2176 : Shape := ⟨2, ![8192, 2176]⟩
abbrev S1024x2176 : Shape := ⟨2, ![1024, 2176]⟩
abbrev S1024x512 : Shape := ⟨2, ![1024, 512]⟩
abbrev S512x2176 : Shape := ⟨2, ![512, 2176]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S1024x2176, .f32⟩
  | .local _ .vmem, ⟨0, _⟩ => ⟨S1024x512, .bf16⟩
  | .local _ .vmem, ⟨1, _⟩ => ⟨S1024x512, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | .local _ .vmem, ⟨6, _⟩ => ⟨S512x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvfDwRefIdeal.lean ====
abbrev S8192x1024 : Shape := ⟨2, ![8192, 1024]⟩
abbrev S8192x2176 : Shape := ⟨2, ![8192, 2176]⟩
abbrev S2176x1024 : Shape := ⟨2, ![2176, 1024]⟩
abbrev S1024x2176 : Shape := ⟨2, ![1024, 2176]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S8192x1024, .f32⟩
  | .hbm, ⟨3, _⟩ => ⟨S8192x2176, .f32⟩
  | .hbm, ⟨4, _⟩ => ⟨S2176x1024, .f32⟩
  | .hbm, ⟨5, _⟩ => ⟨S1024x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvfDx.lean ====
abbrev S8192x2176 : Shape := ⟨2, ![8192, 2176]⟩
abbrev S1024x2176 : Shape := ⟨2, ![1024, 2176]⟩
abbrev S8192x1024 : Shape := ⟨2, ![8192, 1024]⟩
abbrev S1x1024 : Shape := ⟨2, ![1, 1024]⟩
abbrev S512x2176 : Shape := ⟨2, ![512, 2176]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x2176, .bf16⟩
  | .local _ .vmem, ⟨1, _⟩ => ⟨S512x2176, .bf16⟩
  | .local _ .vmem, ⟨2, _⟩ => ⟨S1024x2176, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== KvfDxRefIdeal.lean ====
abbrev S8192x2176 : Shape := ⟨2, ![8192, 2176]⟩
abbrev S1024x2176 : Shape := ⟨2, ![1024, 2176]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x2176, .f32⟩
  | .hbm, ⟨25, _⟩ => ⟨S8192x2176, .f32⟩
  | .hbm, ⟨26, _⟩ => ⟨S8192x2176, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixDx.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixDxRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== GateDx.lean ====
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateDxRefIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== GateFwd.lean ====
abbrev S8192x1024 : Shape := ⟨2, ![8192, 1024]⟩
abbrev S8192x2048 : Shape := ⟨2, ![8192, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdRefIdeal.lean ====
abbrev S8192x1024 : Shape := ⟨2, ![8192, 1024]⟩
abbrev S8192x2048 : Shape := ⟨2, ![8192, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_19 : BitVec 32 := 0#32
  let v55 : BitVec 1 := Scalar.cmpi .ne v54 c0_i32_19
  v55

def k0_cond2 (i : grid0.Coords) : BitVec 1 :=
  let arg0 : BitVec 32 := BitVec.ofNat 32 (i 0).val
  let c0_i32_20 : BitVec 32 := 0#32
  let v56 : BitVec 1 := Scalar.cmpi .sgt arg0 c0_i32_20
  let v57 : BitVec 32 := Scalar.extui v56
  let c0_i32_21 : BitVec 32 := 0#32
  let v58 : BitVec 1 := Scalar.cmpi .ne v57 c0_i32_21
  v58

def k0_cond3 (i : grid0.Coords) : BitVec 1 :=
  let arg0 : BitVec 32 := BitVec.ofNat 32 (i 0).val
  let c0_i32_22 : BitVec 32 := 0#32
  let v59 : BitVec 1 := Scalar.cmpi .eq arg0 c0_i32_22
  let v60 : BitVec 32 := Scalar.extui v59
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32_24 : BitVec 32 := 0#32
  let v62 : BitVec 1 := Scalar.cmpi .sgt arg0 c0_i32_24
  let v63 : BitVec 32 := Scalar.extui v62
  let c0_i32_25 : BitVec 32 := 0#32
  let v64 : BitVec 1 := Scalar.cmpi .ne v63 c0_i32_25
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AdamUp.lean ====
abbrev S4x4096x512 : Shape := ⟨3, ![4, 4096, 512]⟩
abbrev S4096x512 : Shape := ⟨2, ![4096, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4x4096x512 : Shape := ⟨3, ![4, 4096, 512]⟩
abbrev S4096x512 : Shape := ⟨2, ![4096, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4x4096x512, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== QueryFwd.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryFwdIdeal.lean ====
variable {F : FTy → Type} [FloatOps F] [Named F]
def κ : String → Option EReal := fun
  | "scale" => some (((8 * (Real.log 2))⁻¹ : ℝ) : EReal)
  | _ => none
-- ==== QueryFwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== CumDx.lean ====
abbrev S8192x128 : Shape := ⟨2, ![8192, 128]⟩
abbrev S1x128 : Shape := ⟨2, ![1, 128]⟩
abbrev S256x128 : Shape := ⟨2, ![256, 128]⟩
abbrev S8x128 : Shape := ⟨2, ![8, 128]⟩
abbrev S256x256 : Shape := ⟨2, ![256, 256]⟩
abbrev S128 : Shape := ⟨1, ![128]⟩

abbrev nBuf : Space → Nat
  | .hbm => 7
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x128, .f32⟩
  | .local _ .vmem, ⟨12, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_21 : BitVec 32 := 0#32
  let v40 : BitVec 1 := Scalar.cmpi .eq arg0 c0_i32_21
  let v41 : BitVec 32 := Scalar.extui v40
  let c0_i32_22 : BitVec 32 := 0#32
  let v42 : BitVec 1 := Scalar.cmpi .ne v41 c0_i32_22
  v42

def k0_cond3 (i : grid0.Coords) : BitVec 1 :=
  let arg0 : BitVec 32 := BitVec.ofNat 32 (i 0).val
  let c0_i32_23 : BitVec 32 := 0#32
  let v43 : BitVec 1 := Scalar.cmpi .sgt arg0 c0_i32_23
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CumDxRefIdeal.lean ====
abbrev S8192x128 : Shape := ⟨2, ![8192, 128]⟩
abbrev S1x128 : Shape := ⟨2, ![1, 128]⟩
abbrev S_ : Shape := ⟨0, ![]⟩
abbrev S128 : Shape := ⟨1, ![128]⟩

abbrev nBuf : Space → Nat
  | .hbm => 69
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .i1⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .i1⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .i1⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x128, .f32⟩
  | .hbm, ⟨44, _⟩ => ⟨S8192x128, .i1⟩
  | .hbm, ⟨45, _⟩ => ⟨S_, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S_, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S_, .f32⟩
  | .hbm, ⟨67, _⟩ => ⟨S128, .f32⟩
  | .hbm, ⟨68, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v2_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v2_2 : Ref sig .tc := ⟨.hbm, 53, rfl⟩
abbrev main_v2_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_call2_call0_cst : Ref sig .tc := ⟨.hbm, 60, rfl⟩
abbrev main_call2_call0_v0 : Ref sig .tc := ⟨.hbm, 61, rfl⟩
abbrev main_v6 : Ref sig .tc := ⟨.hbm, 62, rfl⟩
abbrev main_call3_v0 : Ref sig .tc := ⟨.hbm, 63, rfl⟩
abbrev main_call3_v1 : Ref sig .tc := ⟨.hbm, 64, rfl⟩
abbrev main_v7 : Ref sig .tc := ⟨.hbm, 65, rfl⟩
abbrev main_cst : Ref sig .tc := ⟨.hbm, 66, rfl⟩
abbrev main_v8 : Ref sig .tc := ⟨.hbm, 67, rfl⟩
abbrev main_v9 : Ref sig .tc := ⟨.hbm, 68, rfl⟩

abbrev nD : Nat := 1
abbrev τ : Topo := Topo.v7x

variable {F : FTy → Type} [FloatOps F]
-- ==== Proof.FoxFrame.lean ====
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

/-! The frame of the kernel with its own literal: the run with the results' contents left unnamed. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body runs, leaves its inputs' blocks as they are, and leaves something in the results' blocks. -/
theorem body (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (x0 : Vec F S1x8192x128 .bf16) (x1 : Vec F S1x8192x128 .bf16) (x2 : Vec F S1x1024x128 .bf16) (x3 : Vec F S1x1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_attn_bwd i arg2 harg2 arg3 harg3 arg4 harg4 arg5 harg5 arg6 harg6 arg7 harg7 arg8 harg8) K := by
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  by_cases hc0 : (Scalar.cmpi .ne (Scalar.extui (Scalar.cmpi .eq (BitVec.ofNat 32 (i 1).val) 0#32)) 0#32) = 1#1
  all_goals
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

/-- The proof data: the inputs' blocks stay; the results' contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The three results, whose contents the run does not name. -/
def unnamed : Fin cfg0.W → Bool := fun w => decide (4 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

abbrev ms_0 (t : Fin cfg0.N) : Memref sig .tc .vmem S1x8192x128 .bf16 := win0_0.stage (cfg0.slots t 0)
abbrev ms_1 (t : Fin cfg0.N) : Memref sig .tc .vmem S1x8192x128 .bf16 := win0_1.stage (cfg0.slots t 1)
abbrev ms_2 (t : Fin cfg0.N) : Memref sig .tc .vmem S1x1024x128 .bf16 := win0_2.stage (cfg0.slots t 2)
abbrev ms_3 (t : Fin cfg0.N) : Memref sig .tc .vmem S1x1024x128 .bf16 := win0_3.stage (cfg0.slots t 3)
abbrev ms_4 (t : Fin cfg0.N) : Memref sig .tc .vmem S1x8192x128 .f32 := win0_4.stage (cfg0.slots t 4)
abbrev ms_5 (t : Fin cfg0.N) : Memref sig .tc .vmem S1x1024x128 .f32 := win0_5.stage (cfg0.slots t 5)
abbrev ms_6 (t : Fin cfg0.N) : Memref sig .tc .vmem S1x1024x128 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ X, owns (c : Thread nD τ) (ms_4 t) fullShare X)
    ∗ (∃ X, owns (c : Thread nD τ) (ms_5 t) fullShare X)
    ∗ (∃ X, owns (c : Thread nD τ) (ms_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ (∃ X, owns (c : Thread nD τ) (ms_4 t) fullShare X)
    ∗ (∃ X, owns (c : Thread nD τ) (ms_5 t) fullShare X)
    ∗ (∃ X, owns (c : Thread nD τ) (ms_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, H4, H5, H6⟩
  iapply (body c (grid0.coords t) (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats m 0 c) (defs₀ (F := F)) Variants.none () Set.univ unnamed := fun t => by
  rw [bigSep_W0, bigSep_W0, defs₀_row]
  exact triple_restated (sound_body m c t) rfl .rfl fun _ => .rfl

/-- The buffers that the lines after the region write. -/
abbrev later : Finset (Ref sig .tc) := ({main_v115, main_v116, main_v117, main_v118, main_v119, main_v120, main_v121, main_v122} : Finset (Ref sig .tc))

theorem sfx_writes : ∀ ops ∈ ([hostOps1] : List (List (HloOp τ sig (Elt F)))), ∀ op ∈ ops,
    ∀ b : Ref sig .tc, Proc.devRef .tc b ∈ op.writes → b ∈ later := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals
    simp only [StableHlo.nullary_writes, StableHlo.unary_writes, StableHlo.binary_writes, StableHlo.reshape_writes, Finset.mem_singleton] at hb
    obtain rfl := Proc.devRef_injective _ hb
    decide

set_option backward.isDefEq.respectTransparency.types false in
set_option maxHeartbeats 800000 in
/-- The frame claim of the kernel, at a memory and generator. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_around_T_forget cfgs (dats m) (0 : Fin 1) launch0 defs₀ Variants.none unnamed later m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl) (Q' := _)
    (hQ' := fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩)

end Cert.Kernel.Fox
end
-- ==== Proof.FoxMath.lean ====
module

public import Idealize.ShloMosaic.PureOps.Ideal.Laws
public import Idealize.ShloMosaic.Lib.IdealHost
public import Idealize.ShloMosaic.Lib.Affine

@[expose] public section

noncomputable section

namespace Cert.Fox

open Idealize.ShloMosaic

/-! The forgetting attention of one head over the real numbers, and its gradient. -/

variable {N D : ℕ} (q k v g : Fin N → Fin D → ℝ) (F : Fin N → ℝ)

/-- The logit of query `t` at key `u`. -/
def lg (t u : Fin N) : ℝ := (∑ d, q t d * k u d) + F t - F u

/-- The sum of a query's exponentials over the keys it sees. -/
def Zs (t : Fin N) : ℝ := ∑ u, if u ≤ t then Real.exp (lg q k F t u) else 0

/-- The attention weight. -/
def pr (t u : Fin N) : ℝ := (if u ≤ t then Real.exp (lg q k F t u) else 0) / Zs q k F t

/-- A query's sum of output times cotangent. -/
def dlt (t : Fin N) : ℝ := ∑ d, (∑ u, pr q k F t u * v u d) * g t d

/-- The gradient of a logit. -/
def dS (t u : Fin N) : ℝ := pr q k F t u * ((∑ d, g t d * v u d) - dlt q k v g F t)

/-- The exponential of a logit less `M`, zero above the diagonal. -/
def ex (M : Fin N → ℝ) (t u : Fin N) : ℝ := if u ≤ t then Real.exp (lg q k F t u - M t) else 0

theorem Zs_pos (t : Fin N) : 0 < Zs q k F t := by
  refine Finset.sum_pos' (fun u _ => ?_) ⟨t, Finset.mem_univ t, ?_⟩
  · split_ifs
    · exact (Real.exp_pos _).le
    · exact le_rfl
  · rw [if_pos le_rfl]; exact Real.exp_pos _

theorem ex_eq (M : Fin N → ℝ) (t u : Fin N) :
    ex q k F M t u = (if u ≤ t then Real.exp (lg q k F t u) else 0) * Real.exp (-M t) := by
  unfold ex
  split_ifs
  · rw [← Real.exp_add]; congr 1
  · rw [zero_mul]

theorem sum_ex (M : Fin N → ℝ) (t : Fin N) : ∑ u, ex q k F M t u = Zs q k F t * Real.exp (-M t) := by
  rw [Zs, Finset.sum_mul]
  exact Finset.sum_congr rfl fun u _ => ex_eq q k F M t u

theorem sum_ex_pos (M : Fin N → ℝ) (t : Fin N) : 0 < ∑ u, ex q k F M t u := by
  rw [sum_ex]
  exact mul_pos (Zs_pos q k F t) (Real.exp_pos _)

/-- The weight does not depend on what was taken from the logits. -/
theorem ex_div (M : Fin N → ℝ) (t u : Fin N) : ex q k F M t u / (∑ u', ex q k F M t u') = pr q k F t u := by
  rw [sum_ex, ex_eq, pr, mul_div_mul_right _ _ (Real.exp_pos _).ne']

theorem dlt_eq (t : Fin N) : dlt q k v g F t = ∑ u, pr q k F t u * ∑ d, g t d * v u d := by
  unfold dlt
  simp only [Finset.sum_mul, Finset.mul_sum]
  rw [Finset.sum_comm]
  exact Finset.sum_congr rfl fun u _ => Finset.sum_congr rfl fun d _ => by ring

theorem pr_above (t u : Fin N) (h : ¬u ≤ t) : pr q k F t u = 0 := by
  rw [pr, if_neg h, zero_div]

theorem dS_above (t u : Fin N) (h : ¬u ≤ t) : dS q k v g F t u = 0 := by
  rw [dS, pr_above q k F t u h, zero_mul]

/-- The gradient of a logit as the derivative of the quotient gives it. -/
theorem dS_ref (M : Fin N → ℝ) (t u : Fin N) :
    ((∑ d, g t d * v u d) / (∑ u', ex q k F M t u')
      + -(∑ u', (∑ d, g t d * v u' d) * (1 / ((∑ w, ex q k F M t w) * ∑ w, ex q k F M t w)) * ex q k F M t u')) * ex q k F M t u
      = dS q k v g F t u := by
  have hz := (sum_ex_pos q k F M t).ne'
  rw [dS, dlt_eq, ← ex_div q k F M t u]
  have h : ∑ u', (∑ d, g t d * v u' d) * (1 / ((∑ w, ex q k F M t w) * ∑ w, ex q k F M t w)) * ex q k F M t u'
      = (∑ u', pr q k F t u' * ∑ d, g t d * v u' d) / ∑ w, ex q k F M t w := by
    rw [Finset.sum_div]
    refine Finset.sum_congr rfl fun u' _ => ?_
    rw [← ex_div q k F M t u']
    field_simp
  rw [h]
  field_simp
  ring

/-- The weight from the saved row sum, in base two. -/
theorem pr_exp2 (M : Fin N → ℝ) (t u : Fin N) (h : u ≤ t) :
    Real.rpow 2 ((∑ d, k u d * (q t d / Real.log 2)) + -(F u / Real.log 2)
      - (M t + Real.log (∑ u', ex q k F M t u') - F t) / Real.log 2) = pr q k F t u := by
  have hl : Real.log 2 ≠ 0 := (Real.log_pos one_lt_two).ne'
  have hz := sum_ex_pos q k F M t
  rw [← ex_div q k F M t u, ex, if_pos h]
  rw [Real.rpow_eq_pow, Real.rpow_def_of_pos two_pos]
  have : Real.log 2 * ((∑ d, k u d * (q t d / Real.log 2)) + -(F u / Real.log 2)
      - (M t + Real.log (∑ u', ex q k F M t u') - F t) / Real.log 2)
      = lg q k F t u - M t - Real.log (∑ u', ex q k F M t u') := by
    have h1 : ∑ d, k u d * (q t d / Real.log 2) = (∑ d, q t d * k u d) / Real.log 2 := by
      rw [Finset.sum_div]
      exact Finset.sum_congr rfl fun d _ => by ring
    rw [h1, lg]
    field_simp
    ring
  rw [this, Real.exp_sub, Real.exp_log hz]

/-! Extended reals that are real numbers. -/

theorem coe_sum {ι : Type*} (s : Finset ι) (f : ι → ℝ) : ((∑ i ∈ s, f i : ℝ) : EReal) = ∑ i ∈ s, (f i : EReal) :=
  map_sum (⟨⟨fun x : ℝ => (x : EReal), rfl⟩, fun _ _ => rfl⟩ : ℝ →+ EReal) f s

theorem div_coe' (x y : ℝ) (h : y ≠ 0) : Ideal.div (x : EReal) (y : EReal) = ((x / y : ℝ) : EReal) := by
  rw [Ideal.div_coe h, ← EReal.coe_mul, mul_one_div]

theorem log_coe' (x : ℝ) (h : 0 < x) : Ideal.log (x : EReal) = ((Real.log x : ℝ) : EReal) := by
  rw [Ideal.log_coe, if_neg (not_le.mpr h)]

/-- The greatest of numbers below infinity, one of them above minus infinity, is a real number. -/
theorem fold_max_real {ι : Type*} (s : Finset ι) (f : ι → EReal) (i : ι) (hi : i ∈ s) (hb : f i ≠ ⊥) (ht : ∀ j, f j ≠ ⊤) :
    ∃ M : ℝ, s.fold max ⊥ f = (M : EReal) := by
  classical
  have h1 : s.fold max ⊥ f ≠ ⊤ := by
    intro h
    have : s.fold max ⊥ f < ⊤ := (Finset.fold_max_lt ⊤).mpr ⟨bot_lt_top, fun x _ => lt_top_iff_ne_top.mpr (ht x)⟩
    exact this.ne h
  have h2 : s.fold max ⊥ f ≠ ⊥ := by
    intro h
    have : f i ≤ s.fold max ⊥ f := (Finset.le_fold_max (f i)).mpr (Or.inr ⟨i, hi, le_rfl⟩)
    rw [h] at this
    exact hb (le_bot_iff.mp this)
  exact ⟨_, (EReal.coe_toReal h1 h2).symm⟩

/-- A row's greatest logit is a real number, the diagonal being unmasked. -/
theorem max_real (L : FVec Ideal ⟨3, ![16, 8192, 8192]⟩ .f32) (r : (⟨3, ![16, 8192, 8192]⟩ : Shape).Idx → ℝ)
    (hL : ∀ i, L i = if (i 2 : Fin 8192) ≤ (i 1 : Fin 8192) then (r i : EReal) else ⊥)
    {u : Shape} (init : FVec Ideal u .f32) (h : (⟨3, ![16, 8192, 8192]⟩ : Shape).ReducesTo [2] ⟨2, ![16, 8192]⟩) (hu : 0 < u.numel)
    (hi : init (Shape.Idx.first hu) = (⊥ : EReal)) (j : (⟨2, ![16, 8192]⟩ : Shape).Idx) :
    ∃ M : ℝ, Host.reduce FloatOps.maximumf L init h hu j = (M : EReal) := by
  rw [Host.reduce_eq_fold, hi]
  refine fold_max_real _ _ (fun a => match a with | ⟨0, _⟩ => j 0 | ⟨1, _⟩ => j 1 | ⟨2, _⟩ => j 1) ?_ ?_ fun i => ?_
  · rw [Finset.mem_filter]
    exact ⟨Finset.mem_univ _, funext fun b => Fin.ext (by match b with | ⟨0, _⟩ => rfl | ⟨1, _⟩ => rfl)⟩
  · rw [hL, if_pos le_rfl]
    exact EReal.coe_ne_bot _
  · rw [hL]
    split_ifs
    · exact EReal.coe_ne_top _
    · exact bot_ne_top

theorem cmp_sge (a b : Fin 8192) : IntOp.cmpi .sge (BitVec.ofNat 32 a.val) (BitVec.ofNat 32 b.val) = if b ≤ a then 1#1 else 0#1 := by
  have ha := a.isLt
  have hb := b.isLt
  have e : ∀ n : ℕ, n < 8192 → (BitVec.ofNat 32 n).toInt = (n : ℤ) := fun n hn => by
    rw [BitVec.toInt_eq_toNat_of_lt (by rw [BitVec.toNat_ofNat]; omega), BitVec.toNat_ofNat, Nat.mod_eq_of_lt (by omega)]
  split_ifs with h
  · rw [IntOp.cmpi_sge, e _ ha, e _ hb]; exact_mod_cast h
  · have : ¬IntOp.cmpi .sge (BitVec.ofNat 32 a.val) (BitVec.ofNat 32 b.val) = 1#1 := by
      rw [IntOp.cmpi_sge, e _ ha, e _ hb]; exact_mod_cast h
    revert this
    generalize IntOp.cmpi .sge (BitVec.ofNat 32 a.val) (BitVec.ofNat 32 b.val) = w
    decide +revert

theorem neg_inf : (FloatOps.ofBits .f32 0xFF800000#32 : Ideal .f32) = (⊥ : EReal) := by
  show Ideal.ofBits .f32 0xFF800000#32 = ⊥
  simp [Ideal.ofBits, Ideal.ieee]

theorem zero_f32 : (FloatOps.ofBits .f32 0x00000000#32 : Ideal .f32) = (0 : EReal) := Ideal.ofBits_zero_f32

theorem one_f32 : (FloatOps.ofBits .f32 0x3F800000#32 : Ideal .f32) = ((1 : ℝ) : EReal) := Ideal.ofBits_one_f32

theorem two_f32 : (FloatOps.ofBits .f32 0x40000000#32 : Ideal .f32) = ((2 : ℝ) : EReal) := by
  show Ideal.ofBits .f32 0x40000000#32 = ((2 : ℝ) : EReal)
  simp [Ideal.ofBits, Ideal.ieee, -EReal.coe_mul]; norm_num

theorem inf_f32 : (FloatOps.ofBits .f32 0x7F800000#32 : Ideal .f32) = (⊤ : EReal) := by
  show Ideal.ofBits .f32 0x7F800000#32 = ⊤
  simp [Ideal.ofBits, Ideal.ieee]

theorem dS_ideal {N D : ℕ} (q k v g : Fin N → Fin D → ℝ) (F M : Fin N → ℝ) (t u : Fin N) (hz : ∑ u', ex q k F M t u' ≠ 0) :
    (Ideal.div ((∑ d, g t d * v u d : ℝ) : EReal) ((∑ u', ex q k F M t u' : ℝ) : EReal)
      + -((∑ u', (∑ d, g t d * v u' d) * (1 / ((∑ w, ex q k F M t w) * ∑ w, ex q k F M t w)) * ex q k F M t u' : ℝ) : EReal))
      * (ex q k F M t u : EReal) = (dS q k v g F t u : EReal) := by
  rw [div_coe' _ _ hz, ← EReal.coe_neg, ← EReal.coe_add, ← EReal.coe_mul, dS_ref]

theorem exp_mask (p : Prop) [Decidable p] (l M : ℝ) :
    Ideal.exp ((if p then (l : EReal) else ⊥) - (M : EReal)) = ((if p then Real.exp (l - M) else 0 : ℝ) : EReal) := by
  split_ifs
  · rw [← EReal.coe_sub, Ideal.exp_coe]
  · rw [EReal.bot_sub, Ideal.exp_bot, EReal.coe_zero]

end Cert.Fox

end
-- ==== Proof.FoxRef.lean ====
module

public import proofs.«01_k».proof.Proof.Gen.ReferenceIdeal.Read
public import proofs.«01_k».proof.Proof.FoxMath
public import Idealize.ShloMosaic.Lib.Affine

@[expose] public section

noncomputable section

namespace Cert.ReferenceIdeal.Fox

open Idealize.ShloMosaic Cert.ReferenceIdeal Cert.ReferenceIdeal.Gen Cert.ReferenceIdeal.Read Cert.Fox

/-! The reference's results, at arguments that are real numbers. -/

variable (x0 x1 x2 : (⟨S16x8192x64, .f32⟩ : BufTy).Contents (Elt Ideal)) (x3 : (⟨S16x8192, .f32⟩ : BufTy).Contents (Elt Ideal))
  (x4 : (⟨S16x8192x64, .f32⟩ : BufTy).Contents (Elt Ideal))
  (q k v g : Fin 16 → Fin 8192 → Fin 64 → ℝ) (F : Fin 16 → Fin 8192 → ℝ)
  (h0 : ∀ i : S16x8192x64.Idx, x0 i = (q (i 0) (i 1) (i 2) : EReal))
  (h1 : ∀ i : S16x8192x64.Idx, x1 i = (k (i 0) (i 1) (i 2) : EReal))
  (h2 : ∀ i : S16x8192x64.Idx, x2 i = (v (i 0) (i 1) (i 2) : EReal))
  (h3 : ∀ i : S16x8192.Idx, x3 i = (F (i 0) (i 1) : EReal))
  (h4 : ∀ i : S16x8192x64.Idx, x4 i = (g (i 0) (i 1) (i 2) : EReal))

theorem mask (i : S16x8192x8192.Idx) : val_main_v14_1 (F := Ideal) i = if (i 2 : Fin 8192) ≤ (i 1 : Fin 8192) then 1#1 else 0#1 := by
  rw [val_main_v14_1_apply, val_main_v13_apply, val_main_v12_apply, val_main_v10_apply, val_main_v11_apply, val_main_v8_apply,
    val_main_v9_apply, val_main_v7_apply, val_main_v7_apply]
  exact cmp_sge (i 1) (i 2)

include h0 h1 in
theorem dot_qk (i : S16x8192x8192.Idx) :
    val_main_v0 (F := Ideal) x0 x1 i = ((∑ d, q (i 0) (i 1) d * k (i 0) (i 2) d : ℝ) : EReal) := by
  rw [val_main_v0_apply, coe_sum]
  refine Finset.sum_congr rfl fun d _ => ?_
  rw [h0, h1, ← EReal.coe_mul]
  rfl

include h0 h1 h3 in
theorem logit (i : S16x8192x8192.Idx) :
    val_main_v6 (F := Ideal) x0 x1 x3 i = (lg (q (i 0)) (k (i 0)) (F (i 0)) (i 1) (i 2) : EReal) := by
  rw [val_main_v6_apply, val_main_v3_apply, val_main_v2_apply, val_main_v1_apply, val_main_v5_apply, val_main_v4_apply,
    dot_qk x0 x1 q k h0 h1, h3, h3]
  unfold lg
  rw [EReal.coe_sub, EReal.coe_add]
  rfl

include h0 h1 h3 in
theorem masked (i : S16x8192x8192.Idx) :
    val_main_v14_0 (F := Ideal) x0 x1 x3 i
      = if (i 2 : Fin 8192) ≤ (i 1 : Fin 8192) then (lg (q (i 0)) (k (i 0)) (F (i 0)) (i 1) (i 2) : EReal) else ⊥ := by
  rw [val_main_v14_0_apply, mask, logit x0 x1 x3 q k F h0 h1 h3, val_main_call0_v2_apply, val_main_call0_v0_apply, val_main_cst_apply,
    neg_inf]
  split_ifs <;> rfl

include h0 h1 h3 in
theorem row_max : ∃ M : Fin 16 → Fin 8192 → ℝ, ∀ j : S16x8192.Idx, val_main_v15 (F := Ideal) x0 x1 x3 j = (M (j 0) (j 1) : EReal) := by
  have h : ∀ j : S16x8192.Idx, ∃ M : ℝ, val_main_v15 (F := Ideal) x0 x1 x3 j = (M : EReal) := fun j =>
    Cert.Fox.max_real _ (fun i => lg (q (i 0)) (k (i 0)) (F (i 0)) (i 1) (i 2)) (masked x0 x1 x3 q k F h0 h1 h3) _ _ _
      ((val_main_cst_0_apply _).trans neg_inf) j
  choose M hM using h
  refine ⟨fun a b => M (fun c => match c with | ⟨0, _⟩ => a | ⟨1, _⟩ => b), fun j => (hM j).trans ?_⟩
  exact congrArg (fun i => (M i : EReal)) (funext fun c => by match c with | ⟨0, _⟩ => rfl | ⟨1, _⟩ => rfl)

variable (M : Fin 16 → Fin 8192 → ℝ) (hM : ∀ j : S16x8192.Idx, val_main_v15 (F := Ideal) x0 x1 x3 j = (M (j 0) (j 1) : EReal))

include h0 h1 h3 hM in
theorem expo (i : S16x8192x8192.Idx) :
    val_main_v35 (F := Ideal) x0 x1 x3 i = (ex (q (i 0)) (k (i 0)) (F (i 0)) (M (i 0)) (i 1) (i 2) : EReal) := by
  rw [val_main_v35_apply, val_main_v34_apply, val_main_v33_apply, val_main_v32_apply, val_main_v22_apply, val_main_v21_apply,
    val_main_cst_2_apply, neg_inf, hM, masked x0 x1 x3 q k F h0 h1 h3]
  exact (congrArg (fun w => Ideal.exp (_ - w)) (max_eq_right bot_le)).trans (exp_mask _ _ _)

include h0 h1 h3 hM in
theorem rowsum (j : S16x8192.Idx) :
    val_main_v36 (F := Ideal) x0 x1 x3 j = ((∑ u, ex (q (j 0)) (k (j 0)) (F (j 0)) (M (j 0)) (j 1) u : ℝ) : EReal) := by
  rw [val_main_v36_apply, val_main_cst_8_apply, zero_f32, zero_add, coe_sum]
  exact Finset.sum_congr rfl fun u _ => expo x0 x1 x3 q k F h0 h1 h3 M hM _

include h0 h1 h3 hM in
theorem weight (i : S16x8192x8192.Idx) :
    val_main_v39 (F := Ideal) x0 x1 x3 i = (pr (q (i 0)) (k (i 0)) (F (i 0)) (i 1) (i 2) : EReal) := by
  rw [val_main_v39_apply, val_main_v38_apply, val_main_v37_apply, expo x0 x1 x3 q k F h0 h1 h3 M hM, rowsum x0 x1 x3 q k F h0 h1 h3 M hM]
  exact (div_coe' _ _ (sum_ex_pos _ _ _ _ _).ne').trans (congrArg _ (ex_div _ _ _ (M (i 0)) _ _))

include h2 h4 in
theorem dot_gv (i : S16x8192x8192.Idx) :
    val_main_v46 (F := Ideal) x2 x4 i = ((∑ d, g (i 0) (i 1) d * v (i 0) (i 2) d : ℝ) : EReal) := by
  rw [val_main_v46_apply, coe_sum]
  refine Finset.sum_congr rfl fun d _ => ?_
  rw [h4, h2, ← EReal.coe_mul]
  rfl

/-- The gradient at `v`. -/
theorem out2 (i : S16x8192x64.Idx)
    (h : ∀ i : S16x8192x8192.Idx, val_main_v39 (F := Ideal) x0 x1 x3 i = (pr (q (i 0)) (k (i 0)) (F (i 0)) (i 1) (i 2) : EReal))
    (h4 : ∀ i : S16x8192x64.Idx, x4 i = (g (i 0) (i 1) (i 2) : EReal)) :
    val_main_v45 (F := Ideal) x0 x1 x3 x4 i
      = ((∑ t, pr (q (i 0)) (k (i 0)) (F (i 0)) t (i 1) * g (i 0) t (i 2) : ℝ) : EReal) := by
  rw [val_main_v45_apply, val_main_v44_apply, coe_sum]
  refine Finset.sum_congr rfl fun d _ => ?_
  rw [h4, h, ← EReal.coe_mul, mul_comm]
  rfl

include h0 h1 h2 h3 h4 hM in
theorem rowdot (j : S16x8192.Idx) :
    val_main_v50 (F := Ideal) x0 x1 x2 x3 x4 j
      = ((∑ u, (∑ d, g (j 0) (j 1) d * v (j 0) u d)
          * (1 / ((∑ w, ex (q (j 0)) (k (j 0)) (F (j 0)) (M (j 0)) (j 1) w) * ∑ w, ex (q (j 0)) (k (j 0)) (F (j 0)) (M (j 0)) (j 1) w))
          * ex (q (j 0)) (k (j 0)) (F (j 0)) (M (j 0)) (j 1) u : ℝ) : EReal) := by
  rw [val_main_v50_apply, val_main_cst_10_apply, zero_f32, zero_add, coe_sum]
  refine Finset.sum_congr rfl fun u _ => ?_
  have hz := (sum_ex_pos (q (j 0)) (k (j 0)) (F (j 0)) (M (j 0)) (j 1)).ne'
  rw [val_main_v49_apply, val_main_v48_apply, val_main_v47_apply, val_main_v42_apply, val_main_v41_apply, val_main_cst_9_apply, one_f32,
    val_main_v40_apply, val_main_v37_apply, expo x0 x1 x3 q k F h0 h1 h3 M hM, dot_gv x2 x4 v g h2 h4,
    rowsum x0 x1 x3 q k F h0 h1 h3 M hM, EReal.coe_mul, EReal.coe_mul, ← div_coe' _ _ (mul_ne_zero hz hz), EReal.coe_mul (∑ w, _)]
  rfl

theorem idx_row (i : S16x8192x8192.Idx) : idx_main_v51 (idx_main_v55 (idx_main_v56 i) 0) = idx_main_v37 (idx_main_v53 i) :=
  funext fun a => Fin.ext (by
    have h : (i 1).val < 8192 := (i 1).isLt
    match a with
    | ⟨0, _⟩ => show (((i 0).val * 8192 + (i 1).val) * 1 + 0) / 8192 = (i 0).val; omega
    | ⟨1, _⟩ => show (((i 0).val * 8192 + (i 1).val) * 1 + 0) % 8192 = (i 1).val; omega)

theorem idx_col (i : S16x8192.Idx) : idx_main_v62 (idx_main_v63 i 0) = i :=
  funext fun a => Fin.ext (by
    have h : (i 1).val < 8192 := (i 1).isLt
    match a with
    | ⟨0, _⟩ => show (((i 0).val * 1 + 0) * 8192 + (i 1).val) / 8192 = (i 0).val; omega
    | ⟨1, _⟩ => show (((i 0).val * 1 + 0) * 8192 + (i 1).val) % 8192 = (i 1).val; omega)

theorem idx_row' (i : S16x8192.Idx) : idx_main_v65 (idx_main_v66 i 0) = i :=
  funext fun a => Fin.ext (by
    have h : (i 1).val < 8192 := (i 1).isLt
    match a with
    | ⟨0, _⟩ => show (((i 0).val * 8192 + (i 1).val) * 1 + 0) / 8192 = (i 0).val; omega
    | ⟨1, _⟩ => show (((i 0).val * 8192 + (i 1).val) * 1 + 0) % 8192 = (i 1).val; omega)

include h0 h1 h2 h3 h4 hM in
theorem grad (i : S16x8192x8192.Idx) :
    val_main_v59 (F := Ideal) x0 x1 x2 x3 x4 i = (dS (q (i 0)) (k (i 0)) (v (i 0)) (g (i 0)) (F (i 0)) (i 1) (i 2) : EReal) := by
  have hz := (sum_ex_pos (q (i 0)) (k (i 0)) (F (i 0)) (M (i 0)) (i 1)).ne'
  rw [val_main_v59_apply, mask, val_main_v58_apply, val_main_v57_apply, val_main_v54_apply, val_main_v53_apply, val_main_v37_apply,
    val_main_v56_apply, val_main_v55_apply, val_main_cst_11_apply, zero_f32, zero_add, Fin.sum_univ_one, val_main_v52_apply,
    val_main_v51_apply, idx_row, rowdot x0 x1 x2 x3 x4 q k v g F h0 h1 h2 h3 h4 M hM, rowsum x0 x1 x3 q k F h0 h1 h3 M hM,
    expo x0 x1 x3 q k F h0 h1 h3 M hM, dot_gv x2 x4 v g h2 h4]
  by_cases h : (i 2 : Fin 8192) ≤ (i 1 : Fin 8192)
  · rw [if_pos h]
    exact dS_ideal (q (i 0)) (k (i 0)) (v (i 0)) (g (i 0)) (F (i 0)) (M (i 0)) (i 1) (i 2) hz
  · rw [if_neg h, val_main_call1_v0_apply, val_main_call1_cst_apply]
    exact zero_f32.trans (congrArg Real.toEReal (dS_above (q (i 0)) (k (i 0)) (v (i 0)) (g (i 0)) (F (i 0)) (i 1) (i 2) h).symm)

variable (hS : ∀ i : S16x8192x8192.Idx, val_main_v59 (F := Ideal) x0 x1 x2 x3 x4 i
  = (dS (q (i 0)) (k (i 0)) (v (i 0)) (g (i 0)) (F (i 0)) (i 1) (i 2) : EReal))

include h1 hS in
/-- The gradient at `q`. -/
theorem out0 (i : S16x8192x64.Idx) :
    val_main_v69 (F := Ideal) x0 x1 x2 x3 x4 i
      = ((∑ u, dS (q (i 0)) (k (i 0)) (v (i 0)) (g (i 0)) (F (i 0)) (i 1) u * k (i 0) u (i 2) : ℝ) : EReal) := by
  rw [val_main_v69_apply, coe_sum]
  refine Finset.sum_congr rfl fun u _ => ?_
  rw [hS, h1, ← EReal.coe_mul]
  rfl

include h0 hS in
/-- The gradient at `k`. -/
theorem out1 (i : S16x8192x64.Idx) :
    val_main_v68 (F := Ideal) x0 x1 x2 x3 x4 i
      = ((∑ t, dS (q (i 0)) (k (i 0)) (v (i 0)) (g (i 0)) (F (i 0)) t (i 1) * q (i 0) t (i 2) : ℝ) : EReal) := by
  rw [val_main_v68_apply, coe_sum]
  refine Finset.sum_congr rfl fun u _ => ?_
  rw [hS, h0, ← EReal.coe_mul]
  rfl

include hS in
/-- The gradient at the cumulated logarithms of the gates. -/
theorem out3 (i : S16x8192.Idx) :
    val_main_v67 (F := Ideal) x0 x1 x2 x3 x4 i
      = ((-(∑ t, dS (q (i 0)) (k (i 0)) (v (i 0)) (g (i 0)) (F (i 0)) t (i 1))
          + ∑ u, dS (q (i 0)) (k (i 0)) (v (i 0)) (g (i 0)) (F (i 0)) (i 1) u : ℝ) : EReal) := by
  rw [val_main_v67_apply, val_main_v63_apply, val_main_v66_apply, val_main_cst_13_apply, val_main_cst_15_apply, zero_f32, zero_add,
    zero_add, Fin.sum_univ_one, Fin.sum_univ_one, val_main_v62_apply, idx_col, val_main_v61_apply, val_main_v65_apply, idx_row', val_main_v64_apply,
    val_main_cst_12_apply, val_main_cst_14_apply, zero_f32, zero_add, zero_add, EReal.coe_add, coe_sum, ← Finset.sum_neg_distrib, coe_sum]
  refine congrArg₂ _ (Finset.sum_congr rfl fun u _ => ?_) (Finset.sum_congr rfl fun u _ => ?_)
  · rw [val_main_v60_apply, hS, EReal.coe_neg]
    rfl
  · rw [hS]
    rfl

end Cert.ReferenceIdeal.Fox

end
-- ==== Proof.FoxHost.lean ====
module

public import proofs.«01_k».proof.Proof.FoxRef
public import proofs.«01_k».proof.Proof.Gen.KernelIdeal.Frame
public import Idealize.ShloMosaic.Lib.StableHlo.ReadAt

@[expose] public section

set_option backward.isDefEq.respectTransparency.types false

noncomputable section

namespace Cert.KernelIdeal.Fox

open Idealize.ShloMosaic Idealize.ShloMosaic.TcCoe Cert.KernelIdeal Cert.KernelIdeal.Gen Cert.Fox

/-! What the host operations before the call leave in the call's operands, at arguments that are real numbers. -/

variable (m : (ℓ : Loc nD τ sig) → Buf (Elt Ideal) ℓ) (c : Dev nD)

abbrev a0 : (⟨S16x8192x64, .f32⟩ : BufTy).Contents (Elt Ideal) := m (c, Proc.devRef .tc main_arg0)
abbrev a1 : (⟨S16x8192x64, .f32⟩ : BufTy).Contents (Elt Ideal) := m (c, Proc.devRef .tc main_arg1)
abbrev a2 : (⟨S16x8192x64, .f32⟩ : BufTy).Contents (Elt Ideal) := m (c, Proc.devRef .tc main_arg2)
abbrev a3 : (⟨S16x8192, .f32⟩ : BufTy).Contents (Elt Ideal) := m (c, Proc.devRef .tc main_arg3)
abbrev a4 : (⟨S16x8192x64, .f32⟩ : BufTy).Contents (Elt Ideal) := m (c, Proc.devRef .tc main_arg4)

open Cert.ReferenceIdeal.Read in
theorem V_v15 : V m c main_v15 = val_main_v15 (F := Ideal) (a0 m c) (a1 m c) (a3 m c) := by
  unfold V V0
  after_reads_simp
  rfl

open Cert.ReferenceIdeal.Read in
theorem max_plain (x0 x1 : (⟨S16x8192x64, .f32⟩ : BufTy).Contents (Elt Ideal)) (x3 : (⟨S16x8192, .f32⟩ : BufTy).Contents (Elt Ideal)) :
    val_main_v22 (F := Ideal) x0 x1 x3 = val_main_v15 (F := Ideal) x0 x1 x3 := by
  funext i
  rw [val_main_v22_apply, val_main_v21_apply, val_main_cst_2_apply, neg_inf]
  generalize val_main_v15 (F := Ideal) x0 x1 x3 = B
  exact max_eq_right bot_le

open Cert.ReferenceIdeal.Read in
theorem V_v14 : V m c main_v14 = val_main_v14_0 (F := Ideal) (a0 m c) (a1 m c) (a3 m c) := by
  unfold V V0
  after_reads_simp
  rfl

theorem V_v20' : V m c main_v20 = Host.exp (F := Ideal) (φ := .f32) (subf (V m c main_v14) (broadcastInDim S16x8192x8192 ![0, 1, 2] bcast_S16x8192x1_S16x8192x8192_0_1_2
    (broadcastInDim S16x8192x1 ![0, 1] bcast_S16x8192_S16x8192x1_0_1 (V m c main_v15)))) := by
  unfold V V0
  after_reads_simp

open Cert.ReferenceIdeal.Read in
theorem V_v20 : V m c main_v20 = val_main_v35 (F := Ideal) (a0 m c) (a1 m c) (a3 m c) := by
  rw [V_v20', V_v14, V_v15, ← max_plain]
  rfl

theorem V_v21 : V m c main_v21 = Host.reduceAdd (F := Ideal) (V m c main_v20) (constant S_ .f32 0x00000000#32) reducesTo_S16x8192x8192_S16x8192_d2 h_S_ := by
  unfold V V0
  after_reads_simp

theorem V_v26 : V m c main_v26 = Host.divf (F := Ideal) (subf (addf (V m c main_v15) (Host.log (V m c main_v21))) (a3 m c))
    (broadcastInDim S16x8192 ![] bcast_S_S16x8192 (Host.log (constant S_ .f32 0x40000000#32))) := by
  unfold V V0
  after_reads_simp

open Cert.ReferenceIdeal.Read in
theorem V_v53 : V m c main_v53 = val_main_v43 (F := Ideal) (a0 m c) (a1 m c) (a2 m c) (a3 m c) := by
  unfold V V0
  after_reads_simp
  rfl

theorem V_v55 : V m c main_v55 = Host.reduceAdd (F := Ideal) (mulf (V m c main_v53) (a4 m c)) (constant S_ .f32 0x00000000#32) reducesTo_S16x8192x64_S16x8192_d2 h_S_ := by
  unfold V V0
  after_reads_simp

theorem V_v56 (i : S16x8192x1.Idx) : (V m c main_v56 : S16x8192x1.Idx → EReal) i = ((1 : ℝ) : EReal) := by
  unfold V V0
  after_reads_simp
  exact one_f32

theorem V_v58 (i : S16x8192x64.Idx) : (V m c main_v58 : S16x8192x64.Idx → EReal) i = Ideal.div (a0 m c i) (Ideal.log ((2 : ℝ) : EReal)) := by
  unfold V V0
  after_reads_simp
  exact congrArg (fun w => Ideal.div (a0 m c i) (Ideal.log w)) two_f32

theorem V_v72 : V m c main_v72 = truncf (F := Ideal) .bf16 (concatenate S16x8192x128 2 [⟨S16x8192x64, V m c main_v58⟩, ⟨S16x8192x1, V m c main_v56⟩, ⟨S16x8192x1, V m c main_v56⟩, ⟨S16x8192x1, V m c main_v56⟩, ⟨S16x8192x1, V m c main_v67⟩, ⟨S16x8192x1, V m c main_v68⟩, ⟨S16x8192x1, V m c main_v69⟩, ⟨S16x8192x58, V m c main_v70⟩] concatenates_S16x8192x64_S16x8192x1_S16x8192x1_S16x8192x1_S16x8192x1_S16x8192x1_S16x8192x1_S16x8192x58_S16x8192x128_d2) bitsLt_bf16_f32 := by
  unfold V V0
  after_reads_simp
  rfl

theorem V_v92 : V m c main_v92 = truncf (F := Ideal) .bf16 (concatenate S16x8192x128 2 [⟨S16x8192x64, V m c main_arg1⟩, ⟨S16x8192x1, V m c main_v84⟩, ⟨S16x8192x1, V m c main_v85⟩, ⟨S16x8192x1, V m c main_v86⟩, ⟨S16x8192x1, V m c main_v87⟩, ⟨S16x8192x1, V m c main_v88⟩, ⟨S16x8192x1, V m c main_v89⟩, ⟨S16x8192x1, V m c main_v56⟩, ⟨S16x8192x57, V m c main_v90⟩] concatenates_S16x8192x64_S16x8192x1_S16x8192x1_S16x8192x1_S16x8192x1_S16x8192x1_S16x8192x1_S16x8192x1_S16x8192x57_S16x8192x128_d2) bitsLt_bf16_f32 := by
  unfold V V0
  after_reads_simp
  rfl

theorem V_v98 : V m c main_v98 = truncf (F := Ideal) .bf16 (concatenate S16x8192x128 2 [⟨S16x8192x64, V m c main_arg2⟩, ⟨S16x8192x1, V m c main_v56⟩, ⟨S16x8192x1, V m c main_v93⟩, ⟨S16x8192x1, V m c main_v94⟩, ⟨S16x8192x1, V m c main_v95⟩, ⟨S16x8192x60, V m c main_v96⟩] concatenates_S16x8192x64_S16x8192x1_S16x8192x1_S16x8192x1_S16x8192x1_S16x8192x60_S16x8192x128_d2) bitsLt_bf16_f32 := by
  unfold V V0
  after_reads_simp
  rfl

theorem V_v113 : V m c main_v113 = truncf (F := Ideal) .bf16 (concatenate S16x8192x128 2 [⟨S16x8192x64, V m c main_arg4⟩, ⟨S16x8192x1, V m c main_v99⟩, ⟨S16x8192x1, V m c main_v108⟩, ⟨S16x8192x1, V m c main_v109⟩, ⟨S16x8192x1, V m c main_v110⟩, ⟨S16x8192x60, V m c main_v111⟩] concatenates_S16x8192x64_S16x8192x1_S16x8192x1_S16x8192x1_S16x8192x1_S16x8192x60_S16x8192x128_d2) bitsLt_bf16_f32 := by
  unfold V V0
  after_reads_simp
  rfl

theorem V_v67 : V m c main_v67 = broadcastInDim S16x8192x1 ![0, 1] bcast_S16x8192_S16x8192x1_0_1 (extf (F := Ideal) (φ := .bf16) .f32 (truncf (F := Ideal) (φ := .f32) .bf16 (V m c main_v26) bitsLt_bf16_f32) bitsLt_bf16_f32) := by
  unfold V V0
  after_reads_simp

theorem V_v68 : V m c main_v68 = broadcastInDim S16x8192x1 ![0, 1] bcast_S16x8192_S16x8192x1_0_1 (extf (F := Ideal) (φ := .bf16) .f32 (truncf (F := Ideal) (φ := .f32) .bf16 (subf (F := Ideal) (φ := .f32) (V m c main_v26) (extf (F := Ideal) (φ := .bf16) .f32 (truncf (F := Ideal) (φ := .f32) .bf16 (V m c main_v26) bitsLt_bf16_f32) bitsLt_bf16_f32)) bitsLt_bf16_f32) bitsLt_bf16_f32) := by
  unfold V V0
  after_reads_simp

theorem V_v69 : V m c main_v69 = broadcastInDim S16x8192x1 ![0, 1] bcast_S16x8192_S16x8192x1_0_1 (extf (F := Ideal) (φ := .bf16) .f32 (truncf (F := Ideal) (φ := .f32) .bf16 (subf (F := Ideal) (φ := .f32) (subf (F := Ideal) (φ := .f32) (V m c main_v26) (extf (F := Ideal) (φ := .bf16) .f32 (truncf (F := Ideal) (φ := .f32) .bf16 (V m c main_v26) bitsLt_bf16_f32) bitsLt_bf16_f32)) (extf (F := Ideal) (φ := .bf16) .f32 (truncf (F := Ideal) (φ := .f32) .bf16 (subf (F := Ideal) (φ := .f32) (V m c main_v26) (extf (F := Ideal) (φ := .bf16) .f32 (truncf (F := Ideal) (φ := .f32) .bf16 (V m c main_v26) bitsLt_bf16_f32) bitsLt_bf16_f32)) bitsLt_bf16_f32) bitsLt_bf16_f32)) bitsLt_bf16_f32) bitsLt_bf16_f32) := by
  unfold V V0
  after_reads_simp

theorem V_v84 : V m c main_v84 = broadcastInDim S16x8192x1 ![0, 1] bcast_S16x8192_S16x8192x1_0_1 (extf (F := Ideal) (φ := .bf16) .f32 (truncf (F := Ideal) (φ := .f32) .bf16 (V m c main_v75) bitsLt_bf16_f32) bitsLt_bf16_f32) := by
  unfold V V0
  after_reads_simp

theorem V_v85 : V m c main_v85 = broadcastInDim S16x8192x1 ![0, 1] bcast_S16x8192_S16x8192x1_0_1 (extf (F := Ideal) (φ := .bf16) .f32 (truncf (F := Ideal) (φ := .f32) .bf16 (subf (F := Ideal) (φ := .f32) (V m c main_v75) (extf (F := Ideal) (φ := .bf16) .f32 (truncf (F := Ideal) (φ := .f32) .bf16 (V m c main_v75) bitsLt_bf16_f32) bitsLt_bf16_f32)) bitsLt_bf16_f32) bitsLt_bf16_f32) := by
  unfold V V0
  after_reads_simp

theorem V_v86 : V m c main_v86 = broadcastInDim S16x8192x1 ![0, 1] bcast_S16x8192_S16x8192x1_0_1 (extf (F := Ideal) (φ := .bf16) .f32 (truncf (F := Ideal) (φ := .f32) .bf16 (subf (F := Ideal) (φ := .f32) (subf (F := Ideal) (φ := .f32) (V m c main_v75) (extf (F := Ideal) (φ := .bf16) .f32 (truncf (F := Ideal) (φ := .f32) .bf16 (V m c main_v75) bitsLt_bf16_f32) bitsLt_bf16_f32)) (extf (F := Ideal) (φ := .bf16) .f32 (truncf (F := Ideal) (φ := .f32) .bf16 (subf (F := Ideal) (φ := .f32) (V m c main_v75) (extf (F := Ideal) (φ := .bf16) .f32 (truncf (F := Ideal) (φ := .f32) .bf16 (V m c main_v75) bitsLt_bf16_f32) bitsLt_bf16_f32)) bitsLt_bf16_f32) bitsLt_bf16_f32)) bitsLt_bf16_f32) bitsLt_bf16_f32) := by
  unfold V V0
  after_reads_simp

theorem V_v108 : V m c main_v108 = broadcastInDim S16x8192x1 ![0, 1] bcast_S16x8192_S16x8192x1_0_1 (extf (F := Ideal) (φ := .bf16) .f32 (truncf (F := Ideal) (φ := .f32) .bf16 (V m c main_v55) bitsLt_bf16_f32) bitsLt_bf16_f32) := by
  unfold V V0
  after_reads_simp

theorem V_v109 : V m c main_v109 = broadcastInDim S16x8192x1 ![0, 1] bcast_S16x8192_S16x8192x1_0_1 (extf (F := Ideal) (φ := .bf16) .f32 (truncf (F := Ideal) (φ := .f32) .bf16 (subf (F := Ideal) (φ := .f32) (V m c main_v55) (extf (F := Ideal) (φ := .bf16) .f32 (truncf (F := Ideal) (φ := .f32) .bf16 (V m c main_v55) bitsLt_bf16_f32) bitsLt_bf16_f32)) bitsLt_bf16_f32) bitsLt_bf16_f32) := by
  unfold V V0
  after_reads_simp

theorem V_v110 : V m c main_v110 = broadcastInDim S16x8192x1 ![0, 1] bcast_S16x8192_S16x8192x1_0_1 (extf (F := Ideal) (φ := .bf16) .f32 (truncf (F := Ideal) (φ := .f32) .bf16 (subf (F := Ideal) (φ := .f32) (subf (F := Ideal) (φ := .f32) (V m c main_v55) (extf (F := Ideal) (φ := .bf16) .f32 (truncf (F := Ideal) (φ := .f32) .bf16 (V m c main_v55) bitsLt_bf16_f32) bitsLt_bf16_f32)) (extf (F := Ideal) (φ := .bf16) .f32 (truncf (F := Ideal) (φ := .f32) .bf16 (subf (F := Ideal) (φ := .f32) (V m c main_v55) (extf (F := Ideal) (φ := .bf16) .f32 (truncf (F := Ideal) (φ := .f32) .bf16 (V m c main_v55) bitsLt_bf16_f32) bitsLt_bf16_f32)) bitsLt_bf16_f32) bitsLt_bf16_f32)) bitsLt_bf16_f32) bitsLt_bf16_f32) := by
  unfold V V0
  after_reads_simp

theorem V_v75 (i : S16x8192.Idx) : (V m c main_v75 : S16x8192.Idx → EReal) i = -Ideal.div (a3 m c i) (Ideal.log ((2 : ℝ) : EReal)) := by
  unfold V V0
  after_reads_simp
  exact congrArg (fun w => -Ideal.div (a3 m c i) (Ideal.log w)) two_f32

theorem V_v70 (i : S16x8192x58.Idx) : (V m c main_v70 : S16x8192x58.Idx → EReal) i = (0 : EReal) := by
  unfold V V0
  after_reads_simp
  exact zero_f32

theorem V_v90 (i : S16x8192x57.Idx) : (V m c main_v90 : S16x8192x57.Idx → EReal) i = (0 : EReal) := by
  unfold V V0
  after_reads_simp
  exact zero_f32

theorem V_v96 (i : S16x8192x60.Idx) : (V m c main_v96 : S16x8192x60.Idx → EReal) i = (0 : EReal) := by
  unfold V V0
  after_reads_simp
  exact zero_f32

theorem V_v99 (i : S16x8192x1.Idx) : (V m c main_v99 : S16x8192x1.Idx → EReal) i = (0 : EReal) := by
  unfold V V0
  after_reads_simp
  exact zero_f32

theorem V_v111 (i : S16x8192x60.Idx) : (V m c main_v111 : S16x8192x60.Idx → EReal) i = (0 : EReal) := by
  unfold V V0
  after_reads_simp
  exact zero_f32

theorem V_v87 (i : S16x8192x1.Idx) : (V m c main_v87 : S16x8192x1.Idx → EReal) i = -((1 : ℝ) : EReal) := by
  unfold V V0
  after_reads_simp
  exact congrArg (fun w : EReal => -w) one_f32

theorem V_v88 (i : S16x8192x1.Idx) : (V m c main_v88 : S16x8192x1.Idx → EReal) i = -((1 : ℝ) : EReal) := by
  unfold V V0
  after_reads_simp
  exact congrArg (fun w : EReal => -w) one_f32

theorem V_v89 (i : S16x8192x1.Idx) : (V m c main_v89 : S16x8192x1.Idx → EReal) i = -((1 : ℝ) : EReal) := by
  unfold V V0
  after_reads_simp
  exact congrArg (fun w : EReal => -w) one_f32

theorem V_v93 (i : S16x8192x1.Idx) : (V m c main_v93 : S16x8192x1.Idx → EReal) i = -((1 : ℝ) : EReal) := by
  unfold V V0
  after_reads_simp
  exact congrArg (fun w : EReal => -w) one_f32

theorem V_v94 (i : S16x8192x1.Idx) : (V m c main_v94 : S16x8192x1.Idx → EReal) i = -((1 : ℝ) : EReal) := by
  unfold V V0
  after_reads_simp
  exact congrArg (fun w : EReal => -w) one_f32

theorem V_v95 (i : S16x8192x1.Idx) : (V m c main_v95 : S16x8192x1.Idx → EReal) i = -((1 : ℝ) : EReal) := by
  unfold V V0
  after_reads_simp
  exact congrArg (fun w : EReal => -w) one_f32

end Cert.KernelIdeal.Fox

end
-- ==== Proof.FoxPack.lean ====
module

public import proofs.«01_k».proof.Proof.FoxMath

@[expose] public section

noncomputable section

namespace Cert.Fox

open Idealize.ShloMosaic

/-! The 128 lanes of the packed heads. -/

/-- A query row: the scaled query, ones against the keys' three parts of the decay, the row's log-sum. -/
def laneQ (x : Fin 64 → ℝ) (l : ℝ) (d : Fin 128) : ℝ :=
  if h : d.val < 64 then x ⟨d.val, h⟩ else if d.val < 67 then 1 else if d.val = 67 then l else 0

/-- A key row: the key, its decay, minus one against the log-sum's three parts, one on the lane of the row sums. -/
def laneK (x : Fin 64 → ℝ) (f : ℝ) (d : Fin 128) : ℝ :=
  if h : d.val < 64 then x ⟨d.val, h⟩ else if d.val = 64 then f else if d.val < 67 then 0 else if d.val < 70 then -1
    else if d.val = 70 then 1 else 0

/-- A value row: the value, one, minus one against the three parts of the sum of output times cotangent. -/
def laneV (x : Fin 64 → ℝ) (d : Fin 128) : ℝ :=
  if h : d.val < 64 then x ⟨d.val, h⟩ else if d.val = 64 then 1 else if d.val < 68 then -1 else 0

/-- A cotangent row: the cotangent and its sum against the output. -/
def laneO (x : Fin 64 → ℝ) (δ : ℝ) (d : Fin 128) : ℝ :=
  if h : d.val < 64 then x ⟨d.val, h⟩ else if d.val = 65 then δ else 0

theorem sum_lanes (f : Fin 128 → ℝ) (h : ∀ d : Fin 128, 72 ≤ d.val → f d = 0) :
    ∑ d, f d = (∑ d : Fin 64, f ⟨d.val, by omega⟩)
      + (f 64 + f 65 + f 66 + f 67 + f 68 + f 69 + f 70 + f 71) := by
  have e : ∑ d, f d = ∑ d : Fin (64 + 64), f d := rfl
  have e' : ∑ d : Fin 64, f (Fin.natAdd 64 d) = f 64 + f 65 + f 66 + f 67 + f 68 + f 69 + f 70 + f 71 := by
    refine (Fin.sum_univ_add (a := 8) (b := 56) fun d => f (Fin.natAdd 64 d)).trans ?_
    rw [Fin.sum_univ_eight, Finset.sum_eq_zero (s := Finset.univ (α := Fin 56)) fun d _ => h _ (by simp [Fin.natAdd]; omega), add_zero]
    rfl
  rw [e, Fin.sum_univ_add, e']
  rfl

theorem laneQ_lo (x : Fin 64 → ℝ) (l : ℝ) (d : Fin 64) : laneQ x l ⟨d.val, by omega⟩ = x d := by
  unfold laneQ; rw [dif_pos d.isLt]
theorem laneK_lo (x : Fin 64 → ℝ) (l : ℝ) (d : Fin 64) : laneK x l ⟨d.val, by omega⟩ = x d := by
  unfold laneK; rw [dif_pos d.isLt]
theorem laneV_lo (x : Fin 64 → ℝ) (d : Fin 64) : laneV x ⟨d.val, by omega⟩ = x d := by
  unfold laneV; rw [dif_pos d.isLt]
theorem laneO_lo (x : Fin 64 → ℝ) (l : ℝ) (d : Fin 64) : laneO x l ⟨d.val, by omega⟩ = x d := by
  unfold laneO; rw [dif_pos d.isLt]

/-- The product of a key row and a query row is the exponent in base two. -/
theorem sum_KQ (x y : Fin 64 → ℝ) (f l : ℝ) : ∑ d, laneK x f d * laneQ y l d = (∑ d, x d * y d) + f - l := by
  rw [sum_lanes _ fun d h => by
    unfold laneK laneQ
    rw [dif_neg (by omega), if_neg (by omega), if_neg (by omega), if_neg (by omega), if_neg (by omega), zero_mul]]
  simp only [laneK_lo, laneQ_lo]
  simp [laneK, laneQ]
  ring

/-- The product of a value row and a cotangent row is their product less the row's sum of output times cotangent. -/
theorem sum_VO (x y : Fin 64 → ℝ) (l : ℝ) : ∑ d, laneV x d * laneO y l d = (∑ d, x d * y d) - l := by
  rw [sum_lanes _ fun d h => by
    unfold laneV
    rw [dif_neg (by omega), if_neg (by omega), if_neg (by omega), zero_mul]]
  simp only [laneV_lo, laneO_lo]
  simp [laneV, laneO]
  ring

end Cert.Fox

end
-- ==== Proof.FoxLanes.lean ====
module

public import proofs.«01_k».proof.Proof.FoxHost
public import proofs.«01_k».proof.Proof.FoxPack

@[expose] public section

set_option backward.isDefEq.respectTransparency.types false

noncomputable section

namespace Cert.KernelIdeal.Fox

open Idealize.ShloMosaic Idealize.ShloMosaic.TcCoe Cert.KernelIdeal Cert.KernelIdeal.Gen Cert.Fox

/-! The call's operands, lane by lane. -/

theorem log_two : Ideal.log ((2 : ℝ) : EReal) = ((Real.log 2 : ℝ) : EReal) := log_coe' 2 two_pos

theorem log_two_ne : Real.log 2 ≠ 0 := (Real.log_pos one_lt_two).ne'

theorem sub_self_coe (r : ℝ) : (r : EReal) - (r : EReal) = (0 : EReal) := by rw [← EReal.coe_sub, sub_self, EReal.coe_zero]

theorem ix3_eta (i : S16x8192x1.Idx) : i = ix3 (i 0) (i 1) 0 := by
  funext a
  match a with
  | ⟨0, _⟩ => rfl
  | ⟨1, _⟩ => rfl
  | ⟨2, _⟩ => exact Fin.ext (by have := (i 2).isLt; show (i 2).val = 0; change (i 2).val < 1 at this; omega)

/-- The first of the three parts of a real number is the number. -/
theorem part_hi (X : FVec Ideal S16x8192 .f32) (r : Fin 16 → Fin 8192 → ℝ) (hX : ∀ h t, X (ix2 h t) = (r h t : EReal)) (h : Fin 16) (t : Fin 8192) (u : Fin 1) :
    broadcastInDim S16x8192x1 ![0, 1] bcast_S16x8192_S16x8192x1_0_1 (extf (F := Ideal) (φ := .bf16) .f32 (truncf (F := Ideal) (φ := .f32) .bf16 X bitsLt_bf16_f32) bitsLt_bf16_f32) (ix3 h t u)
      = (r h t : EReal) := by
  pointwise
  exact hX h t

/-- The second is zero. -/
theorem part_mid (X : FVec Ideal S16x8192 .f32) (r : Fin 16 → Fin 8192 → ℝ) (hX : ∀ h t, X (ix2 h t) = (r h t : EReal)) :
    ∀ h t, (subf (F := Ideal) (φ := .f32) X (extf (F := Ideal) (φ := .bf16) .f32 (truncf (F := Ideal) (φ := .f32) .bf16 X bitsLt_bf16_f32) bitsLt_bf16_f32)) (ix2 h t) = (((fun _ _ => 0 : Fin 16 → Fin 8192 → ℝ) h t : ℝ) : EReal) := by
  intro h t
  refine Eq.trans ?_ (sub_self_coe (r h t))
  rw [← hX]
  rfl

variable (m : (ℓ : Loc nD τ sig) → Buf (Elt Ideal) ℓ) (c : Dev nD)
  (q k v g : Fin 16 → Fin 8192 → Fin 64 → ℝ) (F M : Fin 16 → Fin 8192 → ℝ)
  (h0 : ∀ i : S16x8192x64.Idx, a0 m c i = (q (i 0) (i 1) (i 2) : EReal))
  (h1 : ∀ i : S16x8192x64.Idx, a1 m c i = (k (i 0) (i 1) (i 2) : EReal))
  (h2 : ∀ i : S16x8192x64.Idx, a2 m c i = (v (i 0) (i 1) (i 2) : EReal))
  (h3 : ∀ i : S16x8192.Idx, a3 m c i = (F (i 0) (i 1) : EReal))
  (h4 : ∀ i : S16x8192x64.Idx, a4 m c i = (g (i 0) (i 1) (i 2) : EReal))
  (hM : ∀ j : S16x8192.Idx, Cert.ReferenceIdeal.Read.val_main_v15 (F := Ideal) (a0 m c) (a1 m c) (a3 m c) j = (M (j 0) (j 1) : EReal))

/-- The rows' log-sums less the decay, in base two. -/
def lse (h : Fin 16) (t : Fin 8192) : ℝ := (M h t + Real.log (∑ u, ex (q h) (k h) (F h) (M h) t u) - F h t) / Real.log 2

include h0 h1 h3 hM in
theorem R_v26 (h : Fin 16) (t : Fin 8192) : (V m c main_v26 : S16x8192.Idx → EReal) (ix2 h t) = (lse q k F M h t : EReal) := by
  have e21 : (V m c main_v21 : S16x8192.Idx → EReal) (ix2 h t) = ((∑ u, ex (q h) (k h) (F h) (M h) t u : ℝ) : EReal) := by
    rw [V_v21, V_v20]
    exact Cert.ReferenceIdeal.Fox.rowsum (a0 m c) (a1 m c) (a3 m c) q k F h0 h1 h3 M hM (ix2 h t)
  have e15 : (V m c main_v15 : S16x8192.Idx → EReal) (ix2 h t) = (M h t : EReal) := by
    rw [V_v15]
    exact hM (ix2 h t)
  rw [V_v26]
  obtain ⟨X, hX⟩ : ∃ X : S16x8192.Idx → EReal, V m c main_v21 = X := ⟨_, rfl⟩
  obtain ⟨Y, hY⟩ : ∃ Y : S16x8192.Idx → EReal, V m c main_v15 = Y := ⟨_, rfl⟩
  rw [hX] at e21 ⊢
  rw [hY] at e15 ⊢
  have e : Ideal.div (Y (ix2 h t) + Ideal.log (X (ix2 h t)) - a3 m c (ix2 h t)) (Ideal.log ((2 : ℝ) : EReal)) = (lse q k F M h t : EReal) := by
    rw [e21, e15, h3, log_two, log_coe' _ (sum_ex_pos _ _ _ _ _), ← EReal.coe_add]
    exact (congrArg (fun w => Ideal.div w _) (EReal.coe_sub _ _).symm).trans (div_coe' _ _ log_two_ne)
  rw [← two_f32] at e
  exact e

include h0 h1 h2 h3 h4 hM in
theorem R_v55 (h : Fin 16) (t : Fin 8192) : (V m c main_v55 : S16x8192.Idx → EReal) (ix2 h t) = (dlt (q h) (k h) (v h) (g h) (F h) t : EReal) := by
  have e53 : ∀ i : S16x8192x64.Idx, (V m c main_v53 : S16x8192x64.Idx → EReal) i = ((∑ u, pr (q (i 0)) (k (i 0)) (F (i 0)) (i 1) u * v (i 0) u (i 2) : ℝ) : EReal) := by
    intro i
    rw [V_v53]
    refine (Cert.ReferenceIdeal.Read.val_main_v43_apply _ _ _ _ i).trans ?_
    rw [coe_sum]
    refine Finset.sum_congr rfl fun u _ => ?_
    rw [h2, Cert.ReferenceIdeal.Fox.weight (a0 m c) (a1 m c) (a3 m c) q k F h0 h1 h3 M hM, ← EReal.coe_mul]
    rfl
  rw [V_v55]
  generalize V m c main_v53 = X at *
  simp only [Host.reduceAdd, Ideal.hostReduceAdd_def]
  rw [Ideal.hostReduceAdd_single reducesTo_S16x8192x64_S16x8192_d2 (by decide)]
  unfold dlt
  rw [coe_sum]
  refine (congrArg₂ (· + ·) zero_f32 (Finset.sum_congr rfl fun d _ => ?_)).trans (zero_add (_ : EReal))
  refine (congrArg₂ (fun a b : EReal => a * b) (e53 _) (h4 _)).trans ?_
  rw [← EReal.coe_mul]
  rfl

include h0 h1 h3 hM in
/-- The packed queries. -/
theorem L_q (h : Fin 16) (t : Fin 8192) (d : Fin 128) : (V m c main_v72 : S16x8192x128.Idx → EReal) (ix3 h t d)
    = (laneQ (fun e => q h t e / Real.log 2) (lse q k F M h t) d : EReal) := by
  have e26 := R_v26 m c q k F M h0 h1 h3 hM
  have e67 := fun u : Fin 1 => part_hi (V m c main_v26) (lse q k F M) e26 h t u
  have e68 := fun u : Fin 1 => part_hi _ _ (part_mid (V m c main_v26) (lse q k F M) e26) h t u
  have e69 := fun u : Fin 1 => part_hi _ _ (part_mid _ _ (part_mid (V m c main_v26) (lse q k F M) e26)) h t u
  rw [← V_v67] at e67
  rw [← V_v68] at e68
  rw [← V_v69] at e69
  have e58 : ∀ e : Fin 64, (V m c main_v58 : S16x8192x64.Idx → EReal) (ix3 h t e) = ((q h t e / Real.log 2 : ℝ) : EReal) := fun e => by
    rw [V_v58, h0, log_two]
    exact div_coe' _ _ log_two_ne
  rw [V_v72]
  pointwise
  rcases (by omega : d.val < 64 ∨ d.val = 64 ∨ d.val = 65 ∨ d.val = 66 ∨ d.val = 67 ∨ d.val = 68 ∨ d.val = 69 ∨ 70 ≤ d.val) with e | e | e | e | e | e | e | e
  · rw [show laneQ (fun e => q h t e / Real.log 2) (lse q k F M h t) d = _ from dif_pos e, dif_pos e]; exact e58 _
  · rw [show laneQ (fun e => q h t e / Real.log 2) (lse q k F M h t) d = 1 by simp [laneQ, e]]
    simp only [e, Nat.reduceSub, Nat.reduceLT, ↓reduceDIte]
    exact V_v56 m c _
  · rw [show laneQ (fun e => q h t e / Real.log 2) (lse q k F M h t) d = 1 by simp [laneQ, e]]
    simp only [e, Nat.reduceSub, Nat.reduceLT, ↓reduceDIte]
    exact V_v56 m c _
  · rw [show laneQ (fun e => q h t e / Real.log 2) (lse q k F M h t) d = 1 by simp [laneQ, e]]
    simp only [e, Nat.reduceSub, Nat.reduceLT, ↓reduceDIte]
    exact V_v56 m c _
  · rw [show laneQ (fun e => q h t e / Real.log 2) (lse q k F M h t) d = lse q k F M h t by simp [laneQ, e]]
    simp only [e, Nat.reduceSub, Nat.reduceLT, ↓reduceDIte]
    exact e67 _
  · rw [show laneQ (fun e => q h t e / Real.log 2) (lse q k F M h t) d = 0 by simp [laneQ, e]]
    simp only [e, Nat.reduceSub, Nat.reduceLT, ↓reduceDIte]
    exact e68 _
  · rw [show laneQ (fun e => q h t e / Real.log 2) (lse q k F M h t) d = 0 by simp [laneQ, e]]
    simp only [e, Nat.reduceSub, Nat.reduceLT, ↓reduceDIte]
    exact e69 _
  · rw [show laneQ (fun e => q h t e / Real.log 2) (lse q k F M h t) d = 0 by simp only [laneQ]; rw [dif_neg (by omega)]; repeat rw [if_neg (by omega)]]
    rw [dif_neg (by omega), dif_neg (by omega), dif_neg (by omega), dif_neg (by omega), dif_neg (by omega), dif_neg (by omega), dif_neg (by omega)]
    exact (V_v70 m c _).trans EReal.coe_zero.symm

include h1 h3 in
/-- The packed keys. -/
theorem L_k (h : Fin 16) (t : Fin 8192) (d : Fin 128) : (V m c main_v92 : S16x8192x128.Idx → EReal) (ix3 h t d)
    = (laneK (k h t) (-(F h t / Real.log 2)) d : EReal) := by
  have e75 : ∀ h t, (V m c main_v75 : S16x8192.Idx → EReal) (ix2 h t) = ((-(F h t / Real.log 2) : ℝ) : EReal) := fun h t => by
    rw [V_v75, h3, log_two]
    exact (congrArg (fun w : EReal => -w) (div_coe' _ _ log_two_ne)).trans (EReal.coe_neg _).symm
  have e84 := fun u : Fin 1 => part_hi (V m c main_v75) (fun h t => -(F h t / Real.log 2)) e75 h t u
  have e85 := fun u : Fin 1 => part_hi _ _ (part_mid (V m c main_v75) (fun h t => -(F h t / Real.log 2)) e75) h t u
  have e86 := fun u : Fin 1 => part_hi _ _ (part_mid _ _ (part_mid (V m c main_v75) (fun h t => -(F h t / Real.log 2)) e75)) h t u
  rw [← V_v84] at e84
  rw [← V_v85] at e85
  rw [← V_v86] at e86
  have e1 : ∀ e : Fin 64, (V m c main_arg1 : S16x8192x64.Idx → EReal) (ix3 h t e) = (k h t e : EReal) := fun e =>
    (congrFun (V_main_arg1 m c) _).trans (h1 _)
  rw [V_v92]
  pointwise
  rcases (by omega : d.val < 64 ∨ d.val = 64 ∨ d.val = 65 ∨ d.val = 66 ∨ d.val = 67 ∨ d.val = 68 ∨ d.val = 69 ∨ d.val = 70 ∨ 71 ≤ d.val) with e | e | e | e | e | e | e | e | e
  · rw [show laneK (k h t) (-(F h t / Real.log 2)) d = _ from dif_pos e, dif_pos e]; exact e1 _
  · rw [show laneK (k h t) (-(F h t / Real.log 2)) d = -(F h t / Real.log 2) by simp [laneK, e]]
    simp only [e, Nat.reduceSub, Nat.reduceLT, ↓reduceDIte]
    exact e84 _
  · rw [show laneK (k h t) (-(F h t / Real.log 2)) d = 0 by simp [laneK, e]]
    simp only [e, Nat.reduceSub, Nat.reduceLT, ↓reduceDIte]
    exact e85 _
  · rw [show laneK (k h t) (-(F h t / Real.log 2)) d = 0 by simp [laneK, e]]
    simp only [e, Nat.reduceSub, Nat.reduceLT, ↓reduceDIte]
    exact e86 _
  · rw [show laneK (k h t) (-(F h t / Real.log 2)) d = -1 by simp [laneK, e]]
    simp only [e, Nat.reduceSub, Nat.reduceLT, ↓reduceDIte]
    exact (V_v87 m c _).trans (EReal.coe_neg 1).symm
  · rw [show laneK (k h t) (-(F h t / Real.log 2)) d = -1 by simp [laneK, e]]
    simp only [e, Nat.reduceSub, Nat.reduceLT, ↓reduceDIte]
    exact (V_v88 m c _).trans (EReal.coe_neg 1).symm
  · rw [show laneK (k h t) (-(F h t / Real.log 2)) d = -1 by simp [laneK, e]]
    simp only [e, Nat.reduceSub, Nat.reduceLT, ↓reduceDIte]
    exact (V_v89 m c _).trans (EReal.coe_neg 1).symm
  · rw [show laneK (k h t) (-(F h t / Real.log 2)) d = 1 by simp [laneK, e]]
    simp only [e, Nat.reduceSub, Nat.reduceLT, ↓reduceDIte]
    exact V_v56 m c _
  · rw [show laneK (k h t) (-(F h t / Real.log 2)) d = 0 by simp only [laneK]; rw [dif_neg (by omega)]; repeat rw [if_neg (by omega)]]
    rw [dif_neg (by omega), dif_neg (by omega), dif_neg (by omega), dif_neg (by omega), dif_neg (by omega), dif_neg (by omega), dif_neg (by omega), dif_neg (by omega)]
    exact (V_v90 m c _).trans EReal.coe_zero.symm

include h2 in
/-- The packed values. -/
theorem L_v (h : Fin 16) (t : Fin 8192) (d : Fin 128) : (V m c main_v98 : S16x8192x128.Idx → EReal) (ix3 h t d)
    = (laneV (v h t) d : EReal) := by
  have e2 : ∀ e : Fin 64, (V m c main_arg2 : S16x8192x64.Idx → EReal) (ix3 h t e) = (v h t e : EReal) := fun e =>
    (congrFun (V_main_arg2 m c) _).trans (h2 _)
  rw [V_v98]
  pointwise
  rcases (by omega : d.val < 64 ∨ d.val = 64 ∨ d.val = 65 ∨ d.val = 66 ∨ d.val = 67 ∨ 68 ≤ d.val) with e | e | e | e | e | e
  · rw [show laneV (v h t) d = _ from dif_pos e, dif_pos e]; exact e2 _
  · rw [show laneV (v h t) d = 1 by simp [laneV, e]]
    simp only [e, Nat.reduceSub, Nat.reduceLT, ↓reduceDIte]
    exact V_v56 m c _
  · rw [show laneV (v h t) d = -1 by simp [laneV, e]]
    simp only [e, Nat.reduceSub, Nat.reduceLT, ↓reduceDIte]
    exact (V_v93 m c _).trans (EReal.coe_neg 1).symm
  · rw [show laneV (v h t) d = -1 by simp [laneV, e]]
    simp only [e, Nat.reduceSub, Nat.reduceLT, ↓reduceDIte]
    exact (V_v94 m c _).trans (EReal.coe_neg 1).symm
  · rw [show laneV (v h t) d = -1 by simp [laneV, e]]
    simp only [e, Nat.reduceSub, Nat.reduceLT, ↓reduceDIte]
    exact (V_v95 m c _).trans (EReal.coe_neg 1).symm
  · rw [show laneV (v h t) d = 0 by simp only [laneV]; rw [dif_neg (by omega)]; repeat rw [if_neg (by omega)]]
    rw [dif_neg (by omega), dif_neg (by omega), dif_neg (by omega), dif_neg (by omega), dif_neg (by omega)]
    exact (V_v96 m c _).trans EReal.coe_zero.symm

include h0 h1 h2 h3 h4 hM in
/-- The packed cotangents. -/
theorem L_o (h : Fin 16) (t : Fin 8192) (d : Fin 128) : (V m c main_v113 : S16x8192x128.Idx → EReal) (ix3 h t d)
    = (laneO (g h t) (dlt (q h) (k h) (v h) (g h) (F h) t) d : EReal) := by
  have e55 := R_v55 m c q k v g F M h0 h1 h2 h3 h4 hM
  have e108 := fun u : Fin 1 => part_hi (V m c main_v55) _ e55 h t u
  have e109 := fun u : Fin 1 => part_hi _ _ (part_mid (V m c main_v55) _ e55) h t u
  have e110 := fun u : Fin 1 => part_hi _ _ (part_mid _ _ (part_mid (V m c main_v55) _ e55)) h t u
  rw [← V_v108] at e108
  rw [← V_v109] at e109
  rw [← V_v110] at e110
  have e4 : ∀ e : Fin 64, (V m c main_arg4 : S16x8192x64.Idx → EReal) (ix3 h t e) = (g h t e : EReal) := fun e =>
    (congrFun (V_main_arg4 m c) _).trans (h4 _)
  rw [V_v113]
  pointwise
  rcases (by omega : d.val < 64 ∨ d.val = 64 ∨ d.val = 65 ∨ d.val = 66 ∨ d.val = 67 ∨ 68 ≤ d.val) with e | e | e | e | e | e
  · rw [show laneO (g h t) (dlt (q h) (k h) (v h) (g h) (F h) t) d = _ from dif_pos e, dif_pos e]; exact e4 _
  · rw [show laneO (g h t) (dlt (q h) (k h) (v h) (g h) (F h) t) d = 0 by simp [laneO, e]]
    simp only [e, Nat.reduceSub, Nat.reduceLT, ↓reduceDIte]
    exact (V_v99 m c _).trans EReal.coe_zero.symm
  · rw [show laneO (g h t) (dlt (q h) (k h) (v h) (g h) (F h) t) d = dlt (q h) (k h) (v h) (g h) (F h) t by simp [laneO, e]]
    simp only [e, Nat.reduceSub, Nat.reduceLT, ↓reduceDIte]
    exact e108 _
  · rw [show laneO (g h t) (dlt (q h) (k h) (v h) (g h) (F h) t) d = 0 by simp [laneO, e]]
    simp only [e, Nat.reduceSub, Nat.reduceLT, ↓reduceDIte]
    exact e109 _
  · rw [show laneO (g h t) (dlt (q h) (k h) (v h) (g h) (F h) t) d = 0 by simp [laneO, e]]
    simp only [e, Nat.reduceSub, Nat.reduceLT, ↓reduceDIte]
    exact e110 _
  · rw [show laneO (g h t) (dlt (q h) (k h) (v h) (g h) (F h) t) d = 0 by simp only [laneO]; rw [dif_neg (by omega)]; repeat rw [if_neg (by omega)]]
    rw [dif_neg (by omega), dif_neg (by omega), dif_neg (by omega), dif_neg (by omega), dif_neg (by omega)]
    exact (V_v111 m c _).trans EReal.coe_zero.symm

end Cert.KernelIdeal.Fox

end
-- ==== Proof.FoxSums.lean ====
module

public import proofs.«01_k».proof.Proof.Gen.KernelIdeal.Frame
public import Idealize.ShloMosaic.Lib.VecWindow
public import Idealize.ShloMosaic.Lib.Pointwise

@[expose] public section

set_option maxRecDepth 16384

noncomputable section

namespace Cert.KernelIdeal.Fox

open Idealize.ShloMosaic Idealize.ShloMosaic.TcCoe Idealize.ShloMosaic.Tactic
open Cert.KernelIdeal.Gen

/-! The sums one grid point of the attention gradient forms, at a progress `B`: the number of query rows handled so far. -/

/-- The score of key row `a` against query row `b`: the product of two rows of 128. -/
def sc (K : Vec Ideal S1x1024x128 .bf16) (Q : Vec Ideal S1x8192x128 .bf16) (a : Fin 1024) (b : Fin 8192) : EReal :=
  ∑ d : Fin 128, K (ix3 0 a d) * Q (ix3 0 b d)

/-- The weight of key row `a` (of block `j`) for query row `b`: nothing below the diagonal. -/
def wt (j : ℕ) (K : Vec Ideal S1x1024x128 .bf16) (Q : Vec Ideal S1x8192x128 .bf16) (a : Fin 1024) (b : Fin 8192) : EReal :=
  if 1024 * j + a.val ≤ b.val then FloatOps.exp2 (F := Ideal) (φ := .f32) (sc K Q a b) else 0

/-- The gradient of the score of key row `a` for query row `b`. -/
def ds (j : ℕ) (K V : Vec Ideal S1x1024x128 .bf16) (Q O : Vec Ideal S1x8192x128 .bf16) (a : Fin 1024) (b : Fin 8192) : EReal :=
  wt j K Q a b * sc V O a b

/-- The rows of `dv` after `B` query rows. -/
def DV (j : ℕ) (K : Vec Ideal S1x1024x128 .bf16) (Q O : Vec Ideal S1x8192x128 .bf16) (B : ℕ) (a : Fin 1024) (d : Fin 128) : EReal :=
  ∑ b : Fin 8192, if b.val < B then wt j K Q a b * O (ix3 0 b d) else 0

/-- The rows of `dk` after `B` query rows. -/
def DK (j : ℕ) (K V : Vec Ideal S1x1024x128 .bf16) (Q O : Vec Ideal S1x8192x128 .bf16) (B : ℕ) (a : Fin 1024) (d : Fin 128) : EReal :=
  ∑ b : Fin 8192, if b.val < B then ds j K V Q O a b * Q (ix3 0 b d) else 0

/-- The rows of `dq` after `B` query rows, over what was there before. -/
def DQ (j : ℕ) (K V : Vec Ideal S1x1024x128 .bf16) (Q O : Vec Ideal S1x8192x128 .bf16) (old : Fin 8192 → Fin 128 → EReal) (B : ℕ) (b : Fin 8192) (d : Fin 128) : EReal :=
  if b.val < B then old b d + ∑ a : Fin 1024, ds j K V Q O a b * K (ix3 0 a d) else old b d

/-- A sum over the first `B + C` rows is the sum over the first `B` and the sum over the next `C`. -/
theorem sum_below_add {N : ℕ} (f : Fin N → EReal) (B C : ℕ) (h : B + C ≤ N) :
    (∑ b : Fin N, if b.val < B + C then f b else 0) = (∑ b : Fin N, if b.val < B then f b else 0) + ∑ k : Fin C, f ⟨B + k.val, by omega⟩ := by
  set g : ℕ → EReal := fun n => if hn : n < N then f ⟨n, hn⟩ else 0 with hg
  have key : ∀ M, M ≤ N → (∑ b : Fin N, if b.val < M then f b else 0) = ∑ n ∈ Finset.range M, g n := by
    intro M hM
    have e : ∀ b : Fin N, (if b.val < M then f b else 0) = (fun n => if n < M then g n else 0) b.val := by
      intro b; simp only [hg, b.isLt, dif_pos, Fin.eta]
    rw [Finset.sum_congr rfl (fun b _ => e b), Fin.sum_univ_eq_sum_range (fun n => if n < M then g n else 0) N, ← Finset.sum_filter]
    congr 1
    ext n; simp only [Finset.mem_filter, Finset.mem_range]; omega
  rw [key _ h, key _ (by omega), Finset.sum_range_add, ← Fin.sum_univ_eq_sum_range (fun n => g (B + n)) C]
  congr 1
  refine Finset.sum_congr rfl fun k _ => ?_
  have := k.isLt
  simp only [hg]; rw [dif_pos (show B + k.val < N by omega)]

/-- A sum of zeros below the diagonal. -/
theorem sum_below_zero {N : ℕ} (f : Fin N → EReal) (B : ℕ) (h : ∀ b : Fin N, b.val < B → f b = 0) :
    (∑ b : Fin N, if b.val < B then f b else 0) = 0 :=
  Finset.sum_eq_zero fun b _ => by split <;> [exact h b ‹_›; rfl]

/-- A load of a block of rows reads those rows. -/
theorem rd {κ : Kind} {sp : Space} {N M : ℕ} {e : EltTy} (v : View sig κ sp ⟨3, ![1, N, 128]⟩ e) (f : v.ty.Contents (Elt Ideal)) (n : ℕ)
    (inb : ∀ a : Fin 3, (![0, n, 0] : Fin 3 → ℕ) a + (![1, M, 128] : Fin 3 → ℕ) a ≤ (![1, N, 128] : Fin 3 → ℕ) a) (a : Fin 1) (b : Fin M) (d : Fin 128) :
    v.readAt (Elt Ideal) (Rect.unit (s := ⟨3, ![1, N, 128]⟩) ![0, n, 0] ![1, M, 128] inb).toLoadRect f (ix3 a b d)
      = v.read (Elt Ideal) f (ix3 0 ⟨n + b.val, by have := inb 1; simp at this; omega⟩ d) := by
  rw [View.readAt_unit v f inb rfl inb]
  refine congrArg (v.read (Elt Ideal) f) (funext fun x => Fin.ext ?_)
  fin_cases x
  · show 0 + 1 * a.val = 0; omega
  · show n + 1 * b.val = n + b.val; omega
  · show 0 + 1 * d.val = d.val; omega

/-- A store of a block of rows, at an index. -/
theorem put3 {N M : ℕ} {α : Type} (x : Shape.Idx ⟨3, ![1, N, 128]⟩ → α) (n : ℕ) (w : ((a : Fin 3) → Fin ((![1, M, 128] : Fin 3 → ℕ) a)) → α) (a : Fin 1) (b : Fin N) (d : Fin 128) :
    VecWindow.put (s := ⟨3, ![1, N, 128]⟩) x ![0, n, 0] ![1, M, 128] w (ix3 a b d)
      = if h : n ≤ b.val ∧ b.val < n + M then w (ix3 0 ⟨b.val - n, by omega⟩ d) else x (ix3 a b d) := by
  have hiff : (∀ r : Fin 3, (![0, n, 0] : Fin 3 → ℕ) r ≤ ((ix3 a b d : Shape.Idx ⟨3, ![1, N, 128]⟩) r).val ∧ ((ix3 a b d : Shape.Idx ⟨3, ![1, N, 128]⟩) r).val < (![0, n, 0] : Fin 3 → ℕ) r + (![1, M, 128] : Fin 3 → ℕ) r)
      ↔ (n ≤ b.val ∧ b.val < n + M) := by
    constructor
    · intro h; exact h 1
    · intro h r
      fin_cases r
      · exact ⟨Nat.zero_le _, by show a.val < 0 + 1; omega⟩
      · exact h
      · exact ⟨Nat.zero_le _, by show d.val < 0 + 128; omega⟩
  unfold VecWindow.put
  by_cases h : n ≤ b.val ∧ b.val < n + M
  · rw [dif_pos (hiff.mpr h), dif_pos h]
    refine congrArg w (funext fun r => Fin.ext ?_)
    fin_cases r
    · show a.val - 0 = 0; omega
    · rfl
    · show d.val - 0 = d.val; omega
  · rw [dif_neg (fun h' => h (hiff.mp h')), dif_neg h]

/-- After a store of a block of rows, a row of the block reads the payload. -/
theorem wr_pos {κ : Kind} {sp : Space} {N M : ℕ} {e : EltTy} (v : View sig κ sp ⟨3, ![1, N, 128]⟩ e) (f : v.ty.Contents (Elt Ideal)) (n : ℕ)
    (inb : ∀ a : Fin 3, (![0, n, 0] : Fin 3 → ℕ) a + (![1, M, 128] : Fin 3 → ℕ) a ≤ (![1, N, 128] : Fin 3 → ℕ) a)
    (w : (Rect.unit (s := ⟨3, ![1, N, 128]⟩) ![0, n, 0] ![1, M, 128] inb).shape.Idx → Elt Ideal e) (L : List (View.Piece (Elt Ideal) ⟨3, ![1, N, 128]⟩ e)) (a : Fin 1) (b : Fin N) (d : Fin 128) (h : n ≤ b.val ∧ b.val < n + M) :
    v.read (Elt Ideal) (v.writes (Elt Ideal) f (⟨Rect.unit (s := ⟨3, ![1, N, 128]⟩) ![0, n, 0] ![1, M, 128] inb, w⟩ :: L)) (ix3 a b d)
      = w (ix3 0 (⟨b.val - n, by omega⟩ : Fin M) d) := by
  refine (congrFun (View.read_writes_cons_put _ _ _ _ _ rfl) _).trans ?_
  refine (put3 _ _ _ _ _ _).trans ?_
  rw [dif_pos h]

/-- After a store of a block of rows, a row outside the block reads what the earlier stores left. -/
theorem wr_neg {κ : Kind} {sp : Space} {N M : ℕ} {e : EltTy} (v : View sig κ sp ⟨3, ![1, N, 128]⟩ e) (f : v.ty.Contents (Elt Ideal)) (n : ℕ)
    (inb : ∀ a : Fin 3, (![0, n, 0] : Fin 3 → ℕ) a + (![1, M, 128] : Fin 3 → ℕ) a ≤ (![1, N, 128] : Fin 3 → ℕ) a)
    (w : (Rect.unit (s := ⟨3, ![1, N, 128]⟩) ![0, n, 0] ![1, M, 128] inb).shape.Idx → Elt Ideal e) (L : List (View.Piece (Elt Ideal) ⟨3, ![1, N, 128]⟩ e)) (a : Fin 1) (b : Fin N) (d : Fin 128) (h : b.val < n ∨ n + M ≤ b.val) :
    v.read (Elt Ideal) (v.writes (Elt Ideal) f (⟨Rect.unit (s := ⟨3, ![1, N, 128]⟩) ![0, n, 0] ![1, M, 128] inb, w⟩ :: L)) (ix3 a b d)
      = v.read (Elt Ideal) (v.writes (Elt Ideal) f L) (ix3 a b d) := by
  refine (congrFun (View.read_writes_cons_put _ _ _ _ _ rfl) _).trans ?_
  refine (put3 _ _ _ _ _ _).trans ?_
  rw [dif_neg (by omega)]

/-- A load, stated over the stores alone, of a block of rows reads those rows. -/
theorem rdc {κ : Kind} {sp : Space} {N M : ℕ} {e : EltTy} (v : View sig κ sp ⟨3, ![1, N, 128]⟩ e) (L : List (View.Piece (Elt Ideal) ⟨3, ![1, N, 128]⟩ e)) (n : ℕ)
    (inb : ∀ a : Fin 3, (![0, n, 0] : Fin 3 → ℕ) a + (![1, M, 128] : Fin 3 → ℕ) a ≤ (![1, N, 128] : Fin 3 → ℕ) a) (a : Fin 1) (b : Fin M) (d : Fin 128) :
    v.readCov L (Rect.unit (s := ⟨3, ![1, N, 128]⟩) ![0, n, 0] ![1, M, 128] inb).toLoadRect (ix3 a b d)
      = v.read (Elt Ideal) (v.writes (Elt Ideal) v.junk L) (ix3 0 ⟨n + b.val, by have := inb 1; simp at this; omega⟩ d) :=
  rd v _ n inb a b d

/-- A choice by the order of two words of small naturals is the choice by the order of the naturals. -/
theorem sel_le {α : Type} (a b : ℕ) (ha : a < 512) (hb : b < 512) (u v : α) :
    Scalar.select (IntOp.cmpi .sle (BitVec.ofNat 32 a) (BitVec.ofNat 32 b)) u v = if a ≤ b then u else v := by
  have h := WordCmp.cmpi_sle_ofNat_eq_one_iff (w := 32) (a := a) (b := b) (by omega) (by omega)
  by_cases hab : a ≤ b
  · rw [if_pos hab]; exact if_pos (h.mpr hab)
  · rw [if_neg hab]; exact if_neg (fun e => hab (h.mp e))

/-- The rows up to the end of diagonal block `j`, for a key row in the block's first half. -/
theorem diag_lo (f g : Fin 8192 → EReal) (j : ℕ) (hj : j < 8) (b : ℕ) (hb : b < 512) (hg : ∀ t, g t = if 1024 * j + b ≤ t.val then f t else 0) :
    (∑ x : Fin 512, if b ≤ x.val then f ⟨1024 * j + x.val, by omega⟩ else 0) + ∑ x : Fin 512, f ⟨1024 * j + 512 + x.val, by omega⟩
      = ∑ t : Fin 8192, if t.val < 1024 * (j + 1) then g t else 0 := by
  rw [show 1024 * (j + 1) = 1024 * j + 512 + 512 by ring, sum_below_add _ _ 512 (by omega), sum_below_add _ _ 512 (by omega),
    sum_below_zero _ _ (fun t ht => by rw [hg, if_neg (by omega)]), zero_add]
  congr 1
  · refine Finset.sum_congr rfl fun x _ => ?_
    rw [hg]; exact if_congr (by simp) rfl rfl
  · refine Finset.sum_congr rfl fun x _ => ?_
    rw [hg, if_pos (by show _ ≤ 1024 * j + 512 + x.val; omega)]

/-- The rows up to the end of diagonal block `j`, for a key row in the block's second half. -/
theorem diag_hi (f g : Fin 8192 → EReal) (j : ℕ) (hj : j < 8) (b : ℕ) (hb : 512 ≤ b) (hg : ∀ t, g t = if 1024 * j + b ≤ t.val then f t else 0) :
    (∑ x : Fin 512, if b - 512 ≤ x.val then f ⟨1024 * j + 512 + x.val, by omega⟩ else 0)
      = ∑ t : Fin 8192, if t.val < 1024 * (j + 1) then g t else 0 := by
  rw [show 1024 * (j + 1) = 1024 * j + 512 + 512 by ring, sum_below_add _ _ 512 (by omega),
    sum_below_zero _ _ (fun t ht => by rw [hg, if_neg (by omega)]), zero_add]
  refine Finset.sum_congr rfl fun x _ => ?_
  rw [hg]; exact if_congr (by show _ ↔ _ ≤ 1024 * j + 512 + x.val; omega) rfl rfl

end Cert.KernelIdeal.Fox
end
-- ==== Proof.FoxTrip.lean ====
module

public import proofs.«01_k».proof.Proof.FoxSums
public import proofs.«01_k».proof.Proof.Gen.KernelIdeal.Loops

@[expose] public section

set_option maxRecDepth 16384
set_option backward.isDefEq.respectTransparency.types false

noncomputable section

namespace Cert.KernelIdeal.Fox

open Idealize.ShloMosaic Idealize.ShloMosaic.TcCoe Idealize.ShloMosaic.Tactic
open Idealize.ShloMosaic.Rounds
open Cert.KernelIdeal.Gen

theorem trips1 (i : grid0.Coords) : (k0_t1_loop i).trips = 7 - (i 1).val := by
  have : ∀ j : Fin 8, ((⟨Scalar.addi (BitVec.ofNat 32 j.val) 1#32, Scalar.addi (Scalar.addi (BitVec.ofNat 32 j.val) 1#32) (Scalar.muli (Scalar.divsi (Scalar.subi 8#32 (Scalar.addi (BitVec.ofNat 32 j.val) 1#32)) 1#32) 1#32), 1#32⟩ : Scf.Loop 32)).trips = 7 - j.val := by decide +kernel
  exact this (i 1)

theorem trips2 (i : grid0.Coords) : (k0_t2_loop i).trips = 0 := by
  have : ∀ j : Fin 8, ((⟨Scalar.addi (Scalar.addi (BitVec.ofNat 32 j.val) 1#32) (Scalar.muli (Scalar.divsi (Scalar.subi 8#32 (Scalar.addi (BitVec.ofNat 32 j.val) 1#32)) 1#32) 1#32), Scalar.addi (Scalar.addi (BitVec.ofNat 32 j.val) 1#32) (Scalar.subi 8#32 (Scalar.addi (BitVec.ofNat 32 j.val) 1#32)), 1#32⟩ : Scf.Loop 32)).trips = 0 := by decide +kernel
  exact this (i 1)

theorem row1 (i : grid0.Coords) (k : Fin (k0_t1_loop i).trips) :
    BitVec.toNat (Scalar.indexCast (Scalar.muli (Scf.iv (Scalar.addi (BitVec.ofNat 32 (i 1).val) 1#32) 1#32 k.val) 1024#32)) = 1024 * ((i 1).val + 1 + k.val) := by
  have h := trips1 i
  have : ∀ (j : Fin 8) (k : Fin 7), BitVec.toNat (Scalar.indexCast (Scalar.muli (Scf.iv (Scalar.addi (BitVec.ofNat 32 j.val) 1#32) 1#32 k.val) 1024#32)) = 1024 * (j.val + 1 + k.val) := by decide +kernel
  exact this (i 1) ⟨k.val, by have := k.isLt; omega⟩

theorem off3_eq (i : grid0.Coords) (k : Fin (k0_t1_loop i).trips) : k0_off3 i k = ![0, 1024 * ((i 1).val + 1 + k.val), 0] := by
  rw [← row1 i k]; rfl

section
variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (arg1 : BitVec 32) (v101 : BitVec 32) (v103 : FVec Ideal S512x128 .bf16) (v108 : FVec Ideal S512x128 .bf16) (v121 : FVec Ideal S512x512 .bf16) (v146 : BitVec 32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (G6 : BufTy.Contents (Elt Ideal) arg6.view.ty) (G7 : BufTy.Contents (Elt Ideal) arg7.view.ty) (G8 : BufTy.Contents (Elt Ideal) arg8.view.ty)

theorem trip_dv (k : Fin (k0_t1_loop i).trips) (K : Vec Ideal S1x1024x128 .bf16) (Q O : Vec Ideal S1x8192x128 .bf16)
    (hK : arg4.view.read (Elt Ideal) X4 = K) (hQ : arg2.view.read (Elt Ideal) X2 = Q) (hO : arg3.view.read (Elt Ideal) X3 = O)
    (h : ∀ a b d, arg8.view.read (Elt Ideal) G8 (ix3 a b d) = DV (i 1).val K Q O (1024 * ((i 1).val + 1 + k.val)) b d) (a : Fin 1) (b : Fin 1024) (d : Fin 128) :
    arg8.view.read (Elt Ideal) (arg8.view.writes (Elt Ideal) G8 (tripL_k0_t1 (F := Ideal) 𝒱 c bd i arg2 harg2 arg3 harg3 arg4 harg4 arg5 harg5 arg6 harg6 arg7 harg7 arg8 harg8 arg1 v101 v103 v108 v121 v146 X2 X3 X4 X5 k G6 G7 G8).2.2) (ix3 a b d)
      = DV (i 1).val K Q O (1024 * ((i 1).val + 1 + (k.val + 1))) b d := by
  have hk : k.val < 7 - (i 1).val := lt_of_lt_of_eq k.isLt (trips1 i)
  unfold tripL_k0_t1 trip_k0_t1
  dsimp only
  sl_unfold_words
  rw [View.read_writes_full]
  pointwise
  simp only [rd, hK, hQ, hO, h, row1, Nat.zero_add, Fin.eta]
  rw [show 1024 * ((i 1).val + 1 + (k.val + 1)) = 1024 * ((i 1).val + 1 + k.val) + 1024 by ring]
  unfold DV
  rw [sum_below_add _ _ 1024 (by omega)]
  congr 1
  refine Finset.sum_congr rfl fun x _ => ?_
  rw [wt, if_pos (by show _ ≤ 1024 * ((i 1).val + 1 + k.val) + x.val; omega)]
  rfl

theorem trip_dk (k : Fin (k0_t1_loop i).trips) (K V : Vec Ideal S1x1024x128 .bf16) (Q O : Vec Ideal S1x8192x128 .bf16)
    (hK : arg4.view.read (Elt Ideal) X4 = K) (hV : arg5.view.read (Elt Ideal) X5 = V) (hQ : arg2.view.read (Elt Ideal) X2 = Q) (hO : arg3.view.read (Elt Ideal) X3 = O)
    (h : ∀ a b d, arg7.view.read (Elt Ideal) G7 (ix3 a b d) = DK (i 1).val K V Q O (1024 * ((i 1).val + 1 + k.val)) b d) (a : Fin 1) (b : Fin 1024) (d : Fin 128) :
    arg7.view.read (Elt Ideal) (arg7.view.writes (Elt Ideal) G7 (tripL_k0_t1 (F := Ideal) 𝒱 c bd i arg2 harg2 arg3 harg3 arg4 harg4 arg5 harg5 arg6 harg6 arg7 harg7 arg8 harg8 arg1 v101 v103 v108 v121 v146 X2 X3 X4 X5 k G6 G7 G8).2.1) (ix3 a b d)
      = DK (i 1).val K V Q O (1024 * ((i 1).val + 1 + (k.val + 1))) b d := by
  have hk : k.val < 7 - (i 1).val := lt_of_lt_of_eq k.isLt (trips1 i)
  unfold tripL_k0_t1 trip_k0_t1
  dsimp only
  sl_unfold_words
  rw [View.read_writes_full]
  pointwise [k0_pay45]
  simp only [rd, hK, hV, hQ, hO, h, row1, Nat.zero_add, Fin.eta]
  rw [show 1024 * ((i 1).val + 1 + (k.val + 1)) = 1024 * ((i 1).val + 1 + k.val) + 1024 by ring]
  unfold DK
  rw [sum_below_add _ _ 1024 (by omega)]
  congr 1
  refine Finset.sum_congr rfl fun x _ => ?_
  rw [ds, wt, if_pos (by show _ ≤ 1024 * ((i 1).val + 1 + k.val) + x.val; omega)]
  rfl

theorem trip_dq (k : Fin (k0_t1_loop i).trips) (K V : Vec Ideal S1x1024x128 .bf16) (Q O : Vec Ideal S1x8192x128 .bf16) (old : Fin 8192 → Fin 128 → EReal)
    (hK : arg4.view.read (Elt Ideal) X4 = K) (hV : arg5.view.read (Elt Ideal) X5 = V) (hQ : arg2.view.read (Elt Ideal) X2 = Q) (hO : arg3.view.read (Elt Ideal) X3 = O)
    (h : ∀ a b d, arg6.view.read (Elt Ideal) G6 (ix3 a b d) = DQ (i 1).val K V Q O old (1024 * ((i 1).val + 1 + k.val)) b d) (a : Fin 1) (b : Fin 8192) (d : Fin 128) :
    arg6.view.read (Elt Ideal) (arg6.view.writes (Elt Ideal) G6 (tripL_k0_t1 (F := Ideal) 𝒱 c bd i arg2 harg2 arg3 harg3 arg4 harg4 arg5 harg5 arg6 harg6 arg7 harg7 arg8 harg8 arg1 v101 v103 v108 v121 v146 X2 X3 X4 X5 k G6 G7 G8).1) (ix3 a b d)
      = DQ (i 1).val K V Q O old (1024 * ((i 1).val + 1 + (k.val + 1))) b d := by
  have hk : k.val < 7 - (i 1).val := lt_of_lt_of_eq k.isLt (trips1 i)
  unfold tripL_k0_t1 trip_k0_t1
  dsimp only
  refine (congrFun (View.read_writes_cons_put _ _ _ _ _ (off3_eq i k)) _).trans ?_
  rw [View.writes_nil]
  refine (put3 _ _ _ _ _ _).trans ?_
  split_ifs with hb
  · sl_unfold_words
    pointwise [k0_pay46]
    simp only [rd, hK, hV, hQ, hO, h, row1, Nat.zero_add, Fin.eta]
    have e : 1024 * ((i 1).val + 1 + k.val) + (b.val - 1024 * ((i 1).val + 1 + k.val)) = b.val := by omega
    simp only [e, Fin.eta]
    unfold DQ
    rw [if_neg (by omega), if_pos (by omega)]
    congr 1
    refine Finset.sum_congr rfl fun x _ => ?_
    rw [ds, wt, if_pos (by omega)]
    rfl
  · rw [h]
    unfold DQ
    by_cases hb' : b.val < 1024 * ((i 1).val + 1 + k.val)
    · rw [if_pos hb', if_pos (by omega)]
    · rw [if_neg hb', if_neg (by omega)]
end

end Cert.KernelIdeal.Fox
end
-- ==== Proof.FoxLoop.lean ====
module

public import proofs.«01_k».proof.Proof.FoxTrip

@[expose] public section

set_option maxRecDepth 16384
set_option backward.isDefEq.respectTransparency.types false

noncomputable section

namespace Cert.KernelIdeal.Fox

open Idealize.ShloMosaic Idealize.ShloMosaic.TcCoe Idealize.ShloMosaic.Tactic
open Idealize.ShloMosaic.Rounds
open Cert.KernelIdeal.Gen

section
variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (arg1 : BitVec 32) (v101 : BitVec 32) (v103 : FVec Ideal S512x128 .bf16) (v108 : FVec Ideal S512x128 .bf16) (v121 : FVec Ideal S512x512 .bf16) (v146 : BitVec 32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (G6 : BufTy.Contents (Elt Ideal) arg6.view.ty) (G7 : BufTy.Contents (Elt Ideal) arg7.view.ty) (G8 : BufTy.Contents (Elt Ideal) arg8.view.ty)

/-- After `n` trips of the loop over the query blocks the three accumulators hold the sums over the query rows handled. -/
theorem loop_val (K V : Vec Ideal S1x1024x128 .bf16) (Q O : Vec Ideal S1x8192x128 .bf16) (old : Fin 8192 → Fin 128 → EReal)
    (hK : arg4.view.read (Elt Ideal) X4 = K) (hV : arg5.view.read (Elt Ideal) X5 = V) (hQ : arg2.view.read (Elt Ideal) X2 = Q) (hO : arg3.view.read (Elt Ideal) X3 = O)
    (h6 : ∀ a b d, arg6.view.read (Elt Ideal) G6 (ix3 a b d) = DQ (i 1).val K V Q O old (1024 * ((i 1).val + 1)) b d)
    (h7 : ∀ a b d, arg7.view.read (Elt Ideal) G7 (ix3 a b d) = DK (i 1).val K V Q O (1024 * ((i 1).val + 1)) b d)
    (h8 : ∀ a b d, arg8.view.read (Elt Ideal) G8 (ix3 a b d) = DV (i 1).val K Q O (1024 * ((i 1).val + 1)) b d) (n : ℕ) (hn : n ≤ 7 - (i 1).val) :
    (∀ a b d, arg6.view.read (Elt Ideal) (arg6.view.writes (Elt Ideal) G6 (pb_k0_t1 (F := Ideal) 𝒱 c bd i arg2 harg2 arg3 harg3 arg4 harg4 arg5 harg5 arg6 harg6 arg7 harg7 arg8 harg8 arg1 v101 v103 v108 v121 v146 X2 X3 X4 X5 G6 G7 G8 n).1) (ix3 a b d)
        = DQ (i 1).val K V Q O old (1024 * ((i 1).val + 1 + n)) b d)
    ∧ (∀ a b d, arg7.view.read (Elt Ideal) (arg7.view.writes (Elt Ideal) G7 (pb_k0_t1 (F := Ideal) 𝒱 c bd i arg2 harg2 arg3 harg3 arg4 harg4 arg5 harg5 arg6 harg6 arg7 harg7 arg8 harg8 arg1 v101 v103 v108 v121 v146 X2 X3 X4 X5 G6 G7 G8 n).2.1) (ix3 a b d)
        = DK (i 1).val K V Q O (1024 * ((i 1).val + 1 + n)) b d)
    ∧ (∀ a b d, arg8.view.read (Elt Ideal) (arg8.view.writes (Elt Ideal) G8 (pb_k0_t1 (F := Ideal) 𝒱 c bd i arg2 harg2 arg3 harg3 arg4 harg4 arg5 harg5 arg6 harg6 arg7 harg7 arg8 harg8 arg1 v101 v103 v108 v121 v146 X2 X3 X4 X5 G6 G7 G8 n).2.2) (ix3 a b d)
        = DV (i 1).val K Q O (1024 * ((i 1).val + 1 + n)) b d) := by
  rw [← trips1] at hn
  induction n with
  | zero => exact ⟨h6, h7, h8⟩
  | succ n ih =>
    obtain ⟨e6, e7, e8⟩ := ih (by omega)
    have hs := pb_k0_t1_succ (F := Ideal) 𝒱 c bd i arg2 harg2 arg3 harg3 arg4 harg4 arg5 harg5 arg6 harg6 arg7 harg7 arg8 harg8 arg1 v101 v103 v108 v121 v146 X2 X3 X4 X5 G6 G7 G8 ⟨n, by omega⟩
    rw [show (⟨n, by omega⟩ : Fin (k0_t1_loop i).trips).val + 1 = n + 1 from rfl] at hs
    rw [hs]
    refine ⟨fun a b d => ?_, fun a b d => ?_, fun a b d => ?_⟩
    · dsimp only; rw [View.writes_append]
      exact trip_dq 𝒱 c bd i arg2 harg2 arg3 harg3 arg4 harg4 arg5 harg5 arg6 harg6 arg7 harg7 arg8 harg8 arg1 v101 v103 v108 v121 v146 X2 X3 X4 X5 _ _ _ ⟨n, by omega⟩ K V Q O old hK hV hQ hO e6 a b d
    · dsimp only; rw [View.writes_append]
      exact trip_dk 𝒱 c bd i arg2 harg2 arg3 harg3 arg4 harg4 arg5 harg5 arg6 harg6 arg7 harg7 arg8 harg8 arg1 v101 v103 v108 v121 v146 X2 X3 X4 X5 _ _ _ ⟨n, by omega⟩ K V Q O hK hV hQ hO e7 a b d
    · dsimp only; rw [View.writes_append]
      exact trip_dv 𝒱 c bd i arg2 harg2 arg3 harg3 arg4 harg4 arg5 harg5 arg6 harg6 arg7 harg7 arg8 harg8 arg1 v101 v103 v108 v121 v146 X2 X3 X4 X5 _ _ _ ⟨n, by omega⟩ K Q O hK hQ hO e8 a b d

/-- The loop over a remainder of query blocks runs no trip. -/
theorem loop2_nil (n : ℕ) (hn : n = 0) : pb_k0_t2 (F := Ideal) 𝒱 c bd i arg2 harg2 arg3 harg3 arg4 harg4 arg5 harg5 arg6 harg6 arg7 harg7 arg8 harg8 arg1 v101 v103 v108 v121 v146 X2 X3 X4 X5 G6 G7 G8 n = ([], [], []) := by
  subst hn; rfl
end

end Cert.KernelIdeal.Fox
end
-- ==== Proof.FoxBody.lean ====
module

public import proofs.«01_k».proof.Proof.FoxLoop

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

/-- The grid point is the first of its head. -/
abbrev first (i : grid0.Coords) : Prop := (Scalar.cmpi .ne (Scalar.extui (Scalar.cmpi .eq (BitVec.ofNat 32 (i 1).val) 0#32)) 0#32) = 1#1

set_option maxHeartbeats 1000000 in
/-- The body at the first point of a head: what the three results hold after it, with the triple. -/
@[irreducible] def runA (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole) (hc0 : first i)
    (x0 : Vec Ideal S1x8192x128 .bf16) (x1 : Vec Ideal S1x8192x128 .bf16) (x2 : Vec Ideal S1x1024x128 .bf16) (x3 : Vec Ideal S1x1024x128 .bf16) :
    Σ' (Z6 : BufTy.Contents (Elt Ideal) arg6.view.ty) (Z7 : BufTy.Contents (Elt Ideal) arg7.view.ty), { Z8 : BufTy.Contents (Elt Ideal) arg8.view.ty // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} Z6) ∗ (arg7.view.loc (c : Thread nD τ) ↦[arg7.view.set]{fullShare} Z7) ∗ (arg8.view.loc (c : Thread nD τ) ↦[arg8.view.set]{fullShare} Z8)) -∗ K ⟨⟩))
          ⊢ wp frame (wpE (defs₀ (F := Ideal)) Variants.none c none) E (cc0_attn_bwd i arg2 harg2 arg3 harg3 arg4 harg4 arg5 harg5 arg6 harg6 arg7 harg7 arg8 harg8) K } := by
  refine ⟨?_, ?_, ?_, fun E K => ?run⟩
  case run =>
    simp only [cc0_attn_bwd_eq_skeleton]; unfold cc0_attn_bwd_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [H5]
    · iexact H5
    iexact H6

set_option maxHeartbeats 1000000 in
/-- The body at a later point of a head: what the three results hold after it, with the triple. -/
@[irreducible] def runB (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole) (hc0 : ¬ first i)
    (x0 : Vec Ideal S1x8192x128 .bf16) (x1 : Vec Ideal S1x8192x128 .bf16) (x2 : Vec Ideal S1x1024x128 .bf16) (x3 : Vec Ideal S1x1024x128 .bf16) (x4 : Vec Ideal S1x8192x128 .f32) :
    Σ' (Z6 : BufTy.Contents (Elt Ideal) arg6.view.ty) (Z7 : BufTy.Contents (Elt Ideal) arg7.view.ty), { Z8 : BufTy.Contents (Elt Ideal) arg8.view.ty // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} Z6) ∗ (arg7.view.loc (c : Thread nD τ) ↦[arg7.view.set]{fullShare} Z7) ∗ (arg8.view.loc (c : Thread nD τ) ↦[arg8.view.set]{fullShare} Z8)) -∗ K ⟨⟩))
          ⊢ wp frame (wpE (defs₀ (F := Ideal)) Variants.none c none) E (cc0_attn_bwd i arg2 harg2 arg3 harg3 arg4 harg4 arg5 harg5 arg6 harg6 arg7 harg7 arg8 harg8) K } := by
  refine ⟨?_, ?_, ?_, fun E K => ?run⟩
  case run =>
    simp only [cc0_attn_bwd_eq_skeleton]; unfold cc0_attn_bwd_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [H5]
    · iexact H5
    iexact H6

end Cert.KernelIdeal.Fox
end
-- ==== Proof.FoxDiag.lean ====
module

public import proofs.«01_k».proof.Proof.FoxBody

@[expose] public section

set_option maxRecDepth 16384
set_option backward.isDefEq.respectTransparency.types false

noncomputable section

namespace Cert.KernelIdeal.Fox

open Idealize.ShloMosaic Idealize.ShloMosaic.TcCoe Idealize.ShloMosaic.Tactic
open Idealize.ShloMosaic.Rounds
open Cert.KernelIdeal.Gen

theorem rowd1 (i : grid0.Coords) : BitVec.toNat (Scalar.indexCast (Scalar.muli (BitVec.ofNat 32 (i 1).val) 1024#32)) = 1024 * (i 1).val := by
  have : ∀ j : Fin 8, BitVec.toNat (Scalar.indexCast (Scalar.muli (BitVec.ofNat 32 j.val) 1024#32)) = 1024 * j.val := by decide +kernel
  exact this (i 1)

theorem rowd2 (i : grid0.Coords) : BitVec.toNat (Scalar.indexCast (Scalar.addi (Scalar.muli (BitVec.ofNat 32 (i 1).val) 1024#32) 512#32)) = 1024 * (i 1).val + 512 := by
  have : ∀ j : Fin 8, BitVec.toNat (Scalar.indexCast (Scalar.addi (Scalar.muli (BitVec.ofNat 32 j.val) 1024#32) 512#32)) = 1024 * j.val + 512 := by decide +kernel
  exact this (i 1)

theorem diag8 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (x0 : Vec Ideal S1x8192x128 .bf16) (x1 : Vec Ideal S1x8192x128 .bf16) (x2 : Vec Ideal S1x1024x128 .bf16) (x3 : Vec Ideal S1x1024x128 .bf16) (a : Fin 1) (b : Fin 1024) (d : Fin 128) :
    arg8.view.read (Elt Ideal) (arg8.view.writes (Elt Ideal) arg8.view.junk (runB.sl.H6_4 c i arg2 harg2 arg3 harg3 arg4 harg4 arg8 x0 x1 x2)) (ix3 a b d)
      = DV (i 1).val x2 x0 x1 (1024 * ((i 1).val + 1)) b d := by
  sl_unfold_words
  have hj : (i 1).val < 8 := (i 1).isLt
  by_cases hb : b.val < 512
  · refine (wr_neg _ _ _ _ _ _ _ _ _ (by omega)).trans ?_
    refine (wr_pos _ _ _ _ _ _ _ _ _ (by omega)).trans ?_
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := omega) only [sel_le]
    refine diag_lo (fun t => FloatOps.exp2 (F := Ideal) (φ := .f32) (sc x2 x0 b t) * x1 (ix3 0 t d)) (fun t => _) (i 1).val hj b.val hb fun t => ?_
    simp only [ds, wt, ite_mul, zero_mul]
  · refine (wr_pos _ _ _ _ _ _ _ _ _ (by omega)).trans ?_
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    try simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    have e5 : 512 + (b.val - 512) = b.val := by omega
    simp (disch := omega) only [sel_le, e5, Fin.eta]
    refine diag_hi (fun t => FloatOps.exp2 (F := Ideal) (φ := .f32) (sc x2 x0 b t) * x1 (ix3 0 t d)) (fun t => _) (i 1).val hj b.val (by omega) fun t => ?_
    simp only [ds, wt, ite_mul, zero_mul]

theorem diag7 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (x0 : Vec Ideal S1x8192x128 .bf16) (x1 : Vec Ideal S1x8192x128 .bf16) (x2 : Vec Ideal S1x1024x128 .bf16) (x3 : Vec Ideal S1x1024x128 .bf16) (a : Fin 1) (b : Fin 1024) (d : Fin 128) :
    arg7.view.read (Elt Ideal) (arg7.view.writes (Elt Ideal) arg7.view.junk (runB.sl.H5_4 c i arg2 harg2 arg3 harg3 arg4 harg4 arg5 harg5 arg7 x0 x1 x2 x3)) (ix3 a b d)
      = DK (i 1).val x2 x3 x0 x1 (1024 * ((i 1).val + 1)) b d := by
  sl_unfold_words
  have hj : (i 1).val < 8 := (i 1).isLt
  by_cases hb : b.val < 512
  · refine (wr_neg _ _ _ _ _ _ _ _ _ (by omega)).trans ?_
    refine (wr_pos _ _ _ _ _ _ _ _ _ (by omega)).trans ?_
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := omega) only [sel_le]
    refine diag_lo (fun t => FloatOps.exp2 (F := Ideal) (φ := .f32) (sc x2 x0 b t) * sc x3 x1 b t * x0 (ix3 0 t d)) (fun t => _) (i 1).val hj b.val hb fun t => ?_
    simp only [ds, wt, ite_mul, zero_mul]
  · refine (wr_pos _ _ _ _ _ _ _ _ _ (by omega)).trans ?_
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    try simp (disch := (dsimp only; omega)) only [rd, rdc, wr_pos, wr_neg, rowd1, rowd2, harg2.read_unread, harg3.read_unread, harg4.read_unread, harg5.read_unread]
    pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    have e5 : 512 + (b.val - 512) = b.val := by omega
    simp (disch := omega) only [sel_le, e5, Fin.eta]
    refine diag_hi (fun t => FloatOps.exp2 (F := Ideal) (φ := .f32) (sc x2 x0 b t) * sc x3 x1 b t * x0 (ix3 0 t d)) (fun t => _) (i 1).val hj b.val (by omega) fun t => ?_
    simp only [ds, wt, ite_mul, zero_mul]

end Cert.KernelIdeal.Fox
end
-- ==== Proof.FoxDq.lean ====
module

public import proofs.«01_k».proof.Proof.FoxDiag

@[expose] public section

set_option maxRecDepth 16384
set_option backward.isDefEq.respectTransparency.types false

noncomputable section

namespace Cert.KernelIdeal.Fox

open Idealize.ShloMosaic Idealize.ShloMosaic.TcCoe Idealize.ShloMosaic.Tactic
open Idealize.ShloMosaic.Rounds
open Cert.KernelIdeal.Gen

theorem off1_eq (i : grid0.Coords) : k0_off1 i = ![0, 1024 * (i 1).val, 0] := by
  rw [← rowd1 i]; rfl

theorem off2_eq (i : grid0.Coords) : k0_off2 i = ![0, 1024 * (i 1).val + 512, 0] := by
  rw [← rowd2 i]; rfl

/-- After a store of a block of rows at an offset of a known value, a row of the block reads the payload. -/
theorem wo_pos {κ : Kind} {sp : Space} {N M : ℕ} {e : EltTy} (v : View sig κ sp ⟨3, ![1, N, 128]⟩ e) (f : v.ty.Contents (Elt Ideal)) (off : Fin 3 → ℕ) (n : ℕ) (ho : off = ![0, n, 0])
    (inb : ∀ a : Fin 3, off a + (![1, M, 128] : Fin 3 → ℕ) a ≤ (![1, N, 128] : Fin 3 → ℕ) a)
    (w : (Rect.unit (s := ⟨3, ![1, N, 128]⟩) off ![1, M, 128] inb).shape.Idx → Elt Ideal e) (L : List (View.Piece (Elt Ideal) ⟨3, ![1, N, 128]⟩ e)) (a : Fin 1) (b : Fin N) (d : Fin 128) (h : n ≤ b.val ∧ b.val < n + M) :
    v.read (Elt Ideal) (v.writes (Elt Ideal) f (⟨Rect.unit (s := ⟨3, ![1, N, 128]⟩) off ![1, M, 128] inb, w⟩ :: L)) (ix3 a b d)
      = w (ix3 0 (⟨b.val - n, by omega⟩ : Fin M) d) := by
  subst ho; exact wr_pos v f n inb w L a b d h

/-- After a store of a block of rows at an offset of a known value, a row outside the block reads what the earlier stores left. -/
theorem wo_neg {κ : Kind} {sp : Space} {N M : ℕ} {e : EltTy} (v : View sig κ sp ⟨3, ![1, N, 128]⟩ e) (f : v.ty.Contents (Elt Ideal)) (off : Fin 3 → ℕ) (n : ℕ) (ho : off = ![0, n, 0])
    (inb : ∀ a : Fin 3, off a + (![1, M, 128] : Fin 3 → ℕ) a ≤ (![1, N, 128] : Fin 3 → ℕ) a)
    (w : (Rect.unit (s := ⟨3, ![1, N, 128]⟩) off ![1, M, 128] inb).shape.Idx → Elt Ideal e) (L : List (View.Piece (Elt Ideal) ⟨3, ![1, N, 128]⟩ e)) (a : Fin 1) (b : Fin N) (d : Fin 128) (h : b.val < n ∨ n + M ≤ b.val) :
    v.read (Elt Ideal) (v.writes (Elt Ideal) f (⟨Rect.unit (s := ⟨3, ![1, N, 128]⟩) off ![1, M, 128] inb, w⟩ :: L)) (ix3 a b d)
      = v.read (Elt Ideal) (v.writes (Elt Ideal) f L) (ix3 a b d) := by
  subst ho; exact wr_neg v f n inb w L a b d h

/-- A sum over a block of keys is the sums over its halves. -/
theorem sum_halves (f : Fin 1024 → EReal) : (∑ a, f a) = (∑ x : Fin 512, f ⟨x.val, by omega⟩) + ∑ x : Fin 512, f ⟨512 + x.val, by omega⟩ :=
  Fin.sum_univ_add (a := 512) (b := 512) f

/-- A query row of the diagonal block's second half sees every key row of the first half and those of the second up to itself. -/
theorem dq_hi (j : ℕ) (K V : Vec Ideal S1x1024x128 .bf16) (Q O : Vec Ideal S1x8192x128 .bf16) (old : Fin 8192 → Fin 128 → EReal) (b : Fin 8192) (d : Fin 128) (hb : 1024 * j + 512 ≤ b.val) (hb' : b.val < 1024 * (j + 1)) :
    old b d + (∑ x : Fin 512, (FloatOps.exp2 (F := Ideal) (φ := .f32) (sc K Q ⟨x.val, by omega⟩ b) * sc V O ⟨x.val, by omega⟩ b) * K (ix3 0 ⟨x.val, by omega⟩ d))
      + (∑ x : Fin 512, if x.val ≤ b.val - (1024 * j + 512) then (FloatOps.exp2 (F := Ideal) (φ := .f32) (sc K Q ⟨512 + x.val, by omega⟩ b) * sc V O ⟨512 + x.val, by omega⟩ b) * K (ix3 0 ⟨512 + x.val, by omega⟩ d) else 0)
      = DQ j K V Q O old (1024 * (j + 1)) b d := by
  unfold DQ
  rw [if_pos hb', sum_halves, add_assoc]
  congr 2
  · refine Finset.sum_congr rfl fun x _ => ?_
    rw [ds, wt, if_pos (by show 1024 * j + x.val ≤ _; omega)]
  · refine Finset.sum_congr rfl fun x _ => ?_
    simp only [ds, wt, ite_mul, zero_mul]
    exact if_congr (by omega) rfl rfl

/-- A query row of the diagonal block's first half sees the key rows up to itself. -/
theorem dq_lo (j : ℕ) (K V : Vec Ideal S1x1024x128 .bf16) (Q O : Vec Ideal S1x8192x128 .bf16) (old : Fin 8192 → Fin 128 → EReal) (b : Fin 8192) (d : Fin 128) (hb : 1024 * j ≤ b.val) (hb' : b.val < 1024 * j + 512) :
    old b d + (∑ x : Fin 512, if x.val ≤ b.val - 1024 * j then (FloatOps.exp2 (F := Ideal) (φ := .f32) (sc K Q ⟨x.val, by omega⟩ b) * sc V O ⟨x.val, by omega⟩ b) * K (ix3 0 ⟨x.val, by omega⟩ d) else 0)
      = DQ j K V Q O old (1024 * (j + 1)) b d := by
  unfold DQ
  rw [if_pos (by omega), sum_halves, (Finset.sum_eq_zero (s := Finset.univ) (f := fun x : Fin 512 => ds j K V Q O ⟨512 + x.val, by omega⟩ b * K (ix3 0 ⟨512 + x.val, by omega⟩ d)) fun x _ => ?_), add_zero]
  · congr 1
    refine Finset.sum_congr rfl fun x _ => ?_
    simp only [ds, wt, ite_mul, zero_mul]
    exact if_congr (by omega) rfl rfl
  · rw [ds, wt, if_neg (by show ¬ 1024 * j + (512 + x.val) ≤ _; omega), zero_mul, zero_mul]

/-- A query row outside the diagonal block keeps what it had. -/
theorem dq_out (j : ℕ) (K V : Vec Ideal S1x1024x128 .bf16) (Q O : Vec Ideal S1x8192x128 .bf16) (old : Fin 8192 → Fin 128 → EReal) (b : Fin 8192) (d : Fin 128) (hb : b.val < 1024 * j ∨ 1024 * (j + 1) ≤ b.val) :
    old b d = DQ j K V Q O old (1024 * (j + 1)) b d := by
  unfold DQ
  split_ifs with h
  · rw [Finset.sum_eq_zero fun x _ => ?_, add_zero]
    rw [ds, wt, if_neg (by omega), zero_mul, zero_mul]
  · rfl

/-- What the diagonal block leaves in the result for the queries. -/
theorem diag6A (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (x0 : Vec Ideal S1x8192x128 .bf16) (x1 : Vec Ideal S1x8192x128 .bf16) (x2 : Vec Ideal S1x1024x128 .bf16) (x3 : Vec Ideal S1x1024x128 .bf16) (a : Fin 1) (b : Fin 8192) (d : Fin 128) :
    arg6.view.read (Elt Ideal) (arg6.view.writes (Elt Ideal) arg6.view.junk (⟨Rect.unit (s := S1x8192x128) (k0_off2 i) S1x512x128.size (k0_off2_inb i), k0_pay44 (runA.sl.r_7 c arg4 harg4 x2) (runA.sl.r_9 c i arg2 harg2 arg3 harg3 arg4 harg4 arg5 harg5 x0 x1 x2 x3) (runA.sl.v138 c i arg2 harg2 arg3 harg3 arg4 harg4 arg5 harg5 arg6 x0 x1 x2 x3)⟩ :: runA.sl.H4_3 c i arg2 harg2 arg3 harg3 arg4 harg4 arg5 harg5 arg6 x0 x1 x2 x3)) (ix3 a b d)
      = DQ (i 1).val x2 x3 x0 x1 (fun _ _ => 0) (1024 * ((i 1).val + 1)) b d := by
  have hj : (i 1).val < 8 := (i 1).isLt
  have r1 := rowd1 i
  have r2 := rowd2 i
  obtain ⟨old, hold⟩ : ∃ old : Fin 8192 → Fin 128 → EReal, old = (fun _ _ => 0) := ⟨_, rfl⟩
  rw [← hold]
  by_cases hb : b.val < 1024 * (i 1).val ∨ 1024 * ((i 1).val + 1) ≤ b.val
  · refine Eq.trans ?_ (dq_out (i 1).val x2 x3 x0 x1 old b d hb)
    sl_unfold_words
    refine (wo_neg _ _ _ _ (off2_eq i) _ _ _ _ _ _ (by omega)).trans ?_
    refine (wo_neg _ _ _ _ (off2_eq i) _ _ _ _ _ _ (by omega)).trans ?_
    refine (wo_neg _ _ _ _ (off1_eq i) _ _ _ _ _ _ (by omega)).trans ?_
    refine (wr_pos _ _ _ _ _ _ _ _ _ (by have := b.isLt; omega)).trans ?_
    pointwise [k0_pay16]
    rw [hold]
  by_cases hb2 : b.val < 1024 * (i 1).val + 512
  · refine Eq.trans ?_ (dq_lo (i 1).val x2 x3 x0 x1 old b d (by omega) hb2)
    sl_unfold_words
    refine (wo_neg _ _ _ _ (off2_eq i) _ _ _ _ _ _ (by omega)).trans ?_
    refine (wo_neg _ _ _ _ (off2_eq i) _ _ _ _ _ _ (by omega)).trans ?_
    refine (wo_pos _ _ _ _ (off1_eq i) _ _ _ _ _ _ (by omega)).trans ?_
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread, harg6.read_unread, View.writes_nil]
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    have e1 : 1024 * (i 1).val + (b.val - 1024 * (i 1).val) = b.val := by omega
    simp (disch := omega) only [sel_le, e1, Fin.eta]
    rw [hold]; refine Eq.trans ?_ (zero_add (M := EReal) _).symm; rfl
  · refine Eq.trans ?_ (dq_hi (i 1).val x2 x3 x0 x1 old b d (by omega) (by omega))
    sl_unfold_words
    have e2 : 1024 * (i 1).val + 512 + (b.val - (1024 * (i 1).val + 512)) = b.val := by omega
    refine (wo_pos _ _ _ _ (off2_eq i) _ _ _ _ _ _ (by omega)).trans ?_
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    refine congrArg₂ (· + ·) ?_ ?_
    · simp only [rd, rdc, rowd2, e2, Fin.eta]
      refine (wo_pos _ _ _ _ (off2_eq i) _ _ _ _ _ _ (by omega)).trans ?_
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
      refine congrArg₂ (· + ·) ?_ ?_
      · simp only [rd, rdc, rowd2, e2, Fin.eta]
        refine (wo_neg _ _ _ _ (off1_eq i) _ _ _ _ _ _ (by omega)).trans ?_
        refine (wr_pos _ _ _ _ _ _ _ _ _ (by have := b.isLt; omega)).trans ?_
        pointwise [k0_pay16]
        rw [hold]
      · simp only [rd, rdc, rowd1, rowd2, harg2.read_unread, harg3.read_unread, harg4.read_unread, harg5.read_unread, e2, Nat.zero_add, Fin.eta]
        rfl
    · simp only [rd, rdc, rowd1, rowd2, harg2.read_unread, harg3.read_unread, harg4.read_unread, harg5.read_unread, e2, Nat.zero_add, Fin.eta]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
      simp (disch := omega) only [sel_le]
      rfl

/-- What the diagonal block leaves in the result for the queries. -/
theorem diag6B (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (x0 : Vec Ideal S1x8192x128 .bf16) (x1 : Vec Ideal S1x8192x128 .bf16) (x2 : Vec Ideal S1x1024x128 .bf16) (x3 : Vec Ideal S1x1024x128 .bf16) (x4 : Vec Ideal S1x8192x128 .f32) (a : Fin 1) (b : Fin 8192) (d : Fin 128) :
    arg6.view.read (Elt Ideal) (arg6.view.writes (Elt Ideal) (harg6.unread x4) (⟨Rect.unit (s := S1x8192x128) (k0_off2 i) S1x512x128.size (k0_off2_inb i), k0_pay44 (runB.sl.r_7 c arg4 harg4 x2) (runB.sl.r_9 c i arg2 harg2 arg3 harg3 arg4 harg4 arg5 harg5 x0 x1 x2 x3) (runB.sl.v138 c i arg2 harg2 arg3 harg3 arg4 harg4 arg5 harg5 arg6 harg6 x0 x1 x2 x3 x4)⟩ :: runB.sl.H4_2 c i arg2 harg2 arg3 harg3 arg4 harg4 arg5 harg5 arg6 harg6 x0 x1 x2 x3 x4)) (ix3 a b d)
      = DQ (i 1).val x2 x3 x0 x1 (fun b d => x4 (ix3 0 b d)) (1024 * ((i 1).val + 1)) b d := by
  have hj : (i 1).val < 8 := (i 1).isLt
  have r1 := rowd1 i
  have r2 := rowd2 i
  obtain ⟨old, hold⟩ : ∃ old : Fin 8192 → Fin 128 → EReal, old = (fun b d => x4 (ix3 0 b d)) := ⟨_, rfl⟩
  rw [← hold]
  by_cases hb : b.val < 1024 * (i 1).val ∨ 1024 * ((i 1).val + 1) ≤ b.val
  · refine Eq.trans ?_ (dq_out (i 1).val x2 x3 x0 x1 old b d hb)
    sl_unfold_words
    refine (wo_neg _ _ _ _ (off2_eq i) _ _ _ _ _ _ (by omega)).trans ?_
    refine (wo_neg _ _ _ _ (off2_eq i) _ _ _ _ _ _ (by omega)).trans ?_
    refine (wo_neg _ _ _ _ (off1_eq i) _ _ _ _ _ _ (by omega)).trans ?_
    rw [View.writes_nil, harg6.read_unread, show a = 0 from Subsingleton.elim _ _, hold]
  by_cases hb2 : b.val < 1024 * (i 1).val + 512
  · refine Eq.trans ?_ (dq_lo (i 1).val x2 x3 x0 x1 old b d (by omega) hb2)
    sl_unfold_words
    refine (wo_neg _ _ _ _ (off2_eq i) _ _ _ _ _ _ (by omega)).trans ?_
    refine (wo_neg _ _ _ _ (off2_eq i) _ _ _ _ _ _ (by omega)).trans ?_
    refine (wo_pos _ _ _ _ (off1_eq i) _ _ _ _ _ _ (by omega)).trans ?_
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp (disch := (dsimp only; omega)) only [rd, rdc, wr_pos, wr_neg, rowd1, rowd2, harg2.read_unread, harg3.read_unread, harg4.read_unread, harg5.read_unread, harg6.read_unread, View.writes_nil]
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    have e1 : 1024 * (i 1).val + (b.val - 1024 * (i 1).val) = b.val := by omega
    simp (disch := omega) only [sel_le, e1, Fin.eta]
    rw [hold]; rfl
  · refine Eq.trans ?_ (dq_hi (i 1).val x2 x3 x0 x1 old b d (by omega) (by omega))
    sl_unfold_words
    have e2 : 1024 * (i 1).val + 512 + (b.val - (1024 * (i 1).val + 512)) = b.val := by omega
    refine (wo_pos _ _ _ _ (off2_eq i) _ _ _ _ _ _ (by omega)).trans ?_
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    refine congrArg₂ (· + ·) ?_ ?_
    · simp only [rd, rdc, rowd2, e2, Fin.eta]
      refine (wo_pos _ _ _ _ (off2_eq i) _ _ _ _ _ _ (by omega)).trans ?_
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
      refine congrArg₂ (· + ·) ?_ ?_
      · simp only [rd, rdc, rowd2, e2, Fin.eta]
        rw [harg6.read_unread, hold]
      · simp only [rd, rdc, rowd1, rowd2, harg2.read_unread, harg3.read_unread, harg4.read_unread, harg5.read_unread, e2, Nat.zero_add, Fin.eta]
        rfl
    · simp only [rd, rdc, rowd1, rowd2, harg2.read_unread, harg3.read_unread, harg4.read_unread, harg5.read_unread, e2, Nat.zero_add, Fin.eta]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
      simp (disch := omega) only [sel_le]
      rfl

end Cert.KernelIdeal.Fox
end
-- ==== Proof.FoxVal.lean ====
module

public import proofs.«01_k».proof.Proof.FoxDq

@[expose] public section

set_option maxRecDepth 16384
set_option backward.isDefEq.respectTransparency.types false

noncomputable section

namespace Cert.KernelIdeal.Fox

open Idealize.ShloMosaic Idealize.ShloMosaic.TcCoe Idealize.ShloMosaic.Tactic
open Idealize.ShloMosaic.Rounds
open Cert.KernelIdeal.Gen

/-- The key gradient's factor: the base two is undone on the lanes of the keys and not on the lanes that carry the row sums. -/
def fac (d : Fin 128) : EReal := if d.val < 64 then ((Real.log 2 : ℝ) : EReal) else 1

theorem fac_eq (d : Fin 128) : Scalar.select (IntOp.cmpi CmpIPredicate.slt (BitVec.ofNat 32 d.val) 64#32) (Named.named (F := Ideal) (φ := .f32) κ "ln2" 0x3F317218#32) (1 : EReal) = fac d := by
  have h : ∀ d : Fin 128, IntOp.cmpi CmpIPredicate.slt (BitVec.ofNat 32 d.val) 64#32 = if d.val < 64 then 1#1 else 0#1 := by decide +kernel
  rw [h, IdealRules.named_const.ideal_named_scalar _ _ _ _ rfl, fac]
  split <;> rfl

set_option maxHeartbeats 1600000 in
theorem valA (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (hc0 : first i) (x0 : Vec Ideal S1x8192x128 .bf16) (x1 : Vec Ideal S1x8192x128 .bf16) (x2 : Vec Ideal S1x1024x128 .bf16) (x3 : Vec Ideal S1x1024x128 .bf16) :
    (∀ a b d, arg6.view.read (Elt Ideal) (runA c i arg2 harg2 arg3 harg3 arg4 harg4 arg5 harg5 arg6 harg6 arg7 harg7 arg8 harg8 hc0 x0 x1 x2 x3).1 (ix3 a b d) = DQ (i 1).val x2 x3 x0 x1 (fun _ _ => 0) 8192 b d)
    ∧ (∀ a b d, arg7.view.read (Elt Ideal) (runA c i arg2 harg2 arg3 harg3 arg4 harg4 arg5 harg5 arg6 harg6 arg7 harg7 arg8 harg8 hc0 x0 x1 x2 x3).2.1 (ix3 a b d) = DK (i 1).val x2 x3 x0 x1 8192 b d * fac d)
    ∧ (∀ a b d, arg8.view.read (Elt Ideal) (runA c i arg2 harg2 arg3 harg3 arg4 harg4 arg5 harg5 arg6 harg6 arg7 harg7 arg8 harg8 hc0 x0 x1 x2 x3).2.2.1 (ix3 a b d) = DV (i 1).val x2 x0 x1 8192 b d) := by
  have hj : (i 1).val < 8 := (i 1).isLt
  have hB : 1024 * ((i 1).val + 1 + (k0_t1_loop i).trips) = 8192 := by rw [trips1]; omega
  unfold runA
  dsimp only
  refine ⟨fun a b d => ?_, fun a b d => ?_, fun a b d => ?_⟩
  · rw [View.writes_append, loop2_nil (hn := trips2 i)]
    rw [View.writes_nil, View.writes_append]
    refine ((loop_val _ _ _ _ _ _ _ _ _ _ _ _ _ _ _ _ _ _ _ _ _ _ _ _ _ _ _ _ _ _ _ x2 x3 x0 x1 (fun _ _ => 0) (harg4.read_unread _) (harg5.read_unread _) (harg2.read_unread _) (harg3.read_unread _) (diag6A c i arg2 harg2 arg3 harg3 arg4 harg4 arg5 harg5 arg6 harg6 x0 x1 x2 x3) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).1 _ _ _).trans ?_
    rw [hB]
  · rw [View.read_writes_full]
    unfold runA.sl.r_10
    pointwise [k0_pay1, k0_pay49]
    rw [fac_eq]
    refine congrArg (· * fac d) ?_
    unfold runA.sl.v153
    refine (rdc _ _ _ _ _ _ _).trans ?_
    rw [loop2_nil (n := Scf.trips (k0_t2_loop i).lb (k0_t2_loop i).ub (k0_t2_loop i).st) (hn := trips2 i)]
    refine (congrArg (fun f => arg7.view.read (Elt Ideal) f _) (View.writes_append _ _ _ _)).trans ?_
    refine (congrArg (fun f => arg7.view.read (Elt Ideal) f _) (View.writes_nil _ _)).trans ?_
    rw [View.writes_append (L' := runA.sl.H5_4 c i arg2 harg2 arg3 harg3 arg4 harg4 arg5 harg5 arg7 x0 x1 x2 x3)]
    refine ((loop_val _ _ _ _ _ _ _ _ _ _ _ _ _ _ _ _ _ _ _ _ _ _ _ _ _ _ _ _ _ _ _ x2 x3 x0 x1 (fun _ _ => 0) (harg4.read_unread _) (harg5.read_unread _) (harg2.read_unread _) (harg3.read_unread _) (diag6A c i arg2 harg2 arg3 harg3 arg4 harg4 arg5 harg5 arg6 harg6 x0 x1 x2 x3) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).2.1 _ _ _).trans ?_
    refine (congrArg (fun B => DK (i 1).val x2 x3 x0 x1 B _ d) hB).trans ?_
    simp only [Nat.zero_add, Fin.eta]
  · rw [View.writes_append, loop2_nil (hn := trips2 i)]
    rw [View.writes_nil, View.writes_append]
    refine ((loop_val _ _ _ _ _ _ _ _ _ _ _ _ _ _ _ _ _ _ _ _ _ _ _ _ _ _ _ _ _ _ _ x2 x3 x0 x1 (fun _ _ => 0) (harg4.read_unread _) (harg5.read_unread _) (harg2.read_unread _) (harg3.read_unread _) (diag6A c i arg2 harg2 arg3 harg3 arg4 harg4 arg5 harg5 arg6 harg6 x0 x1 x2 x3) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).2.2 _ _ _).trans ?_
    rw [hB]

set_option maxHeartbeats 1600000 in
theorem valB (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x8192x128 .f32) (harg6 : arg6.IsWhole) (arg7 : Memref sig .tc .vmem S1x1024x128 .f32) (harg7 : arg7.IsWhole) (arg8 : Memref sig .tc .vmem S1x1024x128 .f32) (harg8 : arg8.IsWhole)
    (hc0 : ¬ first i) (x0 : Vec Ideal S1x8192x128 .bf16) (x1 : Vec Ideal S1x8192x128 .bf16) (x2 : Vec Ideal S1x1024x128 .bf16) (x3 : Vec Ideal S1x1024x128 .bf16) (x4 : Vec Ideal S1x8192x128 .f32) :
    (∀ a b d, arg6.view.read (Elt Ideal) (runB c i arg2 harg2 arg3 harg3 arg4 harg4 arg5 harg5 arg6 harg6 arg7 harg7 arg8 harg8 hc0 x0 x1 x2 x3 x4).1 (ix3 a b d) = DQ (i 1).val x2 x3 x0 x1 (fun b d => x4 (ix3 0 b d)) 8192 b d)
    ∧ (∀ a b d, arg7.view.read (Elt Ideal) (runB c i arg2 harg2 arg3 harg3 arg4 harg4 arg5 harg5 arg6 harg6 arg7 harg7 arg8 harg8 hc0 x0 x1 x2 x3 x4).2.1 (ix3 a b d) = DK (i 1).val x2 x3 x0 x1 8192 b d * fac d)
    ∧ (∀ a b d, arg8.view.read (Elt Ideal) (runB c i arg2 harg2 arg3 harg3 arg4 harg4 arg5 harg5 arg6 harg6 arg7 harg7 arg8 harg8 hc0 x0 x1 x2 x3 x4).2.2.1 (ix3 a b d) = DV (i 1).val x2 x0 x1 8192 b d) := by
  have hj : (i 1).val < 8 := (i 1).isLt
  have hB : 1024 * ((i 1).val + 1 + (k0_t1_loop i).trips) = 8192 := by rw [trips1]; omega
  unfold runB
  dsimp only
  refine ⟨fun a b d => ?_, fun a b d => ?_, fun a b d => ?_⟩
  · rw [View.writes_append, loop2_nil (hn := trips2 i)]
    rw [View.writes_nil, View.writes_append]
    refine ((loop_val _ _ _ _ _ _ _ _ _ _ _ _ _ _ _ _ _ _ _ _ _ _ _ _ _ _ _ _ _ _ _ x2 x3 x0 x1 (fun b d => x4 (ix3 0 b d)) (harg4.read_unread _) (harg5.read_unread _) (harg2.read_unread _) (harg3.read_unread _) (diag6B c i arg2 harg2 arg3 harg3 arg4 harg4 arg5 harg5 arg6 harg6 x0 x1 x2 x3 x4) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).1 _ _ _).trans ?_
    rw [hB]
  · rw [View.read_writes_full]
    unfold runB.sl.r_10
    pointwise [k0_pay1, k0_pay49]
    rw [fac_eq]
    refine congrArg (· * fac d) ?_
    unfold runB.sl.v153
    refine (rdc _ _ _ _ _ _ _).trans ?_
    rw [loop2_nil (n := Scf.trips (k0_t2_loop i).lb (k0_t2_loop i).ub (k0_t2_loop i).st) (hn := trips2 i)]
    refine (congrArg (fun f => arg7.view.read (Elt Ideal) f _) (View.writes_append _ _ _ _)).trans ?_
    refine (congrArg (fun f => arg7.view.read (Elt Ideal) f _) (View.writes_nil _ _)).trans ?_
    rw [View.writes_append (L' := runB.sl.H5_4 c i arg2 harg2 arg3 harg3 arg4 harg4 arg5 harg5 arg7 x0 x1 x2 x3)]
    refine ((loop_val _ _ _ _ _ _ _ _ _ _ _ _ _ _ _ _ _ _ _ _ _ _ _ _ _ _ _ _ _ _ _ x2 x3 x0 x1 (fun b d => x4 (ix3 0 b d)) (harg4.read_unread _) (harg5.read_unread _) (harg2.read_unread _) (harg3.read_unread _) (diag6B c i arg2 harg2 arg3 harg3 arg4 harg4 arg5 harg5 arg6 harg6 x0 x1 x2 x3 x4) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).2.1 _ _ _).trans ?_
    refine (congrArg (fun B => DK (i 1).val x2 x3 x0 x1 B _ d) hB).trans ?_
    simp only [Nat.zero_add, Fin.eta]
  · rw [View.writes_append, loop2_nil (hn := trips2 i)]
    rw [View.writes_nil, View.writes_append]
    refine ((loop_val _ _ _ _ _ _ _ _ _ _ _ _ _ _ _ _ _ _ _ _ _ _ _ _ _ _ _ _ _ _ _ x2 x3 x0 x1 (fun b d => x4 (ix3 0 b d)) (harg4.read_unread _) (harg5.read_unread _) (harg2.read_unread _) (harg3.read_unread _) (diag6B c i arg2 harg2 arg3 harg3 arg4 harg4 arg5 harg5 arg6 harg6 x0 x1 x2 x3 x4) (diag7 c i arg2 harg2 arg3 harg3 arg4 harg4 arg5 harg5 arg6 harg6 arg7 harg7 arg8 harg8 x0 x1 x2 x3) (diag8 c i arg2 harg2 arg3 harg3 arg4 harg4 arg5 harg5 arg6 harg6 arg7 harg7 arg8 harg8 x0 x1 x2 x3) _ (trips1 i).le).2.2 _ _ _).trans ?_
    rw [hB]

end Cert.KernelIdeal.Fox
end
-- ==== Proof.FoxTile.lean ====
module

public import proofs.«01_k».proof.Proof.FoxLanes
public import proofs.«01_k».proof.Proof.FoxVal

@[expose] public section

set_option backward.isDefEq.respectTransparency.types false

noncomputable section

namespace Cert.KernelIdeal.Fox

open Idealize.ShloMosaic Idealize.ShloMosaic.TcCoe Cert.KernelIdeal Cert.KernelIdeal.Gen Cert.Fox

/-! One grid point's blocks, when the operands' lanes are real numbers. -/

/-- Row `a` of key block `j`. -/
def krow (j : ℕ) (hj : j < 8) (a : Fin 1024) : Fin 8192 := ⟨1024 * j + a.val, by omega⟩

variable (q k v g : Fin 8192 → Fin 64 → ℝ) (F M l : Fin 8192 → ℝ) (j : ℕ) (hj : j < 8)
  (K V : Vec Ideal S1x1024x128 .bf16) (Q O : Vec Ideal S1x8192x128 .bf16)
  (hl : ∀ b, l b = (M b + Real.log (∑ u, ex q k F M b u) - F b) / Real.log 2)
  (hQ : ∀ b d, Q (ix3 0 b d) = (laneQ (fun e => q b e / Real.log 2) (l b) d : EReal))
  (hK : ∀ a d, K (ix3 0 a d) = (laneK (k (krow j hj a)) (-(F (krow j hj a) / Real.log 2)) d : EReal))
  (hV : ∀ a d, V (ix3 0 a d) = (laneV (v (krow j hj a)) d : EReal))
  (hO : ∀ b d, O (ix3 0 b d) = (laneO (g b) (dlt q k v g F b) d : EReal))

include hl hQ hK in
theorem wt_eq (a : Fin 1024) (b : Fin 8192) : wt j K Q a b = (pr q k F b (krow j hj a) : EReal) := by
  have e : sc K Q a b = (((∑ d, k (krow j hj a) d * (q b d / Real.log 2)) + -(F (krow j hj a) / Real.log 2) - l b : ℝ) : EReal) := by
    rw [← sum_KQ, coe_sum]
    unfold sc
    refine Finset.sum_congr rfl fun d _ => ?_
    rw [hK, hQ, ← EReal.coe_mul]
  unfold wt
  by_cases h : 1024 * j + a.val ≤ b.val
  · rw [if_pos h, e, hl]
    exact (Ideal.exp2_coe _).trans (congrArg Real.toEReal (pr_exp2 q k F M b (krow j hj a) h))
  · rw [if_neg h, pr_above q k F b (krow j hj a) h, EReal.coe_zero]

include hV hO in
theorem sc_eq (a : Fin 1024) (b : Fin 8192) : sc V O a b = (((∑ d, g b d * v (krow j hj a) d) - dlt q k v g F b : ℝ) : EReal) := by
  have e : ∑ d, g b d * v (krow j hj a) d = ∑ d, v (krow j hj a) d * g b d := Finset.sum_congr rfl fun _ _ => mul_comm _ _
  rw [e, ← sum_VO, coe_sum]
  unfold sc
  refine Finset.sum_congr rfl fun d _ => ?_
  rw [hV, hO, ← EReal.coe_mul]

include hl hQ hK hV hO in
theorem ds_eq (a : Fin 1024) (b : Fin 8192) : ds j K V Q O a b = (dS q k v g F b (krow j hj a) : EReal) := by
  unfold ds
  rw [wt_eq q k F M l j hj K Q hl hQ hK, sc_eq q k v g F j hj V O hV hO, ← EReal.coe_mul]
  rfl

include hl hQ hK hO in
theorem DV_eq (a : Fin 1024) (d : Fin 128) : DV j K Q O 8192 a d
    = ((∑ b, pr q k F b (krow j hj a) * laneO (g b) (dlt q k v g F b) d : ℝ) : EReal) := by
  rw [coe_sum]
  unfold DV
  refine Finset.sum_congr rfl fun b _ => ?_
  rw [if_pos b.isLt, wt_eq q k F M l j hj K Q hl hQ hK, hO, ← EReal.coe_mul]

include hl hQ hK hV hO in
theorem DK_eq (a : Fin 1024) (d : Fin 128) : DK j K V Q O 8192 a d
    = ((∑ b, dS q k v g F b (krow j hj a) * laneQ (fun e => q b e / Real.log 2) (l b) d : ℝ) : EReal) := by
  rw [coe_sum]
  unfold DK
  refine Finset.sum_congr rfl fun b _ => ?_
  rw [if_pos b.isLt, ds_eq q k v g F M l j hj K V Q O hl hQ hK hV hO, hQ, ← EReal.coe_mul]

include hl hQ hK hV hO in
theorem DQ_eq (b : Fin 8192) (d : Fin 128) : DQ j K V Q O (fun _ _ => 0) 8192 b d
    = ((∑ a, dS q k v g F b (krow j hj a) * laneK (k (krow j hj a)) (-(F (krow j hj a) / Real.log 2)) d : ℝ) : EReal) := by
  rw [coe_sum]
  unfold DQ
  rw [if_pos b.isLt, zero_add]
  refine Finset.sum_congr rfl fun a _ => ?_
  rw [ds_eq q k v g F M l j hj K V Q O hl hQ hK hV hO, hK, ← EReal.coe_mul]

/-- The key gradient's lanes: the keys' own, and the sums over the queries. -/
theorem DK_fac (w : Fin 8192 → ℝ) (d : Fin 128) (hd : d.val ≤ 64) :
    ((∑ b, w b * laneQ (fun e => q b e / Real.log 2) (l b) d : ℝ) : EReal) * fac d
      = ((∑ b, w b * (if h : d.val < 64 then q b ⟨d.val, h⟩ else 1) : ℝ) : EReal) := by
  unfold fac
  by_cases h : d.val < 64
  · rw [if_pos h, ← EReal.coe_mul, Finset.sum_mul]
    refine congrArg Real.toEReal (Finset.sum_congr rfl fun b _ => ?_)
    unfold laneQ
    rw [dif_pos h, dif_pos h, mul_assoc, div_mul_cancel₀ _ log_two_ne]
  · rw [if_neg h, mul_one]
    refine congrArg Real.toEReal (Finset.sum_congr rfl fun b _ => ?_)
    unfold laneQ
    rw [dif_neg h, dif_neg h, if_pos (by omega)]

/-- The sum over the key blocks and their rows is the sum over the keys. -/
theorem sum_krow (f : Fin 8192 → ℝ) : ∑ j ∈ Finset.range 8, (if hj : j < 8 then ∑ a, f (krow j hj a) else 0) = ∑ u, f u := by
  rw [Finset.sum_range]
  have e : ∑ u : Fin 8192, f u = ∑ u : Fin (8 * 1024), f u := rfl
  rw [e, ← (finProdFinEquiv (m := 8) (n := 1024)).sum_comp, Fintype.sum_prod_type]
  refine Finset.sum_congr rfl fun j _ => ?_
  rw [dif_pos j.isLt]
  refine Finset.sum_congr rfl fun a _ => congrArg f (Fin.ext ?_)
  show 1024 * j.val + a.val = a.val + 1024 * j.val
  omega

end Cert.KernelIdeal.Fox

end
-- ==== Proof.FoxRun.lean ====
module

public import proofs.«01_k».proof.Proof.FoxVal
public import proofs.«01_k».proof.Proof.Gen.KernelIdeal.Frame
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The second coordinate of grid point `t`. -/
theorem coord1 (t : Fin cfg0.N) : (grid0.coords t 1).val = t.val % 8 := by
  have e1 : (grid0.coords t 1).val = t.val / 1 % 8 := Pipeline.Grid.coords_val t 1 (by decide) rfl
  omega

/-- The grid points that are the first of their head. -/
theorem first_iff (t : Fin cfg0.N) : first (grid0.coords t) ↔ t.val % 8 = 0 := by
  have ht : t.val < 128 := Nat.lt_of_lt_of_eq t.isLt N_0
  have e1 : (grid0.coords t 1).val = t.val / 1 % 8 := Pipeline.Grid.coords_val t 1 (by decide) rfl
  simp only [first, e1]
  word_cmp

/-- What grid point `n` adds to its head's query gradient. -/
def part (c : Dev nD) (n : ℕ) (b : Fin 8192) (d : Fin 128) : EReal :=
  if h : n < cfg0.N then DQ (n % 8) (iblk m c 2 ⟨n, h⟩) (iblk m c 3 ⟨n, h⟩) (iblk m c 0 ⟨n, h⟩) (iblk m c 1 ⟨n, h⟩) (fun _ _ => 0) 8192 b d else 0

/-- The query gradient's block after grid point `t`. -/
def res4 (c : Dev nD) (t : Fin cfg0.N) : Vec Ideal S1x8192x128 .f32 :=
  fun y => ∑ k ∈ Finset.range (t.val % 8 + 1), part m c (8 * (t.val / 8) + k) (y 1) (y 2)

/-- The key gradient's block after grid point `t`. -/
def res5 (c : Dev nD) (t : Fin cfg0.N) : Vec Ideal S1x1024x128 .f32 :=
  fun y => DK (t.val % 8) (iblk m c 2 t) (iblk m c 3 t) (iblk m c 0 t) (iblk m c 1 t) 8192 (y 1) (y 2) * fac (y 2)

/-- The value gradient's block after grid point `t`. -/
def res6 (c : Dev nD) (t : Fin cfg0.N) : Vec Ideal S1x1024x128 .f32 :=
  fun y => DV (t.val % 8) (iblk m c 2 t) (iblk m c 0 t) (iblk m c 1 t) 8192 (y 1) (y 2)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res4 m c t
    | ⟨5, _⟩ => res5 m c t
    | ⟨6, _⟩ => res6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = res4 m c t := by dsimp only [dats]
theorem after_5 (c : Dev nD) (t : Fin cfg0.N) : (dats m 0 c).after 5 t = res5 m c t := by dsimp only [dats]
theorem after_6 (c : Dev nD) (t : Fin cfg0.N) : (dats m 0 c).after 6 t = res6 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Past the first point of a head the query gradient's block is what the point before left. -/
theorem before_4 (c : Dev nD) (t : Fin cfg0.N) (h : ¬ t.val % 8 = 0) (d) :
    (dats m 0 c).before 4 t d = res4 m c ⟨t.val - 1, Nat.lt_of_le_of_lt (Nat.sub_le _ _) t.isLt⟩ := by
  refine ((dats m 0 c).before_out_kept 4 rfl t (by omega) ?_ (fun _ => rfl) (fun _ _ => rfl) d).trans (after_4 m c _)
  rw [Bool.eq_false_iff, Ne, flush0_4]
  simp only
  omega

/-- One point's addition: the sum up to the point is the sum up to the point before and the point's own part. -/
theorem res4_step (c : Dev nD) (t : Fin cfg0.N) (h : ¬ t.val % 8 = 0) (y : S1x8192x128.Idx) :
    DQ (t.val % 8) (iblk m c 2 t) (iblk m c 3 t) (iblk m c 0 t) (iblk m c 1 t)
      (fun b d => res4 m c ⟨t.val - 1, Nat.lt_of_le_of_lt (Nat.sub_le _ _) t.isLt⟩ (ix3 0 b d)) 8192 (y 1) (y 2) = res4 m c t y := by
  have e1 : (t.val - 1) / 8 = t.val / 8 := by omega
  have e2 : (t.val - 1) % 8 + 1 = t.val % 8 := by omega
  have e3 : 8 * (t.val / 8) + t.val % 8 = t.val := by omega
  simp only [res4, e1, e2]
  rw [Finset.sum_range_succ, e3]
  unfold part
  rw [dif_pos t.isLt]
  unfold DQ
  have hy : (y 1).val < 8192 := (y 1).isLt
  rw [if_pos hy, if_pos hy, zero_add]
  rfl

theorem res4_zero (c : Dev nD) (t : Fin cfg0.N) (h : t.val % 8 = 0) (y : S1x8192x128.Idx) :
    DQ (t.val % 8) (iblk m c 2 t) (iblk m c 3 t) (iblk m c 0 t) (iblk m c 1 t) (fun _ _ => 0) 8192 (y 1) (y 2) = res4 m c t y := by
  have e3 : 8 * (t.val / 8) + 0 = t.val := by omega
  simp only [res4]
  rw [show t.val % 8 + 1 = 1 from by omega, Finset.sum_range_one, e3]
  unfold part
  rw [dif_pos t.isLt]

/-- The current staging buffer of each window at point `t`. -/
abbrev ms_0 (t : Fin cfg0.N) : Memref sig .tc .vmem S1x8192x128 .bf16 := win0_0.stage (cfg0.slots t 0)
abbrev ms_1 (t : Fin cfg0.N) : Memref sig .tc .vmem S1x8192x128 .bf16 := win0_1.stage (cfg0.slots t 1)
abbrev ms_2 (t : Fin cfg0.N) : Memref sig .tc .vmem S1x1024x128 .bf16 := win0_2.stage (cfg0.slots t 2)
abbrev ms_3 (t : Fin cfg0.N) : Memref sig .tc .vmem S1x1024x128 .bf16 := win0_3.stage (cfg0.slots t 3)
abbrev ms_4 (t : Fin cfg0.N) : Memref sig .tc .vmem S1x8192x128 .f32 := win0_4.stage (cfg0.slots t 4)
abbrev ms_5 (t : Fin cfg0.N) : Memref sig .tc .vmem S1x1024x128 .f32 := win0_5.stage (cfg0.slots t 5)
abbrev ms_6 (t : Fin cfg0.N) : Memref sig .tc .vmem S1x1024x128 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t))

/-- Two whole-head blocks that agree at every triple of coordinates are equal. -/
theorem ext3 {f g : (⟨3, ![1, 8192, 128]⟩ : Shape).Idx → EReal} (h : ∀ a b d, f (ix3 a b d) = g (ix3 a b d)) : f = g := by
  funext z
  idx_vars z
  exact h _ _ _

/-- Two tile blocks that agree at every triple of coordinates are equal. -/
theorem ext3' {f g : (⟨3, ![1, 1024, 128]⟩ : Shape).Idx → EReal} (h : ∀ a b d, f (ix3 a b d) = g (ix3 a b d)) : f = g := by
  funext z
  idx_vars z
  exact h _ _ _

set_option maxHeartbeats 1600000 in
/-- The body at any point leaves the three gradients' blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 8 = 0
  · obtain ⟨v6, v7, v8⟩ := valA c (grid0.coords t) (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) ((first_iff t).mpr h0) (iblk m c 0 t) (iblk m c 1 t) (iblk m c 2 t) (iblk m c 3 t)
    rw [coord1] at v6 v7 v8
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((first_iff t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr; swap; · iexact H4
      ipureintro
      exact ext3 fun a b d => (v6 a b d).trans (res4_zero m c t h0 (ix3 a b d))
    isplitl [H5]
    · unfold owns; iexists _; isplitr; swap; · iexact H5
      ipureintro
      exact ext3' fun a b d => v7 a b d
    unfold owns; iexists _; isplitr; swap; · iexact H6
    ipureintro
    exact ext3' fun a b d => v8 a b d
  · obtain ⟨v6, v7, v8⟩ := valB c (grid0.coords t) (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (fun h => h0 ((first_iff t).mp h)) (iblk m c 0 t) (iblk m c 1 t) (iblk m c 2 t) (iblk m c 3 t)
      (res4 m c ⟨t.val - 1, Nat.lt_of_le_of_lt (Nat.sub_le _ _) t.isLt⟩)
    rw [coord1] at v6 v7 v8
    simp only [before_4 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((first_iff t).mp h)) (iblk m c 0 t) (iblk m c 1 t) (iblk m c 2 t) (iblk m c 3 t) (res4 m c ⟨t.val - 1, Nat.lt_of_le_of_lt (Nat.sub_le _ _) t.isLt⟩)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr; swap; · iexact H4
      ipureintro
      exact ext3 fun a b d => (v6 a b d).trans (res4_step m c t h0 (ix3 a b d))
    isplitl [H5]
    · unfold owns; iexists _; isplitr; swap; · iexact H5
      ipureintro
      exact ext3' fun a b d => v7 a b d
    unfold owns; iexists _; isplitr; swap; · iexact H6
    ipureintro
    exact ext3' fun a b d => v8 a b d

theorem defs₀_row (t : Fin cfg0.N) :
    defs₀ (F := Ideal) .tc cfg0.body (cfg0.bodyArgs t (cfg0.slots t)) = bodyAt0 t := by
  unfold defs₀; rw [Defs.onTc_tc]

/-- The library's obligation on the body, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair run of the program ends with each array as the proof data say, and with every counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim of the ideal kernel, at a memory and generator. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Fox
end
-- ==== Proof.FoxOut.lean ====
module

public import proofs.«01_k».proof.Proof.FoxTile
public import proofs.«01_k».proof.Proof.FoxRun
public import Idealize.ShloMosaic.Lib.Pipeline.ValueKit

@[expose] public section

set_option maxRecDepth 16384
set_option backward.isDefEq.respectTransparency.types false

noncomputable section

namespace Cert.KernelIdeal.Fox

open Idealize.ShloMosaic Idealize.ShloMosaic.TcCoe Cert.KernelIdeal Cert.KernelIdeal.Gen Cert.Fox
open Idealize.ShloMosaic.Tactic

/-! The gradients' arrays after the run. -/

theorem idx : ∀ t : Fin grid0.N, win0_0.index t = ![t.val / 8, 0, 0] ∧ win0_1.index t = ![t.val / 8, 0, 0]
    ∧ win0_2.index t = ![t.val / 8, t.val % 8, 0] ∧ win0_3.index t = ![t.val / 8, t.val % 8, 0] := by decide +kernel
theorem idx4 : ∀ t : Fin grid0.N, win0_4.index t = ![t.val / 8, 0, 0] := by decide +kernel
theorem idx5 : ∀ t : Fin grid0.N, win0_5.index t = ![t.val / 8, t.val % 8, 0] := by decide +kernel
theorem idx6 : ∀ t : Fin grid0.N, win0_6.index t = ![t.val / 8, t.val % 8, 0] := by decide +kernel

theorem pt_lt (t : Fin cfg0.N) : t.val < 128 := Nat.lt_of_lt_of_eq t.isLt N_0

/-- The head of a grid point. -/
def head (t : Fin cfg0.N) : Fin 16 := ⟨t.val / 8, by have := pt_lt t; omega⟩

theorem tile_lt (t : Fin cfg0.N) : t.val % 8 < 8 := Nat.mod_lt _ (by decide)

variable (m : (ℓ : Loc nD τ sig) → Buf (Elt Ideal) ℓ) (c : Dev nD)

theorem iblk_0 (t : Fin cfg0.N) (b : Fin 8192) (d : Fin 128) :
    (iblk m c 0 t : S1x8192x128.Idx → EReal) (ix3 0 b d) = (V m c main_v72 : S16x8192x128.Idx → EReal) (ix3 (head t) b d) := by
  blk_ext [iblk, (idx t).1, head]

theorem iblk_1 (t : Fin cfg0.N) (b : Fin 8192) (d : Fin 128) :
    (iblk m c 1 t : S1x8192x128.Idx → EReal) (ix3 0 b d) = (V m c main_v113 : S16x8192x128.Idx → EReal) (ix3 (head t) b d) := by
  blk_ext [iblk, (idx t).2.1, head]

theorem iblk_2 (t : Fin cfg0.N) (a : Fin 1024) (d : Fin 128) :
    (iblk m c 2 t : S1x1024x128.Idx → EReal) (ix3 0 a d) = (V m c main_v92 : S16x8192x128.Idx → EReal) (ix3 (head t) (krow (t.val % 8) (tile_lt t) a) d) := by
  blk_ext [iblk, (idx t).2.2.1, head, krow]

theorem iblk_3 (t : Fin cfg0.N) (a : Fin 1024) (d : Fin 128) :
    (iblk m c 3 t : S1x1024x128.Idx → EReal) (ix3 0 a d) = (V m c main_v98 : S16x8192x128.Idx → EReal) (ix3 (head t) (krow (t.val % 8) (tile_lt t) a) d) := by
  blk_ext [iblk, (idx t).2.2.2, head, krow]

variable (q k v g : Fin 16 → Fin 8192 → Fin 64 → ℝ) (F M : Fin 16 → Fin 8192 → ℝ)
  (h0 : ∀ i : S16x8192x64.Idx, a0 m c i = (q (i 0) (i 1) (i 2) : EReal))
  (h1 : ∀ i : S16x8192x64.Idx, a1 m c i = (k (i 0) (i 1) (i 2) : EReal))
  (h2 : ∀ i : S16x8192x64.Idx, a2 m c i = (v (i 0) (i 1) (i 2) : EReal))
  (h3 : ∀ i : S16x8192.Idx, a3 m c i = (F (i 0) (i 1) : EReal))
  (h4 : ∀ i : S16x8192x64.Idx, a4 m c i = (g (i 0) (i 1) (i 2) : EReal))
  (hM : ∀ j : S16x8192.Idx, Cert.ReferenceIdeal.Read.val_main_v15 (F := Ideal) (a0 m c) (a1 m c) (a3 m c) j = (M (j 0) (j 1) : EReal))

/-- The value gradient's lanes. -/
def G6 (h : Fin 16) (u : Fin 8192) (d : Fin 128) : ℝ := ∑ b, pr (q h) (k h) (F h) b u * laneO (g h b) (dlt (q h) (k h) (v h) (g h) (F h) b) d

/-- The key gradient's lanes, still in base two. -/
def G5 (h : Fin 16) (u : Fin 8192) (d : Fin 128) : ℝ :=
  ∑ b, dS (q h) (k h) (v h) (g h) (F h) b u * laneQ (fun e => q h b e / Real.log 2) (lse q k F M h b) d

/-- The query gradient's lanes. -/
def G4 (h : Fin 16) (b : Fin 8192) (d : Fin 128) : ℝ :=
  ∑ u, dS (q h) (k h) (v h) (g h) (F h) b u * laneK (k h u) (-(F h u / Real.log 2)) d

include h0 h1 h2 h3 h4 hM in
theorem res6_eq (t : Fin cfg0.N) (y : S1x1024x128.Idx) :
    res6 m c t y = (G6 q k v g F (head t) (krow (t.val % 8) (tile_lt t) (y 1)) (y 2) : EReal) :=
  DV_eq (q (head t)) (k (head t)) (v (head t)) (g (head t)) (F (head t)) (M (head t)) (lse q k F M (head t)) (t.val % 8) (tile_lt t)
    (iblk m c 2 t) (iblk m c 0 t) (iblk m c 1 t) (fun _ => rfl)
    (fun b d => (iblk_0 m c t b d).trans (L_q m c q k F M h0 h1 h3 hM _ _ _))
    (fun a d => (iblk_2 m c t a d).trans (L_k m c k F h1 h3 _ _ _))
    (fun b d => (iblk_1 m c t b d).trans (L_o m c q k v g F M h0 h1 h2 h3 h4 hM _ _ _)) (y 1) (y 2)

include h0 h1 h2 h3 h4 hM in
theorem res5_eq (t : Fin cfg0.N) (y : S1x1024x128.Idx) :
    res5 m c t y = (G5 q k v g F M (head t) (krow (t.val % 8) (tile_lt t) (y 1)) (y 2) : EReal) * fac (y 2) :=
  congrArg (fun w => w * fac (y 2)) (DK_eq (q (head t)) (k (head t)) (v (head t)) (g (head t)) (F (head t)) (M (head t)) (lse q k F M (head t)) (t.val % 8) (tile_lt t)
    (iblk m c 2 t) (iblk m c 3 t) (iblk m c 0 t) (iblk m c 1 t) (fun _ => rfl)
    (fun b d => (iblk_0 m c t b d).trans (L_q m c q k F M h0 h1 h3 hM _ _ _))
    (fun a d => (iblk_2 m c t a d).trans (L_k m c k F h1 h3 _ _ _))
    (fun a d => (iblk_3 m c t a d).trans (L_v m c v h2 _ _ _))
    (fun b d => (iblk_1 m c t b d).trans (L_o m c q k v g F M h0 h1 h2 h3 h4 hM _ _ _)) (y 1) (y 2))

include h0 h1 h2 h3 h4 hM in
theorem part_eq (t : Fin cfg0.N) (b : Fin 8192) (d : Fin 128) :
    part m c t.val b d = ((∑ a, dS (q (head t)) (k (head t)) (v (head t)) (g (head t)) (F (head t)) b (krow (t.val % 8) (tile_lt t) a)
      * laneK (k (head t) (krow (t.val % 8) (tile_lt t) a)) (-(F (head t) (krow (t.val % 8) (tile_lt t) a) / Real.log 2)) d : ℝ) : EReal) := by
  unfold part
  rw [dif_pos t.isLt]
  exact DQ_eq (q (head t)) (k (head t)) (v (head t)) (g (head t)) (F (head t)) (M (head t)) (lse q k F M (head t)) (t.val % 8) (tile_lt t)
    (iblk m c 2 t) (iblk m c 3 t) (iblk m c 0 t) (iblk m c 1 t) (fun _ => rfl)
    (fun b d => (iblk_0 m c t b d).trans (L_q m c q k F M h0 h1 h3 hM _ _ _))
    (fun a d => (iblk_2 m c t a d).trans (L_k m c k F h1 h3 _ _ _))
    (fun a d => (iblk_3 m c t a d).trans (L_v m c v h2 _ _ _))
    (fun b d => (iblk_1 m c t b d).trans (L_o m c q k v g F M h0 h1 h2 h3 h4 hM _ _ _)) b d

include h0 h1 h2 h3 h4 hM in
theorem res4_eq (t : Fin cfg0.N) (ht : t.val % 8 = 7) (y : S1x8192x128.Idx) :
    res4 m c t y = (G4 q k v g F (head t) (y 1) (y 2) : EReal) := by
  have hlt := pt_lt t
  unfold res4 G4
  rw [ht, ← sum_krow, coe_sum]
  refine Finset.sum_congr rfl fun j hj => ?_
  have hj' : j < 8 := Finset.mem_range.mp hj
  have hn : 8 * (t.val / 8) + j < cfg0.N := Nat.lt_of_lt_of_eq (by omega) N_0.symm
  rw [dif_pos hj']
  have e := part_eq m c q k v g F M h0 h1 h2 h3 h4 hM ⟨8 * (t.val / 8) + j, hn⟩ (y 1) (y 2)
  have e1 : head ⟨8 * (t.val / 8) + j, hn⟩ = head t := Fin.ext (by show (8 * (t.val / 8) + j) / 8 = t.val / 8; omega)
  have e2 : ∀ a, krow ((8 * (t.val / 8) + j) % 8) (tile_lt ⟨8 * (t.val / 8) + j, hn⟩) a = krow j hj' a := fun a =>
    Fin.ext (by show 1024 * ((8 * (t.val / 8) + j) % 8) + a.val = 1024 * j + a.val; omega)
  simp only [e1, e2] at e
  exact e

include h0 h1 h2 h3 h4 hM in
theorem arr6 : (dats m 0 c).arrAt 6 cfg0.N = fun i : S16x8192x128.Idx => (G6 q k v g F (i 0) (i 1) (i 2) : EReal) := by
  refine (dats m 0 c).arrAt_eq_of_covers 6 _ (by decide +kernel) fun t hf y => ?_
  blk_simp
  rw [after_6]
  have e : ((cfg0.win 6).blk t).view.emb y = (ix3 (head t) (krow (t.val % 8) (tile_lt t) (y 1)) (y 2) : S16x8192x128.Idx) := by
    blk_ext [idx6 t, head, krow]
  refine (res6_eq m c q k v g F M h0 h1 h2 h3 h4 hM t y).trans ?_
  exact (congrArg (fun i : S16x8192x128.Idx => (G6 q k v g F (i 0) (i 1) (i 2) : EReal)) e).symm

include h0 h1 h2 h3 h4 hM in
theorem arr5 : (dats m 0 c).arrAt 5 cfg0.N = fun i : S16x8192x128.Idx => (G5 q k v g F M (i 0) (i 1) (i 2) : EReal) * fac (i 2) := by
  refine (dats m 0 c).arrAt_eq_of_covers 5 _ (by decide +kernel) fun t hf y => ?_
  blk_simp
  rw [after_5]
  have e : ((cfg0.win 5).blk t).view.emb y = (ix3 (head t) (krow (t.val % 8) (tile_lt t) (y 1)) (y 2) : S16x8192x128.Idx) := by
    blk_ext [idx5 t, head, krow]
  refine (res5_eq m c q k v g F M h0 h1 h2 h3 h4 hM t y).trans ?_
  exact (congrArg (fun i : S16x8192x128.Idx => (G5 q k v g F M (i 0) (i 1) (i 2) : EReal) * fac (i 2)) e).symm

include h0 h1 h2 h3 h4 hM in
theorem arr4 : (dats m 0 c).arrAt 4 cfg0.N = fun i : S16x8192x128.Idx => (G4 q k v g F (i 0) (i 1) (i 2) : EReal) := by
  refine (dats m 0 c).arrAt_eq_of_covers 4 _ (by decide +kernel) fun t hf y => ?_
  blk_simp
  rw [after_4]
  have e : ((cfg0.win 4).blk t).view.emb y = (ix3 (head t) (y 1) (y 2) : S16x8192x128.Idx) := by
    blk_ext [idx4 t, head]
  refine (res4_eq m c q k v g F M h0 h1 h2 h3 h4 hM t ((flush0_4 t).mp hf) y).trans ?_
  exact (congrArg (fun i : S16x8192x128.Idx => (G4 q k v g F (i 0) (i 1) (i 2) : EReal)) e).symm

end Cert.KernelIdeal.Fox

end
-- ==== Proof.FoxEnd.lean ====
module

public import proofs.«01_k».proof.Proof.FoxOut

@[expose] public section

set_option maxRecDepth 16384
set_option backward.isDefEq.respectTransparency.types false

noncomputable section

namespace Cert.KernelIdeal.Fox

open Idealize.ShloMosaic Idealize.ShloMosaic.TcCoe Cert.KernelIdeal Cert.KernelIdeal.Gen Cert.Fox
open Idealize.ShloMosaic.Tactic

/-! The program's four results. -/

variable (m : (ℓ : Loc nD τ sig) → Buf (Elt Ideal) ℓ) (c : Dev nD)

/-- A buffer when the program ends. -/
abbrev Z (b : Ref sig .tc) : Buf (Elt Ideal) ((c : Thread nD τ).loc b) := Pipeline.afterTail₀ cfgs (dats m) 0 (V0 m) [hostOps1] c b

theorem W_4 (X : S16x8192x128.Idx → EReal) (hX : (dats m 0 c).arrAt 4 cfg0.N = X) :
    Pipeline.withArrays (cfgs 0).spec c (V0 m c) (fun w => (dats m 0 c).arrAt w (cfgs 0).N) (Proc.devRef .tc main_v114_0) = X :=
  (Pipeline.withArrays_arr (cfgs 0).spec (by decide) c (V0 m c) (fun w => (dats m 0 c).arrAt w (cfgs 0).N) 4).trans hX

theorem W_5 (X : S16x8192x128.Idx → EReal) (hX : (dats m 0 c).arrAt 5 cfg0.N = X) :
    Pipeline.withArrays (cfgs 0).spec c (V0 m c) (fun w => (dats m 0 c).arrAt w (cfgs 0).N) (Proc.devRef .tc main_v114_1) = X :=
  (Pipeline.withArrays_arr (cfgs 0).spec (by decide) c (V0 m c) (fun w => (dats m 0 c).arrAt w (cfgs 0).N) 5).trans hX

theorem W_6 (X : S16x8192x128.Idx → EReal) (hX : (dats m 0 c).arrAt 6 cfg0.N = X) :
    Pipeline.withArrays (cfgs 0).spec c (V0 m c) (fun w => (dats m 0 c).arrAt w (cfgs 0).N) (Proc.devRef .tc main_v114_2) = X :=
  (Pipeline.withArrays_arr (cfgs 0).spec (by decide) c (V0 m c) (fun w => (dats m 0 c).arrAt w (cfgs 0).N) 6).trans hX

theorem Z_v115 (X : S16x8192x128.Idx → EReal) (hX : (dats m 0 c).arrAt 4 cfg0.N = X) (h : Fin 16) (t : Fin 8192) (d : Fin 64) :
    (Z m c main_v115 : S16x8192x64.Idx → EReal) (ix3 h t d) = X (ix3 h t ⟨d.val, by omega⟩) := by
  have e := W_4 m c X hX
  unfold Z Pipeline.afterTail₀
  after_reads_simp
  generalize Pipeline.withArrays (cfgs 0).spec c (V0 m c) (fun w => (dats m 0 c).arrAt w (cfgs 0).N) (Proc.devRef .tc main_v114_0) = Y at *
  subst e
  pointwise
  blk_ext

theorem Z_v116 (X : S16x8192x128.Idx → EReal) (hX : (dats m 0 c).arrAt 5 cfg0.N = X) (h : Fin 16) (t : Fin 8192) (d : Fin 64) :
    (Z m c main_v116 : S16x8192x64.Idx → EReal) (ix3 h t d) = X (ix3 h t ⟨d.val, by omega⟩) := by
  have e := W_5 m c X hX
  unfold Z Pipeline.afterTail₀
  after_reads_simp
  generalize Pipeline.withArrays (cfgs 0).spec c (V0 m c) (fun w => (dats m 0 c).arrAt w (cfgs 0).N) (Proc.devRef .tc main_v114_1) = Y at *
  subst e
  pointwise
  blk_ext

theorem Z_v117 (X : S16x8192x128.Idx → EReal) (hX : (dats m 0 c).arrAt 6 cfg0.N = X) (h : Fin 16) (t : Fin 8192) (d : Fin 64) :
    (Z m c main_v117 : S16x8192x64.Idx → EReal) (ix3 h t d) = X (ix3 h t ⟨d.val, by omega⟩) := by
  have e := W_6 m c X hX
  unfold Z Pipeline.afterTail₀
  after_reads_simp
  generalize Pipeline.withArrays (cfgs 0).spec c (V0 m c) (fun w => (dats m 0 c).arrAt w (cfgs 0).N) (Proc.devRef .tc main_v114_2) = Y at *
  subst e
  pointwise
  blk_ext

theorem Z_v122 (X Y : S16x8192x128.Idx → EReal) (hX : (dats m 0 c).arrAt 4 cfg0.N = X) (hY : (dats m 0 c).arrAt 5 cfg0.N = Y) (h : Fin 16) (t : Fin 8192) :
    (Z m c main_v122 : S16x8192.Idx → EReal) (ix2 h t) = X (ix3 h t 70) - Y (ix3 h t 64) := by
  have e := W_4 m c X hX
  have e' := W_5 m c Y hY
  unfold Z Pipeline.afterTail₀
  after_reads_simp
  generalize Pipeline.withArrays (cfgs 0).spec c (V0 m c) (fun w => (dats m 0 c).arrAt w (cfgs 0).N) (Proc.devRef .tc main_v114_0) = A at *
  generalize Pipeline.withArrays (cfgs 0).spec c (V0 m c) (fun w => (dats m 0 c).arrAt w (cfgs 0).N) (Proc.devRef .tc main_v114_1) = B at *
  subst e e'
  pointwise

variable (q k v g : Fin 16 → Fin 8192 → Fin 64 → ℝ) (F M : Fin 16 → Fin 8192 → ℝ)
  (h0 : ∀ i : S16x8192x64.Idx, a0 m c i = (q (i 0) (i 1) (i 2) : EReal))
  (h1 : ∀ i : S16x8192x64.Idx, a1 m c i = (k (i 0) (i 1) (i 2) : EReal))
  (h2 : ∀ i : S16x8192x64.Idx, a2 m c i = (v (i 0) (i 1) (i 2) : EReal))
  (h3 : ∀ i : S16x8192.Idx, a3 m c i = (F (i 0) (i 1) : EReal))
  (h4 : ∀ i : S16x8192x64.Idx, a4 m c i = (g (i 0) (i 1) (i 2) : EReal))
  (hM : ∀ j : S16x8192.Idx, Cert.ReferenceIdeal.Read.val_main_v15 (F := Ideal) (a0 m c) (a1 m c) (a3 m c) j = (M (j 0) (j 1) : EReal))

theorem ext_3 {f f' : S16x8192x64.Idx → EReal} (h : ∀ a b d, f (ix3 a b d) = f' (ix3 a b d)) : f = f' := by
  funext z
  idx_vars z
  exact h _ _ _

theorem ext_2 {f f' : S16x8192.Idx → EReal} (h : ∀ a b, f (ix2 a b) = f' (ix2 a b)) : f = f' := by
  funext z
  idx_vars z
  exact h _ _

include h0 h1 h2 h3 h4 hM in
theorem hS (i : (⟨3, ![16, 8192, 8192]⟩ : Shape).Idx) :
    Cert.ReferenceIdeal.Read.val_main_v59 (F := Ideal) (a0 m c) (a1 m c) (a2 m c) (a3 m c) (a4 m c) i
      = (dS (q (i 0)) (k (i 0)) (v (i 0)) (g (i 0)) (F (i 0)) (i 1) (i 2) : EReal) :=
  Cert.ReferenceIdeal.Fox.grad (a0 m c) (a1 m c) (a2 m c) (a3 m c) (a4 m c) q k v g F h0 h1 h2 h3 h4 M hM i

include h0 h1 h2 h3 h4 hM in
theorem end_q : (Z m c main_v115 : S16x8192x64.Idx → EReal)
    = Cert.ReferenceIdeal.Read.val_main_v69 (F := Ideal) (a0 m c) (a1 m c) (a2 m c) (a3 m c) (a4 m c) := by
  refine ext_3 fun h t d => ?_
  refine (Z_v115 m c _ (arr4 m c q k v g F M h0 h1 h2 h3 h4 hM) h t d).trans ?_
  refine Eq.trans ?_ (Cert.ReferenceIdeal.Fox.out0 (a0 m c) (a1 m c) (a2 m c) (a3 m c) (a4 m c) q k v g F h1 (hS m c q k v g F M h0 h1 h2 h3 h4 hM) (ix3 h t d)).symm
  exact congrArg Real.toEReal (Finset.sum_congr rfl fun u _ => congrArg (fun w => _ * w) (laneK_lo _ _ d))

include h0 h1 h2 h3 h4 hM in
theorem end_k : (Z m c main_v116 : S16x8192x64.Idx → EReal)
    = Cert.ReferenceIdeal.Read.val_main_v68 (F := Ideal) (a0 m c) (a1 m c) (a2 m c) (a3 m c) (a4 m c) := by
  refine ext_3 fun h t d => ?_
  refine (Z_v116 m c _ (arr5 m c q k v g F M h0 h1 h2 h3 h4 hM) h t d).trans ?_
  refine Eq.trans ?_ (Cert.ReferenceIdeal.Fox.out1 (a0 m c) (a1 m c) (a2 m c) (a3 m c) (a4 m c) q k v g F h0 (hS m c q k v g F M h0 h1 h2 h3 h4 hM) (ix3 h t d)).symm
  refine (DK_fac (q h) (lse q k F M h) (fun b => dS (q h) (k h) (v h) (g h) (F h) b t) ⟨d.val, by omega⟩ (by show d.val ≤ 64; omega)).trans ?_
  exact congrArg Real.toEReal (Finset.sum_congr rfl fun u _ => congrArg (fun w => _ * w) (dif_pos d.isLt))

include h0 h1 h2 h3 h4 hM in
theorem end_v : (Z m c main_v117 : S16x8192x64.Idx → EReal)
    = Cert.ReferenceIdeal.Read.val_main_v45 (F := Ideal) (a0 m c) (a1 m c) (a3 m c) (a4 m c) := by
  refine ext_3 fun h t d => ?_
  refine (Z_v117 m c _ (arr6 m c q k v g F M h0 h1 h2 h3 h4 hM) h t d).trans ?_
  refine Eq.trans ?_ (Cert.ReferenceIdeal.Fox.out2 (a0 m c) (a1 m c) (a3 m c) (a4 m c) q k g F (ix3 h t d)
    (Cert.ReferenceIdeal.Fox.weight (a0 m c) (a1 m c) (a3 m c) q k F h0 h1 h3 M hM) h4).symm
  exact congrArg Real.toEReal (Finset.sum_congr rfl fun u _ => congrArg (fun w => _ * w) (laneO_lo _ _ d))

include h0 h1 h2 h3 h4 hM in
theorem end_F : (Z m c main_v122 : S16x8192.Idx → EReal)
    = Cert.ReferenceIdeal.Read.val_main_v67 (F := Ideal) (a0 m c) (a1 m c) (a2 m c) (a3 m c) (a4 m c) := by
  refine ext_2 fun h t => ?_
  refine (Z_v122 m c _ _ (arr4 m c q k v g F M h0 h1 h2 h3 h4 hM) (arr5 m c q k v g F M h0 h1 h2 h3 h4 hM) h t).trans ?_
  refine Eq.trans ?_ (Cert.ReferenceIdeal.Fox.out3 (a0 m c) (a1 m c) (a2 m c) (a3 m c) (a4 m c) q k v g F (hS m c q k v g F M h0 h1 h2 h3 h4 hM) (ix2 h t)).symm
  have e1 : (G4 q k v g F h t 70 : EReal) = ((∑ u, dS (q h) (k h) (v h) (g h) (F h) t u : ℝ) : EReal) :=
    congrArg Real.toEReal (Finset.sum_congr rfl fun u _ => by simp [laneK])
  have e2 : (G5 q k v g F M h t 64 : EReal) * fac 64 = ((∑ b, dS (q h) (k h) (v h) (g h) (F h) b t : ℝ) : EReal) :=
    (DK_fac (q h) (lse q k F M h) (fun b => dS (q h) (k h) (v h) (g h) (F h) b t) 64 (by decide)).trans
      (congrArg Real.toEReal (Finset.sum_congr rfl fun u _ => (congrArg (fun w => _ * w) (dif_neg (by decide))).trans (mul_one _)))
  refine (congrArg₂ (fun a b : EReal => a - b) e1 e2).trans ?_
  show _ - _ = _
  rw [← EReal.coe_sub]
  exact congrArg Real.toEReal (sub_eq_neg_add _ _)

end Cert.KernelIdeal.Fox

end
-- ==== Proof.FoxPre.lean ====
module

public import proofs.«01_k».proof.Pre_finite
public import proofs.«01_k».proof.Proof.FoxMath
public import Idealize.ShloMosaic.Lib.ReduceAll
public import Idealize.ShloMosaic.Lib.ValueIdx

@[expose] public section

set_option maxRecDepth 16384
set_option backward.isDefEq.respectTransparency.types false

noncomputable section

namespace Cert.Pre_finite

open Idealize.ShloMosaic Cert.Fox

/-! What the precondition says: every element of every argument is a real number. -/

theorem facts : Facts where
  bcast_S_S16x8192x64 := by decide
  reducesTo_S16x8192x64_S_d0_1_2 := by decide
  h_S_ := by decide
  bcast_S_S16x8192 := by decide
  reducesTo_S16x8192_S_d0_1 := by decide

theorem abs_lt (x : EReal) (h : FloatOps.cmpf (F := Ideal) (φ := .f32) .olt (FloatOps.hostAbsf (F := Ideal) (φ := .f32) x) (FloatOps.ofBits .f32 0x7F800000#32) = 1#1) :
    x = (x.toReal : EReal) := by
  rw [inf_f32] at h
  have h' : max x (-x) < ⊤ := by
    by_contra hn
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]
      rfl
    rw [e] at h
    exact absurd h (by decide)
  refine (EReal.coe_toReal (fun e => ?_) fun e => ?_).symm
  · rw [e] at h'; simp at h'
  · rw [e] at h'; simp at h'

instance : Subsingleton S_.Idx := by
  unfold S_; infer_instance

instance : Facts := facts

theorem reals (x0 x1 x2 : FVec Ideal S16x8192x64 .f32) (x3 : FVec Ideal S16x8192 .f32) (x4 : FVec Ideal S16x8192x64 .f32) (j : S_.Idx)
    (h : fn (F := Ideal) x0 x1 x2 x3 x4 j = 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) := by
  dsimp only [fn, fn_part1] at h
  obtain ⟨h, e4⟩ := (IntOp.andi_eq_one).mp h
  obtain ⟨h, e3⟩ := (IntOp.andi_eq_one).mp h
  obtain ⟨h, e2⟩ := (IntOp.andi_eq_one).mp h
  obtain ⟨e0, e1⟩ := (IntOp.andi_eq_one).mp h
  exact ⟨fun i => abs_lt _ (Host.reduce_andi_all _ _ _ _ _ e0 i), fun i => abs_lt _ (Host.reduce_andi_all _ _ _ _ _ e1 i),
    fun i => abs_lt _ (Host.reduce_andi_all _ _ _ _ _ e2 i), fun i => abs_lt _ (Host.reduce_andi_all _ _ _ _ _ e3 i),
    fun i => abs_lt _ (Host.reduce_andi_all _ _ _ _ _ e4 i)⟩

end Cert.Pre_finite

end
-- ==== Proof.FoxAll.lean ====
module

public import proofs.«01_k».proof.Defs
public import proofs.«01_k».proof.Proof.FoxEnd
public import proofs.«01_k».proof.Proof.FoxPre
public import proofs.«01_k».proof.Proof.Gen.ReferenceIdeal.Run
public import Idealize.ShloMosaic.Lib.Claim

@[expose] public section

set_option maxRecDepth 16384
set_option backward.isDefEq.respectTransparency.types false

noncomputable section

namespace Cert.KernelIdeal.Fox

open Idealize.ShloMosaic Idealize.ShloMosaic.TcCoe Idealize.SL.Sem Cert.KernelIdeal Cert.KernelIdeal.Gen Cert.Fox
open Idealize.ShloMosaic.Tactic

/-! The value claim: the kernel's four results are the reference's. -/

variable (m : (ℓ : Loc nD τ sig) → Buf (Elt Ideal) ℓ) (c : Dev nD)

theorem eta_3 (x : S16x8192x64.Idx → EReal) (h : ∀ i, x i = ((x i).toReal : EReal)) (i : S16x8192x64.Idx) :
    x i = (((x (ix3 (i 0) (i 1) (i 2))).toReal : ℝ) : EReal) := by
  refine (h i).trans (congrArg (fun z => (((x z).toReal : ℝ) : EReal)) ?_)
  idx_vars i

theorem eta_2 (x : S16x8192.Idx → EReal) (h : ∀ i, x i = ((x i).toReal : EReal)) (i : S16x8192.Idx) :
    x i = (((x (ix2 (i 0) (i 1))).toReal : ℝ) : EReal) := by
  refine (h i).trans (congrArg (fun z => (((x z).toReal : ℝ) : EReal)) ?_)
  idx_vars i

theorem real_3 (x : S16x8192x64.Idx → EReal) (h : ∀ i, x i = ((x i).toReal : EReal)) :
    ∃ q : Fin 16 → Fin 8192 → Fin 64 → ℝ, ∀ i : S16x8192x64.Idx, x i = (q (i 0) (i 1) (i 2) : EReal) :=
  ⟨fun a b d => (x (ix3 a b d)).toReal, eta_3 x h⟩

theorem real_2 (x : S16x8192.Idx → EReal) (h : ∀ i, x i = ((x i).toReal : EReal)) :
    ∃ F : Fin 16 → Fin 8192 → ℝ, ∀ i : S16x8192.Idx, x i = (F (i 0) (i 1) : EReal) :=
  ⟨fun a b => (x (ix2 a b)).toReal, eta_2 x h⟩

open Cert.ReferenceIdeal.Read in
/-- The four results at real arguments. -/
theorem results (hp : Cert.Pre_KernelIdeal_finite m) :
    (Z m c main_v115 : S16x8192x64.Idx → EReal) = val_main_v69 (F := Ideal) (a0 m c) (a1 m c) (a2 m c) (a3 m c) (a4 m c)
    ∧ (Z m c main_v116 : S16x8192x64.Idx → EReal) = val_main_v68 (F := Ideal) (a0 m c) (a1 m c) (a2 m c) (a3 m c) (a4 m c)
    ∧ (Z m c main_v117 : S16x8192x64.Idx → EReal) = val_main_v45 (F := Ideal) (a0 m c) (a1 m c) (a3 m c) (a4 m c)
    ∧ (Z m c main_v122 : S16x8192.Idx → EReal) = val_main_v67 (F := Ideal) (a0 m c) (a1 m c) (a2 m c) (a3 m c) (a4 m c) := by
  obtain ⟨p0, p1, p2, p3, p4⟩ := Cert.Pre_finite.reals (a0 m c) (a1 m c) (a2 m c) (a3 m c) (a4 m c) (fun a => a.elim0) (congrFun (hp c) _)
  obtain ⟨q, h0⟩ := real_3 _ p0
  obtain ⟨k, h1⟩ := real_3 _ p1
  obtain ⟨v, h2⟩ := real_3 _ p2
  obtain ⟨F, h3⟩ := real_2 _ p3
  obtain ⟨g, h4⟩ := real_3 _ p4
  obtain ⟨M, hM⟩ := Cert.ReferenceIdeal.Fox.row_max (a0 m c) (a1 m c) (a3 m c) q k F h0 h1 h3
  exact ⟨end_q m c q k v g F M h0 h1 h2 h3 h4 hM, end_k m c q k v g F M h0 h1 h2 h3 h4 hM,
    end_v m c q k v g F M h0 h1 h2 h3 h4 hM, end_F m c q k v g F M h0 h1 h2 h3 h4 hM⟩

theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun _ h => ⟨fun c => (h c).2.2.2.2, sem_eq_zero_of_no_sems rfl _⟩) (Cert.ReferenceIdeal.Value.run m ρ)

open Cert.ReferenceIdeal.Read in
theorem algebraic : Cert.algebraic_KernelIdeal_ReferenceIdeal_pre_finite := by
  intro m g m' g' hp ha
  refine ⟨fun c => Z m c main_v115, fun c => Z m c main_v116, fun c => Z m c main_v117, fun c => Z m c main_v122, ?_, ?_⟩
  · refine (θ_run _ _ _).mono (fun r h c => ?_) (θ_run_and (run_main m g) (frame m g))
    exact ⟨(h.1 c).2 main_v115 (Pipeline.mem_restRefs_of main_v115 (by decide) (by decide)),
      (h.1 c).2 main_v116 (Pipeline.mem_restRefs_of main_v116 (by decide) (by decide)),
      (h.1 c).2 main_v117 (Pipeline.mem_restRefs_of main_v117 (by decide) (by decide)),
      (h.1 c).2 main_v122 (Pipeline.mem_restRefs_of main_v122 (by decide) (by decide)), h.2.1 c⟩
  · refine (θ_run _ _ _).mono (fun r h c => ?_) (Cert.ReferenceIdeal.Value.run m' g')
    obtain ⟨r0, r1, r2, r3, hargs⟩ := h c
    obtain ⟨e0, e1, e2, e3, e4⟩ := ha c
    obtain ⟨z0, z1, z2, z3⟩ := results m c hp
    rw [val_main_v69_eq, e0, e1, e2, e3, e4] at r0
    rw [val_main_v68_eq, e0, e1, e2, e3, e4] at r1
    rw [val_main_v45_eq, e0, e1, e3, e4] at r2
    rw [val_main_v67_eq, e0, e1, e2, e3, e4] at r3
    exact ⟨r0.trans z0.symm, r1.trans z1.symm, r2.trans z2.symm, r3.trans z3.symm, hargs⟩

end Cert.KernelIdeal.Fox

end
-- ==== Proof.MlpSums.lean ====
module

public import Idealize.ShloMosaic.PureOps.Ideal
public import Idealize.ShloMosaic.Lib.Pipeline.ValueKit

@[expose] public section

noncomputable section

namespace Cert.Mlp

open Idealize.ShloMosaic

/-! A sum over one axis, tile by tile. -/

/-- `f` at a place, zero past the axis's end. -/
def pad {N : ℕ} (f : Fin N → EReal) (r : ℕ) : EReal := if h : r < N then f ⟨r, h⟩ else 0

theorem pad_of_lt {N : ℕ} (f : Fin N → EReal) {r : ℕ} (h : r < N) : pad f r = f ⟨r, h⟩ := dif_pos h

/-- The tiles' sums add up to the sum over the axis. -/
theorem tiles {N : ℕ} (A S : ℕ) (hN : N = A * S) (f : Fin N → EReal) :
    ∑ s ∈ Finset.range A, ∑ k : Fin S, pad f (s * S + k.val) = ∑ l : Fin N, f l := by
  subst hN
  rw [← Fin.sum_univ_eq_sum_range (fun s => ∑ k : Fin S, pad f (s * S + k.val)), Fin.sum_univ_univ_mul_add A S (pad f)]
  exact Finset.sum_congr rfl fun l _ => pad_of_lt f l.isLt

/-- The query's scale, one eighth, as the programs write it. -/
def eighth : EReal := Ideal.ofBits .f32 0x3E000000#32

theorem eighth_eq : eighth = ((1 / 8 : ℝ) : EReal) := by
  simp [eighth, Ideal.ofBits, Ideal.ieee, -EReal.coe_mul]; norm_num

/-- A sum times one eighth, term by term; the terms may be infinite. -/
theorem sum_eighth {N : ℕ} (f : Fin N → EReal) : (∑ l, f l) * eighth = ∑ l, f l * eighth := by
  have h0 : (0 : EReal) ≤ eighth := by rw [eighth_eq]; exact EReal.coe_nonneg.mpr (by norm_num)
  have ht : eighth ≠ ⊤ := by rw [eighth_eq]; exact EReal.coe_ne_top _
  induction (Finset.univ : Finset (Fin N)) using Finset.induction_on with
  | empty => simp
  | insert a s ha ih => rw [Finset.sum_insert ha, Finset.sum_insert ha, EReal.right_distrib_of_nonneg_of_ne_top h0 ht, ih]

theorem scale_swap (y s x : EReal) : y * s * x = x * y * s := by
  rw [mul_comm (y * s) x, mul_assoc x y s]

/-! The derivative of the root-mean-square norm, a row at a time. -/

/-- The row length, the norm's small constant and minus one half, as the programs write them. -/
def len : EReal := Ideal.ofBits .f32 0x44800000#32
def eps : EReal := Ideal.ofBits .f32 0x358637BD#32
def half : EReal := Ideal.ofBits .f32 0xBF000000#32

/-- A row's mean square and the small constant. -/
def den (x : Fin 1024 → EReal) : EReal := Ideal.div (∑ k, x k * x k) len + eps

/-- The derivative reaching a row's mean square. -/
def normSlope (x g a : Fin 1024 → EReal) : EReal :=
  Ideal.div ((∑ k, x k * (a k * g k)) * (half * Ideal.div (Ideal.rsqrt (den x)) (den x))) len

/-- The gradient of one element of a row: `x` the row, `g` the gain, `a` the cotangent of the normed row, `h` what is added. -/
def rowGrad (x g a : Fin 1024 → EReal) (h : EReal) (b : Fin 1024) : EReal :=
  a b * g b * Ideal.rsqrt (den x) + x b * normSlope x g a + normSlope x g a * x b + h

/-- A row's part of the gain's gradient. -/
def gainPart (x a : Fin 1024 → EReal) (b : Fin 1024) : EReal := x b * Ideal.rsqrt (den x) * a b

theorem last_add (h p q w : EReal) : h + p + q + w = p + q + w + h := by
  rw [add_assoc h, add_assoc h, add_comm h]

end Cert.Mlp

end
-- ==== Proof.MlpDownDx.lean ====
module

public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDx
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.DownDxIdeal.Mlp

open Idealize.ShloMosaic Idealize.ShloMosaic.TcCoe Idealize.SL.Sem Cert.DownDxIdeal Cert.DownDxIdeal.Gen Cert.Mlp
open Idealize.ShloMosaic.Tactic

/-! The gradient of the MLP's hidden activation: the cotangent times the transposed second weight, then the derivative of the
squared positive part. -/

theorem idx : ∀ t : Fin grid0.N, win0_0.index t = ![t.val / 4, 0] ∧ win0_1.index t = ![t.val % 4, 0]
    ∧ win0_2.index t = ![t.val / 4, t.val % 4] ∧ win0_3.index t = ![t.val / 4, t.val % 4] := by decide +kernel

theorem pt_lt (t : Fin cfg0.N) : t.val < 32 := Nat.lt_of_lt_of_eq t.isLt N_0

/-- Row `a` of a point's tile of rows. -/
def row (t : Fin cfg0.N) (a : Fin 1024) : Fin 8192 := ⟨t.val / 4 * 1024 + a.val, by have := pt_lt t; have := a.isLt; omega⟩
/-- Column `b` of a point's tile of columns. -/
def col (t : Fin cfg0.N) (b : Fin 1024) : Fin 4096 := ⟨t.val % 4 * 1024 + b.val, by have := b.isLt; omega⟩

/-- The constant two. -/
def two : EReal := Scalar.ofBits (F := Ideal) .f32 0x40000000#32

/-- The gradient, element by element. -/
def grad (x0 : S8192x1024.Idx → EReal) (x1 : S4096x1024.Idx → EReal) (x2 : S8192x4096.Idx → EReal) (i : S8192x4096.Idx) : EReal :=
  (∑ l : Fin 1024, x0 (ix2 (i 0) l) * x1 (ix2 (i 1) l)) * (two * max (x2 i) 0)

variable (m : (ℓ : Loc nD τ sig) → Buf (Elt Ideal) ℓ) (c : Dev nD)

abbrev a0 : S8192x1024.Idx → EReal := m ((c.tc : Thread nD τ).loc main_arg0)
abbrev a1 : S4096x1024.Idx → EReal := m ((c.tc : Thread nD τ).loc main_arg1)
abbrev a2 : S8192x4096.Idx → EReal := m ((c.tc : Thread nD τ).loc main_arg2)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 b k) = a1 m c (ix2 (col t b) k) := by
  blk_ext [iblk, (idx t).2.1, col]

theorem iblk_2 (t : Fin cfg0.N) (a : Fin 1024) (b : Fin 1024) :
    (iblk m c 2 t : S1024x1024.Idx → EReal) (ix2 a b) = a2 m c (ix2 (row t a) (col t b)) := by
  blk_ext [iblk, (idx t).2.2.1, row, col]

theorem point (t : Fin cfg0.N) (a b : Fin 1024) :
    (k0_pay1 (iblk m c 0 t) (iblk m c 1 t) (iblk m c 2 t) (ix2 a b) : EReal)
      = grad (a0 m c) (a1 m c) (a2 m c) (ix2 (row t a) (col t b)) := by
  pointwise [k0_pay1, grad]
  rw [iblk_2]
  refine congrArg (fun x : EReal => x * (two * max (a2 m c (ix2 (row t a) (col t b))) 0)) (Finset.sum_congr rfl fun k _ => ?_)
  rw [iblk_0, iblk_1]

theorem arr : (dats m 0 c).arrAt 3 cfg0.N = grad (a0 m c) (a1 m c) (a2 m c) := by
  refine (dats m 0 c).arrAt_eq_of_covers 3 _ (by decide +kernel) fun t hf y => ?_
  blk_simp
  rw [after0_3]
  obtain ⟨a, b, rfl⟩ : ∃ a b, y = (ix2 a b : S1024x1024.Idx) := ⟨y 0, y 1, by funext i; fin_cases i <;> rfl⟩
  have e : ((cfg0.win 3).blk t).view.emb (ix2 a b : S1024x1024.Idx) = (ix2 (row t a) (col t b) : S8192x4096.Idx) := by
    blk_ext [(idx t).2.2.2, row, col]
  frame_out
  exact (point m c t a b).trans (congrArg (grad (a0 m c) (a1 m c) (a2 m c)) e).symm

/-- Where the activation is not positive the kernel's factor is zero, which is what the reference selects there. -/
theorem sel (s t x : EReal) : (if 0 < x then s * (t * max x 0) else 0) = s * (t * max x 0) := by
  split
  · rfl
  · next h => rw [max_eq_right (not_lt.mp h), mul_zero, mul_zero]

theorem ref_eq (x0 : (⟨S8192x1024, .f32⟩ : BufTy).Contents (Elt Ideal)) (x1 : (⟨S4096x1024, .bf16⟩ : BufTy).Contents (Elt Ideal))
    (x2 : (⟨S8192x4096, .bf16⟩ : BufTy).Contents (Elt Ideal)) :
    (Cert.DownDxRefIdeal.Read.val_main_v14 (F := Ideal) x0 x1 x2 : S8192x4096.Idx → EReal) = grad x0 x1 x2 := by
  funext i
  rw [Cert.DownDxRefIdeal.Read.val_main_v14_apply, Cert.DownDxRefIdeal.Read.val_main_v13_apply, Cert.DownDxRefIdeal.Read.val_main_v4_apply,
    Cert.DownDxRefIdeal.Read.val_main_v11_apply, Cert.DownDxRefIdeal.Read.val_main_v12_apply, Cert.DownDxRefIdeal.Read.val_main_v10_apply,
    Cert.DownDxRefIdeal.Read.val_main_v8_apply, Cert.DownDxRefIdeal.Read.val_main_v7_apply, Cert.DownDxRefIdeal.Read.val_main_v2_apply,
    Cert.DownDxRefIdeal.Read.val_main_v3_apply, Cert.DownDxRefIdeal.Read.val_main_v0_apply,
    Cert.DownDxRefIdeal.Read.val_main_call0_v0_apply, Cert.DownDxRefIdeal.Read.val_main_call0_cst_apply,
    Cert.DownDxRefIdeal.Read.val_main_cst_apply, Cert.DownDxRefIdeal.Read.val_main_cst_1_apply, Cert.DownDxRefIdeal.Read.val_main_cst_2_apply]
  pointwise [grad]
  refine (sel _ two _).trans ?_
  refine congrArg (fun x : EReal => x * (two * max ((x2 : S8192x4096.Idx → EReal) i) 0)) (Finset.sum_congr rfl fun l _ => ?_)
  rw [Cert.DownDxRefIdeal.Read.val_main_v1_apply]
  exact congrArg₂ (fun a b : EReal => a * b) (congrArg (x0 : S8192x1024.Idx → EReal) (by funext a; fin_cases a <;> rfl))
    (congrArg (x1 : S4096x1024.Idx → EReal) (by funext a; fin_cases a <;> rfl))

/-- The printed body table and the idealised one are the same table. -/
theorem defs₀_eq : Cert.DownDx.defs₀ (F := Bits) = Cert.DownDxIdeal.defs₀ (F := Bits) := by
  unfold Cert.DownDx.defs₀ Cert.DownDxIdeal.defs₀
  refine congrArg _ ?_
  funext l x
  match l, x with
  | 0, (t, s) => rfl

theorem defs_eq : Cert.DownDx.defs (F := Bits) = Cert.DownDxIdeal.defs (F := Bits) :=
  congrArg (Pipeline.defs (Cert.DownDx.pcfgs (F := Bits))) defs₀_eq

theorem frame_bits : Cert.quiescent_DownDx := by
  intro m ρ _
  rw [defs_eq]
  exact Cert.DownDxIdeal.Gen.frame (F := Bits) m ρ

theorem frame_ref : Cert.quiescent_DownDxRefIdeal := fun m ρ _ =>
  (θ_run _ _ _).mono (fun _ h => ⟨fun c => (h c).2, sem_eq_zero_of_no_sems rfl _⟩) (Cert.DownDxRefIdeal.Value.run m ρ)

theorem algebraic : Cert.algebraic_DownDxIdeal_DownDxRefIdeal := by
  intro m g m' g' _ ha
  refine ⟨fun c => (dats m 0 c).arrAt 3 cfg0.N, Cert.DownDxIdeal.Value.run_blocks m g, ?_⟩
  refine (θ_run _ _ _).mono (fun r h c => ?_) (Cert.DownDxRefIdeal.Value.run m' g')
  obtain ⟨r0, hargs⟩ := h c
  obtain ⟨e0, e1, e2⟩ := ha c
  rw [Cert.DownDxRefIdeal.Read.val_main_v14_eq, e0, e1, e2] at r0
  exact ⟨r0.trans ((ref_eq _ _ _).trans (arr m c).symm), hargs⟩

end Cert.DownDxIdeal.Mlp

end
-- ==== Proof.MlpDownDw.lean ====
module

public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.DownDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.DownDwIdeal.Mlp

open Idealize.ShloMosaic Idealize.ShloMosaic.TcCoe Idealize.SL.Sem Cert.DownDwIdeal Cert.DownDwIdeal.Gen Cert.Mlp
open Idealize.ShloMosaic.Tactic

/-! The gradient of the MLP's second weight: the squared activation is formed tile by tile and its transpose multiplied with the
cotangent, over tiles of rows. -/

theorem idx : ∀ t : Fin grid0.N, win0_0.index t = ![t.val % 8, t.val / 8] ∧ win0_1.index t = ![t.val % 8, 0]
    ∧ win0_2.index t = ![t.val / 8, 0] := by decide +kernel

theorem pt_lt (t : Fin cfg0.N) : t.val < 32 := Nat.lt_of_lt_of_eq t.isLt N_0

/-- Row `k` of a point's tile of rows. -/
def row (t : Fin cfg0.N) (k : Fin 1024) : Fin 8192 := ⟨t.val % 8 * 1024 + k.val, by have := k.isLt; omega⟩
/-- Column `b` of a point's tile of columns. -/
def col (t : Fin cfg0.N) (b : Fin 1024) : Fin 4096 := ⟨t.val / 8 * 1024 + b.val, by have := pt_lt t; have := b.isLt; omega⟩

variable (m : (ℓ : Loc nD τ sig) → Buf (Elt Ideal) ℓ) (c : Dev nD)

abbrev a0 : S8192x4096.Idx → EReal := m ((c.tc : Thread nD τ).loc main_arg0)
abbrev a1 : S8192x1024.Idx → EReal := m ((c.tc : Thread nD τ).loc main_arg1)

theorem iblk_0 (t : Fin cfg0.N) (k : Fin 1024) (b : Fin 1024) :
    (iblk m c 0 t : S1024x1024.Idx → EReal) (ix2 k b) = a0 m c (ix2 (row t k) (col t b)) := by
  blk_ext [iblk, (idx t).1, row, col]

theorem iblk_1 (t : Fin cfg0.N) (k : Fin 1024) (b : Fin 1024) :
    (iblk m c 1 t : S1024x1024.Idx → EReal) (ix2 k b) = a1 m c (ix2 (row t k) b) := by
  blk_ext [iblk, (idx t).2.1, row]

/-- The squared positive part. -/
def sq (x : EReal) : EReal := max x 0 * max x 0

/-- One row's part of an element of the product. -/
def part (j : ℕ) (y : S1024x1024.Idx) (l : Fin 8192) : EReal :=
  pad (fun b : Fin 4096 => sq (a0 m c (ix2 l b))) (j * 1024 + (y 0).val) * a1 m c (ix2 l (y 1))

theorem part_eq (t : Fin cfg0.N) (a b : Fin 1024) (l : Fin 8192) :
    part m c (t.val / 8) (ix2 a b) l = sq (a0 m c (ix2 l (col t a))) * a1 m c (ix2 l b) :=
  congrArg (· * a1 m c (ix2 l b)) (pad_of_lt (fun b : Fin 4096 => sq (a0 m c (ix2 l b))) (col t a).isLt)

theorem point (t : Fin cfg0.N) (y : S1024x1024.Idx) :
    k0_pay2 (iblk m c 0 t) (iblk m c 1 t) y = ∑ k : Fin 1024, pad (part m c (t.val / 8) y) (t.val % 8 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact ((pad_of_lt _ (row t k).isLt).trans (part_eq m c t a b (row t k))).symm

theorem add_point (A : Vec Ideal S1024x1024 .bf16) (B X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 8 + 1), ∑ k : Fin 1024, pad (part m c (t.val / 8) y) (s * 1024 + k.val) := by
  refine Pipeline.eq_sum_of_reset_step_apply_divmod (fun n h => ((outsAt0 m c n h).2 : S1024x1024.Idx → EReal)) 8 (fun _ => 0)
    (fun j s y => ∑ k : Fin 1024, pad (part m c j y) (s * 1024 + k.val)) (fun t h y => ?_) (fun t h y => ?_) t y
  · rw [outsAt0_A m c t h (by omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

theorem out (t : Fin cfg0.N) (h : t.val % 8 = 7) : (outsAt0 m c t.val t.isLt).1 = (outsAt0 m c t.val t.isLt).2 := by
  rw [outsAt0_C m c t (by omega) (by omega) h]
  frame_out

theorem arr : (dats m 0 c).arrAt 2 cfg0.N = fun i : S4096x1024.Idx => ∑ l : Fin 8192, sq (a0 m c (ix2 l (i 0))) * a1 m c (ix2 l (i 1)) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (col t a) b : S4096x1024.Idx) := by
    blk_ext [(idx t).2.2, col]
  refine (congrFun (out m c t h7) _).trans ((acc m c t _).trans ?_)
  rw [h7]
  refine (zero_add (_ : EReal)).trans ((tiles 8 1024 rfl _).trans ?_)
  refine Eq.trans (Finset.sum_congr rfl fun l _ => part_eq m c t a b l)
    (congrArg (fun i : S4096x1024.Idx => ∑ l : Fin 8192, sq (a0 m c (ix2 l (i 0))) * a1 m c (ix2 l (i 1))) e).symm

theorem ref_eq (x0 : (⟨S8192x4096, .bf16⟩ : BufTy).Contents (Elt Ideal)) (x1 : (⟨S8192x1024, .f32⟩ : BufTy).Contents (Elt Ideal)) :
    (Cert.DownDwRefIdeal.Read.val_main_v4 (F := Ideal) x0 x1 : S4096x1024.Idx → EReal)
      = fun i : S4096x1024.Idx => ∑ l : Fin 8192, sq ((x0 : S8192x4096.Idx → EReal) (ix2 l (i 0))) * (x1 : S8192x1024.Idx → EReal) (ix2 l (i 1)) := by
  funext i
  rw [Cert.DownDwRefIdeal.Read.val_main_v4_apply, Cert.DownDwRefIdeal.Read.val_main_v3_apply]
  refine Finset.sum_congr rfl fun l _ => ?_
  refine (mul_comm (_ : EReal) _).trans ?_
  refine congrArg₂ (fun a b : EReal => a * b) ?_ (congrArg (x1 : S8192x1024.Idx → EReal) (by funext a; fin_cases a <;> rfl))
  rw [Cert.DownDwRefIdeal.Read.val_main_v2_apply, Cert.DownDwRefIdeal.Read.val_main_v1_apply, Cert.DownDwRefIdeal.Read.val_main_v0_apply,
    Cert.DownDwRefIdeal.Read.val_main_call0_v0_apply, Cert.DownDwRefIdeal.Read.val_main_call0_cst_apply]
  pointwise [sq]
  exact congrArg (fun j : S8192x4096.Idx => sq ((x0 : S8192x4096.Idx → EReal) j)) (by funext a; fin_cases a <;> rfl)

/-- The printed body table and the idealised one are the same table. -/
theorem defs₀_eq : Cert.DownDw.defs₀ (F := Bits) = Cert.DownDwIdeal.defs₀ (F := Bits) := by
  unfold Cert.DownDw.defs₀ Cert.DownDwIdeal.defs₀
  refine congrArg _ ?_
  funext l x
  match l, x with
  | 0, (t, s) => rfl

theorem defs_eq : Cert.DownDw.defs (F := Bits) = Cert.DownDwIdeal.defs (F := Bits) :=
  congrArg (Pipeline.defs (Cert.DownDw.pcfgs (F := Bits))) defs₀_eq

theorem frame_bits : Cert.quiescent_DownDw := by
  intro m ρ _
  rw [defs_eq]
  exact Cert.DownDwIdeal.Gen.frame (F := Bits) m ρ

theorem frame_ref : Cert.quiescent_DownDwRefIdeal := fun m ρ _ =>
  (θ_run _ _ _).mono (fun _ h => ⟨fun c => (h c).2, sem_eq_zero_of_no_sems rfl _⟩) (Cert.DownDwRefIdeal.Value.run m ρ)

theorem algebraic : Cert.algebraic_DownDwIdeal_DownDwRefIdeal := by
  intro m g m' g' _ ha
  refine ⟨fun c => (dats m 0 c).arrAt 2 cfg0.N, Cert.DownDwIdeal.Value.run_blocks m g, ?_⟩
  refine (θ_run _ _ _).mono (fun r h c => ?_) (Cert.DownDwRefIdeal.Value.run m' g')
  obtain ⟨r0, hargs⟩ := h c
  obtain ⟨e0, e1⟩ := ha c
  rw [Cert.DownDwRefIdeal.Read.val_main_v4_eq, e0, e1] at r0
  exact ⟨r0.trans ((ref_eq _ _).trans (arr m c).symm), hargs⟩

end Cert.DownDwIdeal.Mlp

end
-- ==== Proof.MlpUpDw.lean ====
module

public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.UpDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.UpDwIdeal.Mlp

open Idealize.ShloMosaic Idealize.ShloMosaic.TcCoe Idealize.SL.Sem Cert.UpDwIdeal Cert.UpDwIdeal.Gen Cert.Mlp
open Idealize.ShloMosaic.Tactic

/-! The gradient of the MLP's first weight: the product of the transposed input with the cotangent, over tiles of rows. -/

theorem idx : ∀ t : Fin grid0.N, win0_0.index t = ![t.val % 8, 0] ∧ win0_1.index t = ![t.val % 8, t.val / 8]
    ∧ win0_2.index t = ![0, t.val / 8] := by decide +kernel

theorem pt_lt (t : Fin cfg0.N) : t.val < 32 := Nat.lt_of_lt_of_eq t.isLt N_0

/-- Row `k` of a point's tile of rows. -/
def row (t : Fin cfg0.N) (k : Fin 1024) : Fin 8192 := ⟨t.val % 8 * 1024 + k.val, by have := k.isLt; omega⟩
/-- Column `b` of a point's tile of columns. -/
def col (t : Fin cfg0.N) (b : Fin 1024) : Fin 4096 := ⟨t.val / 8 * 1024 + b.val, by have := pt_lt t; have := b.isLt; omega⟩

variable (m : (ℓ : Loc nD τ sig) → Buf (Elt Ideal) ℓ) (c : Dev nD)

abbrev a0 : S8192x1024.Idx → EReal := m ((c.tc : Thread nD τ).loc main_arg0)
abbrev a1 : S8192x4096.Idx → EReal := m ((c.tc : Thread nD τ).loc main_arg1)

theorem iblk_0 (t : Fin cfg0.N) (k : Fin 1024) (b : Fin 1024) :
    (iblk m c 0 t : S1024x1024.Idx → EReal) (ix2 k b) = a0 m c (ix2 (row t k) b) := by
  blk_ext [iblk, (idx t).1, row]

theorem iblk_1 (t : Fin cfg0.N) (k : Fin 1024) (b : Fin 1024) :
    (iblk m c 1 t : S1024x1024.Idx → EReal) (ix2 k b) = a1 m c (ix2 (row t k) (col t b)) := by
  blk_ext [iblk, (idx t).2.1, row, col]

/-- One row's part of an element of the product. -/
def part (j : ℕ) (y : S1024x1024.Idx) (l : Fin 8192) : EReal :=
  a0 m c (ix2 l (y 0)) * pad (fun b : Fin 4096 => a1 m c (ix2 l b)) (j * 1024 + (y 1).val)

theorem part_eq (t : Fin cfg0.N) (a b : Fin 1024) (l : Fin 8192) :
    part m c (t.val / 8) (ix2 a b) l = a0 m c (ix2 l a) * a1 m c (ix2 l (col t b)) :=
  congrArg (a0 m c (ix2 l a) * ·) (pad_of_lt (fun b : Fin 4096 => a1 m c (ix2 l b)) (col t b).isLt)

theorem point (t : Fin cfg0.N) (y : S1024x1024.Idx) :
    k0_pay2 (iblk m c 0 t) (iblk m c 1 t) y = ∑ k : Fin 1024, pad (part m c (t.val / 8) y) (t.val % 8 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact ((pad_of_lt _ (row t k).isLt).trans (part_eq m c t a b (row t k))).symm

theorem add_point (A B : Vec Ideal S1024x1024 .bf16) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 8 + 1), ∑ k : Fin 1024, pad (part m c (t.val / 8) y) (s * 1024 + k.val) := by
  refine Pipeline.eq_sum_of_reset_step_apply_divmod (fun n h => ((outsAt0 m c n h).2 : S1024x1024.Idx → EReal)) 8 (fun _ => 0)
    (fun j s y => ∑ k : Fin 1024, pad (part m c j y) (s * 1024 + k.val)) (fun t h y => ?_) (fun t h y => ?_) t y
  · rw [outsAt0_A m c t h (by omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

theorem out (t : Fin cfg0.N) (h : t.val % 8 = 7) : (outsAt0 m c t.val t.isLt).1 = (outsAt0 m c t.val t.isLt).2 := by
  rw [outsAt0_C m c t (by omega) (by omega) h]
  frame_out

theorem arr : (dats m 0 c).arrAt 2 cfg0.N = fun i : S1024x4096.Idx => ∑ l : Fin 8192, a0 m c (ix2 l (i 0)) * a1 m c (ix2 l (i 1)) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 a (col t b) : S1024x4096.Idx) := by
    blk_ext [(idx t).2.2, col]
  refine (congrFun (out m c t h7) _).trans ((acc m c t _).trans ?_)
  rw [h7]
  refine (zero_add (_ : EReal)).trans ((tiles 8 1024 rfl _).trans ?_)
  refine Eq.trans (Finset.sum_congr rfl fun l _ => part_eq m c t a b l)
    (congrArg (fun i : S1024x4096.Idx => ∑ l : Fin 8192, a0 m c (ix2 l (i 0)) * a1 m c (ix2 l (i 1))) e).symm

theorem ref_eq (x0 : (⟨S8192x1024, .bf16⟩ : BufTy).Contents (Elt Ideal)) (x1 : (⟨S8192x4096, .bf16⟩ : BufTy).Contents (Elt Ideal)) :
    (Cert.UpDwRefIdeal.Read.val_main_v3 (F := Ideal) x0 x1 : S1024x4096.Idx → EReal)
      = fun i : S1024x4096.Idx => ∑ l : Fin 8192, (x0 : S8192x1024.Idx → EReal) (ix2 l (i 0)) * (x1 : S8192x4096.Idx → EReal) (ix2 l (i 1)) := by
  funext i
  rw [Cert.UpDwRefIdeal.Read.val_main_v3_apply, Cert.UpDwRefIdeal.Read.val_main_v2_apply]
  refine Finset.sum_congr rfl fun l _ => ?_
  rw [Cert.UpDwRefIdeal.Read.val_main_v1_apply, Cert.UpDwRefIdeal.Read.val_main_v0_apply]
  refine (mul_comm (_ : EReal) _).trans ?_
  exact congrArg₂ (fun a b : EReal => a * b) (congrArg (x0 : S8192x1024.Idx → EReal) (by funext a; fin_cases a <;> rfl))
    (congrArg (x1 : S8192x4096.Idx → EReal) (by funext a; fin_cases a <;> rfl))

/-- The printed body table and the idealised one are the same table. -/
theorem defs₀_eq : Cert.UpDw.defs₀ (F := Bits) = Cert.UpDwIdeal.defs₀ (F := Bits) := by
  unfold Cert.UpDw.defs₀ Cert.UpDwIdeal.defs₀
  refine congrArg _ ?_
  funext l x
  match l, x with
  | 0, (t, s) => rfl

theorem defs_eq : Cert.UpDw.defs (F := Bits) = Cert.UpDwIdeal.defs (F := Bits) :=
  congrArg (Pipeline.defs (Cert.UpDw.pcfgs (F := Bits))) defs₀_eq

theorem frame_bits : Cert.quiescent_UpDw := by
  intro m ρ _
  rw [defs_eq]
  exact Cert.UpDwIdeal.Gen.frame (F := Bits) m ρ

theorem frame_ref : Cert.quiescent_UpDwRefIdeal := fun m ρ _ =>
  (θ_run _ _ _).mono (fun _ h => ⟨fun c => (h c).2, sem_eq_zero_of_no_sems rfl _⟩) (Cert.UpDwRefIdeal.Value.run m ρ)

theorem algebraic : Cert.algebraic_UpDwIdeal_UpDwRefIdeal := by
  intro m g m' g' _ ha
  refine ⟨fun c => (dats m 0 c).arrAt 2 cfg0.N, Cert.UpDwIdeal.Value.run_blocks m g, ?_⟩
  refine (θ_run _ _ _).mono (fun r h c => ?_) (Cert.UpDwRefIdeal.Value.run m' g')
  obtain ⟨r0, hargs⟩ := h c
  obtain ⟨e0, e1⟩ := ha c
  rw [Cert.UpDwRefIdeal.Read.val_main_v3_eq, e0, e1] at r0
  exact ⟨r0.trans ((ref_eq _ _).trans (arr m c).symm), hargs⟩

end Cert.UpDwIdeal.Mlp

end
-- ==== Proof.MlpUpDx.lean ====
module

public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.UpDx
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.UpDxIdeal.Mlp

open Idealize.ShloMosaic Idealize.ShloMosaic.TcCoe Idealize.SL.Sem Cert.UpDxIdeal Cert.UpDxIdeal.Gen Cert.Mlp
open Idealize.ShloMosaic.Tactic

/-! The gradient of the MLP's input: the cotangent times the transposed first weight, over tiles of columns, then the derivative of
the root-mean-square norm of each row; and the gradient of the norm's gain, over tiles of rows. -/

theorem idx : ∀ t : Fin grid0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![0, 0] := by decide +kernel

theorem pt_lt (t : Fin cfg0.N) : t.val < 32 := Nat.lt_of_lt_of_eq t.isLt N_0

/-- Row `a` of a point's tile of rows. -/
def row (t : Fin cfg0.N) (a : Fin 512) : Fin 8192 := ⟨t.val / 2 * 512 + a.val, by have := pt_lt t; have := a.isLt; omega⟩
/-- Column `k` of a point's tile of columns. -/
def col (t : Fin cfg0.N) (k : Fin 2048) : Fin 4096 := ⟨t.val % 2 * 2048 + k.val, by have := k.isLt; omega⟩

/-- The cotangent of the normed rows. -/
def dz (x0 : S8192x4096.Idx → EReal) (x1 : S1024x4096.Idx → EReal) (r : Fin 8192) (b : Fin 1024) : EReal :=
  ∑ l : Fin 4096, x0 (ix2 r l) * x1 (ix2 b l)

/-- The gradient of the MLP's input. -/
def gradX (x0 : S8192x4096.Idx → EReal) (x1 : S1024x4096.Idx → EReal) (x2 : S8192x1024.Idx → EReal) (x3 : S1x1024.Idx → EReal)
    (x4 : S8192x1024.Idx → EReal) (i : S8192x1024.Idx) : EReal :=
  rowGrad (fun k => x2 (ix2 (i 0) k)) (fun k => x3 (ix2 (0 : Fin 1) k)) (dz x0 x1 (i 0)) (x4 i) (i 1)

/-- The gradient of the norm's gain. -/
def gradG (x0 : S8192x4096.Idx → EReal) (x1 : S1024x4096.Idx → EReal) (x2 : S8192x1024.Idx → EReal) (i : S1x1024.Idx) : EReal :=
  ∑ r : Fin 8192, gainPart (fun k => x2 (ix2 r k)) (dz x0 x1 r) (i 1)

variable (m : (ℓ : Loc nD τ sig) → Buf (Elt Ideal) ℓ) (c : Dev nD)

abbrev a0 : S8192x4096.Idx → EReal := m ((c.tc : Thread nD τ).loc main_arg0)
abbrev a1 : S1024x4096.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)

theorem iblk_0 (t : Fin cfg0.N) (a : Fin 512) (k : Fin 2048) :
    (iblk m c 0 t : S512x2048.Idx → EReal) (ix2 a k) = a0 m c (ix2 (row t a) (col t k)) := by
  blk_ext [iblk, (idx t).1, row, col]

theorem iblk_1 (t : Fin cfg0.N) (b : Fin 1024) (k : Fin 2048) :
    (iblk m c 1 t : S1024x2048.Idx → EReal) (ix2 b k) = a1 m c (ix2 b (col t k)) := by
  blk_ext [iblk, (idx t).2.1, col]

theorem iblk_2 (t : Fin cfg0.N) (a : Fin 512) (b : Fin 1024) :
    (iblk m c 2 t : S512x1024.Idx → EReal) (ix2 a b) = a2 m c (ix2 (row t a) b) := by
  blk_ext [iblk, (idx t).2.2.1, row]

theorem iblk_3 (t : Fin cfg0.N) (a : Fin 512) (b : Fin 1024) :
    (iblk m c 3 t : S512x1024.Idx → EReal) (ix2 a b) = a4 m c (ix2 (row t a) b) := by
  blk_ext [iblk, (idx t).2.2.2.1, row]

theorem iblk_4 (t : Fin cfg0.N) (b : Fin 1024) :
    (iblk m c 4 t : S1x1024.Idx → EReal) (ix2 (0 : Fin 1) b) = a3 m c (ix2 (0 : Fin 1) b) := by
  blk_ext [iblk, (idx t).2.2.2.2.1]

/-- One column's part of an element of the product. -/
def part (j : ℕ) (y : S512x1024.Idx) (l : Fin 4096) : EReal :=
  pad (fun r : Fin 8192 => a0 m c (ix2 r l)) (j * 512 + (y 0).val) * a1 m c (ix2 (y 1) l)

theorem part_eq (t : Fin cfg0.N) (a : Fin 512) (b : Fin 1024) (l : Fin 4096) :
    part m c (t.val / 2) (ix2 a b) l = a0 m c (ix2 (row t a) l) * a1 m c (ix2 b l) :=
  congrArg (· * a1 m c (ix2 b l)) (pad_of_lt (fun r : Fin 8192 => a0 m c (ix2 r l)) (row t a).isLt)

theorem point (t : Fin cfg0.N) (y : S512x1024.Idx) :
    k0_pay2 (iblk m c 0 t) (iblk m c 1 t) y = ∑ k : Fin 2048, pad (part m c (t.val / 2) y) (t.val % 2 * 2048 + k.val) := by
  obtain ⟨a, b, rfl⟩ : ∃ a b, y = (ix2 a b : S512x1024.Idx) := ⟨y 0, y 1, by funext i; fin_cases i <;> rfl⟩
  pointwise [k0_pay1, k0_pay2]
  refine Finset.sum_congr rfl fun k _ => ?_
  rw [iblk_0, iblk_1]
  exact ((pad_of_lt _ (col t k).isLt).trans (part_eq m c t a b (col t k))).symm

theorem add_point (A : Vec Ideal S512x2048 .bf16) (B : Vec Ideal S1024x2048 .bf16) (X : Vec Ideal S512x1024 .f32) (y : S512x1024.Idx) :
    k0_pay3 A B X y = (X y : EReal) + k0_pay2 A B y := by
  obtain ⟨a, b, rfl⟩ : ∃ a b, y = (ix2 a b : S512x1024.Idx) := ⟨y 0, y 1, by funext i; fin_cases i <;> rfl⟩
  pointwise [k0_pay1, k0_pay2, k0_pay3]

theorem acc (t : Fin cfg0.N) (y : S512x1024.Idx) :
    (outsAt0 m c t.val t.isLt).2.2 y = (fun _ => 0 : S512x1024.Idx → EReal) y + ∑ s ∈ Finset.range (t.val % 2 + 1), ∑ k : Fin 2048, pad (part m c (t.val / 2) y) (s * 2048 + k.val) := by
  refine Pipeline.eq_sum_of_reset_step_apply_divmod (fun n h => ((outsAt0 m c n h).2.2 : S512x1024.Idx → EReal)) 2 (fun _ => 0)
    (fun j s y => ∑ k : Fin 2048, pad (part m c j y) (s * 2048 + k.val)) (fun t h y => ?_) (fun t h y => ?_) t y
  · rw [outsAt0_A m c t h (by omega) (by omega)]
    frame_out
    exact (point m c t y).trans (zero_add (_ : EReal)).symm
  · by_cases h2 : t.val < 2
    · rw [outsAt0_B m c t h (by omega) (by omega) h2 (by omega)]
      frame_out
      simp only [read_unread_whole]
      exact (add_point _ _ _ y).trans (congrArg (_ + ·) (point m c t y))
    · rw [outsAt0_C m c t h (by omega) (by omega) h2 (by omega)]
      frame_out
      simp only [read_unread_whole]
      exact (add_point _ _ _ y).trans (congrArg (_ + ·) (point m c t y))

/-- After a row tile's second point the scratch holds the whole product. -/
theorem scr (t : Fin cfg0.N) (h : t.val % 2 = 1) (a : Fin 512) (b : Fin 1024) :
    ((outsAt0 m c t.val t.isLt).2.2 (ix2 a b) : EReal) = dz (a0 m c) (a1 m c) (row t a) b := by
  refine (acc m c t _).trans ?_
  rw [h]
  refine (zero_add (_ : EReal)).trans ((tiles 2 2048 rfl _).trans ?_)
  exact Finset.sum_congr rfl fun l _ => part_eq m c t a b l

theorem p7 (A X : Vec Ideal S512x1024 .f32) (b : Fin 1024) :
    k0_pay7 A X (ix2 (0 : Fin 1) b) = (∑ a : Fin 512, gainPart (fun k => X (ix2 a k)) (fun k => A (ix2 a k)) b : EReal) := by
  pointwise [k0_pay7, k0_pay6, k0_pay5, gainPart, den, len, eps]

theorem p4 (A B : Vec Ideal S1x1024 .f32) (b : Fin 1024) :
    k0_pay4 A B (ix2 (0 : Fin 1) b) = (B (ix2 (0 : Fin 1) b) + A (ix2 (0 : Fin 1) b) : EReal) := by
  pointwise [k0_pay4]

theorem p8 (A X H : Vec Ideal S512x1024 .f32) (G : Vec Ideal S1x1024 .f32) (a : Fin 512) (b : Fin 1024) :
    k0_pay8 A X G H (ix2 a b) = rowGrad (fun k => X (ix2 a k)) (fun k => G (ix2 (0 : Fin 1) k)) (fun k => A (ix2 a k)) (H (ix2 a b)) b := by
  pointwise [k0_pay8, k0_pay6, k0_pay5, rowGrad, normSlope, den, len, eps, half]
  simp only [Fintype.sum_unique]

theorem odd_dx (t : Fin cfg0.N) (h : t.val % 2 = 1) :
    (outsAt0 m c t.val t.isLt).1 = k0_pay8 (outsAt0 m c t.val t.isLt).2.2 (iblk m c 2 t) (iblk m c 4 t) (iblk m c 3 t) := by
  by_cases h2 : t.val < 2
  · rw [outsAt0_B m c t (by omega) h h h2 (by omega)]
    frame_out
  · rw [outsAt0_C m c t (by omega) h h h2 (by omega)]
    frame_out

theorem first_gain (t : Fin cfg0.N) (h : t.val % 2 = 1) (h2 : t.val < 2) :
    (outsAt0 m c t.val t.isLt).2.1 = k0_pay7 (outsAt0 m c t.val t.isLt).2.2 (iblk m c 2 t) := by
  rw [outsAt0_B m c t (by omega) h h h2 (by omega)]
  frame_out

theorem next_gain (t : Fin cfg0.N) (h : t.val % 2 = 1) (h2 : 2 ≤ t.val) :
    (outsAt0 m c t.val t.isLt).2.1 = k0_pay4 (k0_pay7 (outsAt0 m c t.val t.isLt).2.2 (iblk m c 2 t))
      (outsAt0 m c (t.val - 1) (Nat.lt_of_le_of_lt (Nat.sub_le _ _) t.isLt)).2.1 := by
  rw [outsAt0_C m c t (by omega) h h (by omega) h2]
  frame_out

theorem even_gain (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]
  rfl

/-- One row's part of the gain's gradient, at a column. -/
def gpart (b : Fin 1024) (r : Fin 8192) : EReal := gainPart (fun k => a2 m c (ix2 r k)) (dz (a0 m c) (a1 m c) r) b

theorem tile_gain (t : Fin cfg0.N) (h : t.val % 2 = 1) (q : ℕ) (hq : t.val / 2 = q) (b : Fin 1024) :
    (k0_pay7 (outsAt0 m c t.val t.isLt).2.2 (iblk m c 2 t) (ix2 (0 : Fin 1) b) : EReal)
      = ∑ a : Fin 512, pad (gpart m c b) (q * 512 + a.val) := by
  subst hq
  refine (p7 _ _ b).trans (Finset.sum_congr rfl fun a _ => ?_)
  refine Eq.trans ?_ (pad_of_lt (gpart m c b) (row t a).isLt).symm
  exact congrArg₂ (fun x y => gainPart x y b) (funext fun k => iblk_2 m c t a k) (funext fun k => scr m c t h a k)

/-- After row tile `n` the second result's block holds the sum of the row tiles so far. -/
theorem gain (b : Fin 1024) (n : ℕ) : ∀ (t : Fin cfg0.N) (_ : t.val = 2 * n + 1),
    ((outsAt0 m c t.val t.isLt).2.1 (ix2 (0 : Fin 1) b) : EReal) = ∑ s ∈ Finset.range (n + 1), ∑ a : Fin 512, pad (gpart m c b) (s * 512 + a.val) := by
  induction n with
  | zero =>
    intro t ht
    rw [Nat.zero_add, Finset.sum_range_one]
    exact (congrFun (first_gain m c t (by omega) (by omega)) _).trans (tile_gain m c t (by omega) 0 (by omega) b)
  | succ n ih =>
    intro t ht
    rw [Finset.sum_range_succ]
    refine (congrFun (next_gain m c t (by omega) (by omega)) _).trans ?_
    refine (p4 _ _ b).trans ?_
    refine congrArg₂ (fun x y : EReal => x + y) ?_ (tile_gain m c t (by omega) (n + 1) (by omega) b)
    have hl := t.isLt
    refine (congrFun (even_gain m c ⟨t.val - 1, by omega⟩ (by show (t.val - 1) % 2 = 0; omega)) _).trans ?_
    exact ih ⟨t.val - 1 - 1, by omega⟩ (by show t.val - 1 - 1 = 2 * n + 1; omega)

theorem arrX : (dats m 0 c).arrAt 5 cfg0.N = gradX (a0 m c) (a1 m c) (a2 m c) (a3 m c) (a4 m c) := by
  refine (dats m 0 c).arrAt_eq_of_covers 5 _ (by decide +kernel) fun t hf y => ?_
  blk_simp
  have h := (flush0_5 t).mp hf
  rw [after0_5]
  obtain ⟨a, b, rfl⟩ : ∃ a b, y = (ix2 a b : S512x1024.Idx) := ⟨y 0, y 1, by funext i; fin_cases i <;> rfl⟩
  have e : ((cfg0.win 5).blk t).view.emb (ix2 a b : S512x1024.Idx) = (ix2 (row t a) b : S8192x1024.Idx) := by
    blk_ext [(idx t).2.2.2.2.2.1, row]
  refine ((congrFun (odd_dx m c t h) _).trans (p8 _ _ _ _ a b)).trans ?_
  refine Eq.trans ?_ (congrArg (gradX (a0 m c) (a1 m c) (a2 m c) (a3 m c) (a4 m c)) e).symm
  rw [iblk_3, show (fun k => (outsAt0 m c t.val t.isLt).2.2 (ix2 a k)) = dz (a0 m c) (a1 m c) (row t a) from funext fun k => scr m c t h a k,
    show (fun k => (iblk m c 2 t : S512x1024.Idx → EReal) (ix2 a k)) = (fun k => a2 m c (ix2 (row t a) k)) from funext fun k => iblk_2 m c t a k,
    show (fun k => (iblk m c 4 t : S1x1024.Idx → EReal) (ix2 (0 : Fin 1) k)) = (fun k => a3 m c (ix2 (0 : Fin 1) k)) from funext fun k => iblk_4 m c t k]
  rfl

theorem arrG : (dats m 0 c).arrAt 6 cfg0.N = gradG (a0 m c) (a1 m c) (a2 m c) := by
  refine (dats m 0 c).arrAt_eq_of_covers 6 _ (by decide +kernel) fun t hf y => ?_
  blk_simp
  have h := (flush0_6 t).mp hf
  rw [after0_6]
  obtain ⟨a, b, rfl⟩ : ∃ a b, y = (ix2 a b : S1x1024.Idx) := ⟨y 0, y 1, by funext i; fin_cases i <;> rfl⟩
  obtain rfl : a = 0 := Subsingleton.elim _ _
  have e : ((cfg0.win 6).blk t).view.emb (ix2 (0 : Fin 1) b : S1x1024.Idx) = (ix2 (0 : Fin 1) b : S1x1024.Idx) := by
    blk_ext [(idx t).2.2.2.2.2.2]
  have hl := pt_lt t
  refine (gain m c b 15 t (by omega)).trans ((tiles 16 512 rfl _).trans ?_)
  exact (congrArg (gradG (a0 m c) (a1 m c) (a2 m c)) e).symm

/-! The reference, stage by stage. -/

section
open Cert.UpDxRefIdeal.Read
variable (x0 : (⟨S8192x4096, .bf16⟩ : BufTy).Contents (Elt Ideal)) (x1 : (⟨S1024x4096, .bf16⟩ : BufTy).Contents (Elt Ideal))
  (x2 : (⟨S8192x1024, .f32⟩ : BufTy).Contents (Elt Ideal)) (x3 : (⟨S1x1024, .f32⟩ : BufTy).Contents (Elt Ideal))
  (x4 : (⟨S8192x1024, .f32⟩ : BufTy).Contents (Elt Ideal))

theorem ref_den (i : Cert.UpDxRefIdeal.S8192x1.Idx) : (val_main_v6 (F := Ideal) x2 i : EReal) = den (fun k => x2 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x2 : S8192x1024.Idx → EReal)
    (show idx_main_v1 (idx_main_v2 i) k = ix2 (i 0) k by funext a; fin_cases a <;> rfl))

theorem ref_dz (r : Fin 8192) (b : Fin 1024) : (val_main_v18 (F := Ideal) x0 x1 (ix2 r b) : EReal) = dz x0 x1 r b := by
  rw [val_main_v18_apply]
  refine Finset.sum_congr rfl fun l _ => ?_
  rw [val_main_v17_apply, val_main_v15_apply]
  exact congrArg₂ (fun a b : EReal => a * b) (congrArg (x0 : S8192x4096.Idx → EReal) (by funext a; fin_cases a <;> rfl))
    (congrArg (x1 : S1024x4096.Idx → EReal) (by funext a; fin_cases a <;> rfl))

theorem idx_22 (r : Fin 8192) (b : Fin 1024) : idx_main_v22 (ix2 r b) = ix2 (0 : Fin 1) b := by funext a; fin_cases a <;> rfl

theorem idx_34 (r : Fin 8192) (b : Fin 1024) : idx_main_v34 (ix2 r b) = ix1 r := by funext a; fin_cases a; rfl

theorem idx_25 (r : Fin 8192) (z : Fin 1) (k : Fin 1024) : idx_main_v25 (idx_main_v26 (idx_main_v33 (ix1 r) z)) k = ix2 r k := by
  funext a
  fin_cases a
  · exact Fin.ext (by show r.val * 1 + z.val = r.val; have := z.isLt; omega)
  · rfl

theorem idx_20 (z : Fin 1) (b : Fin 1024) (k : Fin 8192) : idx_main_v20 (idx_main_v21 (ix2 z b)) k = ix2 k b := by
  funext a
  fin_cases a
  · rfl
  · exact Fin.ext (by show z.val * 1024 + b.val = b.val; have := z.isLt; omega)

theorem ref_33 (r : Fin 8192) : (val_main_v33 (F := Ideal) x0 x1 x2 x3 (ix1 r) : EReal)
    = normSlope (fun k => x2 (ix2 r k)) (fun k => x3 (ix2 (0 : Fin 1) k)) (dz x0 x1 r) := by
  simp only [val_main_v33_apply, val_main_v32_apply, val_main_v31_apply, val_main_v30_apply, val_main_v26_apply, val_main_v25_apply,
    val_main_v24_apply, val_main_v23_apply, val_main_v22_apply, val_main_v10_apply, val_main_v9_apply, val_main_v8_apply, val_main_v7_apply,
    val_main_cst_2_apply, val_main_cst_4_apply, val_main_cst_5_apply, val_main_cst_6_apply, ref_den]
  pointwise [normSlope, half, len]
  simp only [idx_25, idx_22, ref_dz, ref_den, Fintype.sum_unique]
  rfl

theorem ref_X : (val_main_v38 (F := Ideal) x0 x1 x2 x3 x4 : S8192x1024.Idx → EReal) = gradX x0 x1 x2 x3 x4 := by
  funext i
  obtain ⟨r, b, rfl⟩ : ∃ r b, i = (ix2 r b : S8192x1024.Idx) := ⟨i 0, i 1, by funext i; fin_cases i <;> rfl⟩
  simp only [val_main_v38_apply, val_main_v37_apply, val_main_v36_apply, val_main_v35_apply, val_main_v34_apply, val_main_v29_apply,
    val_main_v28_apply, val_main_v27_apply, val_main_v23_apply, val_main_v22_apply, val_main_v7_apply, ref_den, ref_dz]
  pointwise [gradX, rowGrad]
  simp only [idx_22, idx_34, ref_33, ref_den]
  exact last_add _ _ _ _

theorem ref_G : (val_main_v21 (F := Ideal) x0 x1 x2 : S1x1024.Idx → EReal) = gradG x0 x1 x2 := by
  funext i
  obtain ⟨r, b, rfl⟩ : ∃ r b, i = (ix2 r b : S1x1024.Idx) := ⟨i 0, i 1, by funext i; fin_cases i <;> rfl⟩
  simp only [val_main_v21_apply, val_main_v20_apply, val_main_v19_apply, val_main_v12_apply, val_main_v11_apply, val_main_v7_apply,
    val_main_cst_3_apply, ref_den]
  pointwise [gradG, gainPart]
  simp only [idx_20, ref_dz, ref_den]
  rfl

end

/-- The printed body table and the idealised one are the same table. -/
theorem defs₀_eq : Cert.UpDx.defs₀ (F := Bits) = Cert.UpDxIdeal.defs₀ (F := Bits) := by
  unfold Cert.UpDx.defs₀ Cert.UpDxIdeal.defs₀
  refine congrArg _ ?_
  funext l x
  match l, x with
  | 0, (t, s) => rfl

theorem defs_eq : Cert.UpDx.defs (F := Bits) = Cert.UpDxIdeal.defs (F := Bits) :=
  congrArg (Pipeline.defs (Cert.UpDx.pcfgs (F := Bits))) defs₀_eq

theorem frame_bits : Cert.quiescent_UpDx := by
  intro m ρ _
  rw [defs_eq]
  exact Cert.UpDxIdeal.Gen.frame (F := Bits) m ρ

theorem frame_ref : Cert.quiescent_UpDxRefIdeal := fun m ρ _ =>
  (θ_run _ _ _).mono (fun _ h => ⟨fun c => (h c).2.2, sem_eq_zero_of_no_sems rfl _⟩) (Cert.UpDxRefIdeal.Value.run m ρ)

theorem algebraic : Cert.algebraic_UpDxIdeal_UpDxRefIdeal := by
  intro m g m' g' _ ha
  refine ⟨fun c => (dats m 0 c).arrAt 5 cfg0.N, fun c => (dats m 0 c).arrAt 6 cfg0.N, Cert.UpDxIdeal.Value.run_blocks m g, ?_⟩
  refine (θ_run _ _ _).mono (fun r h c => ?_) (Cert.UpDxRefIdeal.Value.run m' g')
  obtain ⟨r0, r1, hargs⟩ := h c
  obtain ⟨e0, e1, e2, e3, e4⟩ := ha c
  rw [Cert.UpDxRefIdeal.Read.val_main_v38_eq, e0, e1, e2, e3, e4] at r0
  rw [Cert.UpDxRefIdeal.Read.val_main_v21_eq, e0, e1, e2] at r1
  exact ⟨r0.trans ((ref_X _ _ _ _ _).trans (arrX m c).symm), r1.trans ((ref_G _ _ _).trans (arrG m c).symm), hargs⟩

end Cert.UpDxIdeal.Mlp

end
-- ==== Proof.MmGluDx.lean ====
module

public import proofs.«01_k».proof.Proof.Gen.GluDxIdeal.Value
public import proofs.«01_k».proof.Proof.Gen.GluDxRefIdeal.Run
public import proofs.«01_k».proof.Proof.Gen.GluDxRefIdeal.Read
public import proofs.«01_k».proof.Proof.Gen.GluDx
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.GluDxIdeal.Mlp

open Idealize.ShloMosaic Idealize.ShloMosaic.TcCoe Idealize.SL.Sem Cert.GluDxIdeal Cert.GluDxIdeal.Gen Cert.Mlp
open Idealize.ShloMosaic.Tactic

/-! The gradient of the gated linear unit's input: the cotangent times the transposed weight, over tiles of columns. -/

theorem idx : ∀ t : Fin grid0.N, win0_0.index t = ![t.val / 2, t.val % 2] ∧ win0_1.index t = ![0, t.val % 2]
    ∧ win0_2.index t = ![t.val / 2, 0] := by decide +kernel

theorem pt_lt (t : Fin cfg0.N) : t.val < 16 := Nat.lt_of_lt_of_eq t.isLt N_0

/-- Row `a` of a point's tile of rows. -/
def row (t : Fin cfg0.N) (a : Fin 1024) : Fin 8192 := ⟨t.val / 2 * 1024 + a.val, by have := pt_lt t; have := a.isLt; omega⟩
/-- Column `k` of a point's tile of columns. -/
def col (t : Fin cfg0.N) (k : Fin 1024) : Fin 2048 := ⟨t.val % 2 * 1024 + k.val, by have := k.isLt; omega⟩

variable (m : (ℓ : Loc nD τ sig) → Buf (Elt Ideal) ℓ) (c : Dev nD)

abbrev a0 : S8192x2048.Idx → EReal := m ((c.tc : Thread nD τ).loc main_arg0)
abbrev a1 : S1024x2048.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) (col t k)) := by
  blk_ext [iblk, (idx t).1, row, col]

theorem iblk_1 (t : Fin cfg0.N) (b : Fin 1024) (k : Fin 1024) :
    (iblk m c 1 t : S1024x1024.Idx → EReal) (ix2 b k) = a1 m c (ix2 b (col t k)) := by
  blk_ext [iblk, (idx t).2.1, col]

/-- One column's part of an element of the product. -/
def part (j : ℕ) (y : S1024x1024.Idx) (l : Fin 2048) : EReal :=
  pad (fun r : Fin 8192 => a0 m c (ix2 r l)) (j * 1024 + (y 0).val) * a1 m c (ix2 (y 1) l)

theorem part_eq (t : Fin cfg0.N) (a b : Fin 1024) (l : Fin 2048) :
    part m c (t.val / 2) (ix2 a b) l = a0 m c (ix2 (row t a) l) * a1 m c (ix2 b l) :=
  congrArg (· * a1 m c (ix2 b l)) (pad_of_lt (fun r : Fin 8192 => a0 m c (ix2 r l)) (row t a).isLt)

theorem point (t : Fin cfg0.N) (y : S1024x1024.Idx) :
    k0_pay2 (iblk m c 0 t) (iblk m c 1 t) y = ∑ k : Fin 1024, pad (part m c (t.val / 2) y) (t.val % 2 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact ((pad_of_lt _ (col t k).isLt).trans (part_eq m c t a b (col t k))).symm

theorem add_point (A B : Vec Ideal S1024x1024 .bf16) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 2 + 1), ∑ k : Fin 1024, pad (part m c (t.val / 2) y) (s * 1024 + k.val) := by
  refine Pipeline.eq_sum_of_reset_step_apply_divmod (fun n h => ((outsAt0 m c n h).2 : S1024x1024.Idx → EReal)) 2 (fun _ => 0)
    (fun j s y => ∑ k : Fin 1024, pad (part m c j y) (s * 1024 + k.val)) (fun t h y => ?_) (fun t h y => ?_) t y
  · rw [outsAt0_A m c t h (by omega) (by omega)]
    frame_out
    exact (point m c t y).trans (zero_add (_ : EReal)).symm
  · rw [outsAt0_B m c t h (by omega) (by omega)]
    frame_out
    simp only [read_unread_whole]
    exact (add_point _ _ _ y).trans (congrArg (_ + ·) (point m c t y))

theorem out (t : Fin cfg0.N) (h : t.val % 2 = 1) : (outsAt0 m c t.val t.isLt).1 = (outsAt0 m c t.val t.isLt).2 := by
  rw [outsAt0_B m c t (by omega) h h]
  frame_out

theorem arr : (dats m 0 c).arrAt 2 cfg0.N = fun i : S8192x1024.Idx => ∑ l : Fin 2048, a0 m c (ix2 (i 0) l) * a1 m c (ix2 (i 1) l) := by
  refine (dats m 0 c).arrAt_eq_of_covers 2 _ (by decide +kernel) fun t hf y => ?_
  blk_simp
  have h1 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (row t a) b : S8192x1024.Idx) := by
    blk_ext [(idx t).2.2, row]
  refine (congrFun (out m c t h1) _).trans ((acc m c t _).trans ?_)
  rw [h1]
  refine (zero_add (_ : EReal)).trans ((tiles 2 1024 rfl _).trans ?_)
  refine Eq.trans (Finset.sum_congr rfl fun l _ => part_eq m c t a b l)
    (congrArg (fun i : S8192x1024.Idx => ∑ l : Fin 2048, a0 m c (ix2 (i 0) l) * a1 m c (ix2 (i 1) l)) e).symm

theorem ref_eq (x0 : (⟨S8192x2048, .bf16⟩ : BufTy).Contents (Elt Ideal)) (x1 : (⟨S1024x2048, .bf16⟩ : BufTy).Contents (Elt Ideal)) :
    (Cert.GluDxRefIdeal.Read.val_main_v2 (F := Ideal) x0 x1 : S8192x1024.Idx → EReal)
      = fun i : S8192x1024.Idx => ∑ l : Fin 2048, (x0 : S8192x2048.Idx → EReal) (ix2 (i 0) l) * (x1 : S1024x2048.Idx → EReal) (ix2 (i 1) l) := by
  funext i
  rw [Cert.GluDxRefIdeal.Read.val_main_v2_apply]
  refine Finset.sum_congr rfl fun l _ => ?_
  rw [Cert.GluDxRefIdeal.Read.val_main_v1_apply, Cert.GluDxRefIdeal.Read.val_main_v0_apply]
  exact congrArg₂ (fun a b : EReal => a * b) (congrArg (x0 : S8192x2048.Idx → EReal) (by funext a; fin_cases a <;> rfl))
    (congrArg (x1 : S1024x2048.Idx → EReal) (by funext a; fin_cases a <;> rfl))

/-- The printed body table and the idealised one are the same table. -/
theorem defs₀_eq : Cert.GluDx.defs₀ (F := Bits) = Cert.GluDxIdeal.defs₀ (F := Bits) := by
  unfold Cert.GluDx.defs₀ Cert.GluDxIdeal.defs₀
  refine congrArg _ ?_
  funext l x
  match l, x with
  | 0, (t, s) => rfl

theorem defs_eq : Cert.GluDx.defs (F := Bits) = Cert.GluDxIdeal.defs (F := Bits) :=
  congrArg (Pipeline.defs (Cert.GluDx.pcfgs (F := Bits))) defs₀_eq

theorem frame_bits : Cert.quiescent_GluDx := by
  intro m ρ _
  rw [defs_eq]
  exact Cert.GluDxIdeal.Gen.frame (F := Bits) m ρ

theorem frame_ref : Cert.quiescent_GluDxRefIdeal := fun m ρ _ =>
  (θ_run _ _ _).mono (fun _ h => ⟨fun c => (h c).2, sem_eq_zero_of_no_sems rfl _⟩) (Cert.GluDxRefIdeal.Value.run m ρ)

theorem algebraic : Cert.algebraic_GluDxIdeal_GluDxRefIdeal := by
  intro m g m' g' _ ha
  refine ⟨fun c => (dats m 0 c).arrAt 2 cfg0.N, Cert.GluDxIdeal.Value.run_blocks m g, ?_⟩
  refine (θ_run _ _ _).mono (fun r h c => ?_) (Cert.GluDxRefIdeal.Value.run m' g')
  obtain ⟨r0, hargs⟩ := h c
  obtain ⟨e0, e1⟩ := ha c
  rw [Cert.GluDxRefIdeal.Read.val_main_v2_eq, e0, e1] at r0
  exact ⟨r0.trans ((ref_eq _ _).trans (arr m c).symm), hargs⟩

end Cert.GluDxIdeal.Mlp

end
-- ==== Proof.MmGluDw.lean ====
module

public import proofs.«01_k».proof.Proof.Gen.GluDwIdeal.Value
public import proofs.«01_k».proof.Proof.Gen.GluDwRefIdeal.Run
public import proofs.«01_k».proof.Proof.Gen.GluDwRefIdeal.Read
public import proofs.«01_k».proof.Proof.Gen.GluDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.GluDwIdeal.Mlp

open Idealize.ShloMosaic Idealize.ShloMosaic.TcCoe Idealize.SL.Sem Cert.GluDwIdeal Cert.GluDwIdeal.Gen Cert.Mlp
open Idealize.ShloMosaic.Tactic

/-! The gradient of the gated linear unit's weight: the product of the transposed input with the cotangent, over tiles of rows. -/

theorem idx : ∀ t : Fin grid0.N, win0_0.index t = ![t.val % 8, 0] ∧ win0_1.index t = ![t.val % 8, t.val / 8]
    ∧ win0_2.index t = ![0, t.val / 8] := by decide +kernel

theorem pt_lt (t : Fin cfg0.N) : t.val < 16 := Nat.lt_of_lt_of_eq t.isLt N_0

/-- Row `k` of a point's tile of rows. -/
def row (t : Fin cfg0.N) (k : Fin 1024) : Fin 8192 := ⟨t.val % 8 * 1024 + k.val, by have := k.isLt; omega⟩
/-- Column `b` of a point's tile of columns. -/
def col (t : Fin cfg0.N) (b : Fin 1024) : Fin 2048 := ⟨t.val / 8 * 1024 + b.val, by have := pt_lt t; have := b.isLt; omega⟩

variable (m : (ℓ : Loc nD τ sig) → Buf (Elt Ideal) ℓ) (c : Dev nD)

abbrev a0 : S8192x1024.Idx → EReal := m ((c.tc : Thread nD τ).loc main_arg0)
abbrev a1 : S8192x2048.Idx → EReal := m ((c.tc : Thread nD τ).loc main_arg1)

theorem iblk_0 (t : Fin cfg0.N) (k : Fin 1024) (b : Fin 1024) :
    (iblk m c 0 t : S1024x1024.Idx → EReal) (ix2 k b) = a0 m c (ix2 (row t k) b) := by
  blk_ext [iblk, (idx t).1, row]

theorem iblk_1 (t : Fin cfg0.N) (k : Fin 1024) (b : Fin 1024) :
    (iblk m c 1 t : S1024x1024.Idx → EReal) (ix2 k b) = a1 m c (ix2 (row t k) (col t b)) := by
  blk_ext [iblk, (idx t).2.1, row, col]

/-- One row's part of an element of the product. -/
def part (j : ℕ) (y : S1024x1024.Idx) (l : Fin 8192) : EReal :=
  a0 m c (ix2 l (y 0)) * pad (fun b : Fin 2048 => a1 m c (ix2 l b)) (j * 1024 + (y 1).val)

theorem part_eq (t : Fin cfg0.N) (a b : Fin 1024) (l : Fin 8192) :
    part m c (t.val / 8) (ix2 a b) l = a0 m c (ix2 l a) * a1 m c (ix2 l (col t b)) :=
  congrArg (a0 m c (ix2 l a) * ·) (pad_of_lt (fun b : Fin 2048 => a1 m c (ix2 l b)) (col t b).isLt)

theorem point (t : Fin cfg0.N) (y : S1024x1024.Idx) :
    k0_pay2 (iblk m c 0 t) (iblk m c 1 t) y = ∑ k : Fin 1024, pad (part m c (t.val / 8) y) (t.val % 8 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact ((pad_of_lt _ (row t k).isLt).trans (part_eq m c t a b (row t k))).symm

theorem add_point (A B : Vec Ideal S1024x1024 .bf16) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 8 + 1), ∑ k : Fin 1024, pad (part m c (t.val / 8) y) (s * 1024 + k.val) := by
  refine Pipeline.eq_sum_of_reset_step_apply_divmod (fun n h => ((outsAt0 m c n h).2 : S1024x1024.Idx → EReal)) 8 (fun _ => 0)
    (fun j s y => ∑ k : Fin 1024, pad (part m c j y) (s * 1024 + k.val)) (fun t h y => ?_) (fun t h y => ?_) t y
  · rw [outsAt0_A m c t h (by omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

theorem out (t : Fin cfg0.N) (h : t.val % 8 = 7) : (outsAt0 m c t.val t.isLt).1 = (outsAt0 m c t.val t.isLt).2 := by
  rw [outsAt0_C m c t (by omega) (by omega) h]
  frame_out

theorem arr : (dats m 0 c).arrAt 2 cfg0.N = fun i : S1024x2048.Idx => ∑ l : Fin 8192, a0 m c (ix2 l (i 0)) * a1 m c (ix2 l (i 1)) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 a (col t b) : S1024x2048.Idx) := by
    blk_ext [(idx t).2.2, col]
  refine (congrFun (out m c t h7) _).trans ((acc m c t _).trans ?_)
  rw [h7]
  refine (zero_add (_ : EReal)).trans ((tiles 8 1024 rfl _).trans ?_)
  refine Eq.trans (Finset.sum_congr rfl fun l _ => part_eq m c t a b l)
    (congrArg (fun i : S1024x2048.Idx => ∑ l : Fin 8192, a0 m c (ix2 l (i 0)) * a1 m c (ix2 l (i 1))) e).symm

theorem ref_eq (x0 : (⟨S8192x1024, .bf16⟩ : BufTy).Contents (Elt Ideal)) (x1 : (⟨S8192x2048, .bf16⟩ : BufTy).Contents (Elt Ideal)) :
    (Cert.GluDwRefIdeal.Read.val_main_v3 (F := Ideal) x0 x1 : S1024x2048.Idx → EReal)
      = fun i : S1024x2048.Idx => ∑ l : Fin 8192, (x0 : S8192x1024.Idx → EReal) (ix2 l (i 0)) * (x1 : S8192x2048.Idx → EReal) (ix2 l (i 1)) := by
  funext i
  rw [Cert.GluDwRefIdeal.Read.val_main_v3_apply, Cert.GluDwRefIdeal.Read.val_main_v2_apply]
  refine Finset.sum_congr rfl fun l _ => ?_
  rw [Cert.GluDwRefIdeal.Read.val_main_v1_apply, Cert.GluDwRefIdeal.Read.val_main_v0_apply]
  refine (mul_comm (_ : EReal) _).trans ?_
  exact congrArg₂ (fun a b : EReal => a * b) (congrArg (x0 : S8192x1024.Idx → EReal) (by funext a; fin_cases a <;> rfl))
    (congrArg (x1 : S8192x2048.Idx → EReal) (by funext a; fin_cases a <;> rfl))

/-- The printed body table and the idealised one are the same table. -/
theorem defs₀_eq : Cert.GluDw.defs₀ (F := Bits) = Cert.GluDwIdeal.defs₀ (F := Bits) := by
  unfold Cert.GluDw.defs₀ Cert.GluDwIdeal.defs₀
  refine congrArg _ ?_
  funext l x
  match l, x with
  | 0, (t, s) => rfl

theorem defs_eq : Cert.GluDw.defs (F := Bits) = Cert.GluDwIdeal.defs (F := Bits) :=
  congrArg (Pipeline.defs (Cert.GluDw.pcfgs (F := Bits))) defs₀_eq

theorem frame_bits : Cert.quiescent_GluDw := by
  intro m ρ _
  rw [defs_eq]
  exact Cert.GluDwIdeal.Gen.frame (F := Bits) m ρ

theorem frame_ref : Cert.quiescent_GluDwRefIdeal := fun m ρ _ =>
  (θ_run _ _ _).mono (fun _ h => ⟨fun c => (h c).2, sem_eq_zero_of_no_sems rfl _⟩) (Cert.GluDwRefIdeal.Value.run m ρ)

theorem algebraic : Cert.algebraic_GluDwIdeal_GluDwRefIdeal := by
  intro m g m' g' _ ha
  refine ⟨fun c => (dats m 0 c).arrAt 2 cfg0.N, Cert.GluDwIdeal.Value.run_blocks m g, ?_⟩
  refine (θ_run _ _ _).mono (fun r h c => ?_) (Cert.GluDwRefIdeal.Value.run m' g')
  obtain ⟨r0, hargs⟩ := h c
  obtain ⟨e0, e1⟩ := ha c
  rw [Cert.GluDwRefIdeal.Read.val_main_v3_eq, e0, e1] at r0
  exact ⟨r0.trans ((ref_eq _ _).trans (arr m c).symm), hargs⟩

end Cert.GluDwIdeal.Mlp

end
-- ==== Proof.MmOutDx.lean ====
module

public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDx
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.OutDxIdeal.Mlp

open Idealize.ShloMosaic Idealize.ShloMosaic.TcCoe Idealize.SL.Sem Cert.OutDxIdeal Cert.OutDxIdeal.Gen Cert.Mlp
open Idealize.ShloMosaic.Tactic

/-! The gradient of the attention's output: the cotangent times the transposed output weight. -/

theorem idx : ∀ t : Fin grid0.N, win0_0.index t = ![t.val, 0] ∧ win0_1.index t = ![0, 0] ∧ win0_2.index t = ![t.val, 0] := by
  decide +kernel

theorem pt_lt (t : Fin cfg0.N) : t.val < 8 := Nat.lt_of_lt_of_eq t.isLt N_0

/-- Row `a` of a point's tile of rows. -/
def row (t : Fin cfg0.N) (a : Fin 1024) : Fin 8192 := ⟨t.val * 1024 + a.val, by have := pt_lt t; have := a.isLt; omega⟩

/-- The gradient, element by element. -/
def grad (x0 : S8192x1024.Idx → EReal) (x1 : S1024x1024.Idx → EReal) (i : S8192x1024.Idx) : EReal :=
  ∑ l : Fin 1024, x0 (ix2 (i 0) l) * x1 (ix2 (i 1) l)

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 b k) = a1 m c (ix2 b k) := by
  blk_ext [iblk, (idx t).2.1]

theorem point (t : Fin cfg0.N) (a b : Fin 1024) :
    (k0_pay1 (iblk m c 0 t) (iblk m c 1 t) (ix2 a b) : EReal) = grad (a0 m c) (a1 m c) (ix2 (row t a) b) := by
  pointwise [k0_pay1, grad]
  refine Finset.sum_congr rfl fun k _ => ?_
  rw [iblk_0, iblk_1]

theorem arr : (dats m 0 c).arrAt 2 cfg0.N = grad (a0 m c) (a1 m c) := by
  refine (dats m 0 c).arrAt_eq_of_covers 2 _ (by decide +kernel) fun t hf y => ?_
  blk_simp
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (row t a) b : S8192x1024.Idx) := by
    blk_ext [(idx t).2.2, row]
  frame_out
  exact (point m c t a b).trans (congrArg (grad (a0 m c) (a1 m c)) e).symm

theorem ref_eq (x0 : (⟨S8192x1024, .f32⟩ : BufTy).Contents (Elt Ideal)) (x1 : (⟨S1024x1024, .bf16⟩ : BufTy).Contents (Elt Ideal)) :
    (Cert.OutDxRefIdeal.Read.val_main_v1 (F := Ideal) x0 x1 : S8192x1024.Idx → EReal) = grad x0 x1 := by
  funext i
  rw [Cert.OutDxRefIdeal.Read.val_main_v1_apply]
  refine Finset.sum_congr rfl fun l _ => ?_
  rw [Cert.OutDxRefIdeal.Read.val_main_v0_apply]
  exact congrArg₂ (fun a b : EReal => a * b) (congrArg (x0 : S8192x1024.Idx → EReal) (by funext a; fin_cases a <;> rfl))
    (congrArg (x1 : S1024x1024.Idx → EReal) (by funext a; fin_cases a <;> rfl))

/-- The printed body table and the idealised one are the same table. -/
theorem defs₀_eq : Cert.OutDx.defs₀ (F := Bits) = Cert.OutDxIdeal.defs₀ (F := Bits) := by
  unfold Cert.OutDx.defs₀ Cert.OutDxIdeal.defs₀
  refine congrArg _ ?_
  funext l x
  match l, x with
  | 0, (t, s) => rfl

theorem defs_eq : Cert.OutDx.defs (F := Bits) = Cert.OutDxIdeal.defs (F := Bits) :=
  congrArg (Pipeline.defs (Cert.OutDx.pcfgs (F := Bits))) defs₀_eq

theorem frame_bits : Cert.quiescent_OutDx := by
  intro m ρ _
  rw [defs_eq]
  exact Cert.OutDxIdeal.Gen.frame (F := Bits) m ρ

theorem frame_ref : Cert.quiescent_OutDxRefIdeal := fun m ρ _ =>
  (θ_run _ _ _).mono (fun _ h => ⟨fun c => (h c).2, sem_eq_zero_of_no_sems rfl _⟩) (Cert.OutDxRefIdeal.Value.run m ρ)

theorem algebraic : Cert.algebraic_OutDxIdeal_OutDxRefIdeal := by
  intro m g m' g' _ ha
  refine ⟨fun c => (dats m 0 c).arrAt 2 cfg0.N, Cert.OutDxIdeal.Value.run_blocks m g, ?_⟩
  refine (θ_run _ _ _).mono (fun r h c => ?_) (Cert.OutDxRefIdeal.Value.run m' g')
  obtain ⟨r0, hargs⟩ := h c
  obtain ⟨e0, e1⟩ := ha c
  rw [Cert.OutDxRefIdeal.Read.val_main_v1_eq, e0, e1] at r0
  exact ⟨r0.trans ((ref_eq _ _).trans (arr m c).symm), hargs⟩

end Cert.OutDxIdeal.Mlp

end
-- ==== Proof.MmOutDw.lean ====
module

public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.OutDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.OutDwIdeal.Mlp

open Idealize.ShloMosaic Idealize.ShloMosaic.TcCoe Idealize.SL.Sem Cert.OutDwIdeal Cert.OutDwIdeal.Gen Cert.Mlp
open Idealize.ShloMosaic.Tactic

/-! The gradient of the attention's output weight: the product of the transposed output with the cotangent, over tiles of rows. -/

theorem idx : ∀ t : Fin grid0.N, win0_0.index t = ![t.val % 8, 0] ∧ win0_1.index t = ![t.val % 8, 0]
    ∧ win0_2.index t = ![0, 0] := by decide +kernel

theorem pt_lt (t : Fin cfg0.N) : t.val < 8 := Nat.lt_of_lt_of_eq t.isLt N_0

/-- Row `k` of a point's tile of rows. -/
def row (t : Fin cfg0.N) (k : Fin 1024) : Fin 8192 := ⟨t.val % 8 * 1024 + k.val, by have := k.isLt; omega⟩
variable (m : (ℓ : Loc nD τ sig) → Buf (Elt Ideal) ℓ) (c : Dev nD)

abbrev a0 : S8192x1024.Idx → EReal := m ((c.tc : Thread nD τ).loc main_arg0)
abbrev a1 : S8192x1024.Idx → EReal := m ((c.tc : Thread nD τ).loc main_arg1)

theorem iblk_0 (t : Fin cfg0.N) (k : Fin 1024) (b : Fin 1024) :
    (iblk m c 0 t : S1024x1024.Idx → EReal) (ix2 k b) = a0 m c (ix2 (row t k) b) := by
  blk_ext [iblk, (idx t).1, row]

theorem iblk_1 (t : Fin cfg0.N) (k : Fin 1024) (b : Fin 1024) :
    (iblk m c 1 t : S1024x1024.Idx → EReal) (ix2 k b) = a1 m c (ix2 (row t k) b) := by
  blk_ext [iblk, (idx t).2.1, row]

/-- One row's part of an element of the product. -/
def part (y : S1024x1024.Idx) (l : Fin 8192) : EReal := a0 m c (ix2 l (y 0)) * a1 m c (ix2 l (y 1))

theorem point (t : Fin cfg0.N) (y : S1024x1024.Idx) :
    k0_pay2 (iblk m c 0 t) (iblk m c 1 t) y = ∑ k : Fin 1024, pad (part m c y) (t.val % 8 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact (pad_of_lt (part m c (ix2 a b)) (row t k).isLt).symm

theorem add_point (A B : Vec Ideal S1024x1024 .f32) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 8 + 1), ∑ k : Fin 1024, pad (part m c y) (s * 1024 + k.val) := by
  refine Pipeline.eq_sum_of_reset_step_apply_divmod (fun n h => ((outsAt0 m c n h).2 : S1024x1024.Idx → EReal)) 8 (fun _ => 0)
    (fun _ s y => ∑ k : Fin 1024, pad (part m c y) (s * 1024 + k.val)) (fun t h y => ?_) (fun t h y => ?_) t y
  · rw [outsAt0_A m c t h (by have := pt_lt t; omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

theorem out (t : Fin cfg0.N) (h : t.val % 8 = 7) : (outsAt0 m c t.val t.isLt).1 = (outsAt0 m c t.val t.isLt).2 := by
  rw [outsAt0_C m c t (by omega) (by omega) h]
  frame_out

theorem arr : (dats m 0 c).arrAt 2 cfg0.N = fun i : S1024x1024.Idx => ∑ l : Fin 8192, a0 m c (ix2 l (i 0)) * a1 m c (ix2 l (i 1)) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 a b : S1024x1024.Idx) := by
    blk_ext [(idx t).2.2]
  refine (congrFun (out m c t h7) _).trans ((acc m c t _).trans ?_)
  rw [h7]
  refine (zero_add (_ : EReal)).trans ((tiles 8 1024 rfl _).trans ?_)
  exact (congrArg (fun i : S1024x1024.Idx => ∑ l : Fin 8192, a0 m c (ix2 l (i 0)) * a1 m c (ix2 l (i 1))) e).symm

theorem ref_eq (x0 : (⟨S8192x1024, .f32⟩ : BufTy).Contents (Elt Ideal)) (x1 : (⟨S8192x1024, .f32⟩ : BufTy).Contents (Elt Ideal)) :
    (Cert.OutDwRefIdeal.Read.val_main_v1 (F := Ideal) x0 x1 : S1024x1024.Idx → EReal)
      = fun i : S1024x1024.Idx => ∑ l : Fin 8192, (x0 : S8192x1024.Idx → EReal) (ix2 l (i 0)) * (x1 : S8192x1024.Idx → EReal) (ix2 l (i 1)) := by
  funext i
  rw [Cert.OutDwRefIdeal.Read.val_main_v1_apply, Cert.OutDwRefIdeal.Read.val_main_v0_apply]
  refine Finset.sum_congr rfl fun l _ => ?_
  refine (mul_comm (_ : EReal) _).trans ?_
  exact congrArg₂ (fun a b : EReal => a * b) (congrArg (x0 : S8192x1024.Idx → EReal) (by funext a; fin_cases a <;> rfl))
    (congrArg (x1 : S8192x1024.Idx → EReal) (by funext a; fin_cases a <;> rfl))

/-- The printed body table and the idealised one are the same table. -/
theorem defs₀_eq : Cert.OutDw.defs₀ (F := Bits) = Cert.OutDwIdeal.defs₀ (F := Bits) := by
  unfold Cert.OutDw.defs₀ Cert.OutDwIdeal.defs₀
  refine congrArg _ ?_
  funext l x
  match l, x with
  | 0, (t, s) => rfl

theorem defs_eq : Cert.OutDw.defs (F := Bits) = Cert.OutDwIdeal.defs (F := Bits) :=
  congrArg (Pipeline.defs (Cert.OutDw.pcfgs (F := Bits))) defs₀_eq

theorem frame_bits : Cert.quiescent_OutDw := by
  intro m ρ _
  rw [defs_eq]
  exact Cert.OutDwIdeal.Gen.frame (F := Bits) m ρ

theorem frame_ref : Cert.quiescent_OutDwRefIdeal := fun m ρ _ =>
  (θ_run _ _ _).mono (fun _ h => ⟨fun c => (h c).2, sem_eq_zero_of_no_sems rfl _⟩) (Cert.OutDwRefIdeal.Value.run m ρ)

theorem algebraic : Cert.algebraic_OutDwIdeal_OutDwRefIdeal := by
  intro m g m' g' _ ha
  refine ⟨fun c => (dats m 0 c).arrAt 2 cfg0.N, Cert.OutDwIdeal.Value.run_blocks m g, ?_⟩
  refine (θ_run _ _ _).mono (fun r h c => ?_) (Cert.OutDwRefIdeal.Value.run m' g')
  obtain ⟨r0, hargs⟩ := h c
  obtain ⟨e0, e1⟩ := ha c
  rw [Cert.OutDwRefIdeal.Read.val_main_v1_eq, e0, e1] at r0
  exact ⟨r0.trans ((ref_eq _ _).trans (arr m c).symm), hargs⟩

end Cert.OutDwIdeal.Mlp

end
-- ==== Proof.MmQueryDw.lean ====
module

public import proofs.«01_k».proof.Proof.Gen.QueryDwIdeal.Value
public import proofs.«01_k».proof.Proof.Gen.QueryDwRefIdeal.Run
public import proofs.«01_k».proof.Proof.Gen.QueryDwRefIdeal.Read
public import proofs.«01_k».proof.Proof.Gen.QueryDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.QueryDwIdeal.Mlp

open Idealize.ShloMosaic Idealize.ShloMosaic.TcCoe Idealize.SL.Sem Cert.QueryDwIdeal Cert.QueryDwIdeal.Gen Cert.Mlp
open Idealize.ShloMosaic.Tactic

/-! The gradient of the attention's query weight: the product of the transposed input with the cotangent, over tiles of rows, times the
query's scale. -/

theorem idx : ∀ t : Fin grid0.N, win0_0.index t = ![t.val % 8, 0] ∧ win0_1.index t = ![t.val % 8, 0]
    ∧ win0_2.index t = ![0, 0] := by decide +kernel

theorem pt_lt (t : Fin cfg0.N) : t.val < 8 := Nat.lt_of_lt_of_eq t.isLt N_0

/-- Row `k` of a point's tile of rows. -/
def row (t : Fin cfg0.N) (k : Fin 1024) : Fin 8192 := ⟨t.val % 8 * 1024 + k.val, by have := k.isLt; omega⟩
variable (m : (ℓ : Loc nD τ sig) → Buf (Elt Ideal) ℓ) (c : Dev nD)

abbrev a0 : S8192x1024.Idx → EReal := m ((c.tc : Thread nD τ).loc main_arg0)
abbrev a1 : S8192x1024.Idx → EReal := m ((c.tc : Thread nD τ).loc main_arg1)

theorem iblk_0 (t : Fin cfg0.N) (k : Fin 1024) (b : Fin 1024) :
    (iblk m c 0 t : S1024x1024.Idx → EReal) (ix2 k b) = a0 m c (ix2 (row t k) b) := by
  blk_ext [iblk, (idx t).1, row]

theorem iblk_1 (t : Fin cfg0.N) (k : Fin 1024) (b : Fin 1024) :
    (iblk m c 1 t : S1024x1024.Idx → EReal) (ix2 k b) = a1 m c (ix2 (row t k) b) := by
  blk_ext [iblk, (idx t).2.1, row]

/-- One row's part of an element of the product. -/
def part (y : S1024x1024.Idx) (l : Fin 8192) : EReal := a0 m c (ix2 l (y 0)) * a1 m c (ix2 l (y 1))

theorem point (t : Fin cfg0.N) (y : S1024x1024.Idx) :
    k0_pay2 (iblk m c 0 t) (iblk m c 1 t) y = ∑ k : Fin 1024, pad (part m c y) (t.val % 8 * 1024 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact (pad_of_lt (part m c (ix2 a b)) (row t k).isLt).symm

theorem add_point (A : Vec Ideal S1024x1024 .bf16) (B : Vec Ideal S1024x1024 .f32) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 8 + 1), ∑ k : Fin 1024, pad (part m c y) (s * 1024 + k.val) := by
  refine Pipeline.eq_sum_of_reset_step_apply_divmod (fun n h => ((outsAt0 m c n h).2 : S1024x1024.Idx → EReal)) 8 (fun _ => 0)
    (fun _ s y => ∑ k : Fin 1024, pad (part m c y) (s * 1024 + k.val)) (fun t h y => ?_) (fun t h y => ?_) t y
  · rw [outsAt0_A m c t h (by have := pt_lt t; omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

/-- The gradient, element by element. -/
def grad (x0 x1 : S8192x1024.Idx → EReal) (i : S1024x1024.Idx) : EReal := (∑ l : Fin 8192, x0 (ix2 l (i 0)) * x1 (ix2 l (i 1))) * eighth

theorem p4 (A : Vec Ideal S1024x1024 .f32) (y : S1024x1024.Idx) : k0_pay4 A y = (A y * eighth : EReal) := by
  obtain ⟨a, b, rfl⟩ : ∃ a b, y = (ix2 a b : S1024x1024.Idx) := ⟨y 0, y 1, by funext i; fin_cases i <;> rfl⟩
  pointwise [k0_pay4, eighth]

theorem out (t : Fin cfg0.N) (h : t.val % 8 = 7) : (outsAt0 m c t.val t.isLt).1 = k0_pay4 (outsAt0 m c t.val t.isLt).2 := by
  rw [outsAt0_C m c t (by omega) (by omega) h]
  frame_out

theorem arr : (dats m 0 c).arrAt 2 cfg0.N = grad (a0 m c) (a1 m c) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 a b : S1024x1024.Idx) := by
    blk_ext [(idx t).2.2]
  refine (congrFun (out m c t h7) _).trans ((p4 _ _).trans ?_)
  refine Eq.trans (congrArg (fun x : EReal => x * eighth) ?_) (congrArg (grad (a0 m c) (a1 m c)) e).symm
  refine (acc m c t _).trans ?_
  rw [h7]
  exact (zero_add (_ : EReal)).trans (tiles 8 1024 rfl _)

theorem ref_eq (x0 : (⟨S8192x1024, .bf16⟩ : BufTy).Contents (Elt Ideal)) (x1 : (⟨S8192x1024, .f32⟩ : BufTy).Contents (Elt Ideal)) :
    (Cert.QueryDwRefIdeal.Read.val_main_v4 (F := Ideal) x0 x1 : S1024x1024.Idx → EReal) = grad x0 x1 := by
  funext i
  rw [Cert.QueryDwRefIdeal.Read.val_main_v4_apply, Cert.QueryDwRefIdeal.Read.val_main_v3_apply]
  refine Eq.trans ?_ (sum_eighth _).symm
  refine Finset.sum_congr rfl fun l _ => ?_
  rw [Cert.QueryDwRefIdeal.Read.val_main_v2_apply, Cert.QueryDwRefIdeal.Read.val_main_v1_apply, Cert.QueryDwRefIdeal.Read.val_main_cst_apply,
    Cert.QueryDwRefIdeal.Read.val_main_v0_apply]
  refine (scale_swap _ eighth _).trans ?_
  exact congrArg₂ (fun a b : EReal => a * b * eighth) (congrArg (x0 : S8192x1024.Idx → EReal) (by funext a; fin_cases a <;> rfl))
    (congrArg (x1 : S8192x1024.Idx → EReal) (by funext a; fin_cases a <;> rfl))

/-- The printed body table and the idealised one are the same table. -/
theorem defs₀_eq : Cert.QueryDw.defs₀ (F := Bits) = Cert.QueryDwIdeal.defs₀ (F := Bits) := by
  unfold Cert.QueryDw.defs₀ Cert.QueryDwIdeal.defs₀
  refine congrArg _ ?_
  funext l x
  match l, x with
  | 0, (t, s) => rfl

theorem defs_eq : Cert.QueryDw.defs (F := Bits) = Cert.QueryDwIdeal.defs (F := Bits) :=
  congrArg (Pipeline.defs (Cert.QueryDw.pcfgs (F := Bits))) defs₀_eq

theorem frame_bits : Cert.quiescent_QueryDw := by
  intro m ρ _
  rw [defs_eq]
  exact Cert.QueryDwIdeal.Gen.frame (F := Bits) m ρ

theorem frame_ref : Cert.quiescent_QueryDwRefIdeal := fun m ρ _ =>
  (θ_run _ _ _).mono (fun _ h => ⟨fun c => (h c).2, sem_eq_zero_of_no_sems rfl _⟩) (Cert.QueryDwRefIdeal.Value.run m ρ)

theorem algebraic : Cert.algebraic_QueryDwIdeal_QueryDwRefIdeal := by
  intro m g m' g' _ ha
  refine ⟨fun c => (dats m 0 c).arrAt 2 cfg0.N, Cert.QueryDwIdeal.Value.run_blocks m g, ?_⟩
  refine (θ_run _ _ _).mono (fun r h c => ?_) (Cert.QueryDwRefIdeal.Value.run m' g')
  obtain ⟨r0, hargs⟩ := h c
  obtain ⟨e0, e1⟩ := ha c
  rw [Cert.QueryDwRefIdeal.Read.val_main_v4_eq, e0, e1] at r0
  exact ⟨r0.trans ((ref_eq _ _).trans (arr m c).symm), hargs⟩

end Cert.QueryDwIdeal.Mlp

end
-- ==== Proof.MmQueryDx.lean ====
module

public import proofs.«01_k».proof.Proof.Gen.QueryDxIdeal.Value
public import proofs.«01_k».proof.Proof.Gen.QueryDxRefIdeal.Run
public import proofs.«01_k».proof.Proof.Gen.QueryDxRefIdeal.Read
public import proofs.«01_k».proof.Proof.Gen.QueryDx
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.QueryDxIdeal.Mlp

open Idealize.ShloMosaic Idealize.ShloMosaic.TcCoe Idealize.SL.Sem Cert.QueryDxIdeal Cert.QueryDxIdeal.Gen Cert.Mlp
open Idealize.ShloMosaic.Tactic

/-! The gradient of the attention's input: the queries' cotangent times the transposed query weight and the query's scale, then the
derivative of the root-mean-square norm of each row; and the gradient of the norm's gain, over tiles of rows. -/

theorem idx : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by
  decide +kernel

theorem pt_lt (t : Fin cfg0.N) : t.val < 16 := Nat.lt_of_lt_of_eq t.isLt N_0

/-- Row `a` of a point's tile of rows. -/
def row (t : Fin cfg0.N) (a : Fin 512) : Fin 8192 := ⟨t.val * 512 + a.val, by have := pt_lt t; have := a.isLt; omega⟩

/-- The cotangent of the normed rows. -/
def dz (x0 : S8192x1024.Idx → EReal) (x1 : S1024x1024.Idx → EReal) (r : Fin 8192) (b : Fin 1024) : EReal :=
  (∑ l : Fin 1024, x0 (ix2 r l) * x1 (ix2 b l)) * eighth

/-- The gradient of the block's input. -/
def gradX (x0 : S8192x1024.Idx → EReal) (x1 : S1024x1024.Idx → EReal) (x2 : S8192x1024.Idx → EReal) (x3 : S1x1024.Idx → EReal)
    (x4 : S8192x1024.Idx → EReal) (i : S8192x1024.Idx) : EReal :=
  rowGrad (fun k => x2 (ix2 (i 0) k)) (fun k => x3 (ix2 (0 : Fin 1) k)) (dz x0 x1 (i 0)) (x4 i) (i 1)

/-- The gradient of the norm's gain. -/
def gradG (x0 : S8192x1024.Idx → EReal) (x1 : S1024x1024.Idx → EReal) (x2 : S8192x1024.Idx → EReal) (i : S1x1024.Idx) : EReal :=
  ∑ r : Fin 8192, gainPart (fun k => x2 (ix2 r k)) (dz x0 x1 r) (i 1)

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)

theorem iblk_0 (t : Fin cfg0.N) (a : Fin 512) (k : Fin 1024) :
    (iblk m c 0 t : S512x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 b k) = a1 m c (ix2 b k) := by
  blk_ext [iblk, (idx t).2.1]

theorem iblk_2 (t : Fin cfg0.N) (a : Fin 512) (b : Fin 1024) :
    (iblk m c 2 t : S512x1024.Idx → EReal) (ix2 a b) = a2 m c (ix2 (row t a) b) := by
  blk_ext [iblk, (idx t).2.2.1, row]

theorem iblk_3 (t : Fin cfg0.N) (a : Fin 512) (b : Fin 1024) :
    (iblk m c 3 t : S512x1024.Idx → EReal) (ix2 a b) = a4 m c (ix2 (row t a) b) := by
  blk_ext [iblk, (idx t).2.2.2.1, row]

theorem iblk_4 (t : Fin cfg0.N) (b : Fin 1024) :
    (iblk m c 4 t : S1x1024.Idx → EReal) (ix2 (0 : Fin 1) b) = a3 m c (ix2 (0 : Fin 1) b) := by
  blk_ext [iblk, (idx t).2.2.2.2.1]

/-- The cotangent of a tile's normed rows. -/
theorem tile_dz (t : Fin cfg0.N) (a : Fin 512) (b : Fin 1024) :
    (k0_pay3 (iblk m c 0 t) (iblk m c 1 t) (ix2 a b) : EReal) = dz (a0 m c) (a1 m c) (row t a) b := by
  pointwise [k0_pay3, dz, eighth]
  refine congrArg (fun x : EReal => x * eighth) (Finset.sum_congr rfl fun k _ => ?_)
  rw [iblk_0, iblk_1]

theorem p6 (A X : Vec Ideal S512x1024 .f32) (B : Vec Ideal S1024x1024 .bf16) (b : Fin 1024) :
    k0_pay6 A B X (ix2 (0 : Fin 1) b) = (∑ a : Fin 512, gainPart (fun k => X (ix2 a k)) (fun k => k0_pay3 A B (ix2 a k)) b : EReal) := by
  pointwise [k0_pay6, k0_pay5, k0_pay4, gainPart, den, len, eps]

theorem p2 (A B : Vec Ideal S1x1024 .f32) (b : Fin 1024) :
    k0_pay2 A B (ix2 (0 : Fin 1) b) = (B (ix2 (0 : Fin 1) b) + A (ix2 (0 : Fin 1) b) : EReal) := by
  pointwise [k0_pay2]

theorem p1 (A X H : Vec Ideal S512x1024 .f32) (B : Vec Ideal S1024x1024 .bf16) (G : Vec Ideal S1x1024 .f32) (a : Fin 512) (b : Fin 1024) :
    k0_pay1 X (k0_pay8 A B X G) (k0_pay9 A B X G) H (ix2 a b)
      = rowGrad (fun k => X (ix2 a k)) (fun k => G (ix2 (0 : Fin 1) k)) (fun k => k0_pay3 A B (ix2 a k)) (H (ix2 a b)) b := by
  pointwise [k0_pay1, k0_pay9, k0_pay8, k0_pay7, k0_pay5, k0_pay4, rowGrad, normSlope, den, len, eps, half]
  simp only [Fintype.sum_unique]

theorem pt_dx (t : Fin cfg0.N) :
    (outsAt0 m c t.val t.isLt).1 = k0_pay1 (iblk m c 2 t) (k0_pay8 (iblk m c 0 t) (iblk m c 1 t) (iblk m c 2 t) (iblk m c 4 t))
      (k0_pay9 (iblk m c 0 t) (iblk m c 1 t) (iblk m c 2 t) (iblk m c 4 t)) (iblk m c 3 t) := by
  have hl := pt_lt t
  by_cases h : t.val % 16 = 0
  · rw [outsAt0_A m c t h (by omega)]
    frame_out
  · rw [outsAt0_B m c t h (by omega)]
    frame_out

theorem first_gain (t : Fin cfg0.N) (h : t.val = 0) :
    (outsAt0 m c t.val t.isLt).2 = k0_pay6 (iblk m c 0 t) (iblk m c 1 t) (iblk m c 2 t) := by
  rw [outsAt0_A m c t (by omega) (by omega)]
  frame_out

theorem next_gain (t : Fin cfg0.N) (h : 1 ≤ t.val) :
    (outsAt0 m c t.val t.isLt).2 = k0_pay2 (k0_pay6 (iblk m c 0 t) (iblk m c 1 t) (iblk m c 2 t))
      (outsAt0 m c (t.val - 1) (Nat.lt_of_le_of_lt (Nat.sub_le _ _) t.isLt)).2 := by
  have hl := pt_lt t
  rw [outsAt0_B m c t (by omega) h]
  frame_out

/-- One row's part of the gain's gradient, at a column. -/
def gpart (b : Fin 1024) (r : Fin 8192) : EReal := gainPart (fun k => a2 m c (ix2 r k)) (dz (a0 m c) (a1 m c) r) b

theorem tile_gain (t : Fin cfg0.N) (q : ℕ) (hq : t.val = q) (b : Fin 1024) :
    (k0_pay6 (iblk m c 0 t) (iblk m c 1 t) (iblk m c 2 t) (ix2 (0 : Fin 1) b) : EReal)
      = ∑ a : Fin 512, pad (gpart m c b) (q * 512 + a.val) := by
  subst hq
  refine (p6 _ _ _ b).trans (Finset.sum_congr rfl fun a _ => ?_)
  refine Eq.trans ?_ (pad_of_lt (gpart m c b) (row t a).isLt).symm
  exact congrArg₂ (fun x y => gainPart x y b) (funext fun k => iblk_2 m c t a k) (funext fun k => tile_dz m c t a k)

/-- After row tile `n` the second result's block holds the sum of the row tiles so far. -/
theorem gain (b : Fin 1024) (n : ℕ) : ∀ (t : Fin cfg0.N) (_ : t.val = n),
    ((outsAt0 m c t.val t.isLt).2 (ix2 (0 : Fin 1) b) : EReal) = ∑ s ∈ Finset.range (n + 1), ∑ a : Fin 512, pad (gpart m c b) (s * 512 + a.val) := by
  induction n with
  | zero =>
    intro t ht
    rw [Nat.zero_add, Finset.sum_range_one]
    exact (congrFun (first_gain m c t ht) _).trans (tile_gain m c t 0 ht b)
  | succ n ih =>
    intro t ht
    rw [Finset.sum_range_succ]
    refine (congrFun (next_gain m c t (by omega)) _).trans ?_
    refine (p2 _ _ b).trans ?_
    refine congrArg₂ (fun x y : EReal => x + y) ?_ (tile_gain m c t (n + 1) ht b)
    have hl := t.isLt
    exact ih ⟨t.val - 1, by omega⟩ (by show t.val - 1 = n; omega)

theorem arrX : (dats m 0 c).arrAt 5 cfg0.N = gradX (a0 m c) (a1 m c) (a2 m c) (a3 m c) (a4 m c) := by
  refine (dats m 0 c).arrAt_eq_of_covers 5 _ (by decide +kernel) fun t hf y => ?_
  blk_simp
  rw [after0_5]
  obtain ⟨a, b, rfl⟩ : ∃ a b, y = (ix2 a b : S512x1024.Idx) := ⟨y 0, y 1, by funext i; fin_cases i <;> rfl⟩
  have e : ((cfg0.win 5).blk t).view.emb (ix2 a b : S512x1024.Idx) = (ix2 (row t a) b : S8192x1024.Idx) := by
    blk_ext [(idx t).2.2.2.2.2.1, row]
  refine ((congrFun (pt_dx m c t) _).trans (p1 _ _ _ _ _ a b)).trans ?_
  refine Eq.trans ?_ (congrArg (gradX (a0 m c) (a1 m c) (a2 m c) (a3 m c) (a4 m c)) e).symm
  rw [iblk_3, show (fun k => k0_pay3 (iblk m c 0 t) (iblk m c 1 t) (ix2 a k)) = dz (a0 m c) (a1 m c) (row t a) from funext fun k => tile_dz m c t a k,
    show (fun k => (iblk m c 2 t : S512x1024.Idx → EReal) (ix2 a k)) = (fun k => a2 m c (ix2 (row t a) k)) from funext fun k => iblk_2 m c t a k,
    show (fun k => (iblk m c 4 t : S1x1024.Idx → EReal) (ix2 (0 : Fin 1) k)) = (fun k => a3 m c (ix2 (0 : Fin 1) k)) from funext fun k => iblk_4 m c t k]
  rfl

theorem arrG : (dats m 0 c).arrAt 6 cfg0.N = gradG (a0 m c) (a1 m c) (a2 m c) := by
  refine (dats m 0 c).arrAt_eq_of_covers 6 _ (by decide +kernel) fun t hf y => ?_
  blk_simp
  have h := (flush0_6 t).mp hf
  rw [after0_6]
  obtain ⟨a, b, rfl⟩ : ∃ a b, y = (ix2 a b : S1x1024.Idx) := ⟨y 0, y 1, by funext i; fin_cases i <;> rfl⟩
  obtain rfl : a = 0 := Subsingleton.elim _ _
  have e : ((cfg0.win 6).blk t).view.emb (ix2 (0 : Fin 1) b : S1x1024.Idx) = (ix2 (0 : Fin 1) b : S1x1024.Idx) := by
    blk_ext [(idx t).2.2.2.2.2.2]
  have hl := pt_lt t
  refine (gain m c b 15 t (by omega)).trans ((tiles 16 512 rfl _).trans ?_)
  exact (congrArg (gradG (a0 m c) (a1 m c) (a2 m c)) e).symm

/-! The reference, stage by stage. -/

section
open Cert.QueryDxRefIdeal.Read
variable (x0 : (⟨S8192x1024, .f32⟩ : BufTy).Contents (Elt Ideal)) (x1 : (⟨S1024x1024, .bf16⟩ : BufTy).Contents (Elt Ideal))
  (x2 : (⟨S8192x1024, .f32⟩ : BufTy).Contents (Elt Ideal)) (x3 : (⟨S1x1024, .f32⟩ : BufTy).Contents (Elt Ideal))
  (x4 : (⟨S8192x1024, .f32⟩ : BufTy).Contents (Elt Ideal))

theorem ref_den (i : Cert.QueryDxRefIdeal.S8192x1.Idx) : (val_main_v6 (F := Ideal) x2 i : EReal) = den (fun k => x2 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x2 : S8192x1024.Idx → EReal)
    (show idx_main_v1 (idx_main_v2 i) k = ix2 (i 0) k by funext a; fin_cases a <;> rfl))

theorem ref_dz (r : Fin 8192) (b : Fin 1024) : (val_main_v21 (F := Ideal) x0 x1 (ix2 r b) : EReal) = dz x0 x1 r b := by
  rw [val_main_v21_apply]
  refine Eq.trans ?_ (sum_eighth _).symm
  refine Finset.sum_congr rfl fun l _ => ?_
  rw [val_main_v20_apply, val_main_v19_apply, val_main_cst_4_apply, val_main_v15_apply]
  refine (mul_right_comm (_ : EReal) eighth _).trans ?_
  exact congrArg₂ (fun a b : EReal => a * b * eighth) (congrArg (x0 : S8192x1024.Idx → EReal) (by funext a; fin_cases a <;> rfl))
    (congrArg (x1 : S1024x1024.Idx → EReal) (by funext a; fin_cases a <;> rfl))

theorem idx_25 (r : Fin 8192) (b : Fin 1024) : idx_main_v25 (ix2 r b) = ix2 (0 : Fin 1) b := by funext a; fin_cases a <;> rfl

theorem idx_37 (r : Fin 8192) (b : Fin 1024) : idx_main_v37 (ix2 r b) = ix1 r := by funext a; fin_cases a; rfl

theorem idx_28 (r : Fin 8192) (z : Fin 1) (k : Fin 1024) : idx_main_v28 (idx_main_v29 (idx_main_v36 (ix1 r) z)) k = ix2 r k := by
  funext a
  fin_cases a
  · exact Fin.ext (by show r.val * 1 + z.val = r.val; have := z.isLt; omega)
  · rfl

theorem idx_23 (z : Fin 1) (b : Fin 1024) (k : Fin 8192) : idx_main_v23 (idx_main_v24 (ix2 z b)) k = ix2 k b := by
  funext a
  fin_cases a
  · rfl
  · exact Fin.ext (by show z.val * 1024 + b.val = b.val; have := z.isLt; omega)

theorem ref_36 (r : Fin 8192) : (val_main_v36 (F := Ideal) x0 x1 x2 x3 (ix1 r) : EReal)
    = normSlope (fun k => x2 (ix2 r k)) (fun k => x3 (ix2 (0 : Fin 1) k)) (dz x0 x1 r) := by
  simp only [val_main_v36_apply, val_main_v35_apply, val_main_v34_apply, val_main_v33_apply, val_main_v29_apply, val_main_v28_apply,
    val_main_v27_apply, val_main_v26_apply, val_main_v25_apply, val_main_v10_apply, val_main_v9_apply, val_main_v8_apply, val_main_v7_apply,
    val_main_cst_2_apply, val_main_cst_6_apply, val_main_cst_7_apply, val_main_cst_8_apply, ref_den]
  pointwise [normSlope, half, len]
  simp only [idx_28, idx_25, ref_dz, ref_den, Fintype.sum_unique]
  rfl

theorem ref_X : (val_main_v41 (F := Ideal) x0 x1 x2 x3 x4 : S8192x1024.Idx → EReal) = gradX x0 x1 x2 x3 x4 := by
  funext i
  obtain ⟨r, b, rfl⟩ : ∃ r b, i = (ix2 r b : S8192x1024.Idx) := ⟨i 0, i 1, by funext i; fin_cases i <;> rfl⟩
  simp only [val_main_v41_apply, val_main_v40_apply, val_main_v39_apply, val_main_v38_apply, val_main_v37_apply, val_main_v32_apply,
    val_main_v31_apply, val_main_v30_apply, val_main_v26_apply, val_main_v25_apply, val_main_v7_apply, ref_den, ref_dz]
  pointwise [gradX, rowGrad]
  simp only [idx_25, idx_37, ref_36, ref_den]
  exact last_add _ _ _ _

theorem ref_G : (val_main_v24 (F := Ideal) x0 x1 x2 : S1x1024.Idx → EReal) = gradG x0 x1 x2 := by
  funext i
  obtain ⟨r, b, rfl⟩ : ∃ r b, i = (ix2 r b : S1x1024.Idx) := ⟨i 0, i 1, by funext i; fin_cases i <;> rfl⟩
  simp only [val_main_v24_apply, val_main_v23_apply, val_main_v22_apply, val_main_v12_apply, val_main_v11_apply, val_main_v7_apply,
    val_main_cst_5_apply, ref_den]
  pointwise [gradG, gainPart]
  simp only [idx_23, ref_dz, ref_den]
  rfl

end

/-- The printed body table and the idealised one are the same table. -/
theorem defs₀_eq : Cert.QueryDx.defs₀ (F := Bits) = Cert.QueryDxIdeal.defs₀ (F := Bits) := by
  unfold Cert.QueryDx.defs₀ Cert.QueryDxIdeal.defs₀
  refine congrArg _ ?_
  funext l x
  match l, x with
  | 0, (t, s) => rfl

theorem defs_eq : Cert.QueryDx.defs (F := Bits) = Cert.QueryDxIdeal.defs (F := Bits) :=
  congrArg (Pipeline.defs (Cert.QueryDx.pcfgs (F := Bits))) defs₀_eq

theorem frame_bits : Cert.quiescent_QueryDx := by
  intro m ρ _
  rw [defs_eq]
  exact Cert.QueryDxIdeal.Gen.frame (F := Bits) m ρ

theorem frame_ref : Cert.quiescent_QueryDxRefIdeal := fun m ρ _ =>
  (θ_run _ _ _).mono (fun _ h => ⟨fun c => (h c).2.2, sem_eq_zero_of_no_sems rfl _⟩) (Cert.QueryDxRefIdeal.Value.run m ρ)

theorem algebraic : Cert.algebraic_QueryDxIdeal_QueryDxRefIdeal := by
  intro m g m' g' _ ha
  refine ⟨fun c => (dats m 0 c).arrAt 5 cfg0.N, fun c => (dats m 0 c).arrAt 6 cfg0.N, Cert.QueryDxIdeal.Value.run_blocks m g, ?_⟩
  refine (θ_run _ _ _).mono (fun r h c => ?_) (Cert.QueryDxRefIdeal.Value.run m' g')
  obtain ⟨r0, r1, hargs⟩ := h c
  obtain ⟨e0, e1, e2, e3, e4⟩ := ha c
  rw [Cert.QueryDxRefIdeal.Read.val_main_v41_eq, e0, e1, e2, e3, e4] at r0
  rw [Cert.QueryDxRefIdeal.Read.val_main_v24_eq, e0, e1, e2] at r1
  exact ⟨r0.trans ((ref_X _ _ _ _ _).trans (arrX m c).symm), r1.trans ((ref_G _ _ _).trans (arrG m c).symm), hargs⟩

end Cert.QueryDxIdeal.Mlp

end
-- ==== Proof.MmMlpUp.lean ====
module

public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpUp
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.MlpUpIdeal.Mlp

open Idealize.ShloMosaic Idealize.ShloMosaic.TcCoe Idealize.SL.Sem Cert.MlpUpIdeal Cert.MlpUpIdeal.Gen Cert.Mlp
open Idealize.ShloMosaic.Tactic

/-! The MLP's first product. -/

theorem idx : ∀ t : Fin grid0.N, win0_0.index t = ![t.val / 4, 0] ∧ win0_1.index t = ![0, t.val % 4]
    ∧ win0_2.index t = ![t.val / 4, t.val % 4] := by
  decide +kernel

theorem pt_lt (t : Fin cfg0.N) : t.val < 32 := Nat.lt_of_lt_of_eq t.isLt N_0

/-- Row `a` of a point's tile of rows. -/
def row (t : Fin cfg0.N) (a : Fin 1024) : Fin 8192 := ⟨t.val / 4 * 1024 + a.val, by have := pt_lt t; have := a.isLt; omega⟩

/-- Column `b` of a point's tile of columns. -/
def col (t : Fin cfg0.N) (b : Fin 1024) : Fin 4096 := ⟨t.val % 4 * 1024 + b.val, by have := b.isLt; omega⟩

/-- The product, element by element. -/
def prod (x0 : S8192x1024.Idx → EReal) (x1 : S1024x4096.Idx → EReal) (i : S8192x4096.Idx) : EReal :=
  ∑ l : Fin 1024, x0 (ix2 (i 0) l) * x1 (ix2 l (i 1))

variable (m : (ℓ : Loc nD τ sig) → Buf (Elt Ideal) ℓ) (c : Dev nD)

abbrev a0 : S8192x1024.Idx → EReal := m ((c.tc : Thread nD τ).loc main_arg0)
abbrev a1 : S1024x4096.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 k b) = a1 m c (ix2 k (col t b)) := by
  blk_ext [iblk, (idx t).2.1, col]

theorem point (t : Fin cfg0.N) (a b : Fin 1024) :
    (k0_pay1 (iblk m c 0 t) (iblk m c 1 t) (ix2 a b) : EReal) = prod (a0 m c) (a1 m c) (ix2 (row t a) (col t b)) := by
  pointwise [k0_pay1, prod]
  refine Finset.sum_congr rfl fun k _ => ?_
  rw [iblk_0, iblk_1]

theorem arr : (dats m 0 c).arrAt 2 cfg0.N = prod (a0 m c) (a1 m c) := by
  refine (dats m 0 c).arrAt_eq_of_covers 2 _ (by decide +kernel) fun t hf y => ?_
  blk_simp
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (row t a) (col t b) : S8192x4096.Idx) := by
    blk_ext [(idx t).2.2, row, col]
  frame_out
  exact (point m c t a b).trans (congrArg (prod (a0 m c) (a1 m c)) e).symm

theorem ref_eq (x0 : (⟨S8192x1024, .bf16⟩ : BufTy).Contents (Elt Ideal)) (x1 : (⟨S1024x4096, .bf16⟩ : BufTy).Contents (Elt Ideal)) :
    (Cert.MlpUpRefIdeal.Read.val_main_v3 (F := Ideal) x0 x1 : S8192x4096.Idx → EReal) = prod x0 x1 := by
  funext i
  rw [Cert.MlpUpRefIdeal.Read.val_main_v3_apply, Cert.MlpUpRefIdeal.Read.val_main_v2_apply]
  refine Finset.sum_congr rfl fun l _ => ?_
  rw [Cert.MlpUpRefIdeal.Read.val_main_v1_apply, Cert.MlpUpRefIdeal.Read.val_main_v0_apply]
  exact congrArg₂ (fun a b : EReal => a * b) (congrArg (x0 : S8192x1024.Idx → EReal) (by funext a; fin_cases a <;> rfl))
    (congrArg (x1 : S1024x4096.Idx → EReal) (by funext a; fin_cases a <;> rfl))

/-- The printed body table and the idealised one are the same table. -/
theorem defs₀_eq : Cert.MlpUp.defs₀ (F := Bits) = Cert.MlpUpIdeal.defs₀ (F := Bits) := by
  unfold Cert.MlpUp.defs₀ Cert.MlpUpIdeal.defs₀
  refine congrArg _ ?_
  funext l x
  match l, x with
  | 0, (t, s) => rfl

theorem defs_eq : Cert.MlpUp.defs (F := Bits) = Cert.MlpUpIdeal.defs (F := Bits) :=
  congrArg (Pipeline.defs (Cert.MlpUp.pcfgs (F := Bits))) defs₀_eq

theorem frame_bits : Cert.quiescent_MlpUp := by
  intro m ρ _
  rw [defs_eq]
  exact Cert.MlpUpIdeal.Gen.frame (F := Bits) m ρ

theorem frame_ref : Cert.quiescent_MlpUpRefIdeal := fun m ρ _ =>
  (θ_run _ _ _).mono (fun _ h => ⟨fun c => (h c).2, sem_eq_zero_of_no_sems rfl _⟩) (Cert.MlpUpRefIdeal.Value.run m ρ)

theorem algebraic : Cert.algebraic_MlpUpIdeal_MlpUpRefIdeal := by
  intro m g m' g' _ ha
  refine ⟨fun c => (dats m 0 c).arrAt 2 cfg0.N, Cert.MlpUpIdeal.Value.run_blocks m g, ?_⟩
  refine (θ_run _ _ _).mono (fun r h c => ?_) (Cert.MlpUpRefIdeal.Value.run m' g')
  obtain ⟨r0, hargs⟩ := h c
  obtain ⟨e0, e1⟩ := ha c
  rw [Cert.MlpUpRefIdeal.Read.val_main_v3_eq, e0, e1] at r0
  exact ⟨r0.trans ((ref_eq _ _).trans (arr m c).symm), hargs⟩

end Cert.MlpUpIdeal.Mlp

end
-- ==== Proof.MmMlpDown.lean ====
module

public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.MlpDown
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.MlpDownIdeal.Mlp

open Idealize.ShloMosaic Idealize.ShloMosaic.TcCoe Idealize.SL.Sem Cert.MlpDownIdeal Cert.MlpDownIdeal.Gen Cert.Mlp
open Idealize.ShloMosaic.Tactic

/-! The MLP's second product with its squared activation, over tiles of the hidden axis, and the addition of the residual. -/

theorem idx : ∀ t : Fin grid0.N, win0_0.index t = ![t.val / 2, t.val % 2] ∧ win0_1.index t = ![t.val % 2, 0]
    ∧ win0_2.index t = ![t.val / 2, 0] ∧ win0_3.index t = ![t.val / 2, 0] := by decide +kernel

theorem pt_lt (t : Fin cfg0.N) : t.val < 16 := Nat.lt_of_lt_of_eq t.isLt N_0

/-- Row `a` of a point's tile of rows. -/
def row (t : Fin cfg0.N) (a : Fin 1024) : Fin 8192 := ⟨t.val / 2 * 1024 + a.val, by have := pt_lt t; have := a.isLt; omega⟩
/-- Column `k` of a point's tile of columns. -/
def col (t : Fin cfg0.N) (k : Fin 2048) : Fin 4096 := ⟨t.val % 2 * 2048 + k.val, by have := k.isLt; omega⟩

variable (m : (ℓ : Loc nD τ sig) → Buf (Elt Ideal) ℓ) (c : Dev nD)

abbrev a0 : S8192x4096.Idx → EReal := m ((c.tc : Thread nD τ).loc main_arg0)
abbrev a1 : S4096x1024.Idx → EReal := m ((c.tc : Thread nD τ).loc main_arg1)
abbrev a2 : S8192x1024.Idx → EReal := m ((c.tc : Thread nD τ).loc main_arg2)

theorem iblk_0 (t : Fin cfg0.N) (a : Fin 1024) (k : Fin 2048) :
    (iblk m c 0 t : S1024x2048.Idx → EReal) (ix2 a k) = a0 m c (ix2 (row t a) (col t k)) := by
  blk_ext [iblk, (idx t).1, row, col]

theorem iblk_1 (t : Fin cfg0.N) (b : Fin 1024) (k : Fin 2048) :
    (iblk m c 1 t : S2048x1024.Idx → EReal) (ix2 k b) = a1 m c (ix2 (col t k) b) := by
  blk_ext [iblk, (idx t).2.1, col]

theorem iblk_2 (t : Fin cfg0.N) (a : Fin 1024) (b : Fin 1024) :
    (iblk m c 2 t : S1024x1024.Idx → EReal) (ix2 a b) = a2 m c (ix2 (row t a) b) := by
  blk_ext [iblk, (idx t).2.2.1, row]

/-- The squared positive part. -/
def sq (x : EReal) : EReal := max x 0 * max x 0

/-- The block's output: what is added and the product of the squared activation with the weight. -/
def outp (x0 : S8192x4096.Idx → EReal) (x1 : S4096x1024.Idx → EReal) (x2 : S8192x1024.Idx → EReal) (i : S8192x1024.Idx) : EReal :=
  x2 i + ∑ l : Fin 4096, sq (x0 (ix2 (i 0) l)) * x1 (ix2 l (i 1))

/-- One column's part of an element of the product. -/
def part (j : ℕ) (y : S1024x1024.Idx) (l : Fin 4096) : EReal :=
  pad (fun r : Fin 8192 => sq (a0 m c (ix2 r l))) (j * 1024 + (y 0).val) * a1 m c (ix2 l (y 1))

theorem part_eq (t : Fin cfg0.N) (a b : Fin 1024) (l : Fin 4096) :
    part m c (t.val / 2) (ix2 a b) l = sq (a0 m c (ix2 (row t a) l)) * a1 m c (ix2 l b) :=
  congrArg (· * a1 m c (ix2 l b)) (pad_of_lt (fun r : Fin 8192 => sq (a0 m c (ix2 r l))) (row t a).isLt)

theorem point (t : Fin cfg0.N) (y : S1024x1024.Idx) :
    k0_pay2 (iblk m c 0 t) (iblk m c 1 t) y = ∑ k : Fin 2048, pad (part m c (t.val / 2) y) (t.val % 2 * 2048 + k.val) := by
  obtain ⟨a, b, rfl⟩ : ∃ a b, y = (ix2 a b : S1024x1024.Idx) := ⟨y 0, y 1, by funext i; fin_cases i <;> rfl⟩
  pointwise [k0_pay1, k0_pay2]
  refine Finset.sum_congr rfl fun k _ => ?_
  rw [iblk_0, iblk_1]
  exact ((pad_of_lt _ (col t k).isLt).trans (part_eq m c t a b (col t k))).symm

theorem add_point (A : Vec Ideal S1024x2048 .bf16) (B : Vec Ideal S2048x1024 .bf16) (X : Vec Ideal S1024x1024 .f32) (y : S1024x1024.Idx) :
    k0_pay3 A B X y = (X y : EReal) + k0_pay2 A B y := by
  obtain ⟨a, b, rfl⟩ : ∃ a b, y = (ix2 a b : S1024x1024.Idx) := ⟨y 0, y 1, by funext i; fin_cases i <;> rfl⟩
  pointwise [k0_pay1, k0_pay2, k0_pay3]

theorem acc (t : Fin cfg0.N) (y : S1024x1024.Idx) :
    (outsAt0 m c t.val t.isLt).2 y = (fun _ => 0 : S1024x1024.Idx → EReal) y + ∑ s ∈ Finset.range (t.val % 2 + 1), ∑ k : Fin 2048, pad (part m c (t.val / 2) y) (s * 2048 + k.val) := by
  refine Pipeline.eq_sum_of_reset_step_apply_divmod (fun n h => ((outsAt0 m c n h).2 : S1024x1024.Idx → EReal)) 2 (fun _ => 0)
    (fun j s y => ∑ k : Fin 2048, pad (part m c j y) (s * 2048 + k.val)) (fun t h y => ?_) (fun t h y => ?_) t y
  · rw [outsAt0_A m c t h (by omega) (by omega)]
    frame_out
    exact (point m c t y).trans (zero_add (_ : EReal)).symm
  · rw [outsAt0_B m c t h (by omega) (by omega)]
    frame_out
    simp only [read_unread_whole]
    exact (add_point _ _ _ y).trans (congrArg (_ + ·) (point m c t y))

theorem p4 (A B : Vec Ideal S1024x1024 .f32) (y : S1024x1024.Idx) : k0_pay4 A B y = (B y + A y : EReal) := by
  obtain ⟨a, b, rfl⟩ : ∃ a b, y = (ix2 a b : S1024x1024.Idx) := ⟨y 0, y 1, by funext i; fin_cases i <;> rfl⟩
  pointwise [k0_pay4]
  exact add_comm (_ : EReal) _

theorem out (t : Fin cfg0.N) (h : t.val % 2 = 1) :
    (outsAt0 m c t.val t.isLt).1 = k0_pay4 (outsAt0 m c t.val t.isLt).2 (iblk m c 2 t) := by
  rw [outsAt0_B m c t (by omega) h h]
  frame_out

theorem arr : (dats m 0 c).arrAt 3 cfg0.N = outp (a0 m c) (a1 m c) (a2 m c) := by
  refine (dats m 0 c).arrAt_eq_of_covers 3 _ (by decide +kernel) fun t hf y => ?_
  blk_simp
  have h1 := (flush0_3 t).mp hf
  rw [after0_3]
  obtain ⟨a, b, rfl⟩ : ∃ a b, y = (ix2 a b : S1024x1024.Idx) := ⟨y 0, y 1, by funext i; fin_cases i <;> rfl⟩
  have e : ((cfg0.win 3).blk t).view.emb (ix2 a b : S1024x1024.Idx) = (ix2 (row t a) b : S8192x1024.Idx) := by
    blk_ext [(idx t).2.2.2, row]
  refine (congrFun (out m c t h1) _).trans ((p4 _ _ _).trans ?_)
  refine Eq.trans ?_ (congrArg (outp (a0 m c) (a1 m c) (a2 m c)) e).symm
  refine congrArg₂ (fun x y : EReal => x + y) (iblk_2 m c t a b) ((acc m c t _).trans ?_)
  rw [h1]
  refine (zero_add (_ : EReal)).trans ((tiles 2 2048 rfl _).trans ?_)
  exact Finset.sum_congr rfl fun l _ => part_eq m c t a b l

theorem ref_eq (x0 : (⟨S8192x4096, .bf16⟩ : BufTy).Contents (Elt Ideal)) (x1 : (⟨S4096x1024, .bf16⟩ : BufTy).Contents (Elt Ideal))
    (x2 : (⟨S8192x1024, .f32⟩ : BufTy).Contents (Elt Ideal)) :
    (Cert.MlpDownRefIdeal.Read.val_main_v5 (F := Ideal) x0 x1 x2 : S8192x1024.Idx → EReal) = outp x0 x1 x2 := by
  funext i
  rw [Cert.MlpDownRefIdeal.Read.val_main_v5_apply, Cert.MlpDownRefIdeal.Read.val_main_v4_apply]
  refine congrArg (fun s : EReal => (x2 : S8192x1024.Idx → EReal) i + s) (Finset.sum_congr rfl fun l _ => ?_)
  refine congrArg₂ (fun a b : EReal => a * b) ?_ ?_
  · rw [Cert.MlpDownRefIdeal.Read.val_main_v3_apply, Cert.MlpDownRefIdeal.Read.val_main_v2_apply, Cert.MlpDownRefIdeal.Read.val_main_v0_apply,
      Cert.MlpDownRefIdeal.Read.val_main_call0_v0_apply, Cert.MlpDownRefIdeal.Read.val_main_call0_cst_apply]
    pointwise [sq]
    exact congrArg (fun j : S8192x4096.Idx => sq ((x0 : S8192x4096.Idx → EReal) j)) (by funext a; fin_cases a <;> rfl)
  · rw [Cert.MlpDownRefIdeal.Read.val_main_v1_apply]
    exact congrArg (x1 : S4096x1024.Idx → EReal) (by funext a; fin_cases a <;> rfl)

/-- The printed body table and the idealised one are the same table. -/
theorem defs₀_eq : Cert.MlpDown.defs₀ (F := Bits) = Cert.MlpDownIdeal.defs₀ (F := Bits) := by
  unfold Cert.MlpDown.defs₀ Cert.MlpDownIdeal.defs₀
  refine congrArg _ ?_
  funext l x
  match l, x with
  | 0, (t, s) => rfl

theorem defs_eq : Cert.MlpDown.defs (F := Bits) = Cert.MlpDownIdeal.defs (F := Bits) :=
  congrArg (Pipeline.defs (Cert.MlpDown.pcfgs (F := Bits))) defs₀_eq

theorem frame_bits : Cert.quiescent_MlpDown := by
  intro m ρ _
  rw [defs_eq]
  exact Cert.MlpDownIdeal.Gen.frame (F := Bits) m ρ

theorem frame_ref : Cert.quiescent_MlpDownRefIdeal := fun m ρ _ =>
  (θ_run _ _ _).mono (fun _ h => ⟨fun c => (h c).2, sem_eq_zero_of_no_sems rfl _⟩) (Cert.MlpDownRefIdeal.Value.run m ρ)

theorem algebraic : Cert.algebraic_MlpDownIdeal_MlpDownRefIdeal := by
  intro m g m' g' _ ha
  refine ⟨fun c => (dats m 0 c).arrAt 3 cfg0.N, Cert.MlpDownIdeal.Value.run_blocks m g, ?_⟩
  refine (θ_run _ _ _).mono (fun r h c => ?_) (Cert.MlpDownRefIdeal.Value.run m' g')
  obtain ⟨r0, hargs⟩ := h c
  obtain ⟨e0, e1, e2⟩ := ha c
  rw [Cert.MlpDownRefIdeal.Read.val_main_v5_eq, e0, e1, e2] at r0
  exact ⟨r0.trans ((ref_eq _ _ _).trans (arr m c).symm), hargs⟩

end Cert.MlpDownIdeal.Mlp

end
-- ==== Proof.MmGluFwd.lean ====
module

public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.Gen.GluFwd
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.GluFwdIdeal.Mlp

open Idealize.ShloMosaic Idealize.ShloMosaic.TcCoe Idealize.SL.Sem Cert.GluFwdIdeal Cert.GluFwdIdeal.Gen Cert.Mlp
open Idealize.ShloMosaic.Tactic

/-! The gated linear unit's product. -/

theorem idx : ∀ t : Fin grid0.N, win0_0.index t = ![t.val / 2, 0] ∧ win0_1.index t = ![0, t.val % 2]
    ∧ win0_2.index t = ![t.val / 2, t.val % 2] := by
  decide +kernel

theorem pt_lt (t : Fin cfg0.N) : t.val < 16 := Nat.lt_of_lt_of_eq t.isLt N_0

/-- Row `a` of a point's tile of rows. -/
def row (t : Fin cfg0.N) (a : Fin 1024) : Fin 8192 := ⟨t.val / 2 * 1024 + a.val, by have := pt_lt t; have := a.isLt; omega⟩

/-- Column `b` of a point's tile of columns. -/
def col (t : Fin cfg0.N) (b : Fin 1024) : Fin 2048 := ⟨t.val % 2 * 1024 + b.val, by have := b.isLt; omega⟩

/-- The product, element by element. -/
def prod (x0 : S8192x1024.Idx → EReal) (x1 : S1024x2048.Idx → EReal) (i : S8192x2048.Idx) : EReal :=
  ∑ l : Fin 1024, x0 (ix2 (i 0) l) * x1 (ix2 l (i 1))

variable (m : (ℓ : Loc nD τ sig) → Buf (Elt Ideal) ℓ) (c : Dev nD)

abbrev a0 : S8192x1024.Idx → EReal := m ((c.tc : Thread nD τ).loc main_arg0)
abbrev a1 : S1024x2048.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 k b) = a1 m c (ix2 k (col t b)) := by
  blk_ext [iblk, (idx t).2.1, col]

theorem point (t : Fin cfg0.N) (a b : Fin 1024) :
    (k0_pay1 (iblk m c 0 t) (iblk m c 1 t) (ix2 a b) : EReal) = prod (a0 m c) (a1 m c) (ix2 (row t a) (col t b)) := by
  pointwise [k0_pay1, prod]
  refine Finset.sum_congr rfl fun k _ => ?_
  rw [iblk_0, iblk_1]

theorem arr : (dats m 0 c).arrAt 2 cfg0.N = prod (a0 m c) (a1 m c) := by
  refine (dats m 0 c).arrAt_eq_of_covers 2 _ (by decide +kernel) fun t hf y => ?_
  blk_simp
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (row t a) (col t b) : S8192x2048.Idx) := by
    blk_ext [(idx t).2.2, row, col]
  frame_out
  exact (point m c t a b).trans (congrArg (prod (a0 m c) (a1 m c)) e).symm

theorem ref_eq (x0 : (⟨S8192x1024, .bf16⟩ : BufTy).Contents (Elt Ideal)) (x1 : (⟨S1024x2048, .bf16⟩ : BufTy).Contents (Elt Ideal)) :
    (Cert.GluFwdRefIdeal.Read.val_main_v2 (F := Ideal) x0 x1 : S8192x2048.Idx → EReal) = prod x0 x1 := by
  funext i
  rw [Cert.GluFwdRefIdeal.Read.val_main_v2_apply]
  refine Finset.sum_congr rfl fun l _ => ?_
  rw [Cert.GluFwdRefIdeal.Read.val_main_v1_apply, Cert.GluFwdRefIdeal.Read.val_main_v0_apply]
  exact congrArg₂ (fun a b : EReal => a * b) (congrArg (x0 : S8192x1024.Idx → EReal) (by funext a; fin_cases a <;> rfl))
    (congrArg (x1 : S1024x2048.Idx → EReal) (by funext a; fin_cases a <;> rfl))

/-- The printed body table and the idealised one are the same table. -/
theorem defs₀_eq : Cert.GluFwd.defs₀ (F := Bits) = Cert.GluFwdIdeal.defs₀ (F := Bits) := by
  unfold Cert.GluFwd.defs₀ Cert.GluFwdIdeal.defs₀
  refine congrArg _ ?_
  funext l x
  match l, x with
  | 0, (t, s) => rfl

theorem defs_eq : Cert.GluFwd.defs (F := Bits) = Cert.GluFwdIdeal.defs (F := Bits) :=
  congrArg (Pipeline.defs (Cert.GluFwd.pcfgs (F := Bits))) defs₀_eq

theorem frame_bits : Cert.quiescent_GluFwd := by
  intro m ρ _
  rw [defs_eq]
  exact Cert.GluFwdIdeal.Gen.frame (F := Bits) m ρ

theorem frame_ref : Cert.quiescent_GluFwdRefIdeal := fun m ρ _ =>
  (θ_run _ _ _).mono (fun _ h => ⟨fun c => (h c).2, sem_eq_zero_of_no_sems rfl _⟩) (Cert.GluFwdRefIdeal.Value.run m ρ)

theorem algebraic : Cert.algebraic_GluFwdIdeal_GluFwdRefIdeal := by
  intro m g m' g' _ ha
  refine ⟨fun c => (dats m 0 c).arrAt 2 cfg0.N, Cert.GluFwdIdeal.Value.run_blocks m g, ?_⟩
  refine (θ_run _ _ _).mono (fun r h c => ?_) (Cert.GluFwdRefIdeal.Value.run m' g')
  obtain ⟨r0, hargs⟩ := h c
  obtain ⟨e0, e1⟩ := ha c
  rw [Cert.GluFwdRefIdeal.Read.val_main_v2_eq, e0, e1] at r0
  exact ⟨r0.trans ((ref_eq _ _).trans (arr m c).symm), hargs⟩

end Cert.GluFwdIdeal.Mlp

end
-- ==== Proof.MmOutFwd.lean ====
module

public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.OutFwd
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.OutFwdIdeal.Mlp

open Idealize.ShloMosaic Idealize.ShloMosaic.TcCoe Idealize.SL.Sem Cert.OutFwdIdeal Cert.OutFwdIdeal.Gen Cert.Mlp
open Idealize.ShloMosaic.Tactic

/-! The attention's output projection and the addition of the residual. -/

theorem idx : ∀ t : Fin grid0.N, win0_0.index t = ![t.val, 0] ∧ win0_1.index t = ![0, 0]
    ∧ win0_2.index t = ![t.val, 0] ∧ win0_3.index t = ![t.val, 0] := by
  decide +kernel

theorem pt_lt (t : Fin cfg0.N) : t.val < 8 := Nat.lt_of_lt_of_eq t.isLt N_0

/-- Row `a` of a point's tile of rows. -/
def row (t : Fin cfg0.N) (a : Fin 1024) : Fin 8192 := ⟨t.val * 1024 + a.val, by have := pt_lt t; have := a.isLt; omega⟩

/-- The projection with the residual, element by element. -/
def prod (x0 : S8192x1024.Idx → EReal) (x1 : S1024x1024.Idx → EReal) (x2 : S8192x1024.Idx → EReal) (i : S8192x1024.Idx) : EReal :=
  x2 i + ∑ l : Fin 1024, x0 (ix2 (i 0) l) * x1 (ix2 l (i 1))

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)
abbrev a2 : S8192x1024.Idx → EReal := m ((c.tc : Thread nD τ).loc main_arg2)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 k b) = a1 m c (ix2 k b) := by
  blk_ext [iblk, (idx t).2.1]

theorem iblk_2 (t : Fin cfg0.N) (a b : Fin 1024) :
    (iblk m c 2 t : S1024x1024.Idx → EReal) (ix2 a b) = a2 m c (ix2 (row t a) b) := by
  blk_ext [iblk, (idx t).2.2.1, row]

theorem point (t : Fin cfg0.N) (a : Fin 1024) (b : Fin 1024) :
    (k0_pay1 (iblk m c 0 t) (iblk m c 1 t) (iblk m c 2 t) (ix2 a b) : EReal) = prod (a0 m c) (a1 m c) (a2 m c) (ix2 (row t a) b) := by
  pointwise [k0_pay1, prod]
  rw [iblk_2]
  refine (add_comm (_ : EReal) _).trans (congrArg (fun s : EReal => a2 m c (ix2 (row t a) b) + s) (Finset.sum_congr rfl fun k _ => ?_))
  rw [iblk_0, iblk_1]

theorem arr : (dats m 0 c).arrAt 3 cfg0.N = prod (a0 m c) (a1 m c) (a2 m c) := by
  refine (dats m 0 c).arrAt_eq_of_covers 3 _ (by decide +kernel) fun t hf y => ?_
  blk_simp
  rw [after0_3]
  obtain ⟨a, b, rfl⟩ : ∃ a b, y = (ix2 a b : S1024x1024.Idx) := ⟨y 0, y 1, by funext i; fin_cases i <;> rfl⟩
  have e : ((cfg0.win 3).blk t).view.emb (ix2 a b : S1024x1024.Idx) = (ix2 (row t a) b : S8192x1024.Idx) := by
    blk_ext [(idx t).2.2.2, row]
  frame_out
  exact (point m c t a b).trans (congrArg (prod (a0 m c) (a1 m c) (a2 m c)) e).symm

theorem ref_eq (x0 : (⟨S8192x1024, .f32⟩ : BufTy).Contents (Elt Ideal)) (x1 : (⟨S1024x1024, .bf16⟩ : BufTy).Contents (Elt Ideal))
    (x2 : (⟨S8192x1024, .f32⟩ : BufTy).Contents (Elt Ideal)) :
    (Cert.OutFwdRefIdeal.Read.val_main_v2 (F := Ideal) x0 x1 x2 : S8192x1024.Idx → EReal) = prod x0 x1 x2 := by
  funext i
  rw [Cert.OutFwdRefIdeal.Read.val_main_v2_apply, Cert.OutFwdRefIdeal.Read.val_main_v1_apply]
  refine congrArg (fun s : EReal => (x2 : S8192x1024.Idx → EReal) i + s) (Finset.sum_congr rfl fun l _ => ?_)
  rw [Cert.OutFwdRefIdeal.Read.val_main_v0_apply]
  exact congrArg₂ (fun a b : EReal => a * b) (congrArg (x0 : S8192x1024.Idx → EReal) (by funext a; fin_cases a <;> rfl))
    (congrArg (x1 : S1024x1024.Idx → EReal) (by funext a; fin_cases a <;> rfl))

/-- The printed body table and the idealised one are the same table. -/
theorem defs₀_eq : Cert.OutFwd.defs₀ (F := Bits) = Cert.OutFwdIdeal.defs₀ (F := Bits) := by
  unfold Cert.OutFwd.defs₀ Cert.OutFwdIdeal.defs₀
  refine congrArg _ ?_
  funext l x
  match l, x with
  | 0, (t, s) => rfl

theorem defs_eq : Cert.OutFwd.defs (F := Bits) = Cert.OutFwdIdeal.defs (F := Bits) :=
  congrArg (Pipeline.defs (Cert.OutFwd.pcfgs (F := Bits))) defs₀_eq

theorem frame_bits : Cert.quiescent_OutFwd := by
  intro m ρ _
  rw [defs_eq]
  exact Cert.OutFwdIdeal.Gen.frame (F := Bits) m ρ

theorem frame_ref : Cert.quiescent_OutFwdRefIdeal := fun m ρ _ =>
  (θ_run _ _ _).mono (fun _ h => ⟨fun c => (h c).2, sem_eq_zero_of_no_sems rfl _⟩) (Cert.OutFwdRefIdeal.Value.run m ρ)

theorem algebraic : Cert.algebraic_OutFwdIdeal_OutFwdRefIdeal := by
  intro m g m' g' _ ha
  refine ⟨fun c => (dats m 0 c).arrAt 3 cfg0.N, Cert.OutFwdIdeal.Value.run_blocks m g, ?_⟩
  refine (θ_run _ _ _).mono (fun r h c => ?_) (Cert.OutFwdRefIdeal.Value.run m' g')
  obtain ⟨r0, hargs⟩ := h c
  obtain ⟨e0, e1, e2⟩ := ha c
  rw [Cert.OutFwdRefIdeal.Read.val_main_v2_eq, e0, e1, e2] at r0
  exact ⟨r0.trans ((ref_eq _ _ _).trans (arr m c).symm), hargs⟩

end Cert.OutFwdIdeal.Mlp

end
-- ==== Proof.MmKvfFwd.lean ====
module

public import proofs.«01_k».proof.Proof.Gen.KvfFwdIdeal.Value
public import proofs.«01_k».proof.Proof.Gen.KvfFwdRefIdeal.Run
public import proofs.«01_k».proof.Proof.Gen.KvfFwdRefIdeal.Read
public import proofs.«01_k».proof.Proof.Gen.KvfFwd
public import proofs.«01_k».proof.Proof.MlpSums
public import proofs.«01_k».proof.Defs
public import Idealize.ShloMosaic.Lib.Quiescent

@[expose] public section

set_option maxRecDepth 16384
set_option backward.isDefEq.respectTransparency.types false

noncomputable section

namespace Cert.KvfFwdIdeal.Mlp

open Idealize.ShloMosaic Idealize.ShloMosaic.TcCoe Idealize.SL.Sem Cert.KvfFwdIdeal Cert.KvfFwdIdeal.Gen Cert.Mlp
open Idealize.ShloMosaic.Tactic

/-! The projection to keys, values and gates. -/

theorem idx : ∀ t : Fin grid0.N, win0_0.index t = ![t.val, 0] ∧ win0_1.index t = ![0, 0]
    ∧ win0_2.index t = ![t.val, 0] := by
  decide +kernel

theorem pt_lt (t : Fin cfg0.N) : t.val < 8 := Nat.lt_of_lt_of_eq t.isLt N_0

/-- Row `a` of a point's tile of rows. -/
def row (t : Fin cfg0.N) (a : Fin 1024) : Fin 8192 := ⟨t.val * 1024 + a.val, by have := pt_lt t; have := a.isLt; omega⟩

/-- The product, element by element. -/
def prod (x0 : S8192x1024.Idx → EReal) (x1 : S1024x2176.Idx → EReal) (i : S8192x2176.Idx) : EReal :=
  ∑ l : Fin 1024, x0 (ix2 (i 0) l) * x1 (ix2 l (i 1))

variable (m : (ℓ : Loc nD τ sig) → Buf (Elt Ideal) ℓ) (c : Dev nD)

abbrev a0 : S8192x1024.Idx → EReal := m ((c.tc : Thread nD τ).loc main_arg0)
abbrev a1 : S1024x2176.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 2176) (k : Fin 1024) :
    (iblk m c 1 t : S1024x2176.Idx → EReal) (ix2 k b) = a1 m c (ix2 k b) := by
  blk_ext [iblk, (idx t).2.1]

theorem point (t : Fin cfg0.N) (a : Fin 1024) (b : Fin 2176) :
    (k0_pay1 (iblk m c 0 t) (iblk m c 1 t) (ix2 a b) : EReal) = prod (a0 m c) (a1 m c) (ix2 (row t a) b) := by
  pointwise [k0_pay1, prod]
  refine Finset.sum_congr rfl fun k _ => ?_
  rw [iblk_0, iblk_1]

theorem arr : (dats m 0 c).arrAt 2 cfg0.N = prod (a0 m c) (a1 m c) := by
  refine (dats m 0 c).arrAt_eq_of_covers 2 _ (by decide +kernel) fun t hf y => ?_
  blk_simp
  rw [after0_2]
  obtain ⟨a, b, rfl⟩ : ∃ a b, y = (ix2 a b : S1024x2176.Idx) := ⟨y 0, y 1, by funext i; fin_cases i <;> rfl⟩
  have e : ((cfg0.win 2).blk t).view.emb (ix2 a b : S1024x2176.Idx) = (ix2 (row t a) b : S8192x2176.Idx) := by
    blk_ext [(idx t).2.2, row]
  frame_out
  exact (point m c t a b).trans (congrArg (prod (a0 m c) (a1 m c)) e).symm

theorem ref_eq (x0 : (⟨S8192x1024, .bf16⟩ : BufTy).Contents (Elt Ideal)) (x1 : (⟨S1024x2176, .bf16⟩ : BufTy).Contents (Elt Ideal)) :
    (Cert.KvfFwdRefIdeal.Read.val_main_v2 (F := Ideal) x0 x1 : S8192x2176.Idx → EReal) = prod x0 x1 := by
  funext i
  rw [Cert.KvfFwdRefIdeal.Read.val_main_v2_apply]
  refine Finset.sum_congr rfl fun l _ => ?_
  rw [Cert.KvfFwdRefIdeal.Read.val_main_v1_apply, Cert.KvfFwdRefIdeal.Read.val_main_v0_apply]
  exact congrArg₂ (fun a b : EReal => a * b) (congrArg (x0 : S8192x1024.Idx → EReal) (by funext a; fin_cases a <;> rfl))
    (congrArg (x1 : S1024x2176.Idx → EReal) (by funext a; fin_cases a <;> rfl))

/-- The printed body table and the idealised one are the same table. -/
theorem defs₀_eq : Cert.KvfFwd.defs₀ (F := Bits) = Cert.KvfFwdIdeal.defs₀ (F := Bits) := by
  unfold Cert.KvfFwd.defs₀ Cert.KvfFwdIdeal.defs₀
  refine congrArg _ ?_
  funext l x
  match l, x with
  | 0, (t, s) => rfl

theorem defs_eq : Cert.KvfFwd.defs (F := Bits) = Cert.KvfFwdIdeal.defs (F := Bits) :=
  congrArg (Pipeline.defs (Cert.KvfFwd.pcfgs (F := Bits))) defs₀_eq

theorem frame_bits : Cert.quiescent_KvfFwd := by
  intro m ρ _
  rw [defs_eq]
  exact Cert.KvfFwdIdeal.Gen.frame (F := Bits) m ρ

theorem frame_ref : Cert.quiescent_KvfFwdRefIdeal := fun m ρ _ =>
  (θ_run _ _ _).mono (fun _ h => ⟨fun c => (h c).2, sem_eq_zero_of_no_sems rfl _⟩) (Cert.KvfFwdRefIdeal.Value.run m ρ)

theorem algebraic : Cert.algebraic_KvfFwdIdeal_KvfFwdRefIdeal := by
  intro m g m' g' _ ha
  refine ⟨fun c => (dats m 0 c).arrAt 2 cfg0.N, Cert.KvfFwdIdeal.Value.run_blocks m g, ?_⟩
  refine (θ_run _ _ _).mono (fun r h c => ?_) (Cert.KvfFwdRefIdeal.Value.run m' g')
  obtain ⟨r0, hargs⟩ := h c
  obtain ⟨e0, e1⟩ := ha c
  rw [Cert.KvfFwdRefIdeal.Read.val_main_v2_eq, e0, e1] at r0
  exact ⟨r0.trans ((ref_eq _ _).trans (arr m c).symm), hargs⟩

end Cert.KvfFwdIdeal.Mlp

end
-- ==== Proof.MmKvfDw.lean ====
module

public import proofs.«01_k».proof.Proof.Gen.KvfDwIdeal.Value
public import proofs.«01_k».proof.Proof.Gen.KvfDwRefIdeal.Run
public import proofs.«01_k».proof.Proof.Gen.KvfDwRefIdeal.Read
public import proofs.«01_k».proof.Proof.Gen.KvfDw
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.KvfDwIdeal.Mlp

open Idealize.ShloMosaic Idealize.ShloMosaic.TcCoe Idealize.SL.Sem Cert.KvfDwIdeal Cert.KvfDwIdeal.Gen Cert.Mlp
open Idealize.ShloMosaic.Tactic

/-! The gradient of the weight of the projection to keys, values and gates: the product of the transposed input with the cotangent, over
tiles of rows. -/

theorem idx : ∀ t : Fin grid0.N, win0_0.index t = ![t.val % 8, t.val / 8] ∧ win0_1.index t = ![t.val % 8, 0]
    ∧ win0_2.index t = ![t.val / 8, 0] := by decide +kernel

theorem pt_lt (t : Fin cfg0.N) : t.val < 16 := Nat.lt_of_lt_of_eq t.isLt N_0

/-- Row `k` of a point's tile of rows. -/
def row (t : Fin cfg0.N) (k : Fin 1024) : Fin 8192 := ⟨t.val % 8 * 1024 + k.val, by have := k.isLt; omega⟩
/-- Column `b` of a point's tile of columns. -/
def col (t : Fin cfg0.N) (b : Fin 512) : Fin 1024 := ⟨t.val / 8 * 512 + b.val, by have := pt_lt t; have := b.isLt; omega⟩

variable (m : (ℓ : Loc nD τ sig) → Buf (Elt Ideal) ℓ) (c : Dev nD)

abbrev a0 : S8192x1024.Idx → EReal := m ((c.tc : Thread nD τ).loc main_arg0)
abbrev a1 : S8192x2176.Idx → EReal := m ((c.tc : Thread nD τ).loc main_arg1)

theorem iblk_0 (t : Fin cfg0.N) (k : Fin 1024) (a : Fin 512) :
    (iblk m c 0 t : S1024x512.Idx → EReal) (ix2 k a) = a0 m c (ix2 (row t k) (col t a)) := by
  blk_ext [iblk, (idx t).1, row, col]

theorem iblk_1 (t : Fin cfg0.N) (k : Fin 1024) (b : Fin 2176) :
    (iblk m c 1 t : S1024x2176.Idx → EReal) (ix2 k b) = a1 m c (ix2 (row t k) b) := by
  blk_ext [iblk, (idx t).2.1, row]

/-- One row's part of an element of the product. -/
def part (j : ℕ) (y : S512x2176.Idx) (l : Fin 8192) : EReal :=
  pad (fun a : Fin 1024 => a0 m c (ix2 l a)) (j * 512 + (y 0).val) * a1 m c (ix2 l (y 1))

theorem part_eq (t : Fin cfg0.N) (a : Fin 512) (b : Fin 2176) (l : Fin 8192) :
    part m c (t.val / 8) (ix2 a b) l = a0 m c (ix2 l (col t a)) * a1 m c (ix2 l b) :=
  congrArg (· * a1 m c (ix2 l b)) (pad_of_lt (fun a : Fin 1024 => a0 m c (ix2 l a)) (col t a).isLt)

theorem point (t : Fin cfg0.N) (y : S512x2176.Idx) :
    k0_pay2 (iblk m c 0 t) (iblk m c 1 t) y = ∑ k : Fin 1024, pad (part m c (t.val / 8) y) (t.val % 8 * 1024 + k.val) := by
  obtain ⟨a, b, rfl⟩ : ∃ a b, y = (ix2 a b : S512x2176.Idx) := ⟨y 0, y 1, by funext i; fin_cases i <;> rfl⟩
  pointwise [k0_pay1, k0_pay2]
  refine Finset.sum_congr rfl fun k _ => ?_
  rw [iblk_0, iblk_1]
  exact ((pad_of_lt _ (row t k).isLt).trans (part_eq m c t a b (row t k))).symm

theorem add_point (A : Vec Ideal S1024x512 .bf16) (B : Vec Ideal S1024x2176 .bf16) (X : Vec Ideal S512x2176 .f32) (y : S512x2176.Idx) :
    k0_pay3 A B X y = (X y : EReal) + k0_pay2 A B y := by
  obtain ⟨a, b, rfl⟩ : ∃ a b, y = (ix2 a b : S512x2176.Idx) := ⟨y 0, y 1, by funext i; fin_cases i <;> rfl⟩
  pointwise [k0_pay1, k0_pay2, k0_pay3]

theorem acc (t : Fin cfg0.N) (y : S512x2176.Idx) :
    (outsAt0 m c t.val t.isLt).2 y = (fun _ => 0 : S512x2176.Idx → EReal) y + ∑ s ∈ Finset.range (t.val % 8 + 1), ∑ k : Fin 1024, pad (part m c (t.val / 8) y) (s * 1024 + k.val) := by
  refine Pipeline.eq_sum_of_reset_step_apply_divmod (fun n h => ((outsAt0 m c n h).2 : S512x2176.Idx → EReal)) 8 (fun _ => 0)
    (fun j s y => ∑ k : Fin 1024, pad (part m c j y) (s * 1024 + k.val)) (fun t h y => ?_) (fun t h y => ?_) t y
  · rw [outsAt0_A m c t h (by omega) (by omega)]
    frame_out
    exact (point m c t y).trans (zero_add (_ : EReal)).symm
  · by_cases h7 : t.val % 8 = 7
    · rw [outsAt0_C m c t h (by omega) h7]
      frame_out
      simp only [read_unread_whole]
      exact (add_point _ _ _ y).trans (congrArg (_ + ·) (point m c t y))
    · rw [outsAt0_B m c t h (by omega) h7]
      frame_out
      simp only [read_unread_whole]
      exact (add_point _ _ _ y).trans (congrArg (_ + ·) (point m c t y))

theorem out (t : Fin cfg0.N) (h : t.val % 8 = 7) : (outsAt0 m c t.val t.isLt).1 = (outsAt0 m c t.val t.isLt).2 := by
  rw [outsAt0_C m c t (by omega) (by omega) h]
  frame_out

theorem arr : (dats m 0 c).arrAt 2 cfg0.N = fun i : S1024x2176.Idx => ∑ l : Fin 8192, a0 m c (ix2 l (i 0)) * a1 m c (ix2 l (i 1)) := by
  refine (dats m 0 c).arrAt_eq_of_covers 2 _ (by decide +kernel) fun t hf y => ?_
  blk_simp
  have h7 := (flush0_2 t).mp hf
  rw [after0_2]
  obtain ⟨a, b, rfl⟩ : ∃ a b, y = (ix2 a b : S512x2176.Idx) := ⟨y 0, y 1, by funext i; fin_cases i <;> rfl⟩
  have e : ((cfg0.win 2).blk t).view.emb (ix2 a b : S512x2176.Idx) = (ix2 (col t a) b : S1024x2176.Idx) := by
    blk_ext [(idx t).2.2, col]
  refine (congrFun (out m c t h7) _).trans ((acc m c t _).trans ?_)
  rw [h7]
  refine (zero_add (_ : EReal)).trans ((tiles 8 1024 rfl _).trans ?_)
  refine Eq.trans (Finset.sum_congr rfl fun l _ => part_eq m c t a b l)
    (congrArg (fun i : S1024x2176.Idx => ∑ l : Fin 8192, a0 m c (ix2 l (i 0)) * a1 m c (ix2 l (i 1))) e).symm

theorem ref_eq (x0 : (⟨S8192x1024, .bf16⟩ : BufTy).Contents (Elt Ideal)) (x1 : (⟨S8192x2176, .bf16⟩ : BufTy).Contents (Elt Ideal)) :
    (Cert.KvfDwRefIdeal.Read.val_main_v3 (F := Ideal) x0 x1 : S1024x2176.Idx → EReal)
      = fun i : S1024x2176.Idx => ∑ l : Fin 8192, (x0 : S8192x1024.Idx → EReal) (ix2 l (i 0)) * (x1 : S8192x2176.Idx → EReal) (ix2 l (i 1)) := by
  funext i
  rw [Cert.KvfDwRefIdeal.Read.val_main_v3_apply, Cert.KvfDwRefIdeal.Read.val_main_v2_apply]
  refine Finset.sum_congr rfl fun l _ => ?_
  rw [Cert.KvfDwRefIdeal.Read.val_main_v1_apply, Cert.KvfDwRefIdeal.Read.val_main_v0_apply]
  refine (mul_comm (_ : EReal) _).trans ?_
  exact congrArg₂ (fun a b : EReal => a * b) (congrArg (x0 : S8192x1024.Idx → EReal) (by funext a; fin_cases a <;> rfl))
    (congrArg (x1 : S8192x2176.Idx → EReal) (by funext a; fin_cases a <;> rfl))

/-- The printed body table and the idealised one are the same table. -/
theorem defs₀_eq : Cert.KvfDw.defs₀ (F := Bits) = Cert.KvfDwIdeal.defs₀ (F := Bits) := by
  unfold Cert.KvfDw.defs₀ Cert.KvfDwIdeal.defs₀
  refine congrArg _ ?_
  funext l x
  match l, x with
  | 0, (t, s) => rfl

theorem defs_eq : Cert.KvfDw.defs (F := Bits) = Cert.KvfDwIdeal.defs (F := Bits) :=
  congrArg (Pipeline.defs (Cert.KvfDw.pcfgs (F := Bits))) defs₀_eq

theorem frame_bits : Cert.quiescent_KvfDw := by
  intro m ρ _
  rw [defs_eq]
  exact Cert.KvfDwIdeal.Gen.frame (F := Bits) m ρ

theorem frame_ref : Cert.quiescent_KvfDwRefIdeal := fun m ρ _ =>
  (θ_run _ _ _).mono (fun _ h => ⟨fun c => (h c).2, sem_eq_zero_of_no_sems rfl _⟩) (Cert.KvfDwRefIdeal.Value.run m ρ)

theorem algebraic : Cert.algebraic_KvfDwIdeal_KvfDwRefIdeal := by
  intro m g m' g' _ ha
  refine ⟨fun c => (dats m 0 c).arrAt 2 cfg0.N, Cert.KvfDwIdeal.Value.run_blocks m g, ?_⟩
  refine (θ_run _ _ _).mono (fun r h c => ?_) (Cert.KvfDwRefIdeal.Value.run m' g')
  obtain ⟨r0, hargs⟩ := h c
  obtain ⟨e0, e1⟩ := ha c
  rw [Cert.KvfDwRefIdeal.Read.val_main_v3_eq, e0, e1] at r0
  exact ⟨r0.trans ((ref_eq _ _).trans (arr m c).symm), hargs⟩

end Cert.KvfDwIdeal.Mlp

end
-- ==== Proof.MmKvfDx.lean ====
module

public import proofs.«01_k».proof.Proof.Gen.KvfDxIdeal.Value
public import proofs.«01_k».proof.Proof.Gen.KvfDxRefIdeal.Run
public import proofs.«01_k».proof.Proof.Gen.KvfDxRefIdeal.Read
public import proofs.«01_k».proof.Proof.Gen.KvfDx
public import proofs.«01_k».proof.Proof.MlpSums
public import proofs.«01_k».proof.Defs
public import Idealize.ShloMosaic.Lib.Pipeline.ReadBack
public import Idealize.ShloMosaic.Lib.Quiescent

@[expose] public section

set_option maxRecDepth 16384
set_option backward.isDefEq.respectTransparency.types false

noncomputable section

namespace Cert.KvfDxIdeal.Mlp

open Idealize.ShloMosaic Idealize.ShloMosaic.TcCoe Idealize.SL.Sem Cert.KvfDxIdeal Cert.KvfDxIdeal.Gen Cert.Mlp
open Idealize.ShloMosaic.Tactic

/-! The gradient of the input of the keys, values and gates: their cotangent times the transposed weight, then the derivative of the root-mean-square norm of each row; and the gradient of the norm's gain, over tiles of rows. -/

theorem idx : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by
  decide +kernel

theorem pt_lt (t : Fin cfg0.N) : t.val < 16 := Nat.lt_of_lt_of_eq t.isLt N_0

/-- Row `a` of a point's tile of rows. -/
def row (t : Fin cfg0.N) (a : Fin 512) : Fin 8192 := ⟨t.val * 512 + a.val, by have := pt_lt t; have := a.isLt; omega⟩

/-- The cotangent of the normed rows. -/
def dz (x0 : S8192x2176.Idx → EReal) (x1 : S1024x2176.Idx → EReal) (r : Fin 8192) (b : Fin 1024) : EReal :=
  ∑ l : Fin 2176, x0 (ix2 r l) * x1 (ix2 b l)

/-- The gradient of the block's input. -/
def gradX (x0 : S8192x2176.Idx → EReal) (x1 : S1024x2176.Idx → EReal) (x2 : S8192x1024.Idx → EReal) (x3 : S1x1024.Idx → EReal)
    (x4 : S8192x1024.Idx → EReal) (i : S8192x1024.Idx) : EReal :=
  rowGrad (fun k => x2 (ix2 (i 0) k)) (fun k => x3 (ix2 (0 : Fin 1) k)) (dz x0 x1 (i 0)) (x4 i) (i 1)

/-- The gradient of the norm's gain. -/
def gradG (x0 : S8192x2176.Idx → EReal) (x1 : S1024x2176.Idx → EReal) (x2 : S8192x1024.Idx → EReal) (i : S1x1024.Idx) : EReal :=
  ∑ r : Fin 8192, gainPart (fun k => x2 (ix2 r k)) (dz x0 x1 r) (i 1)

variable (m : (ℓ : Loc nD τ sig) → Buf (Elt Ideal) ℓ) (c : Dev nD)

abbrev a0 : S8192x2176.Idx → EReal := m ((c.tc : Thread nD τ).loc main_arg0)
abbrev a1 : S1024x2176.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)

theorem iblk_0 (t : Fin cfg0.N) (a : Fin 512) (k : Fin 2176) :
    (iblk m c 0 t : S512x2176.Idx → EReal) (ix2 a k) = a0 m c (ix2 (row t a) k) := by
  blk_ext [iblk, (idx t).1, row]

theorem iblk_1 (t : Fin cfg0.N) (b : Fin 1024) (k : Fin 2176) :
    (iblk m c 1 t : S1024x2176.Idx → EReal) (ix2 b k) = a1 m c (ix2 b k) := by
  blk_ext [iblk, (idx t).2.1]

theorem iblk_2 (t : Fin cfg0.N) (a : Fin 512) (b : Fin 1024) :
    (iblk m c 2 t : S512x1024.Idx → EReal) (ix2 a b) = a2 m c (ix2 (row t a) b) := by
  blk_ext [iblk, (idx t).2.2.1, row]

theorem iblk_3 (t : Fin cfg0.N) (a : Fin 512) (b : Fin 1024) :
    (iblk m c 3 t : S512x1024.Idx → EReal) (ix2 a b) = a4 m c (ix2 (row t a) b) := by
  blk_ext [iblk, (idx t).2.2.2.1, row]

theorem iblk_4 (t : Fin cfg0.N) (b : Fin 1024) :
    (iblk m c 4 t : S1x1024.Idx → EReal) (ix2 (0 : Fin 1) b) = a3 m c (ix2 (0 : Fin 1) b) := by
  blk_ext [iblk, (idx t).2.2.2.2.1]

/-- The cotangent of a tile's normed rows. -/
theorem tile_dz (t : Fin cfg0.N) (a : Fin 512) (b : Fin 1024) :
    (k0_pay3 (iblk m c 0 t) (iblk m c 1 t) (ix2 a b) : EReal) = dz (a0 m c) (a1 m c) (row t a) b := by
  pointwise [k0_pay3, dz]
  refine Finset.sum_congr rfl fun k _ => ?_
  rw [iblk_0, iblk_1]

theorem p6 (A : Vec Ideal S512x2176 .bf16) (X : Vec Ideal S512x1024 .f32) (B : Vec Ideal S1024x2176 .bf16) (b : Fin 1024) :
    k0_pay6 A B X (ix2 (0 : Fin 1) b) = (∑ a : Fin 512, gainPart (fun k => X (ix2 a k)) (fun k => k0_pay3 A B (ix2 a k)) b : EReal) := by
  pointwise [k0_pay6, k0_pay5, k0_pay4, gainPart, den, len, eps]

theorem p2 (A B : Vec Ideal S1x1024 .f32) (b : Fin 1024) :
    k0_pay2 A B (ix2 (0 : Fin 1) b) = (B (ix2 (0 : Fin 1) b) + A (ix2 (0 : Fin 1) b) : EReal) := by
  pointwise [k0_pay2]

theorem p1 (A : Vec Ideal S512x2176 .bf16) (X H : Vec Ideal S512x1024 .f32) (B : Vec Ideal S1024x2176 .bf16) (G : Vec Ideal S1x1024 .f32) (a : Fin 512) (b : Fin 1024) :
    k0_pay1 (k0_pay7 A B X G) H (ix2 a b)
      = rowGrad (fun k => X (ix2 a k)) (fun k => G (ix2 (0 : Fin 1) k)) (fun k => k0_pay3 A B (ix2 a k)) (H (ix2 a b)) b := by
  pointwise [k0_pay1, k0_pay7, k0_pay5, k0_pay4, rowGrad, normSlope, den, len, eps, half]
  simp only [Fintype.sum_unique]

theorem pt_dx (t : Fin cfg0.N) :
    (outsAt0 m c t.val t.isLt).1 = k0_pay1
      (k0_pay7 (iblk m c 0 t) (iblk m c 1 t) (iblk m c 2 t) (iblk m c 4 t)) (iblk m c 3 t) := by
  have hl := pt_lt t
  by_cases h : t.val % 16 = 0
  · rw [outsAt0_A m c t h (by omega)]
    frame_out
  · rw [outsAt0_B m c t h (by omega)]
    frame_out

theorem first_gain (t : Fin cfg0.N) (h : t.val = 0) :
    (outsAt0 m c t.val t.isLt).2 = k0_pay6 (iblk m c 0 t) (iblk m c 1 t) (iblk m c 2 t) := by
  rw [outsAt0_A m c t (by omega) (by omega)]
  frame_out

theorem next_gain (t : Fin cfg0.N) (h : 1 ≤ t.val) :
    (outsAt0 m c t.val t.isLt).2 = k0_pay2 (k0_pay6 (iblk m c 0 t) (iblk m c 1 t) (iblk m c 2 t))
      (outsAt0 m c (t.val - 1) (Nat.lt_of_le_of_lt (Nat.sub_le _ _) t.isLt)).2 := by
  have hl := pt_lt t
  rw [outsAt0_B m c t (by omega) h]
  frame_out

/-- One row's part of the gain's gradient, at a column. -/
def gpart (b : Fin 1024) (r : Fin 8192) : EReal := gainPart (fun k => a2 m c (ix2 r k)) (dz (a0 m c) (a1 m c) r) b

theorem tile_gain (t : Fin cfg0.N) (q : ℕ) (hq : t.val = q) (b : Fin 1024) :
    (k0_pay6 (iblk m c 0 t) (iblk m c 1 t) (iblk m c 2 t) (ix2 (0 : Fin 1) b) : EReal)
      = ∑ a : Fin 512, pad (gpart m c b) (q * 512 + a.val) := by
  subst hq
  refine (p6 _ _ _ b).trans (Finset.sum_congr rfl fun a _ => ?_)
  refine Eq.trans ?_ (pad_of_lt (gpart m c b) (row t a).isLt).symm
  exact congrArg₂ (fun x y => gainPart x y b) (funext fun k => iblk_2 m c t a k) (funext fun k => tile_dz m c t a k)

/-- After row tile `n` the second result's block holds the sum of the row tiles so far. -/
theorem gain (b : Fin 1024) (n : ℕ) : ∀ (t : Fin cfg0.N) (_ : t.val = n),
    ((outsAt0 m c t.val t.isLt).2 (ix2 (0 : Fin 1) b) : EReal) = ∑ s ∈ Finset.range (n + 1), ∑ a : Fin 512, pad (gpart m c b) (s * 512 + a.val) := by
  induction n with
  | zero =>
    intro t ht
    rw [Nat.zero_add, Finset.sum_range_one]
    exact (congrFun (first_gain m c t ht) _).trans (tile_gain m c t 0 ht b)
  | succ n ih =>
    intro t ht
    rw [Finset.sum_range_succ]
    refine (congrFun (next_gain m c t (by omega)) _).trans ?_
    refine (p2 _ _ b).trans ?_
    refine congrArg₂ (fun x y : EReal => x + y) ?_ (tile_gain m c t (n + 1) ht b)
    have hl := t.isLt
    exact ih ⟨t.val - 1, by omega⟩ (by show t.val - 1 = n; omega)

theorem arrX : (dats m 0 c).arrAt 5 cfg0.N = gradX (a0 m c) (a1 m c) (a2 m c) (a3 m c) (a4 m c) := by
  refine (dats m 0 c).arrAt_eq_of_covers 5 _ (by decide +kernel) fun t hf y => ?_
  blk_simp
  rw [after0_5]
  obtain ⟨a, b, rfl⟩ : ∃ a b, y = (ix2 a b : S512x1024.Idx) := ⟨y 0, y 1, by funext i; fin_cases i <;> rfl⟩
  have e : ((cfg0.win 5).blk t).view.emb (ix2 a b : S512x1024.Idx) = (ix2 (row t a) b : S8192x1024.Idx) := by
    blk_ext [(idx t).2.2.2.2.2.1, row]
  refine ((congrFun (pt_dx m c t) _).trans (p1 _ _ _ _ _ a b)).trans ?_
  refine Eq.trans ?_ (congrArg (gradX (a0 m c) (a1 m c) (a2 m c) (a3 m c) (a4 m c)) e).symm
  rw [iblk_3, show (fun k => k0_pay3 (iblk m c 0 t) (iblk m c 1 t) (ix2 a k)) = dz (a0 m c) (a1 m c) (row t a) from funext fun k => tile_dz m c t a k,
    show (fun k => (iblk m c 2 t : S512x1024.Idx → EReal) (ix2 a k)) = (fun k => a2 m c (ix2 (row t a) k)) from funext fun k => iblk_2 m c t a k,
    show (fun k => (iblk m c 4 t : S1x1024.Idx → EReal) (ix2 (0 : Fin 1) k)) = (fun k => a3 m c (ix2 (0 : Fin 1) k)) from funext fun k => iblk_4 m c t k]
  rfl

theorem arrG : (dats m 0 c).arrAt 6 cfg0.N = gradG (a0 m c) (a1 m c) (a2 m c) := by
  refine (dats m 0 c).arrAt_eq_of_covers 6 _ (by decide +kernel) fun t hf y => ?_
  blk_simp
  have h := (flush0_6 t).mp hf
  rw [after0_6]
  obtain ⟨a, b, rfl⟩ : ∃ a b, y = (ix2 a b : S1x1024.Idx) := ⟨y 0, y 1, by funext i; fin_cases i <;> rfl⟩
  obtain rfl : a = 0 := Subsingleton.elim _ _
  have e : ((cfg0.win 6).blk t).view.emb (ix2 (0 : Fin 1) b : S1x1024.Idx) = (ix2 (0 : Fin 1) b : S1x1024.Idx) := by
    blk_ext [(idx t).2.2.2.2.2.2]
  have hl := pt_lt t
  refine (gain m c b 15 t (by omega)).trans ((tiles 16 512 rfl _).trans ?_)
  exact (congrArg (gradG (a0 m c) (a1 m c) (a2 m c)) e).symm

/-! The reference, stage by stage. -/

section
open Cert.KvfDxRefIdeal.Read
variable (x0 : (⟨S8192x2176, .bf16⟩ : BufTy).Contents (Elt Ideal)) (x1 : (⟨S1024x2176, .bf16⟩ : BufTy).Contents (Elt Ideal))
  (x2 : (⟨S8192x1024, .f32⟩ : BufTy).Contents (Elt Ideal)) (x3 : (⟨S1x1024, .f32⟩ : BufTy).Contents (Elt Ideal))
  (x4 : (⟨S8192x1024, .f32⟩ : BufTy).Contents (Elt Ideal))

theorem ref_den (i : Cert.KvfDxRefIdeal.S8192x1.Idx) : (val_main_v6 (F := Ideal) x2 i : EReal) = den (fun k => x2 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x2 : S8192x1024.Idx → EReal)
    (show idx_main_v1 (idx_main_v2 i) k = ix2 (i 0) k by funext a; fin_cases a <;> rfl))

theorem ref_dz (r : Fin 8192) (b : Fin 1024) : (val_main_v18 (F := Ideal) x0 x1 (ix2 r b) : EReal) = dz x0 x1 r b := by
  rw [val_main_v18_apply]
  refine Finset.sum_congr rfl fun l _ => ?_
  rw [val_main_v17_apply, val_main_v15_apply]
  exact congrArg₂ (fun a b : EReal => a * b) (congrArg (x0 : S8192x2176.Idx → EReal) (by funext a; fin_cases a <;> rfl))
    (congrArg (x1 : S1024x2176.Idx → EReal) (by funext a; fin_cases a <;> rfl))

theorem idx_22 (r : Fin 8192) (b : Fin 1024) : idx_main_v22 (ix2 r b) = ix2 (0 : Fin 1) b := by funext a; fin_cases a <;> rfl

theorem idx_34 (r : Fin 8192) (b : Fin 1024) : idx_main_v34 (ix2 r b) = ix1 r := by funext a; fin_cases a; rfl

theorem idx_25 (r : Fin 8192) (z : Fin 1) (k : Fin 1024) : idx_main_v25 (idx_main_v26 (idx_main_v33 (ix1 r) z)) k = ix2 r k := by
  funext a
  fin_cases a
  · exact Fin.ext (by show r.val * 1 + z.val = r.val; have := z.isLt; omega)
  · rfl

theorem idx_20 (z : Fin 1) (b : Fin 1024) (k : Fin 8192) : idx_main_v20 (idx_main_v21 (ix2 z b)) k = ix2 k b := by
  funext a
  fin_cases a
  · rfl
  · exact Fin.ext (by show z.val * 1024 + b.val = b.val; have := z.isLt; omega)

theorem ref_33 (r : Fin 8192) : (val_main_v33 (F := Ideal) x0 x1 x2 x3 (ix1 r) : EReal)
    = normSlope (fun k => x2 (ix2 r k)) (fun k => x3 (ix2 (0 : Fin 1) k)) (dz x0 x1 r) := by
  simp only [val_main_v33_apply, val_main_v32_apply, val_main_v31_apply, val_main_v30_apply, val_main_v26_apply, val_main_v25_apply,
    val_main_v24_apply, val_main_v23_apply, val_main_v22_apply, val_main_v10_apply, val_main_v9_apply, val_main_v8_apply, val_main_v7_apply,
    val_main_cst_2_apply, val_main_cst_4_apply, val_main_cst_5_apply, val_main_cst_6_apply, ref_den]
  pointwise [normSlope, half, len]
  simp only [idx_25, idx_22, ref_dz, ref_den, Fintype.sum_unique]
  rfl

theorem ref_X : (val_main_v38 (F := Ideal) x0 x1 x2 x3 x4 : S8192x1024.Idx → EReal) = gradX x0 x1 x2 x3 x4 := by
  funext i
  obtain ⟨r, b, rfl⟩ : ∃ r b, i = (ix2 r b : S8192x1024.Idx) := ⟨i 0, i 1, by funext i; fin_cases i <;> rfl⟩
  simp only [val_main_v38_apply, val_main_v37_apply, val_main_v36_apply, val_main_v35_apply, val_main_v34_apply, val_main_v29_apply,
    val_main_v28_apply, val_main_v27_apply, val_main_v23_apply, val_main_v22_apply, val_main_v7_apply, ref_den, ref_dz]
  pointwise [gradX, rowGrad]
  simp only [idx_22, idx_34, ref_33, ref_den]
  exact last_add _ _ _ _

theorem ref_G : (val_main_v21 (F := Ideal) x0 x1 x2 : S1x1024.Idx → EReal) = gradG x0 x1 x2 := by
  funext i
  obtain ⟨r, b, rfl⟩ : ∃ r b, i = (ix2 r b : S1x1024.Idx) := ⟨i 0, i 1, by funext i; fin_cases i <;> rfl⟩
  simp only [val_main_v21_apply, val_main_v20_apply, val_main_v19_apply, val_main_v12_apply, val_main_v11_apply, val_main_v7_apply,
    val_main_cst_3_apply, ref_den]
  pointwise [gradG, gainPart]
  simp only [idx_20, ref_dz, ref_den]
  rfl

end

/-- The printed body table and the idealised one are the same table. -/
theorem defs₀_eq : Cert.KvfDx.defs₀ (F := Bits) = Cert.KvfDxIdeal.defs₀ (F := Bits) := by
  unfold Cert.KvfDx.defs₀ Cert.KvfDxIdeal.defs₀
  refine congrArg _ ?_
  funext l x
  match l, x with
  | 0, (t, s) => rfl

theorem defs_eq : Cert.KvfDx.defs (F := Bits) = Cert.KvfDxIdeal.defs (F := Bits) :=
  congrArg (Pipeline.defs (Cert.KvfDx.pcfgs (F := Bits))) defs₀_eq

theorem frame_bits : Cert.quiescent_KvfDx := by
  intro m ρ _
  rw [defs_eq]
  exact Cert.KvfDxIdeal.Gen.frame (F := Bits) m ρ

theorem frame_ref : Cert.quiescent_KvfDxRefIdeal := fun m ρ _ =>
  (θ_run _ _ _).mono (fun _ h => ⟨fun c => (h c).2.2, sem_eq_zero_of_no_sems rfl _⟩) (Cert.KvfDxRefIdeal.Value.run m ρ)

theorem algebraic : Cert.algebraic_KvfDxIdeal_KvfDxRefIdeal := by
  intro m g m' g' _ ha
  refine ⟨fun c => (dats m 0 c).arrAt 5 cfg0.N, fun c => (dats m 0 c).arrAt 6 cfg0.N, Cert.KvfDxIdeal.Value.run_blocks m g, ?_⟩
  refine (θ_run _ _ _).mono (fun r h c => ?_) (Cert.KvfDxRefIdeal.Value.run m' g')
  obtain ⟨r0, r1, hargs⟩ := h c
  obtain ⟨e0, e1, e2, e3, e4⟩ := ha c
  rw [Cert.KvfDxRefIdeal.Read.val_main_v38_eq, e0, e1, e2, e3, e4] at r0
  rw [Cert.KvfDxRefIdeal.Read.val_main_v21_eq, e0, e1, e2] at r1
  exact ⟨r0.trans ((ref_X _ _ _ _ _).trans (arrX m c).symm), r1.trans ((ref_G _ _ _).trans (arrG m c).symm), hargs⟩

end Cert.KvfDxIdeal.Mlp

end
-- ==== Proof.MmQueryFwd.lean ====
module

public import proofs.«01_k».proof.Proof.Gen.QueryFwdIdeal.Value
public import proofs.«01_k».proof.Proof.Gen.QueryFwdRefIdeal.Run
public import proofs.«01_k».proof.Proof.Gen.QueryFwdRefIdeal.Read
public import proofs.«01_k».proof.Proof.Gen.QueryFwd.Frame
public import proofs.«01_k».proof.Proof.MlpSums
public import proofs.«01_k».proof.Defs
public import Idealize.ShloMosaic.PureOps.IdealRules
public import Idealize.ShloMosaic.Lib.Quiescent

@[expose] public section

set_option maxRecDepth 16384
set_option backward.isDefEq.respectTransparency.types false

noncomputable section

namespace Cert.QueryFwdIdeal.Mlp

open Idealize.ShloMosaic Idealize.ShloMosaic.TcCoe Idealize.SL.Sem Cert.QueryFwdIdeal Cert.QueryFwdIdeal.Gen Cert.Mlp
open Idealize.ShloMosaic.Tactic

/-! The queries: the product with the weights, scaled by one eighth and brought to base two. -/

theorem idx : ∀ t : Fin grid0.N, win0_0.index t = ![t.val, 0] ∧ win0_1.index t = ![0, 0] ∧ win0_2.index t = ![t.val, 0] := by
  decide +kernel

theorem pt_lt (t : Fin cfg0.N) : t.val < 8 := Nat.lt_of_lt_of_eq t.isLt N_0

/-- Row `a` of a point's tile of rows. -/
def row (t : Fin cfg0.N) (a : Fin 1024) : Fin 8192 := ⟨t.val * 1024 + a.val, by have := pt_lt t; have := a.isLt; omega⟩

/-- The scale of the queries: one over eight times the logarithm of two. -/
def scale : EReal := (((8 * Real.log 2)⁻¹ : ℝ) : EReal)

/-- The scaled queries, element by element. -/
def prod (x0 : S8192x1024.Idx → EReal) (x1 : S1024x1024.Idx → EReal) (i : S8192x1024.Idx) : EReal :=
  (∑ l : Fin 1024, x0 (ix2 (i 0) l) * x1 (ix2 l (i 1))) * scale

theorem named : Named.named (F := Ideal) (φ := .f32) κ "scale" 0x3E38AA3B#32 = scale :=
  IdealRules.named_const.ideal_named_scalar _ _ _ _ rfl

theorem two : Ideal.ofBits .f32 0x40000000#32 = ((2 : ℝ) : EReal) := by
  simp [Ideal.ofBits, Ideal.ieee, -EReal.coe_mul]; norm_num

/-- An eighth of a number over the logarithm of two is the number times the scale. -/
theorem over_log (s : EReal) : Ideal.div (s * eighth) (Ideal.log (Ideal.ofBits .f32 0x40000000#32)) = s * scale := by
  have h : Ideal.log ((2 : ℝ) : EReal) = ((Real.log 2 : ℝ) : EReal) := if_neg (by norm_num)
  have hl : Real.log 2 ≠ 0 := (Real.log_pos (by norm_num)).ne'
  rw [two, h, Ideal.div_coe hl, eighth_eq, mul_assoc, ← EReal.coe_mul, scale]
  congr 2
  rw [mul_inv]
  norm_num

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)

theorem iblk_0 (t : Fin cfg0.N) (a : Fin 1024) (k : Fin 1024) :
    (iblk m c 0 t : S1024x1024.Idx → EReal) (ix2 a k) = a0 m c (ix2 (row t a) k) := by
  blk_ext [iblk, (idx t).1, row]

theorem iblk_1 (t : Fin cfg0.N) (b : Fin 1024) (k : Fin 1024) :
    (iblk m c 1 t : S1024x1024.Idx → EReal) (ix2 k b) = a1 m c (ix2 k b) := by
  blk_ext [iblk, (idx t).2.1]

theorem point (t : Fin cfg0.N) (a : Fin 1024) (b : Fin 1024) :
    (k0_pay1 (iblk m c 0 t) (iblk m c 1 t) (ix2 a b) : EReal) = prod (a0 m c) (a1 m c) (ix2 (row t a) b) := by
  pointwise [k0_pay1, prod]
  rw [named]
  refine congrArg (fun s : EReal => s * scale) (Finset.sum_congr rfl fun k _ => ?_)
  rw [iblk_0, iblk_1]

theorem arr : (dats m 0 c).arrAt 2 cfg0.N = prod (a0 m c) (a1 m c) := by
  refine (dats m 0 c).arrAt_eq_of_covers 2 _ (by decide +kernel) fun t hf y => ?_
  blk_simp
  rw [after0_2]
  obtain ⟨a, b, rfl⟩ : ∃ a b, y = (ix2 a b : S1024x1024.Idx) := ⟨y 0, y 1, by funext i; fin_cases i <;> rfl⟩
  have e : ((cfg0.win 2).blk t).view.emb (ix2 a b : S1024x1024.Idx) = (ix2 (row t a) b : S8192x1024.Idx) := by
    blk_ext [(idx t).2.2, row]
  frame_out
  exact (point m c t a b).trans (congrArg (prod (a0 m c) (a1 m c)) e).symm

section
open Cert.QueryFwdRefIdeal.Read

theorem ref_eq (x0 : (⟨S8192x1024, .bf16⟩ : BufTy).Contents (Elt Ideal)) (x1 : (⟨S1024x1024, .bf16⟩ : BufTy).Contents (Elt Ideal)) :
    (val_main_v8 (F := Ideal) x0 x1 : S8192x1024.Idx → EReal) = prod x0 x1 := by
  funext i
  simp only [val_main_v8_apply, val_main_v7_apply, val_main_v6_apply, val_main_v5_apply, val_main_v4_apply, val_main_v3_apply, val_main_v2_apply,
    val_main_v1_apply, val_main_v0_apply, val_main_cst_apply, val_main_cst_0_apply]
  refine (over_log _).trans (congrArg (fun s : EReal => s * scale) (Finset.sum_congr rfl fun l _ => ?_))
  exact congrArg₂ (fun a b : EReal => a * b) (congrArg (x0 : S8192x1024.Idx → EReal) (by funext a; fin_cases a <;> rfl))
    (congrArg (x1 : S1024x1024.Idx → EReal) (by funext a; fin_cases a <;> rfl))

end

theorem frame_bits : Cert.quiescent_QueryFwd := fun m ρ _ => Cert.QueryFwd.Gen.frame m ρ

theorem frame_ref : Cert.quiescent_QueryFwdRefIdeal := fun m ρ _ =>
  (θ_run _ _ _).mono (fun _ h => ⟨fun c => (h c).2, sem_eq_zero_of_no_sems rfl _⟩) (Cert.QueryFwdRefIdeal.Value.run m ρ)

theorem algebraic : Cert.algebraic_QueryFwdIdeal_QueryFwdRefIdeal := by
  intro m g m' g' _ ha
  refine ⟨fun c => (dats m 0 c).arrAt 2 cfg0.N, Cert.QueryFwdIdeal.Value.run_blocks m g, ?_⟩
  refine (θ_run _ _ _).mono (fun r h c => ?_) (Cert.QueryFwdRefIdeal.Value.run m' g')
  obtain ⟨r0, hargs⟩ := h c
  obtain ⟨e0, e1⟩ := ha c
  rw [Cert.QueryFwdRefIdeal.Read.val_main_v8_eq, e0, e1] at r0
  exact ⟨r0.trans ((ref_eq _ _).trans (arr m c).symm), hargs⟩

end Cert.QueryFwdIdeal.Mlp

end
-- ==== Proof.RowShared.lean ====
module

public import proofs.«01_k».proof.Proof.MlpSums
public import Idealize.ShloMosaic.Lib.Pipeline.ReadBack

@[expose] public section

noncomputable section

namespace Cert.Mlp

open Idealize.ShloMosaic

/-! What the calls that go over the rows share. -/

/-- Row `a` of the `n`-th of sixteen tiles of 512 rows. -/
def rowOf (n : ℕ) (h : n < 16) (a : Fin 512) : Fin 8192 := ⟨n * 512 + a.val, by have := a.isLt; omega⟩

/-- One element of a normed row: `x` the row, `g` the gain. -/
def normed (x g : Fin 1024 → EReal) (b : Fin 1024) : EReal := x b * Ideal.rsqrt (den x) * g b

/-- The logistic function. -/
def sigmoid (x : EReal) : EReal := Ideal.div 1 (1 + Ideal.exp (-x))

/-- The gate's column that belongs to a value's column. -/
def gateCol (b : Fin 1024) : Fin 2048 := ⟨1024 + b.val, by have := b.isLt; omega⟩

/-- The value's column itself. -/
def valCol (b : Fin 1024) : Fin 2048 := ⟨b.val, by have := b.isLt; omega⟩

/-- A block that starts with a first part and gains one part at each further point holds the parts' sum. -/
theorem running {N : ℕ} [NeZero N] (out : (n : ℕ) → n < N → EReal) (f : ℕ → EReal) (h0 : out 0 (NeZero.pos N) = f 0)
    (hs : ∀ n (h : n + 1 < N), out (n + 1) h = out n (Nat.lt_of_succ_lt h) + f (n + 1)) :
    ∀ n (h : n < N), out n h = ∑ s ∈ Finset.range (n + 1), f s := by
  intro n
  induction n with
  | zero => intro h; rw [Nat.zero_add, Finset.sum_range_one]; exact h0
  | succ n ih => intro h; rw [Finset.sum_range_succ, hs n h, ih]

/-- Over the sixteen tiles of rows the sums of a function of the row add up to the sum over all rows. -/
theorem all_rows (f : Fin 8192 → EReal) {n : ℕ} (h : n = 15) :
    ∑ s ∈ Finset.range (n + 1), ∑ a : Fin 512, pad f (s * 512 + a.val) = ∑ r : Fin 8192, f r := by
  subst h
  exact tiles 16 512 rfl f

theorem pad_row (f : Fin 8192 → EReal) (n : ℕ) (h : n < 16) (a : Fin 512) : pad f (n * 512 + a.val) = f (rowOf n h a) :=
  pad_of_lt f (rowOf n h a).isLt

/-- A finite factor that is not negative goes into a sum; the terms may be infinite. -/
theorem scale_sum {ι : Type} (k : EReal) (h0 : 0 ≤ k) (ht : k ≠ ⊤) (s : Finset ι) (f : ι → EReal) : k * ∑ i ∈ s, f i = ∑ i ∈ s, k * f i := by
  classical
  induction s using Finset.induction_on with
  | empty => simp
  | insert a s ha ih => rw [Finset.sum_insert ha, Finset.sum_insert ha, EReal.left_distrib_of_nonneg_of_ne_top h0 ht, ih]

end Cert.Mlp

end
-- ==== Proof.RowAdamUp.lean ====
module

public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamUp
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.AdamUpIdeal.Mlp

open Idealize.ShloMosaic Idealize.ShloMosaic.TcCoe Idealize.SL.Sem Cert.AdamUpIdeal Cert.AdamUpIdeal.Gen Cert.Mlp
open Idealize.ShloMosaic.Tactic

/-! The optimiser's step for the first weights of the feed-forward layer, from the exchanged parts of their gradient. -/

theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem pt_lt (t : Fin cfg0.N) : t.val < 16 := Nat.lt_of_lt_of_eq t.isLt N_0

/-- Row `a` of a point's tile of rows. -/
def row (t : Fin cfg0.N) (a : Fin 256) : Fin 4096 := ⟨t.val * 256 + a.val, by have := pt_lt t; have := a.isLt; omega⟩

/-- The running mean's new value: `u` the old one, `g` the gradient. -/
def mean (u g : EReal) : EReal := Ideal.ofBits .f32 0x3F666666#32 * u + Ideal.ofBits .f32 0x3DCCCCCD#32 * g

/-- The running mean square's new value. -/
def square (u g : EReal) : EReal := Ideal.ofBits .f32 0x3F7FBE77#32 * u + Ideal.ofBits .f32 0x3A83126F#32 * (g * g)

/-- The weight's change: `u` the running mean, `v` the running mean square, `w` the weight. -/
def step (u v w : EReal) : EReal :=
  Ideal.ofBits .f32 0xBA83126F#32 * (Ideal.div (Ideal.div u (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The gradient, the four devices' parts together. -/
def grad (x0 : S4x4096x512.Idx → EReal) (i : S4096x512.Idx) : EReal := ∑ p : Fin 4, x0 (ix3 p (i 0) (i 1))

def newMean (x0 : S4x4096x512.Idx → EReal) (x2 : S4096x512.Idx → EReal) (i : S4096x512.Idx) : EReal := mean (x2 i) (grad x0 i)

def newSquare (x0 : S4x4096x512.Idx → EReal) (x3 : S4096x512.Idx → EReal) (i : S4096x512.Idx) : EReal := square (x3 i) (grad x0 i)

def change (x0 : S4x4096x512.Idx → EReal) (x1 x2 x3 : S4096x512.Idx → EReal) (i : S4096x512.Idx) : EReal :=
  step (newMean x0 x2 i) (newSquare x0 x3 i) (x1 i)

variable (m : (ℓ : Loc nD τ sig) → Buf (Elt Ideal) ℓ) (c : Dev nD)

abbrev a0 : S4x4096x512.Idx → EReal := m ((c.tc : Thread nD τ).loc main_arg0)
abbrev a1 : S4096x512.Idx → EReal := m ((c.tc : Thread nD τ).loc main_arg1)
abbrev a2 : S4096x512.Idx → EReal := m ((c.tc : Thread nD τ).loc main_arg2)
abbrev a3 : S4096x512.Idx → EReal := m ((c.tc : Thread nD τ).loc main_arg3)

theorem iblk_0 (t : Fin cfg0.N) (p : Fin 4) (a : Fin 256) (b : Fin 512) :
    (iblk m c 0 t : S4x256x512.Idx → EReal) (ix3 p a b) = a0 m c (ix3 p (row t a) b) := by
  blk_ext [iblk, (idx t).1, row]

theorem iblk_1 (t : Fin cfg0.N) (a : Fin 256) (b : Fin 512) :
    (iblk m c 1 t : S256x512.Idx → EReal) (ix2 a b) = a1 m c (ix2 (row t a) b) := by
  blk_ext [iblk, (idx t).2.1, row]

theorem iblk_2 (t : Fin cfg0.N) (a : Fin 256) (b : Fin 512) :
    (iblk m c 2 t : S256x512.Idx → EReal) (ix2 a b) = a2 m c (ix2 (row t a) b) := by
  blk_ext [iblk, (idx t).2.2.1, row]

theorem iblk_3 (t : Fin cfg0.N) (a : Fin 256) (b : Fin 512) :
    (iblk m c 3 t : S256x512.Idx → EReal) (ix2 a b) = a3 m c (ix2 (row t a) b) := by
  blk_ext [iblk, (idx t).2.2.2.1, row]

/-- The sum of a block's four parts. -/
abbrev four (X : Vec Ideal S4x256x512 .bf16) : FVec Ideal S256x512 .f32 :=
  k0_pay2 (View.ld X r0_0) (View.ld X r0_1) (View.ld X r0_2) (View.ld X r0_3)

theorem p2 (X : Vec Ideal S4x256x512 .bf16) (a : Fin 256) (b : Fin 512) : (four X (ix2 a b) : EReal) = ∑ p : Fin 4, X (ix3 p a b) := by
  pointwise [k0_pay2]
  exact (Fin.sum_univ_four fun p : Fin 4 => (X (ix3 p a b) : EReal)).symm

theorem p3 (X : Vec Ideal S4x256x512 .bf16) (U : Vec Ideal S256x512 .f32) (a : Fin 256) (b : Fin 512) :
    (k0_pay3 (View.ld X r0_0) (View.ld X r0_1) (View.ld X r0_2) (View.ld X r0_3) U (ix2 a b) : EReal)
      = mean (U (ix2 a b)) (∑ p : Fin 4, X (ix3 p a b)) := by
  rw [← p2]
  pointwise [k0_pay3, mean]

theorem p4 (X : Vec Ideal S4x256x512 .bf16) (U : Vec Ideal S256x512 .f32) (a : Fin 256) (b : Fin 512) :
    (k0_pay4 (View.ld X r0_0) (View.ld X r0_1) (View.ld X r0_2) (View.ld X r0_3) U (ix2 a b) : EReal)
      = square (U (ix2 a b)) (∑ p : Fin 4, X (ix3 p a b)) := by
  rw [← p2]
  pointwise [k0_pay4, square]

theorem p1 (U V W : Vec Ideal S256x512 .f32) (a : Fin 256) (b : Fin 512) :
    (k0_pay1 U V W (ix2 a b) : EReal) = step (U (ix2 a b)) (V (ix2 a b)) (W (ix2 a b)) := by
  pointwise [k0_pay1, step]

theorem parts (t : Fin cfg0.N) (a : Fin 256) (b : Fin 512) :
    Finset.sum (M := EReal) Finset.univ (fun p : Fin 4 => (iblk m c 0 t : S4x256x512.Idx → EReal) (ix3 p a b)) = grad (a0 m c) (ix2 (row t a) b) :=
  Finset.sum_congr rfl fun p _ => iblk_0 m c t p a b

theorem arrG : (dats m 0 c).arrAt 4 cfg0.N = grad (a0 m c) := by
  refine (dats m 0 c).arrAt_eq_of_covers 4 _ (by decide +kernel) fun t hf y => ?_
  blk_simp
  rw [after0_4]
  obtain ⟨a, b, rfl⟩ : ∃ a b, y = (ix2 a b : S256x512.Idx) := ⟨y 0, y 1, by funext i; fin_cases i <;> rfl⟩
  have e : ((cfg0.win 4).blk t).view.emb (ix2 a b : S256x512.Idx) = (ix2 (row t a) b : S4096x512.Idx) := by
    blk_ext [(idx t).2.2.2.2.1, row]
  frame_out
  exact (p2 _ a b).trans ((parts m c t a b).trans (congrArg (grad (a0 m c)) e).symm)

theorem arrD : (dats m 0 c).arrAt 5 cfg0.N = change (a0 m c) (a1 m c) (a2 m c) (a3 m c) := by
  refine (dats m 0 c).arrAt_eq_of_covers 5 _ (by decide +kernel) fun t hf y => ?_
  blk_simp
  rw [after0_5]
  obtain ⟨a, b, rfl⟩ : ∃ a b, y = (ix2 a b : S256x512.Idx) := ⟨y 0, y 1, by funext i; fin_cases i <;> rfl⟩
  have e : ((cfg0.win 5).blk t).view.emb (ix2 a b : S256x512.Idx) = (ix2 (row t a) b : S4096x512.Idx) := by
    blk_ext [(idx t).2.2.2.2.2.1, row]
  unfold_out out0_5
  frame_out
  refine (p1 _ _ _ a b).trans (Eq.trans ?_ (congrArg (change (a0 m c) (a1 m c) (a2 m c) (a3 m c)) e).symm)
  rw [p3, p4, parts, iblk_1, iblk_2, iblk_3]
  rfl

theorem arrM : (dats m 0 c).arrAt 6 cfg0.N = newMean (a0 m c) (a2 m c) := by
  refine (dats m 0 c).arrAt_eq_of_covers 6 _ (by decide +kernel) fun t hf y => ?_
  blk_simp
  rw [after0_6]
  obtain ⟨a, b, rfl⟩ : ∃ a b, y = (ix2 a b : S256x512.Idx) := ⟨y 0, y 1, by funext i; fin_cases i <;> rfl⟩
  have e : ((cfg0.win 6).blk t).view.emb (ix2 a b : S256x512.Idx) = (ix2 (row t a) b : S4096x512.Idx) := by
    blk_ext [(idx t).2.2.2.2.2.2.1, row]
  frame_out
  refine (p3 _ _ a b).trans (Eq.trans ?_ (congrArg (newMean (a0 m c) (a2 m c)) e).symm)
  rw [parts, iblk_2]
  rfl

theorem arrV : (dats m 0 c).arrAt 7 cfg0.N = newSquare (a0 m c) (a3 m c) := by
  refine (dats m 0 c).arrAt_eq_of_covers 7 _ (by decide +kernel) fun t hf y => ?_
  blk_simp
  rw [after0_7]
  obtain ⟨a, b, rfl⟩ : ∃ a b, y = (ix2 a b : S256x512.Idx) := ⟨y 0, y 1, by funext i; fin_cases i <;> rfl⟩
  have e : ((cfg0.win 7).blk t).view.emb (ix2 a b : S256x512.Idx) = (ix2 (row t a) b : S4096x512.Idx) := by
    blk_ext [(idx t).2.2.2.2.2.2.2, row]
  unfold_out out0_7
  frame_out
  refine (p4 _ _ a b).trans (Eq.trans ?_ (congrArg (newSquare (a0 m c) (a3 m c)) e).symm)
  rw [parts, iblk_3]
  rfl

section
open Cert.AdamUpRefIdeal.Read
variable (x0 : (⟨S4x4096x512, .bf16⟩ : BufTy).Contents (Elt Ideal)) (x1 x2 x3 : (⟨S4096x512, .f32⟩ : BufTy).Contents (Elt Ideal))

theorem ref_grad : (val_main_v1 (F := Ideal) x0 : S4096x512.Idx → EReal) = grad x0 := by
  funext i
  simp only [val_main_v1_apply, val_main_v0_apply, val_main_cst_apply]
  pointwise [grad]
  exact Finset.sum_congr rfl fun p _ => congrArg (x0 : S4x4096x512.Idx → EReal) (by funext a; fin_cases a <;> rfl)

theorem ref_mean : (val_main_v6 (F := Ideal) x0 x2 : S4096x512.Idx → EReal) = newMean x0 x2 := by
  funext i
  simp only [val_main_v6_apply, val_main_v5_apply, val_main_v4_apply, val_main_v3_apply, val_main_v2_apply, val_main_cst_0_apply,
    val_main_cst_1_apply, ref_grad]
  rfl

theorem ref_square : (val_main_v12 (F := Ideal) x0 x3 : S4096x512.Idx → EReal) = newSquare x0 x3 := by
  funext i
  simp only [val_main_v12_apply, val_main_v11_apply, val_main_v10_apply, val_main_v9_apply, val_main_v8_apply, val_main_v7_apply,
    val_main_cst_2_apply, val_main_cst_3_apply, ref_grad]
  rfl

theorem ref_change : (val_main_v25 (F := Ideal) x0 x1 x2 x3 : S4096x512.Idx → EReal) = change x0 x1 x2 x3 := by
  funext i
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply,
    val_main_cst_4_apply, val_main_cst_5_apply, val_main_cst_6_apply, val_main_cst_7_apply, val_main_cst_8_apply, ref_mean, ref_square]
  rfl

end

/-- The printed body table and the idealised one are the same table. -/
theorem defs₀_eq : Cert.AdamUp.defs₀ (F := Bits) = Cert.AdamUpIdeal.defs₀ (F := Bits) := by
  unfold Cert.AdamUp.defs₀ Cert.AdamUpIdeal.defs₀
  refine congrArg _ ?_
  funext l x
  match l, x with
  | 0, (t, s) => rfl

theorem defs_eq : Cert.AdamUp.defs (F := Bits) = Cert.AdamUpIdeal.defs (F := Bits) :=
  congrArg (Pipeline.defs (Cert.AdamUp.pcfgs (F := Bits))) defs₀_eq

theorem frame_bits : Cert.quiescent_AdamUp := by
  intro m ρ _
  rw [defs_eq]
  exact Cert.AdamUpIdeal.Gen.frame (F := Bits) m ρ

theorem frame_ref : Cert.quiescent_AdamUpRefIdeal := fun m ρ _ =>
  (θ_run _ _ _).mono (fun _ h => ⟨fun c => (h c).2.2.2.2, sem_eq_zero_of_no_sems rfl _⟩) (Cert.AdamUpRefIdeal.Value.run m ρ)

theorem algebraic : Cert.algebraic_AdamUpIdeal_AdamUpRefIdeal := by
  intro m g m' g' _ ha
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamUpIdeal.Value.run_blocks m g, ?_⟩
  refine (θ_run _ _ _).mono (fun r h c => ?_) (Cert.AdamUpRefIdeal.Value.run m' g')
  obtain ⟨r0, r1, r2, r3, hargs⟩ := h c
  obtain ⟨e0, e1, e2, e3⟩ := ha c
  rw [Cert.AdamUpRefIdeal.Read.val_main_v1_eq, e0] at r0
  rw [Cert.AdamUpRefIdeal.Read.val_main_v25_eq, e0, e1, e2, e3] at r1
  rw [Cert.AdamUpRefIdeal.Read.val_main_v6_eq, e0, e2] at r2
  rw [Cert.AdamUpRefIdeal.Read.val_main_v12_eq, e0, e3] at r3
  exact ⟨r0.trans ((ref_grad _).trans (arrG m c).symm), r1.trans ((ref_change _ _ _ _).trans (arrD m c).symm),
    r2.trans ((ref_mean _ _).trans (arrM m c).symm), r3.trans ((ref_square _ _).trans (arrV m c).symm), hargs⟩

end Cert.AdamUpIdeal.Mlp

end
-- ==== Proof.CumMath.lean ====
module

public import proofs.«01_k».proof.Proof.RowShared
public import Idealize.ShloMosaic.Lib.Routing.OpsOne

@[expose] public section

set_option maxRecDepth 16384

noncomputable section

namespace Cert.Mlp

open Idealize.ShloMosaic hiding ix2
open Idealize.ShloMosaic.ValueIdx Idealize.ShloMosaic.Routing

/-! The sums from a row to the last one, and the derivative of the logarithm of the logistic function. -/

/-- The sum from row `r` to the last. -/
def suffix {N : ℕ} (f : Fin N → EReal) (r : ℕ) : EReal := ∑ k ∈ Finset.Ico r N, pad f k

theorem suffix_end {N : ℕ} (f : Fin N → EReal) : suffix f N = 0 := by rw [suffix, Finset.Ico_self, Finset.sum_empty]

/-- A stretch of rows and what follows it. -/
theorem suffix_add {N : ℕ} (f : Fin N → EReal) {r s : ℕ} (h : r ≤ s) (hs : s ≤ N) :
    ∑ k ∈ Finset.Ico r s, pad f k + suffix f s = suffix f r := Finset.sum_Ico_consecutive _ h hs

/-- Inside a tile the rows at or below `a` are a stretch. -/
theorem tile_suffix (g : ℕ → EReal) (T S : ℕ) (a : Fin S) :
    ∑ k : Fin S, (if a.val ≤ k.val then g (T + k.val) else 0) = ∑ k ∈ Finset.Ico (T + a.val) (T + S), g k := by
  have e : (Finset.range S).filter (fun k => a.val ≤ k) = Finset.Ico a.val S := by
    ext k
    rw [Finset.mem_filter, Finset.mem_range, Finset.mem_Ico, and_comm]
  rw [Fin.sum_univ_eq_sum_range (fun k => if a.val ≤ k then g (T + k) else 0) S, ← Finset.sum_filter, e, add_comm T a.val, add_comm T S,
    ← Finset.sum_Ico_add']
  exact Finset.sum_congr rfl fun k _ => congrArg g (add_comm T k)

/-- The running sum from the last row back, as the host computes it. -/
theorem window_suffix {C : ℕ} (R M : ℕ) (hM : M + 1 = R) (x : (shape2 R C).Idx → EReal)
    (h : (shape2 R C).ReduceWindows (![R, 1] : Fin 2 → Nat) ![1, 1] ![0, 0] ![M, 0] (shape2 R C)) (j : Fin R) (c : Fin C) :
    Ideal.hostReduceWindowAdd ![R, 1] ![1, 1] ![0, 0] ![M, 0] h x 0 (ix2 j c) = suffix (fun k => x (ix2 k c)) j.val := by
  have hj := j.isLt
  have key : ∀ n : Fin (shape2 R 1).numel,
      (if hin : ∀ a : Fin 2, (![0, 0] : Fin 2 → ℕ) a ≤ ((ix2 j c : (shape2 R C).Idx) (a.cast h.1.symm)).val * (![1, 1] : Fin 2 → ℕ) a + ((shape2 R 1).rowMajor.symm n a).val
          ∧ ((ix2 j c : (shape2 R C).Idx) (a.cast h.1.symm)).val * (![1, 1] : Fin 2 → ℕ) a + ((shape2 R 1).rowMajor.symm n a).val - (![0, 0] : Fin 2 → ℕ) a < (shape2 R C).size a
        then x (fun a => ⟨_, (hin a).2⟩) else (0 : EReal)) = pad (fun k => x (ix2 k c)) (j.val + n.val) := by
    intro n
    have hw0 : ((shape2 R 1).rowMajor.symm n 0).val = n.val := by rw [symm_col]; rfl
    have hw1 : ((shape2 R 1).rowMajor.symm n 1).val = 0 := by rw [symm_col]; rfl
    unfold pad
    split
    · next hin =>
      have h0 := (hin 0).2
      change j.val * 1 + ((shape2 R 1).rowMajor.symm n 0).val - 0 < R at h0
      rw [hw0] at h0
      rw [dif_pos (by omega)]
      refine congrArg x (funext fun a => Fin.ext ?_)
      match a with
      | ⟨0, _⟩ =>
        show j.val * 1 + ((shape2 R 1).rowMajor.symm n 0).val - 0 = j.val + n.val
        rw [hw0]; omega
      | ⟨1, _⟩ =>
        show c.val * 1 + ((shape2 R 1).rowMajor.symm n 1).val - 0 = c.val
        rw [hw1]; omega
    · next hin =>
      rw [dif_neg fun hle => hin fun a => by
        match a with
        | ⟨0, _⟩ =>
          show 0 ≤ j.val * 1 + ((shape2 R 1).rowMajor.symm n 0).val ∧ j.val * 1 + ((shape2 R 1).rowMajor.symm n 0).val - 0 < R
          rw [hw0]; omega
        | ⟨1, _⟩ =>
          show 0 ≤ c.val * 1 + ((shape2 R 1).rowMajor.symm n 1).val ∧ c.val * 1 + ((shape2 R 1).rowMajor.symm n 1).val - 0 < C
          rw [hw1]; have := c.isLt; omega]
  have fold : ∀ (l : List (Fin (shape2 R 1).numel)) (g g' : Fin (shape2 R 1).numel → EReal) (_ : ∀ n, g n = g' n) (v : EReal),
      l.foldl (fun r n => r + g n) v = v + (l.map g').sum := by
    intro l g g' hg
    induction l with
    | nil => intro v; simp
    | cons n l ih => intro v; rw [List.foldl_cons, ih, hg n, List.map_cons, List.sum_cons, add_assoc]
  unfold Ideal.hostReduceWindowAdd Host.reduceWindow
  refine (fold (List.finRange _) _ (fun n => pad (fun k => x (ix2 k c)) (j.val + n.val)) (fun n => ?_) 0).trans ?_
  · convert key n
  rw [zero_add, ← Fin.sum_univ_def, Fin.sum_univ_eq_sum_range (fun n => pad (fun k => x (ix2 k c)) (j.val + n)), numel_col, suffix,
    Finset.sum_Ico_eq_sum_range]
  refine (Finset.sum_subset (Finset.range_subset_range.mpr (Nat.sub_le R j.val)) fun n _ hn => dif_neg fun hlt => hn ?_).symm
  rw [Finset.mem_range]
  omega

/-- The softplus of `a`. -/
def softplus (a : EReal) : EReal := max a 0 + Ideal.log (1 + Ideal.exp (-(max a (-a))))

/-- Its derivative as the reference takes it is the logistic function, at infinite arguments too. -/
theorem soft (a : EReal) : Ideal.exp ((if a = ⊤ then 0 else a) - (if softplus a = ⊤ then 0 else softplus a)) = sigmoid a := by
  have log1 : Ideal.log (1 + 0) = 0 := by
    rw [add_zero]
    show (if (1 : ℝ) ≤ 0 then (⊥ : EReal) else ((Real.log 1 : ℝ) : EReal)) = 0
    rw [if_neg (by norm_num), Real.log_one, EReal.coe_zero]
  induction a using EReal.rec with
  | bot =>
    have e : softplus ⊥ = 0 := by
      unfold softplus
      rw [EReal.neg_bot, max_eq_right bot_le, max_eq_right bot_le, EReal.neg_top]
      exact (zero_add _).trans log1
    rw [e, if_neg bot_ne_top, if_neg EReal.zero_ne_top, sub_zero]
    unfold sigmoid Ideal.div
    rw [EReal.neg_bot]
    show (0 : EReal) = if (1 + ⊤ : EReal) = 0 then _ else 1 * (1 + ⊤ : EReal)⁻¹
    rw [EReal.add_top_of_ne_bot (by decide), if_neg EReal.top_ne_zero, EReal.inv_top, mul_zero]
  | top =>
    have e : softplus ⊤ = ⊤ := by
      unfold softplus
      rw [EReal.neg_top, max_eq_left bot_le, max_eq_left le_top, EReal.neg_top]
      show (⊤ : EReal) + Ideal.log (1 + 0) = ⊤
      rw [log1, add_zero]
    rw [e, if_pos rfl, sub_zero]
    unfold sigmoid
    rw [EReal.neg_top]
    show ((Real.exp 0 : ℝ) : EReal) = Ideal.div 1 (1 + 0)
    rw [Real.exp_zero, add_zero]
    show ((1 : ℝ) : EReal) = Ideal.div 1 ((1 : ℝ) : EReal)
    rw [Ideal.div_coe one_ne_zero, div_one, EReal.coe_one, mul_one]
  | coe r =>
    have mx : ∀ x y : ℝ, max (x : EReal) (y : EReal) = ((max x y : ℝ) : EReal) := fun x y => (EReal.coe_strictMono.monotone.map_max).symm
    have hp : 0 < 1 + Real.exp (-|r|) := by positivity
    have e : softplus r = ((max r 0 + Real.log (1 + Real.exp (-|r|)) : ℝ) : EReal) := by
      unfold softplus
      rw [← EReal.coe_neg, mx, ← EReal.coe_zero, mx, ← EReal.coe_neg]
      show ((max r 0 : ℝ) : EReal) + Ideal.log (1 + ((Real.exp (-max r (-r)) : ℝ) : EReal)) = _
      rw [← EReal.coe_one, ← EReal.coe_add]
      show ((max r 0 : ℝ) : EReal) + (if 1 + Real.exp (-max r (-r)) ≤ 0 then (⊥ : EReal) else ((Real.log (1 + Real.exp (-max r (-r))) : ℝ) : EReal)) = _
      rw [if_neg (not_le.mpr (by positivity)), ← EReal.coe_add]
      rfl
    rw [e, if_neg (EReal.coe_ne_top _), if_neg (EReal.coe_ne_top _), ← EReal.coe_sub]
    unfold sigmoid
    rw [← EReal.coe_neg]
    show ((Real.exp (r - (max r 0 + Real.log (1 + Real.exp (-|r|)))) : ℝ) : EReal) = Ideal.div 1 (1 + ((Real.exp (-r) : ℝ) : EReal))
    have hq : 1 + Real.exp (-r) ≠ 0 := by positivity
    rw [← EReal.coe_one, ← EReal.coe_add, Ideal.div_coe hq, ← EReal.coe_mul, one_mul, Real.exp_sub, Real.exp_add, Real.exp_log hp]
    refine congrArg _ ?_
    have he := Real.exp_pos r
    rcases le_total 0 r with h | h
    · rw [max_eq_left h, abs_of_nonneg h]
      field_simp
    · rw [max_eq_right h, abs_of_nonpos h, neg_neg, Real.exp_zero, one_mul, Real.exp_neg]
      field_simp
      ring

end Cert.Mlp

end
-- ==== Proof.RowCumDx.lean ====
module

public import proofs.«01_k».proof.Proof.Gen.CumDxIdeal.Value
public import proofs.«01_k».proof.Proof.Gen.CumDxRefIdeal.Run
public import proofs.«01_k».proof.Proof.Gen.CumDxRefIdeal.Read
public import proofs.«01_k».proof.Proof.Gen.CumDx
public import proofs.«01_k».proof.Proof.CumMath
public import proofs.«01_k».proof.Defs
public import Idealize.ShloMosaic.Lib.Quiescent

@[expose] public section

set_option maxRecDepth 16384
set_option backward.isDefEq.respectTransparency.types false

noncomputable section

namespace Cert.CumDxIdeal.Mlp

open Idealize.ShloMosaic Idealize.ShloMosaic.TcCoe Idealize.SL.Sem Cert.CumDxIdeal Cert.CumDxIdeal.Gen Cert.Mlp
open Idealize.ShloMosaic.Tactic

/-! The gradient of the gates' logits and of their bias, through the cumulative sum of the gates' logarithms. -/

theorem idx : ∀ t : Fin grid0.N, win0_0.index t = ![31 - t.val, 0] ∧ win0_1.index t = ![0, 0] ∧ win0_2.index t = ![31 - t.val, 0]
    ∧ win0_3.index t = ![31 - t.val, 0] ∧ win0_4.index t = ![31 - t.val, 0] ∧ win0_5.index t = ![31 - t.val, 0] ∧ win0_6.index t = ![0, 0] := by
  decide +kernel

theorem pt_lt (t : Fin cfg0.N) : t.val < 32 := Nat.lt_of_lt_of_eq t.isLt N_0

/-- Row `a` of a point's tile of rows: the tiles come last to first. -/
def row (n : ℕ) (a : Fin 256) : Fin 8192 := ⟨(31 - n) * 256 + a.val, by have := a.isLt; omega⟩

/-- The cotangent of the cumulative logarithms, at a column. -/
def cot (x2 x3 x4 : S8192x128.Idx → EReal) (b : Fin 128) (r : Fin 8192) : EReal := x2 (ix2 r b) + x3 (ix2 r b) - x4 (ix2 r b)

/-- The gradient of the logits: the sum of the cotangents from the row on, times the derivative of the logarithm of the gate. -/
def gradX (x0 : S8192x128.Idx → EReal) (x1 : S1x128.Idx → EReal) (x2 x3 x4 : S8192x128.Idx → EReal) (i : S8192x128.Idx) : EReal :=
  suffix (cot x2 x3 x4 (i 1)) (i 0).val * sigmoid (-(x0 (ix2 (i 0) (i 1)) + x1 (ix2 (0 : Fin 1) (i 1))))

/-- The gradient of the bias: the sum over the rows. -/
def gradB (x0 : S8192x128.Idx → EReal) (x1 : S1x128.Idx → EReal) (x2 x3 x4 : S8192x128.Idx → EReal) (i : S1x128.Idx) : EReal :=
  ∑ r : Fin 8192, gradX x0 x1 x2 x3 x4 (ix2 r (i 1))

variable (m : (ℓ : Loc nD τ sig) → Buf (Elt Ideal) ℓ) (c : Dev nD)

abbrev a0 : S8192x128.Idx → EReal := m ((c.tc : Thread nD τ).loc main_arg0)
abbrev a1 : S1x128.Idx → EReal := m ((c.tc : Thread nD τ).loc main_arg1)
abbrev a2 : S8192x128.Idx → EReal := m ((c.tc : Thread nD τ).loc main_arg2)
abbrev a3 : S8192x128.Idx → EReal := m ((c.tc : Thread nD τ).loc main_arg3)
abbrev a4 : S8192x128.Idx → EReal := m ((c.tc : Thread nD τ).loc main_arg4)

theorem iblk_0 (t : Fin cfg0.N) (a : Fin 256) (b : Fin 128) :
    (iblk m c 0 t : S256x128.Idx → EReal) (ix2 a b) = a0 m c (ix2 (row t.val a) b) := by
  blk_ext [iblk, (idx t).1, row]

theorem iblk_1 (t : Fin cfg0.N) (b : Fin 128) :
    (iblk m c 1 t : S1x128.Idx → EReal) (ix2 (0 : Fin 1) b) = a1 m c (ix2 (0 : Fin 1) b) := by
  blk_ext [iblk, (idx t).2.1]

theorem iblk_2 (t : Fin cfg0.N) (a : Fin 256) (b : Fin 128) :
    (iblk m c 2 t : S256x128.Idx → EReal) (ix2 a b) = a2 m c (ix2 (row t.val a) b) := by
  blk_ext [iblk, (idx t).2.2.1, row]

theorem iblk_3 (t : Fin cfg0.N) (a : Fin 256) (b : Fin 128) :
    (iblk m c 3 t : S256x128.Idx → EReal) (ix2 a b) = a3 m c (ix2 (row t.val a) b) := by
  blk_ext [iblk, (idx t).2.2.2.1, row]

theorem iblk_4 (t : Fin cfg0.N) (a : Fin 256) (b : Fin 128) :
    (iblk m c 4 t : S256x128.Idx → EReal) (ix2 a b) = a4 m c (ix2 (row t.val a) b) := by
  blk_ext [iblk, (idx t).2.2.2.2.1, row]

/-- An entry of the triangle of ones. -/
theorem tri (a k : Fin 256) : (FloatOps.sitofp (F := Ideal) .f32 (BitVec.setWidth 32 (IntOp.cmpi .sle (BitVec.ofNat 32 a.val) (BitVec.ofNat 32 k.val))) : EReal)
    = if a.val ≤ k.val then 1 else 0 := by
  have e : ∀ n : ℕ, n < 256 → (BitVec.ofNat 32 n).toInt = (n : ℤ) := fun n hn => by
    rw [BitVec.toInt_eq_toNat_of_lt (by rw [BitVec.toNat_ofNat]; omega), BitVec.toNat_ofNat, Nat.mod_eq_of_lt (by omega)]
  have w : IntOp.cmpi .sle (BitVec.ofNat 32 a.val) (BitVec.ofNat 32 k.val) = BitVec.ofBool (decide (a.val ≤ k.val)) := by
    show BitVec.ofBool ((BitVec.ofNat 32 a.val).sle (BitVec.ofNat 32 k.val)) = _
    rw [BitVec.sle, e _ a.isLt, e _ k.isLt]
    congr 1
    exact decide_eq_decide.mpr Int.ofNat_le
  rw [w]
  by_cases h : a.val ≤ k.val
  · rw [if_pos h, decide_eq_true h]
    show (((1 : ℤ) : ℝ) : EReal) = 1
    rw [Int.cast_one, EReal.coe_one]
  · rw [if_neg h, decide_eq_false h]
    show (((0 : ℤ) : ℝ) : EReal) = 0
    rw [Int.cast_zero, EReal.coe_zero]

theorem p5 (X Y Z : Vec Ideal S256x128 .f32) (C : Vec Ideal S1x128 .f32) (a : Fin 256) (b : Fin 128) :
    (k0_pay5 X Y Z C (ix2 a b) : EReal)
      = ∑ k : Fin 256, (if a.val ≤ k.val then X (ix2 k b) + Y (ix2 k b) - Z (ix2 k b) else 0) + C (ix2 (0 : Fin 1) b) := by
  pointwise [k0_pay5]
  refine congrArg (fun s : EReal => s + C (ix2 (0 : Fin 1) b)) (Finset.sum_congr rfl fun k _ => ?_)
  refine (congrArg (fun s : EReal => s * (X (ix2 k b) + Y (ix2 k b) - Z (ix2 k b))) (tri a k)).trans ?_
  split_ifs
  · exact one_mul _
  · exact zero_mul _

theorem p6 (X Y Z : Vec Ideal S256x128 .f32) (C : Vec Ideal S1x128 .f32) (a : Fin 8) (b : Fin 128) :
    (k0_pay6 X Y Z C (ix2 a b) : EReal) = k0_pay5 X Y Z C (ix2 (0 : Fin 256) b) := by
  pointwise [k0_pay6]

theorem p7 (X : Vec Ideal S256x128 .f32) (B : Vec Ideal S1x128 .f32) (a : Fin 256) (b : Fin 128) :
    (k0_pay7 X B (ix2 a b) : EReal) = sigmoid (-(X (ix2 a b) + B (ix2 (0 : Fin 1) b))) := by
  pointwise [k0_pay7, sigmoid, zero_sub]

theorem p1 (C S : FVec Ideal S256x128 .f32) (a : Fin 256) (b : Fin 128) : (k0_pay1 C S (ix2 a b) : EReal) = C (ix2 a b) * S (ix2 a b) := by
  pointwise [k0_pay1]

theorem p2 (C S : FVec Ideal S256x128 .f32) (b : Fin 128) :
    (k0_pay2 C S (ix2 (0 : Fin 1) b) : EReal) = ∑ a : Fin 256, C (ix2 a b) * S (ix2 a b) := by
  pointwise [k0_pay2, k0_pay1]

theorem p3 (C S : FVec Ideal S256x128 .f32) (A : Vec Ideal S1x128 .f32) (b : Fin 128) :
    (k0_pay3 C S A (ix2 (0 : Fin 1) b) : EReal) = A (ix2 (0 : Fin 1) b) + k0_pay2 C S (ix2 (0 : Fin 1) b) := by
  pointwise [k0_pay3]

theorem p4 (a : Fin 8) (b : Fin 128) : (k0_pay4 (F := Ideal) (ix2 a b) : EReal) = 0 := by
  pointwise [k0_pay4]

/-- The first row of the carried block. -/
abbrev top (S : Vec Ideal S8x128 .f32) : Vec Ideal S1x128 .f32 := View.ld S (Rect.unit (s := S8x128) ![0, 0] ![1, 128] inb_S8x128_S1x128_0_0)

theorem top_apply (S : Vec Ideal S8x128 .f32) (b : Fin 128) : top S (ix2 (0 : Fin 1) b) = S (ix2 (0 : Fin 8) b) :=
  View.ld_unit_apply_of S _ _ _ _ _ fun a => by
    match a with
    | ⟨0, _⟩ => rfl
    | ⟨1, _⟩ => exact (Nat.zero_add _).symm

/-- A point's sums from each row of its tile on, the carried block being `S`. -/
abbrev sums (t : Fin cfg0.N) (S : Vec Ideal S8x128 .f32) : FVec Ideal S256x128 .f32 := k0_pay5 (iblk m c 2 t) (iblk m c 3 t) (iblk m c 4 t) (top S)

/-- A point's derivatives of the logarithms. -/
abbrev slope (t : Fin cfg0.N) : FVec Ideal S256x128 .f32 := k0_pay7 (iblk m c 0 t) (iblk m c 1 t)

theorem firsts (t : Fin cfg0.N) (h : t.val = 0) :
    outsAt0 m c t.val t.isLt = (k0_pay1 (sums m c t (k0_pay4 (F := Ideal))) (slope m c t), k0_pay2 (sums m c t (k0_pay4 (F := Ideal))) (slope m c t),
      k0_pay6 (iblk m c 2 t) (iblk m c 3 t) (iblk m c 4 t) (top (k0_pay4 (F := Ideal)))) := by
  rw [outsAt0_A m c t (by omega) (by omega) (by omega)]
  frame_out
  refine congrArg (fun C : Vec Ideal S1x128 .f32 => (k0_pay1 (k0_pay5 (iblk m c 2 t) (iblk m c 3 t) (iblk m c 4 t) C) (slope m c t),
    k0_pay2 (k0_pay5 (iblk m c 2 t) (iblk m c 3 t) (iblk m c 4 t) C) (slope m c t), k0_pay6 (iblk m c 2 t) (iblk m c 3 t) (iblk m c 4 t) C)) ?_
  refine (View.readCov_eq_canon' _ _ _).trans ?_
  refine congrArg (fun G : Vec Ideal S8x128 .f32 => View.ld G (Rect.unit (s := S8x128) ![0, 0] ![1, 128] inb_S8x128_S1x128_0_0)) ?_
  exact View.canon_cons_unit_lit (S := S8x128) inb_S8x128_S8x128_0_0 _ [] (by decide)

theorem nexts (n : ℕ) (h : n + 1 < cfg0.N) :
    outsAt0 m c (n + 1) h = (k0_pay1 (sums m c ⟨n + 1, h⟩ (outsAt0 m c n (Nat.lt_of_succ_lt h)).2.2) (slope m c ⟨n + 1, h⟩),
      k0_pay3 (sums m c ⟨n + 1, h⟩ (outsAt0 m c n (Nat.lt_of_succ_lt h)).2.2) (slope m c ⟨n + 1, h⟩) (outsAt0 m c n (Nat.lt_of_succ_lt h)).2.1,
      k0_pay6 (iblk m c 2 ⟨n + 1, h⟩) (iblk m c 3 ⟨n + 1, h⟩) (iblk m c 4 ⟨n + 1, h⟩) (top (outsAt0 m c n (Nat.lt_of_succ_lt h)).2.2)) := by
  have hl : n + 1 < 32 := Nat.lt_of_lt_of_eq h N_0
  refine (outsAt0_B m c ⟨n + 1, h⟩ (by show ¬(n + 1) % 32 = 0; omega) (by show ¬(n + 1) % 32 = 0; omega) (Nat.le_add_left 1 n)).trans ?_
  frame_out
  rw [read_unread_whole]
  rfl

/-- With the sum of all later rows carried in, a tile's sums are the sums to the last row. -/
theorem sums_eq (t : Fin cfg0.N) (S : Vec Ideal S8x128 .f32) (b : Fin 128)
    (hS : S (ix2 (0 : Fin 8) b) = suffix (cot (a2 m c) (a3 m c) (a4 m c) b) ((32 - t.val) * 256)) (a : Fin 256) :
    (sums m c t S (ix2 a b) : EReal) = suffix (cot (a2 m c) (a3 m c) (a4 m c) b) (row t.val a).val := by
  have ht := pt_lt t
  refine (p5 _ _ _ _ a b).trans ?_
  rw [top_apply, hS]
  have e : (32 - t.val) * 256 = (31 - t.val) * 256 + 256 := by omega
  refine Eq.trans ?_ (suffix_add _ (s := (31 - t.val) * 256 + 256) (by show (31 - t.val) * 256 + a.val ≤ _; omega) (by omega))
  rw [e]
  refine congrArg (fun s : EReal => s + suffix (cot (a2 m c) (a3 m c) (a4 m c) b) ((31 - t.val) * 256 + 256)) ?_
  refine Eq.trans (Finset.sum_congr rfl fun k _ => ?_) (tile_suffix (pad (cot (a2 m c) (a3 m c) (a4 m c) b)) ((31 - t.val) * 256) 256 a)
  refine if_congr Iff.rfl ?_ rfl
  rw [iblk_2, iblk_3, iblk_4]
  exact (pad_of_lt (cot (a2 m c) (a3 m c) (a4 m c) b) (row t.val k).isLt).symm

/-- What the carried block's rows hold after each tile: the sum of the rows from the tile on. -/
theorem carried (b : Fin 128) : ∀ (n : ℕ) (h : n < cfg0.N) (s : Fin 8),
    ((outsAt0 m c n h).2.2 (ix2 s b) : EReal) = suffix (cot (a2 m c) (a3 m c) (a4 m c) b) ((31 - n) * 256) := by
  intro n
  induction n with
  | zero =>
    intro h s
    rw [firsts m c ⟨0, h⟩ rfl]
    exact (p6 _ _ _ _ s b).trans (sums_eq m c ⟨0, h⟩ (k0_pay4 (F := Ideal)) b ((p4 0 b).trans (suffix_end _).symm) 0)
  | succ n ih =>
    intro h s
    rw [nexts m c n h]
    refine (p6 _ _ _ _ s b).trans (sums_eq m c ⟨n + 1, h⟩ _ b ((ih (Nat.lt_of_succ_lt h) 0).trans ?_) 0)
    exact congrArg (fun k => suffix (cot (a2 m c) (a3 m c) (a4 m c) b) (k * 256)) (show 31 - n = 32 - (n + 1) by omega)

/-- A point's block of the gradient of the logits. -/
theorem tile (t : Fin cfg0.N) (S : Vec Ideal S8x128 .f32) (b : Fin 128)
    (hS : S (ix2 (0 : Fin 8) b) = suffix (cot (a2 m c) (a3 m c) (a4 m c) b) ((32 - t.val) * 256)) (a : Fin 256) :
    (sums m c t S (ix2 a b) * slope m c t (ix2 a b) : EReal) = gradX (a0 m c) (a1 m c) (a2 m c) (a3 m c) (a4 m c) (ix2 (row t.val a) b) := by
  rw [sums_eq m c t S b hS a]
  refine congrArg (fun s : EReal => suffix (cot (a2 m c) (a3 m c) (a4 m c) b) (row t.val a).val * s) ((p7 _ _ a b).trans ?_)
  rw [iblk_0, iblk_1]
  rfl

theorem start (b : Fin 128) : (k0_pay4 (F := Ideal) (ix2 (0 : Fin 8) b) : EReal) = suffix (cot (a2 m c) (a3 m c) (a4 m c) b) ((32 - 0) * 256) :=
  (p4 0 b).trans (suffix_end _).symm

theorem later (n : ℕ) (h : n < cfg0.N) (b : Fin 128) :
    ((outsAt0 m c n h).2.2 (ix2 (0 : Fin 8) b) : EReal) = suffix (cot (a2 m c) (a3 m c) (a4 m c) b) ((32 - (n + 1)) * 256) :=
  (carried m c b n h 0).trans (congrArg (fun k => suffix (cot (a2 m c) (a3 m c) (a4 m c) b) (k * 256)) (show 31 - n = 32 - (n + 1) by omega))

theorem pt_dx : ∀ (n : ℕ) (h : n < cfg0.N) (a : Fin 256) (b : Fin 128),
    ((outsAt0 m c n h).1 (ix2 a b) : EReal) = gradX (a0 m c) (a1 m c) (a2 m c) (a3 m c) (a4 m c) (ix2 (row n a) b)
  | 0, h, a, b => by
    rw [firsts m c ⟨0, h⟩ rfl]
    exact (p1 _ _ a b).trans (tile m c ⟨0, h⟩ _ b (start m c b) a)
  | n + 1, h, a, b => by
    rw [nexts m c n h]
    exact (p1 _ _ a b).trans (tile m c ⟨n + 1, h⟩ _ b (later m c n (Nat.lt_of_succ_lt h) b) a)

/-- One row's part of the gradient of the bias. -/
abbrev bpart (b : Fin 128) (r : Fin 8192) : EReal := gradX (a0 m c) (a1 m c) (a2 m c) (a3 m c) (a4 m c) (ix2 r b)

theorem tile_sum (t : Fin cfg0.N) (S : Vec Ideal S8x128 .f32) (b : Fin 128)
    (hS : S (ix2 (0 : Fin 8) b) = suffix (cot (a2 m c) (a3 m c) (a4 m c) b) ((32 - t.val) * 256)) :
    (k0_pay2 (sums m c t S) (slope m c t) (ix2 (0 : Fin 1) b) : EReal) = ∑ a : Fin 256, pad (bpart m c b) ((31 - t.val) * 256 + a.val) :=
  (p2 _ _ b).trans (Finset.sum_congr rfl fun a _ => (tile m c t S b hS a).trans (pad_of_lt (bpart m c b) (row t.val a).isLt).symm)

/-- The bias gradient's block after each tile of rows. -/
theorem biases (b : Fin 128) : ∀ (n : ℕ) (h : n < 32), ((outsAt0 m c n (Nat.lt_of_lt_of_eq h N_0.symm)).2.1 (ix2 (0 : Fin 1) b) : EReal)
    = ∑ s ∈ Finset.range (n + 1), ∑ a : Fin 256, pad (bpart m c b) ((31 - s) * 256 + a.val) := by
  refine running (fun n h => (outsAt0 m c n (Nat.lt_of_lt_of_eq h N_0.symm)).2.1 (ix2 (0 : Fin 1) b)) _ ?_ fun n h => ?_
  · have h0 : 0 < cfg0.N := Nat.lt_of_lt_of_eq (by decide) N_0.symm
    exact (congrArg (fun o : Vec Ideal S256x128 .f32 × Vec Ideal S1x128 .f32 × Vec Ideal S8x128 .f32 => o.2.1 (ix2 (0 : Fin 1) b)) (firsts m c ⟨0, h0⟩ rfl)).trans
      (tile_sum m c ⟨0, h0⟩ _ b (start m c b))
  · have hn : n + 1 < cfg0.N := Nat.lt_of_lt_of_eq h N_0.symm
    refine (congrArg (fun o : Vec Ideal S256x128 .f32 × Vec Ideal S1x128 .f32 × Vec Ideal S8x128 .f32 => o.2.1 (ix2 (0 : Fin 1) b)) (nexts m c n hn)).trans ?_
    refine (p3 _ _ _ b).trans ?_
    exact congrArg (fun s : EReal => ((outsAt0 m c n (Nat.lt_of_succ_lt hn)).2.1 (ix2 (0 : Fin 1) b) : EReal) + s)
      (tile_sum m c ⟨n + 1, hn⟩ _ b (later m c n (Nat.lt_of_succ_lt hn) b))

/-- The tiles taken last to first add up to the sum over all rows too. -/
theorem all_tiles (f : Fin 8192 → EReal) {n : ℕ} (h : n = 31) :
    ∑ s ∈ Finset.range (n + 1), ∑ a : Fin 256, pad f ((31 - s) * 256 + a.val) = ∑ r : Fin 8192, f r := by
  subst h
  exact (Finset.sum_range_reflect (fun s => ∑ a : Fin 256, pad f (s * 256 + a.val)) 32).trans (tiles 32 256 rfl f)

theorem arrX : (dats m 0 c).arrAt 5 cfg0.N = gradX (a0 m c) (a1 m c) (a2 m c) (a3 m c) (a4 m c) := by
  refine (dats m 0 c).arrAt_eq_of_covers 5 _ (by decide +kernel) fun t hf y => ?_
  blk_simp
  rw [after0_5]
  obtain ⟨a, b, rfl⟩ : ∃ a b, y = (ix2 a b : S256x128.Idx) := ⟨y 0, y 1, by funext i; fin_cases i <;> rfl⟩
  have e : ((cfg0.win 5).blk t).view.emb (ix2 a b : S256x128.Idx) = (ix2 (row t.val a) b : S8192x128.Idx) := by
    blk_ext [(idx t).2.2.2.2.2.1, row]
  exact (pt_dx m c t.val t.isLt a b).trans (congrArg (gradX (a0 m c) (a1 m c) (a2 m c) (a3 m c) (a4 m c)) e).symm

theorem arrB : (dats m 0 c).arrAt 6 cfg0.N = gradB (a0 m c) (a1 m c) (a2 m c) (a3 m c) (a4 m c) := by
  refine (dats m 0 c).arrAt_eq_of_covers 6 _ (by decide +kernel) fun t hf y => ?_
  blk_simp
  have h := (flush0_6 t).mp hf
  rw [after0_6]
  obtain ⟨a, b, rfl⟩ : ∃ a b, y = (ix2 a b : S1x128.Idx) := ⟨y 0, y 1, by funext i; fin_cases i <;> rfl⟩
  obtain rfl : a = 0 := Subsingleton.elim _ _
  have e : ((cfg0.win 6).blk t).view.emb (ix2 (0 : Fin 1) b : S1x128.Idx) = (ix2 (0 : Fin 1) b : S1x128.Idx) := by
    blk_ext [(idx t).2.2.2.2.2.2]
  have hl := pt_lt t
  exact ((biases m c b t.val hl).trans (all_tiles _ (by omega))).trans (congrArg (gradB (a0 m c) (a1 m c) (a2 m c) (a3 m c) (a4 m c)) e).symm

/-! The reference, stage by stage. -/

section
open Cert.CumDxRefIdeal.Read
variable (x0 : (⟨S8192x128, .f32⟩ : BufTy).Contents (Elt Ideal)) (x1 : (⟨S1x128, .f32⟩ : BufTy).Contents (Elt Ideal))
  (x2 x3 x4 : (⟨S8192x128, .f32⟩ : BufTy).Contents (Elt Ideal))

theorem zero_f32 : (FloatOps.ofBits .f32 0x00000000#32 : Ideal .f32) = (0 : EReal) := Ideal.ofBits_zero_f32

theorem inf_f32 : (FloatOps.ofBits .f32 0x7F800000#32 : Ideal .f32) = (⊤ : EReal) := by
  show Ideal.ofBits .f32 0x7F800000#32 = ⊤
  simp [Ideal.ofBits, Ideal.ieee]

/-- A choice on an equation. -/
theorem choose_eq (x y u v : EReal) : (Scalar.select (FloatOps.cmpf (F := Ideal) (φ := .f32) .oeq x y) u v : EReal) = if x = y then u else v := by
  show (if BitVec.ofBool (decide (x = y)) = 1 then u else v) = _
  by_cases h : x = y
  · rw [if_pos h, decide_eq_true h]; rfl
  · rw [if_neg h, decide_eq_false h]; rfl

/-- No extended real differs from itself. -/
theorem choose_ne (x u v : EReal) : (Scalar.select (FloatOps.cmpf (F := Ideal) (φ := .f32) .une x x) u v : EReal) = v := by
  show (if BitVec.ofBool (decide (x ≠ x)) = 1 then u else v) = _
  rw [decide_eq_false (fun h => h rfl)]; rfl

theorem ref_act (r : Fin 8192) (b : Fin 128) : (val_main_call0_v0 (F := Ideal) x0 x1 (ix2 r b) : EReal) = -(x0 (ix2 r b) + x1 (ix2 (0 : Fin 1) b)) := by
  rw [val_main_call0_v0_apply, val_main_v1_apply, val_main_v0_apply, show idx_main_v0 (ix2 r b) = ix2 (0 : Fin 1) b by funext a; fin_cases a <;> rfl]
  rfl

theorem ref_plus (i : S8192x128.Idx) : (val_main_call0_v1_0 (F := Ideal) x0 x1 i : EReal) = softplus (val_main_call0_v0 (F := Ideal) x0 x1 i) := by
  rw [val_main_call0_v1_0_apply, val_main_call0_call0_v4_apply, choose_ne, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply, zero_f32]
  generalize (val_main_call0_v0 (F := Ideal) x0 x1 i) = a
  show max (a : EReal) 0 + Ideal.log (1 + Ideal.exp (-(max (a - 0 : EReal) (-(a - 0 : EReal))))) = softplus a
  rw [sub_zero]
  rfl

theorem ref_soft (i : S8192x128.Idx) : (val_main_v2_1 (F := Ideal) x0 x1 i : EReal) = sigmoid (val_main_call0_v0 (F := Ideal) x0 x1 i) := by
  rw [val_main_v2_1_apply, val_main_call0_call0_v21_apply, val_main_call0_call0_v16_apply, val_main_call0_call0_v14_apply,
    val_main_call0_call0_v20_apply, val_main_call0_call0_v18_apply, choose_eq, choose_eq, ref_plus, val_main_call0_call0_v13_apply,
    val_main_call0_call0_v17_apply, val_main_call0_call0_v15_apply, val_main_call0_call0_v19_apply, val_main_call0_call0_cst_0_apply,
    val_main_call0_call0_cst_2_apply, val_main_call0_call0_cst_1_apply, val_main_call0_call0_cst_3_apply, zero_f32, inf_f32]
  exact soft _

theorem ref_sum (r : Fin 8192) (b : Fin 128) : (val_main_v6 (F := Ideal) x2 x3 x4 (ix2 r b) : EReal) = suffix (cot x2 x3 x4 b) r.val := by
  have z : ∀ i, (val_main_call2_call0_v0 (F := Ideal) i : EReal) = 0 := fun i => by
    rw [val_main_call2_call0_v0_apply, val_main_call2_call0_cst_apply, zero_f32]
  unfold val_main_v6 Host.reduceWindowAdd
  rw [Ideal.hostReduceWindowAdd_def, z]
  exact window_suffix 8192 8191 rfl (val_main_v5 (F := Ideal) x2 x3 x4) _ r b

theorem ref_X : (val_main_v7 (F := Ideal) x0 x1 x2 x3 x4 : S8192x128.Idx → EReal) = gradX x0 x1 x2 x3 x4 := by
  funext i
  obtain ⟨r, b, rfl⟩ : ∃ r b, i = (ix2 r b : S8192x128.Idx) := ⟨i 0, i 1, by funext i; fin_cases i <;> rfl⟩
  rw [val_main_v7_apply, val_main_call3_v1_apply, val_main_call3_v0_apply, ref_sum, ref_soft, ref_act]
  show -(-suffix (cot x2 x3 x4 b) r.val * sigmoid (-(x0 (ix2 r b) + x1 (ix2 (0 : Fin 1) b)))) = _
  rw [EReal.neg_mul, neg_neg]
  rfl

theorem idx_8 (z : Fin 1) (b : Fin 128) (k : Fin 8192) : idx_main_v8 (idx_main_v9 (ix2 z b)) k = ix2 k b := by
  funext a
  fin_cases a
  · rfl
  · exact Fin.ext (by show z.val * 128 + b.val = b.val; have := z.isLt; omega)

theorem ref_B : (val_main_v9 (F := Ideal) x0 x1 x2 x3 x4 : S1x128.Idx → EReal) = gradB x0 x1 x2 x3 x4 := by
  funext i
  obtain ⟨r, b, rfl⟩ : ∃ r b, i = (ix2 r b : S1x128.Idx) := ⟨i 0, i 1, by funext i; fin_cases i <;> rfl⟩
  rw [val_main_v9_apply, val_main_v8_apply, val_main_cst_apply]
  simp only [idx_8, ref_X]
  rw [zero_f32]
  exact zero_add _

end

/-- The printed body table and the idealised one are the same table. -/
theorem defs₀_eq : Cert.CumDx.defs₀ (F := Bits) = Cert.CumDxIdeal.defs₀ (F := Bits) := by
  unfold Cert.CumDx.defs₀ Cert.CumDxIdeal.defs₀
  refine congrArg _ ?_
  funext l x
  match l, x with
  | 0, (t, s) => rfl

theorem defs_eq : Cert.CumDx.defs (F := Bits) = Cert.CumDxIdeal.defs (F := Bits) :=
  congrArg (Pipeline.defs (Cert.CumDx.pcfgs (F := Bits))) defs₀_eq

theorem frame_bits : Cert.quiescent_CumDx := by
  intro m ρ _
  rw [defs_eq]
  exact Cert.CumDxIdeal.Gen.frame (F := Bits) m ρ

theorem frame_ref : Cert.quiescent_CumDxRefIdeal := fun m ρ _ =>
  (θ_run _ _ _).mono (fun _ h => ⟨fun c => (h c).2.2, sem_eq_zero_of_no_sems rfl _⟩) (Cert.CumDxRefIdeal.Value.run m ρ)

theorem algebraic : Cert.algebraic_CumDxIdeal_CumDxRefIdeal := by
  intro m g m' g' _ ha
  refine ⟨fun c => (dats m 0 c).arrAt 5 cfg0.N, fun c => (dats m 0 c).arrAt 6 cfg0.N, Cert.CumDxIdeal.Value.run_blocks m g, ?_⟩
  refine (θ_run _ _ _).mono (fun r h c => ?_) (Cert.CumDxRefIdeal.Value.run m' g')
  obtain ⟨r0, r1, hargs⟩ := h c
  obtain ⟨e0, e1, e2, e3, e4⟩ := ha c
  rw [Cert.CumDxRefIdeal.Read.val_main_v7_eq, e0, e1, e2, e3, e4] at r0
  rw [Cert.CumDxRefIdeal.Read.val_main_v9_eq, e0, e1, e2, e3, e4] at r1
  exact ⟨r0.trans ((ref_X _ _ _ _ _).trans (arrX m c).symm), r1.trans ((ref_B _ _ _ _ _).trans (arrB m c).symm), hargs⟩

end Cert.CumDxIdeal.Mlp

end
-- ==== Proof.RowLossHead.lean ====
module

public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.LossHead
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.LossHeadIdeal.Mlp

open Idealize.ShloMosaic Idealize.ShloMosaic.TcCoe Idealize.SL.Sem Cert.LossHeadIdeal Cert.LossHeadIdeal.Gen Cert.Mlp
open Idealize.ShloMosaic.Tactic

/-! The loss over the last norm of the rows, the gradient of the rows and the gradient of the norm's gain. -/

theorem idx : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] := by
  decide +kernel

theorem pt_lt (t : Fin cfg0.N) : t.val < 16 := Nat.lt_of_lt_of_eq t.isLt N_0

abbrev row (t : Fin cfg0.N) (a : Fin 512) : Fin 8192 := rowOf t.val (pt_lt t) a

/-- One, one half, and one over the row length, as the programs write them. -/
def one : EReal := Ideal.ofBits .f32 0x3F800000#32
def onehalf : EReal := Ideal.ofBits .f32 0x3F000000#32
def inv : EReal := Ideal.ofBits .f32 0x3A800000#32

theorem onehalf_eq : onehalf = ((1 / 2 : ℝ) : EReal) := by
  simp [onehalf, Ideal.ofBits, Ideal.ieee, -EReal.coe_mul]; norm_num

theorem inv_eq : inv = ((1 / 1024 : ℝ) : EReal) := by
  simp [inv, Ideal.ofBits, Ideal.ieee, -EReal.coe_mul]; norm_num

theorem one_eq : one = ((1 : ℝ) : EReal) := by
  simp [one, Ideal.ofBits, Ideal.ieee, -EReal.coe_mul]; norm_num

theorem len_eq : len = ((1024 : ℝ) : EReal) := by
  simp [len, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The derivative of half the mean of the squares, in the reference's factors and in one. -/
theorem cot (e : EReal) : Ideal.div (onehalf * one) len * (Ideal.ofBits .f32 0x40000000#32 * e) = e * inv := by
  rw [onehalf_eq, one_eq, len_eq, two_eq, inv_eq, Ideal.div_coe (by norm_num), ← mul_assoc, ← EReal.coe_mul, ← EReal.coe_mul,
    ← EReal.coe_mul, mul_comm]
  congr 2
  norm_num

/-- A row's errors: the normed row `x` with the gain `g` against the target `y`. -/
def err (x y g : Fin 1024 → EReal) (b : Fin 1024) : EReal := normed x g b - y b

/-- A row's mean square error. -/
def mse (x y g : Fin 1024 → EReal) : EReal := Ideal.div (∑ k, err x y g k * err x y g k) len

/-- The cotangent of the normed row. -/
def dn (x y g : Fin 1024 → EReal) (b : Fin 1024) : EReal := err x y g b * inv

/-- The gradient of one element of a row. -/
def rowD (x y g : Fin 1024 → EReal) (b : Fin 1024) : EReal :=
  dn x y g b * g b * Ideal.rsqrt (den x) + x b * normSlope x g (dn x y g) + normSlope x g (dn x y g) * x b

/-- The gradient of the rows: `x0` the rows, `x1` the targets, `x2` the gain. -/
def gradX (x0 x1 : S8192x1024.Idx → EReal) (x2 : S1x1024.Idx → EReal) (i : S8192x1024.Idx) : EReal :=
  rowD (fun k => x0 (ix2 (i 0) k)) (fun k => x1 (ix2 (i 0) k)) (fun k => x2 (ix2 (0 : Fin 1) k)) (i 1)

/-- One row's part of the gain's gradient, at a column. -/
def gpart (x0 x1 : S8192x1024.Idx → EReal) (x2 : S1x1024.Idx → EReal) (b : Fin 1024) (r : Fin 8192) : EReal :=
  gainPart (fun k => x0 (ix2 r k)) (dn (fun k => x0 (ix2 r k)) (fun k => x1 (ix2 r k)) (fun k => x2 (ix2 (0 : Fin 1) k))) b

/-- The gradient of the norm's gain. -/
def gradG (x0 x1 : S8192x1024.Idx → EReal) (x2 : S1x1024.Idx → EReal) (i : S1x1024.Idx) : EReal := ∑ r : Fin 8192, gpart x0 x1 x2 (i 1) r

/-- One row's mean square error. -/
def lpart (x0 x1 : S8192x1024.Idx → EReal) (x2 : S1x1024.Idx → EReal) (r : Fin 8192) : EReal :=
  mse (fun k => x0 (ix2 r k)) (fun k => x1 (ix2 r k)) (fun k => x2 (ix2 (0 : Fin 1) k))

/-- The loss, the same in every lane. -/
def loss (x0 x1 : S8192x1024.Idx → EReal) (x2 : S1x1024.Idx → EReal) (_ : S1x128.Idx) : EReal := onehalf * ∑ r : Fin 8192, lpart x0 x1 x2 r

variable (m : (ℓ : Loc nD τ sig) → Buf (Elt Ideal) ℓ) (c : Dev nD)

abbrev a0 : S8192x1024.Idx → EReal := m ((c.tc : Thread nD τ).loc main_arg0)
abbrev a1 : S8192x1024.Idx → EReal := m ((c.tc : Thread nD τ).loc main_arg1)
abbrev a2 : S1x1024.Idx → EReal := m ((c.tc : Thread nD τ).loc main_arg2)

theorem iblk_0 (t : Fin cfg0.N) (a : Fin 512) (b : Fin 1024) :
    (iblk m c 0 t : S512x1024.Idx → EReal) (ix2 a b) = a0 m c (ix2 (row t a) b) := by
  blk_ext [iblk, (idx t).1, row, rowOf]

theorem iblk_1 (t : Fin cfg0.N) (a : Fin 512) (b : Fin 1024) :
    (iblk m c 1 t : S512x1024.Idx → EReal) (ix2 a b) = a1 m c (ix2 (row t a) b) := by
  blk_ext [iblk, (idx t).2.1, row, rowOf]

theorem iblk_2 (t : Fin cfg0.N) (b : Fin 1024) :
    (iblk m c 2 t : S1x1024.Idx → EReal) (ix2 (0 : Fin 1) b) = a2 m c (ix2 (0 : Fin 1) b) := by
  blk_ext [iblk, (idx t).2.2.1]

theorem p8 (X Y : Vec Ideal S512x1024 .f32) (G : Vec Ideal S1x1024 .f32) (a : Fin 512) (b : Fin 1024) :
    (k0_pay8 X Y G (ix2 a b) : EReal) = err (fun k => X (ix2 a k)) (fun k => Y (ix2 a k)) (fun k => G (ix2 (0 : Fin 1) k)) b := by
  pointwise [k0_pay8, k0_pay7, k0_pay6, k0_pay5, err, normed, den, len, eps]

theorem p10 (X Y : Vec Ideal S512x1024 .f32) (G : Vec Ideal S1x1024 .f32) (a : Fin 512) (b : Fin 1024) :
    (k0_pay10 X Y G (ix2 a b) : EReal) = dn (fun k => X (ix2 a k)) (fun k => Y (ix2 a k)) (fun k => G (ix2 (0 : Fin 1) k)) b := by
  rw [dn, ← p8]
  pointwise [k0_pay10, inv]

theorem p1 (X Y : Vec Ideal S512x1024 .f32) (G : Vec Ideal S1x1024 .f32) (a : Fin 512) (b : Fin 1024) :
    (k0_pay1 X (k0_pay13 X Y G) (k0_pay14 X Y G) (Scalar.ofBits .f32 0x44800000#32) (ix2 a b) : EReal)
      = rowD (fun k => X (ix2 a k)) (fun k => Y (ix2 a k)) (fun k => G (ix2 (0 : Fin 1) k)) b := by
  unfold rowD normSlope
  simp only [← p10]
  pointwise [k0_pay1, k0_pay13, k0_pay14, k0_pay12, k0_pay6, k0_pay5, den, len, eps, half]
  simp only [Fintype.sum_unique]

theorem p11 (X Y : Vec Ideal S512x1024 .f32) (G : Vec Ideal S1x1024 .f32) (b : Fin 1024) :
    (k0_pay11 X Y G (ix2 (0 : Fin 1) b) : EReal)
      = ∑ a : Fin 512, gainPart (fun k => X (ix2 a k)) (dn (fun k => X (ix2 a k)) (fun k => Y (ix2 a k)) (fun k => G (ix2 (0 : Fin 1) k))) b := by
  unfold gainPart
  simp only [← p10]
  pointwise [k0_pay11, k0_pay7, k0_pay6, k0_pay5, den, len, eps]

theorem p9 (X Y : Vec Ideal S512x1024 .f32) (G : Vec Ideal S1x1024 .f32) :
    (k0_pay9 X Y G (ix2 (0 : Fin 1) (0 : Fin 1)) : EReal)
      = onehalf * ∑ a : Fin 512, mse (fun k => X (ix2 a k)) (fun k => Y (ix2 a k)) (fun k => G (ix2 (0 : Fin 1) k)) := by
  unfold mse
  simp only [← p8]
  pointwise [k0_pay9, onehalf, len]

theorem p2 (V : FVec Ideal S1x1 .f32) (b : Fin 128) : (k0_pay2 V (ix2 (0 : Fin 1) b) : EReal) = V (ix2 (0 : Fin 1) (0 : Fin 1)) := by
  pointwise [k0_pay2]

theorem p3 (V : FVec Ideal S1x1 .f32) (A : Vec Ideal S1x128 .f32) (b : Fin 128) :
    (k0_pay3 V A (ix2 (0 : Fin 1) b) : EReal) = A (ix2 (0 : Fin 1) b) + V (ix2 (0 : Fin 1) (0 : Fin 1)) := by
  rw [← p2 V b]
  pointwise [k0_pay3]

theorem p4 (A B : Vec Ideal S1x1024 .f32) (b : Fin 1024) :
    k0_pay4 A B (ix2 (0 : Fin 1) b) = (B (ix2 (0 : Fin 1) b) + A (ix2 (0 : Fin 1) b) : EReal) := by
  pointwise [k0_pay4]

theorem pt_dx (t : Fin cfg0.N) :
    (outsAt0 m c t.val t.isLt).1 = k0_pay1 (iblk m c 0 t) (k0_pay13 (iblk m c 0 t) (iblk m c 1 t) (iblk m c 2 t))
      (k0_pay14 (iblk m c 0 t) (iblk m c 1 t) (iblk m c 2 t)) (Scalar.ofBits .f32 0x44800000#32) := by
  have hl := pt_lt t
  by_cases h : t.val % 16 = 0
  · rw [outsAt0_A m c t h (by omega) h (by omega)]
    frame_out
  · rw [outsAt0_B m c t h (by omega) h (by omega)]
    frame_out

theorem first_loss (t : Fin cfg0.N) (h : t.val = 0) :
    (outsAt0 m c t.val t.isLt).2.1 = k0_pay2 (k0_pay9 (iblk m c 0 t) (iblk m c 1 t) (iblk m c 2 t)) := by
  rw [outsAt0_A m c t (by omega) (by omega) (by omega) (by omega)]
  frame_out

theorem next_loss (t : Fin cfg0.N) (h : 1 ≤ t.val) :
    (outsAt0 m c t.val t.isLt).2.1 = k0_pay3 (k0_pay9 (iblk m c 0 t) (iblk m c 1 t) (iblk m c 2 t))
      (outsAt0 m c (t.val - 1) (Nat.lt_of_le_of_lt (Nat.sub_le _ _) t.isLt)).2.1 := by
  have hl := pt_lt t
  rw [outsAt0_B m c t (by omega) h (by omega) h]
  frame_out

theorem first_gain (t : Fin cfg0.N) (h : t.val = 0) :
    (outsAt0 m c t.val t.isLt).2.2 = k0_pay11 (iblk m c 0 t) (iblk m c 1 t) (iblk m c 2 t) := by
  rw [outsAt0_A m c t (by omega) (by omega) (by omega) (by omega)]
  frame_out

theorem next_gain (t : Fin cfg0.N) (h : 1 ≤ t.val) :
    (outsAt0 m c t.val t.isLt).2.2 = k0_pay4 (k0_pay11 (iblk m c 0 t) (iblk m c 1 t) (iblk m c 2 t))
      (outsAt0 m c (t.val - 1) (Nat.lt_of_le_of_lt (Nat.sub_le _ _) t.isLt)).2.2 := by
  have hl := pt_lt t
  rw [outsAt0_B m c t (by omega) h (by omega) h]
  frame_out

theorem tile_loss (t : Fin cfg0.N) :
    (k0_pay9 (iblk m c 0 t) (iblk m c 1 t) (iblk m c 2 t) (ix2 (0 : Fin 1) (0 : Fin 1)) : EReal)
      = onehalf * ∑ a : Fin 512, pad (lpart (a0 m c) (a1 m c) (a2 m c)) (t.val * 512 + a.val) := by
  refine (p9 _ _ _).trans (congrArg (fun s : EReal => onehalf * s) (Finset.sum_congr rfl fun a _ => ?_))
  refine Eq.trans ?_ (pad_row (lpart (a0 m c) (a1 m c) (a2 m c)) t.val (pt_lt t) a).symm
  simp only [iblk_0, iblk_1, iblk_2]
  rfl

theorem tile_gain (t : Fin cfg0.N) (b : Fin 1024) :
    (k0_pay11 (iblk m c 0 t) (iblk m c 1 t) (iblk m c 2 t) (ix2 (0 : Fin 1) b) : EReal)
      = ∑ a : Fin 512, pad (gpart (a0 m c) (a1 m c) (a2 m c) b) (t.val * 512 + a.val) := by
  refine (p11 _ _ _ b).trans (Finset.sum_congr rfl fun a _ => ?_)
  refine Eq.trans ?_ (pad_row (gpart (a0 m c) (a1 m c) (a2 m c) b) t.val (pt_lt t) a).symm
  simp only [iblk_0, iblk_1, iblk_2]
  rfl

/-- The loss's block after each tile of rows. -/
theorem losses (b : Fin 128) : ∀ (n : ℕ) (h : n < 16), ((outsAt0 m c n (Nat.lt_of_lt_of_eq h N_0.symm)).2.1 (ix2 (0 : Fin 1) b) : EReal)
    = ∑ s ∈ Finset.range (n + 1), onehalf * ∑ a : Fin 512, pad (lpart (a0 m c) (a1 m c) (a2 m c)) (s * 512 + a.val) := by
  refine running (fun n h => (outsAt0 m c n (Nat.lt_of_lt_of_eq h N_0.symm)).2.1 (ix2 (0 : Fin 1) b)) _ ?_ fun n h => ?_
  · exact (congrFun (first_loss m c ⟨0, Nat.lt_of_lt_of_eq (by decide) N_0.symm⟩ rfl) _).trans ((p2 _ b).trans (tile_loss m c ⟨0, Nat.lt_of_lt_of_eq (by decide) N_0.symm⟩))
  · have hn : n + 1 < cfg0.N := Nat.lt_of_lt_of_eq h N_0.symm
    refine (congrFun (next_loss m c ⟨n + 1, hn⟩ (Nat.le_add_left 1 n)) _).trans ((p3 _ _ b).trans ?_)
    exact congrArg (fun s : EReal => ((outsAt0 m c n (Nat.lt_of_succ_lt hn)).2.1 (ix2 (0 : Fin 1) b) : EReal) + s) (tile_loss m c ⟨n + 1, hn⟩)

/-- The gain gradient's block after each tile of rows. -/
theorem gains (b : Fin 1024) : ∀ (n : ℕ) (h : n < 16), ((outsAt0 m c n (Nat.lt_of_lt_of_eq h N_0.symm)).2.2 (ix2 (0 : Fin 1) b) : EReal)
    = ∑ s ∈ Finset.range (n + 1), ∑ a : Fin 512, pad (gpart (a0 m c) (a1 m c) (a2 m c) b) (s * 512 + a.val) := by
  refine running (fun n h => (outsAt0 m c n (Nat.lt_of_lt_of_eq h N_0.symm)).2.2 (ix2 (0 : Fin 1) b)) _ ?_ fun n h => ?_
  · exact (congrFun (first_gain m c ⟨0, Nat.lt_of_lt_of_eq (by decide) N_0.symm⟩ rfl) _).trans (tile_gain m c ⟨0, Nat.lt_of_lt_of_eq (by decide) N_0.symm⟩ b)
  · have hn : n + 1 < cfg0.N := Nat.lt_of_lt_of_eq h N_0.symm
    refine (congrFun (next_gain m c ⟨n + 1, hn⟩ (Nat.le_add_left 1 n)) _).trans ((p4 _ _ b).trans ?_)
    exact congrArg (fun s : EReal => ((outsAt0 m c n (Nat.lt_of_succ_lt hn)).2.2 (ix2 (0 : Fin 1) b) : EReal) + s) (tile_gain m c ⟨n + 1, hn⟩ b)

theorem onehalf_sum (n : ℕ) (f : ℕ → EReal) : ∑ s ∈ Finset.range n, onehalf * f s = onehalf * ∑ s ∈ Finset.range n, f s :=
  (scale_sum onehalf (by rw [onehalf_eq]; exact EReal.coe_nonneg.mpr (by norm_num)) (by rw [onehalf_eq]; exact EReal.coe_ne_top _) _ f).symm

theorem arrX : (dats m 0 c).arrAt 3 cfg0.N = gradX (a0 m c) (a1 m c) (a2 m c) := by
  refine (dats m 0 c).arrAt_eq_of_covers 3 _ (by decide +kernel) fun t hf y => ?_
  blk_simp
  rw [after0_3]
  obtain ⟨a, b, rfl⟩ : ∃ a b, y = (ix2 a b : S512x1024.Idx) := ⟨y 0, y 1, by funext i; fin_cases i <;> rfl⟩
  have e : ((cfg0.win 3).blk t).view.emb (ix2 a b : S512x1024.Idx) = (ix2 (row t a) b : S8192x1024.Idx) := by
    blk_ext [(idx t).2.2.2.1, row, rowOf]
  refine ((congrFun (pt_dx m c t) _).trans (p1 _ _ _ a b)).trans ?_
  refine Eq.trans ?_ (congrArg (gradX (a0 m c) (a1 m c) (a2 m c)) e).symm
  simp only [iblk_0, iblk_1, iblk_2]
  rfl

theorem arrL : (dats m 0 c).arrAt 4 cfg0.N = loss (a0 m c) (a1 m c) (a2 m c) := by
  refine (dats m 0 c).arrAt_eq_of_covers 4 _ (by decide +kernel) fun t hf y => ?_
  blk_simp
  have h := (flush0_4 t).mp hf
  rw [after0_4]
  obtain ⟨a, b, rfl⟩ : ∃ a b, y = (ix2 a b : S1x128.Idx) := ⟨y 0, y 1, by funext i; fin_cases i <;> rfl⟩
  obtain rfl : a = 0 := Subsingleton.elim _ _
  have hl := pt_lt t
  exact ((losses m c b t.val hl).trans (onehalf_sum _ _)).trans (congrArg (fun s : EReal => onehalf * s) (all_rows _ (by omega)))

theorem arrG : (dats m 0 c).arrAt 5 cfg0.N = gradG (a0 m c) (a1 m c) (a2 m c) := by
  refine (dats m 0 c).arrAt_eq_of_covers 5 _ (by decide +kernel) fun t hf y => ?_
  blk_simp
  have h := (flush0_5 t).mp hf
  rw [after0_5]
  obtain ⟨a, b, rfl⟩ : ∃ a b, y = (ix2 a b : S1x1024.Idx) := ⟨y 0, y 1, by funext i; fin_cases i <;> rfl⟩
  obtain rfl : a = 0 := Subsingleton.elim _ _
  have e : ((cfg0.win 5).blk t).view.emb (ix2 (0 : Fin 1) b : S1x1024.Idx) = (ix2 (0 : Fin 1) b : S1x1024.Idx) := by
    blk_ext [(idx t).2.2.2.2.2]
  have hl := pt_lt t
  exact ((gains m c b t.val hl).trans (all_rows _ (by omega))).trans (congrArg (gradG (a0 m c) (a1 m c) (a2 m c)) e).symm

/-! The reference, stage by stage. -/

section
open Cert.LossHeadRefIdeal.Read
variable (x0 x1 : (⟨S8192x1024, .f32⟩ : BufTy).Contents (Elt Ideal)) (x2 : (⟨S1x1024, .f32⟩ : BufTy).Contents (Elt Ideal))

theorem ref_den (i : Cert.LossHeadRefIdeal.S8192x1.Idx) : (val_main_v6 (F := Ideal) x0 i : EReal) = den (fun k => x0 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x0 : S8192x1024.Idx → EReal)
    (show idx_main_v1 (idx_main_v2 i) k = ix2 (i 0) k by funext a; fin_cases a <;> rfl))

theorem idx_13 (r : Fin 8192) (b : Fin 1024) : idx_main_v13 (ix2 r b) = ix2 (0 : Fin 1) b := by funext a; fin_cases a <;> rfl

theorem idx_33 (r : Fin 8192) (b : Fin 1024) : idx_main_v33 (ix2 r b) = ix2 (0 : Fin 1) b := by funext a; fin_cases a <;> rfl

theorem ref_err (r : Fin 8192) (b : Fin 1024) : (val_main_v15 (F := Ideal) x0 x1 x2 (ix2 r b) : EReal)
    = err (fun k => x0 (ix2 r k)) (fun k => x1 (ix2 r k)) (fun k => x2 (ix2 (0 : Fin 1) k)) b := by
  simp only [val_main_v15_apply, val_main_v14_apply, val_main_v13_apply, val_main_v12_apply, val_main_v11_apply, val_main_v7_apply, ref_den, idx_13]
  rfl

theorem ref_dn (r : Fin 8192) (b : Fin 1024) : (val_main_v29 (F := Ideal) x0 x1 x2 (ix2 r b) : EReal)
    = dn (fun k => x0 (ix2 r k)) (fun k => x1 (ix2 r k)) (fun k => x2 (ix2 (0 : Fin 1) k)) b := by
  simp only [val_main_v29_apply, val_main_v28_apply, val_main_v27_apply, val_main_v26_apply, val_main_v25_apply, val_main_v24_apply,
    val_main_v18_apply, val_main_v17_apply, val_main_cst_3_apply, val_main_cst_8_apply, val_main_cst_9_apply, val_main_cst_10_apply, ref_err]
  exact cot _

theorem idx_19 (r : Fin 8192) (k : Fin 1024) : idx_main_v19 (ix1 r) k = ix2 r k := by funext a; fin_cases a <;> rfl

theorem ref_mse (r : Fin 8192) : (val_main_v21 (F := Ideal) x0 x1 x2 (ix1 r) : EReal) = lpart x0 x1 x2 r := by
  simp only [val_main_v21_apply, val_main_v20_apply, val_main_v19_apply, val_main_v16_apply, val_main_cst_4_apply, val_main_cst_5_apply, idx_19,
    ref_err]
  pointwise [lpart, mse, len]

theorem ref_L : (val_main_v49 (F := Ideal) x0 x1 x2 : S1x128.Idx → EReal) = loss x0 x1 x2 := by
  funext i
  simp only [val_main_v49_apply, val_main_v23_apply, val_main_v22_apply, val_main_cst_6_apply, val_main_cst_7_apply]
  pointwise [loss, onehalf]
  refine congrArg (fun s : EReal => Ideal.ofBits .f32 0x3F000000#32 * s) ?_
  exact Fintype.sum_equiv ⟨fun j : Cert.LossHeadRefIdeal.S8192.Idx => (j 0 : Fin 8192), fun r => ix1 r,
    fun j => by funext a; fin_cases a; rfl, fun r => rfl⟩ _ _ fun j =>
    (congrArg (val_main_v21 (F := Ideal) x0 x1 x2) (show j = ix1 (j 0) by funext a; fin_cases a; rfl)).trans (ref_mse x0 x1 x2 (j 0))

theorem idx_44 (r : Fin 8192) (b : Fin 1024) : idx_main_v44 (ix2 r b) = ix1 r := by funext a; fin_cases a; rfl

theorem idx_36 (r : Fin 8192) (z : Fin 1) (k : Fin 1024) : idx_main_v36 (idx_main_v37 (idx_main_v43 (ix1 r) z)) k = ix2 r k := by
  funext a
  fin_cases a
  · exact Fin.ext (by show r.val * 1 + z.val = r.val; have := z.isLt; omega)
  · rfl

theorem idx_31 (z : Fin 1) (b : Fin 1024) (k : Fin 8192) : idx_main_v31 (idx_main_v32 (ix2 z b)) k = ix2 k b := by
  funext a
  fin_cases a
  · rfl
  · exact Fin.ext (by show z.val * 1024 + b.val = b.val; have := z.isLt; omega)

theorem ref_43 (r : Fin 8192) : (val_main_v43 (F := Ideal) x0 x1 x2 (ix1 r) : EReal)
    = normSlope (fun k => x0 (ix2 r k)) (fun k => x2 (ix2 (0 : Fin 1) k))
      (dn (fun k => x0 (ix2 r k)) (fun k => x1 (ix2 r k)) (fun k => x2 (ix2 (0 : Fin 1) k))) := by
  simp only [val_main_v43_apply, val_main_v42_apply, val_main_v41_apply, val_main_v40_apply, val_main_v37_apply, val_main_v36_apply,
    val_main_v35_apply, val_main_v34_apply, val_main_v33_apply, val_main_v10_apply, val_main_v9_apply, val_main_v8_apply, val_main_v7_apply,
    val_main_cst_2_apply, val_main_cst_12_apply, val_main_cst_13_apply, val_main_cst_14_apply, ref_den]
  pointwise [normSlope, half, len]
  simp only [idx_36, idx_33, ref_den, ref_dn, Fintype.sum_unique]
  rfl

theorem ref_X : (val_main_v48 (F := Ideal) x0 x1 x2 : S8192x1024.Idx → EReal) = gradX x0 x1 x2 := by
  funext i
  obtain ⟨r, b, rfl⟩ : ∃ r b, i = (ix2 r b : S8192x1024.Idx) := ⟨i 0, i 1, by funext i; fin_cases i <;> rfl⟩
  simp only [val_main_v48_apply, val_main_v47_apply, val_main_v46_apply, val_main_v45_apply, val_main_v44_apply, val_main_v39_apply,
    val_main_v38_apply, val_main_v34_apply, val_main_v33_apply, val_main_v7_apply, ref_den, idx_33, idx_44, ref_43, ref_dn]
  rfl

theorem ref_G : (val_main_v32 (F := Ideal) x0 x1 x2 : S1x1024.Idx → EReal) = gradG x0 x1 x2 := by
  funext i
  obtain ⟨r, b, rfl⟩ : ∃ r b, i = (ix2 r b : S1x1024.Idx) := ⟨i 0, i 1, by funext i; fin_cases i <;> rfl⟩
  simp only [val_main_v32_apply, val_main_v31_apply, val_main_v30_apply, val_main_v12_apply, val_main_v11_apply, val_main_v7_apply,
    val_main_cst_11_apply, ref_den]
  pointwise [gradG, gpart, gainPart]
  simp only [idx_31, ref_den, ref_dn]
  rfl

end

/-- The printed body table and the idealised one are the same table. -/
theorem defs₀_eq : Cert.LossHead.defs₀ (F := Bits) = Cert.LossHeadIdeal.defs₀ (F := Bits) := by
  unfold Cert.LossHead.defs₀ Cert.LossHeadIdeal.defs₀
  refine congrArg _ ?_
  funext l x
  match l, x with
  | 0, (t, s) => rfl

theorem defs_eq : Cert.LossHead.defs (F := Bits) = Cert.LossHeadIdeal.defs (F := Bits) :=
  congrArg (Pipeline.defs (Cert.LossHead.pcfgs (F := Bits))) defs₀_eq

theorem frame_bits : Cert.quiescent_LossHead := by
  intro m ρ _
  rw [defs_eq]
  exact Cert.LossHeadIdeal.Gen.frame (F := Bits) m ρ

theorem frame_ref : Cert.quiescent_LossHeadRefIdeal := fun m ρ _ =>
  (θ_run _ _ _).mono (fun _ h => ⟨fun c => (h c).2.2.2, sem_eq_zero_of_no_sems rfl _⟩) (Cert.LossHeadRefIdeal.Value.run m ρ)

theorem algebraic : Cert.algebraic_LossHeadIdeal_LossHeadRefIdeal := by
  intro m g m' g' _ ha
  refine ⟨fun c => (dats m 0 c).arrAt 3 cfg0.N, fun c => (dats m 0 c).arrAt 4 cfg0.N, fun c => (dats m 0 c).arrAt 5 cfg0.N,
    Cert.LossHeadIdeal.Value.run_blocks m g, ?_⟩
  refine (θ_run _ _ _).mono (fun r h c => ?_) (Cert.LossHeadRefIdeal.Value.run m' g')
  obtain ⟨r0, r1, r2, hargs⟩ := h c
  obtain ⟨e0, e1, e2⟩ := ha c
  rw [Cert.LossHeadRefIdeal.Read.val_main_v48_eq, e0, e1, e2] at r0
  rw [Cert.LossHeadRefIdeal.Read.val_main_v49_eq, e0, e1, e2] at r1
  rw [Cert.LossHeadRefIdeal.Read.val_main_v32_eq, e0, e1, e2] at r2
  exact ⟨r0.trans ((ref_X _ _ _).trans (arrX m c).symm), r1.trans ((ref_L _ _ _).trans (arrL m c).symm),
    r2.trans ((ref_G _ _ _).trans (arrG m c).symm), hargs⟩

end Cert.LossHeadIdeal.Mlp

end
-- ==== Proof.RowNormFwd.lean ====
module

public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormFwd
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.NormFwdIdeal.Mlp

open Idealize.ShloMosaic Idealize.ShloMosaic.TcCoe Idealize.SL.Sem Cert.NormFwdIdeal Cert.NormFwdIdeal.Gen Cert.Mlp
open Idealize.ShloMosaic.Tactic

/-! The root-mean-square norm of each row. -/

theorem idx : ∀ t : Fin grid0.N, win0_0.index t = ![t.val, 0] ∧ win0_1.index t = ![0, 0] ∧ win0_2.index t = ![t.val, 0] := by
  decide +kernel

theorem pt_lt (t : Fin cfg0.N) : t.val < 16 := Nat.lt_of_lt_of_eq t.isLt N_0

abbrev row (t : Fin cfg0.N) (a : Fin 512) : Fin 8192 := rowOf t.val (pt_lt t) a

/-- The normed rows. -/
def val (x0 : S8192x1024.Idx → EReal) (x1 : S1x1024.Idx → EReal) (i : S8192x1024.Idx) : EReal :=
  normed (fun k => x0 (ix2 (i 0) k)) (fun k => x1 (ix2 (0 : Fin 1) k)) (i 1)

variable (m : (ℓ : Loc nD τ sig) → Buf (Elt Ideal) ℓ) (c : Dev nD)

abbrev a0 : S8192x1024.Idx → EReal := m ((c.tc : Thread nD τ).loc main_arg0)
abbrev a1 : S1x1024.Idx → EReal := m ((c.tc : Thread nD τ).loc main_arg1)

theorem iblk_0 (t : Fin cfg0.N) (a : Fin 512) (b : Fin 1024) :
    (iblk m c 0 t : S512x1024.Idx → EReal) (ix2 a b) = a0 m c (ix2 (row t a) b) := by
  blk_ext [iblk, (idx t).1, row, rowOf]

theorem iblk_1 (t : Fin cfg0.N) (b : Fin 1024) :
    (iblk m c 1 t : S1x1024.Idx → EReal) (ix2 (0 : Fin 1) b) = a1 m c (ix2 (0 : Fin 1) b) := by
  blk_ext [iblk, (idx t).2.1]

theorem p1 (X : Vec Ideal S512x1024 .f32) (G : Vec Ideal S1x1024 .f32) (a : Fin 512) (b : Fin 1024) :
    (k0_pay1 X G (ix2 a b) : EReal) = normed (fun k => X (ix2 a k)) (fun k => G (ix2 (0 : Fin 1) k)) b := by
  pointwise [k0_pay1, normed, den, len, eps]

theorem arr : (dats m 0 c).arrAt 2 cfg0.N = val (a0 m c) (a1 m c) := by
  refine (dats m 0 c).arrAt_eq_of_covers 2 _ (by decide +kernel) fun t hf y => ?_
  blk_simp
  rw [after0_2]
  obtain ⟨a, b, rfl⟩ : ∃ a b, y = (ix2 a b : S512x1024.Idx) := ⟨y 0, y 1, by funext i; fin_cases i <;> rfl⟩
  have e : ((cfg0.win 2).blk t).view.emb (ix2 a b : S512x1024.Idx) = (ix2 (row t a) b : S8192x1024.Idx) := by
    blk_ext [(idx t).2.2, row, rowOf]
  frame_out
  refine (p1 _ _ a b).trans (Eq.trans ?_ (congrArg (val (a0 m c) (a1 m c)) e).symm)
  simp only [iblk_0, iblk_1]
  rfl

section
open Cert.NormFwdRefIdeal.Read
variable (x0 : (⟨S8192x1024, .f32⟩ : BufTy).Contents (Elt Ideal)) (x1 : (⟨S1x1024, .f32⟩ : BufTy).Contents (Elt Ideal))

theorem ref_den (i : Cert.NormFwdRefIdeal.S8192x1.Idx) : (val_main_v6 (F := Ideal) x0 i : EReal) = den (fun k => x0 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x0 : S8192x1024.Idx → EReal)
    (show idx_main_v1 (idx_main_v2 i) k = ix2 (i 0) k by funext a; fin_cases a <;> rfl))

theorem ref_eq : (val_main_v12 (F := Ideal) x0 x1 : S8192x1024.Idx → EReal) = val x0 x1 := by
  funext i
  obtain ⟨r, b, rfl⟩ : ∃ r b, i = (ix2 r b : S8192x1024.Idx) := ⟨i 0, i 1, by funext i; fin_cases i <;> rfl⟩
  simp only [val_main_v12_apply, val_main_v11_apply, val_main_v10_apply, val_main_v9_apply, val_main_v8_apply, val_main_v7_apply, ref_den]
  pointwise [val, normed]
  exact congrArg (fun s : EReal => x0 (ix2 r b) * Ideal.rsqrt (den fun k => x0 (ix2 r k)) * s)
    (congrArg (x1 : S1x1024.Idx → EReal) (show idx_main_v10 (ix2 r b) = ix2 (0 : Fin 1) b by funext a; fin_cases a <;> rfl))

end

/-- The printed body table and the idealised one are the same table. -/
theorem defs₀_eq : Cert.NormFwd.defs₀ (F := Bits) = Cert.NormFwdIdeal.defs₀ (F := Bits) := by
  unfold Cert.NormFwd.defs₀ Cert.NormFwdIdeal.defs₀
  refine congrArg _ ?_
  funext l x
  match l, x with
  | 0, (t, s) => rfl

theorem defs_eq : Cert.NormFwd.defs (F := Bits) = Cert.NormFwdIdeal.defs (F := Bits) :=
  congrArg (Pipeline.defs (Cert.NormFwd.pcfgs (F := Bits))) defs₀_eq

theorem frame_bits : Cert.quiescent_NormFwd := by
  intro m ρ _
  rw [defs_eq]
  exact Cert.NormFwdIdeal.Gen.frame (F := Bits) m ρ

theorem frame_ref : Cert.quiescent_NormFwdRefIdeal := fun m ρ _ =>
  (θ_run _ _ _).mono (fun _ h => ⟨fun c => (h c).2, sem_eq_zero_of_no_sems rfl _⟩) (Cert.NormFwdRefIdeal.Value.run m ρ)

theorem algebraic : Cert.algebraic_NormFwdIdeal_NormFwdRefIdeal := by
  intro m g m' g' _ ha
  refine ⟨fun c => (dats m 0 c).arrAt 2 cfg0.N, Cert.NormFwdIdeal.Value.run_blocks m g, ?_⟩
  refine (θ_run _ _ _).mono (fun r h c => ?_) (Cert.NormFwdRefIdeal.Value.run m' g')
  obtain ⟨r0, hargs⟩ := h c
  obtain ⟨e0, e1⟩ := ha c
  rw [Cert.NormFwdRefIdeal.Read.val_main_v12_eq, e0, e1] at r0
  exact ⟨r0.trans ((ref_eq _ _).trans (arr m c).symm), hargs⟩

end Cert.NormFwdIdeal.Mlp

end
-- ==== Proof.RowGateFwd.lean ====
module

public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.GateFwd
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.GateFwdIdeal.Mlp

open Idealize.ShloMosaic Idealize.ShloMosaic.TcCoe Idealize.SL.Sem Cert.GateFwdIdeal Cert.GateFwdIdeal.Gen Cert.Mlp
open Idealize.ShloMosaic.Tactic

/-! The gated linear unit with what is added to it, and the root-mean-square norm of the result. -/

theorem idx : ∀ t : Fin grid0.N, win0_0.index t = ![t.val, 0] ∧ win0_1.index t = ![t.val, 0] ∧ win0_2.index t = ![0, 0]
    ∧ win0_3.index t = ![t.val, 0] ∧ win0_4.index t = ![t.val, 0] := by
  decide +kernel

theorem pt_lt (t : Fin cfg0.N) : t.val < 16 := Nat.lt_of_lt_of_eq t.isLt N_0

abbrev row (t : Fin cfg0.N) (a : Fin 512) : Fin 8192 := rowOf t.val (pt_lt t) a

/-- A row after the unit: `x` what is added, `z` the row of values and gates. -/
def gated (x : Fin 1024 → EReal) (z : Fin 2048 → EReal) (b : Fin 1024) : EReal := x b + z (valCol b) * sigmoid (z (gateCol b))

/-- The rows after the unit. -/
def out (x0 : S8192x1024.Idx → EReal) (x1 : S8192x2048.Idx → EReal) (i : S8192x1024.Idx) : EReal :=
  gated (fun k => x0 (ix2 (i 0) k)) (fun k => x1 (ix2 (i 0) k)) (i 1)

/-- Their norm. -/
def norm (x0 : S8192x1024.Idx → EReal) (x1 : S8192x2048.Idx → EReal) (x2 : S1x1024.Idx → EReal) (i : S8192x1024.Idx) : EReal :=
  normed (gated (fun k => x0 (ix2 (i 0) k)) (fun k => x1 (ix2 (i 0) k))) (fun k => x2 (ix2 (0 : Fin 1) k)) (i 1)

variable (m : (ℓ : Loc nD τ sig) → Buf (Elt Ideal) ℓ) (c : Dev nD)

abbrev a0 : S8192x1024.Idx → EReal := m ((c.tc : Thread nD τ).loc main_arg0)
abbrev a1 : S8192x2048.Idx → EReal := m ((c.tc : Thread nD τ).loc main_arg1)
abbrev a2 : S1x1024.Idx → EReal := m ((c.tc : Thread nD τ).loc main_arg2)

theorem iblk_0 (t : Fin cfg0.N) (a : Fin 512) (b : Fin 1024) :
    (iblk m c 0 t : S512x1024.Idx → EReal) (ix2 a b) = a0 m c (ix2 (row t a) b) := by
  blk_ext [iblk, (idx t).1, row, rowOf]

theorem iblk_1 (t : Fin cfg0.N) (a : Fin 512) (b : Fin 2048) :
    (iblk m c 1 t : S512x2048.Idx → EReal) (ix2 a b) = a1 m c (ix2 (row t a) b) := by
  blk_ext [iblk, (idx t).2.1, row, rowOf]

theorem iblk_2 (t : Fin cfg0.N) (b : Fin 1024) :
    (iblk m c 2 t : S1x1024.Idx → EReal) (ix2 (0 : Fin 1) b) = a2 m c (ix2 (0 : Fin 1) b) := by
  blk_ext [iblk, (idx t).2.2.1]

theorem p1 (X : Vec Ideal S512x1024 .f32) (Z : Vec Ideal S512x2048 .f32) (a : Fin 512) (b : Fin 1024) :
    (k0_pay1 X Z (ix2 a b) : EReal) = gated (fun k => X (ix2 a k)) (fun k => Z (ix2 a k)) b := by
  pointwise [k0_pay1, gated, sigmoid, gateCol, valCol, zero_sub]

theorem p2 (X : Vec Ideal S512x1024 .f32) (Z : Vec Ideal S512x2048 .f32) (G : Vec Ideal S1x1024 .f32) (a : Fin 512) (b : Fin 1024) :
    (k0_pay2 X Z G (ix2 a b) : EReal)
      = normed (gated (fun k => X (ix2 a k)) (fun k => Z (ix2 a k))) (fun k => G (ix2 (0 : Fin 1) k)) b := by
  unfold k0_pay2
  generalize hY : k0_pay1 X Z = Y
  have e : ∀ k, (Y (ix2 a k) : EReal) = gated (fun k => X (ix2 a k)) (fun k => Z (ix2 a k)) k := fun k => hY ▸ p1 X Z a k
  rw [← funext e]
  pointwise [normed, den, len, eps]

theorem arrO : (dats m 0 c).arrAt 3 cfg0.N = out (a0 m c) (a1 m c) := by
  refine (dats m 0 c).arrAt_eq_of_covers 3 _ (by decide +kernel) fun t hf y => ?_
  blk_simp
  rw [after0_3]
  obtain ⟨a, b, rfl⟩ : ∃ a b, y = (ix2 a b : S512x1024.Idx) := ⟨y 0, y 1, by funext i; fin_cases i <;> rfl⟩
  have e : ((cfg0.win 3).blk t).view.emb (ix2 a b : S512x1024.Idx) = (ix2 (row t a) b : S8192x1024.Idx) := by
    blk_ext [(idx t).2.2.2.1, row, rowOf]
  frame_out
  refine (p1 _ _ a b).trans (Eq.trans ?_ (congrArg (out (a0 m c) (a1 m c)) e).symm)
  simp only [iblk_0, iblk_1]
  rfl

theorem arrN : (dats m 0 c).arrAt 4 cfg0.N = norm (a0 m c) (a1 m c) (a2 m c) := by
  refine (dats m 0 c).arrAt_eq_of_covers 4 _ (by decide +kernel) fun t hf y => ?_
  blk_simp
  rw [after0_4]
  obtain ⟨a, b, rfl⟩ : ∃ a b, y = (ix2 a b : S512x1024.Idx) := ⟨y 0, y 1, by funext i; fin_cases i <;> rfl⟩
  have e : ((cfg0.win 4).blk t).view.emb (ix2 a b : S512x1024.Idx) = (ix2 (row t a) b : S8192x1024.Idx) := by
    blk_ext [(idx t).2.2.2.2, row, rowOf]
  frame_out
  refine (p2 _ _ _ a b).trans (Eq.trans ?_ (congrArg (norm (a0 m c) (a1 m c) (a2 m c)) e).symm)
  simp only [iblk_0, iblk_1, iblk_2]
  rfl

section
open Cert.GateFwdRefIdeal.Read
variable (x0 : (⟨S8192x1024, .f32⟩ : BufTy).Contents (Elt Ideal)) (x1 : (⟨S8192x2048, .f32⟩ : BufTy).Contents (Elt Ideal))
  (x2 : (⟨S1x1024, .f32⟩ : BufTy).Contents (Elt Ideal))

theorem idx_0 (r : Fin 8192) (b : Fin 1024) : idx_main_v0 (ix2 r b) = ix2 r (valCol b) := by funext a; fin_cases a <;> rfl

theorem idx_1 (r : Fin 8192) (b : Fin 1024) : idx_main_v1 (ix2 r b) = ix2 r (gateCol b) := by funext a; fin_cases a <;> rfl

theorem ref_row (r : Fin 8192) (b : Fin 1024) : (val_main_v9 (F := Ideal) x0 x1 (ix2 r b) : EReal)
    = gated (fun k => x0 (ix2 r k)) (fun k => x1 (ix2 r k)) b := by
  simp only [val_main_v9_apply, val_main_v8_apply, val_main_v7_apply, val_main_v6_apply, val_main_v5_apply, val_main_v4_apply, val_main_v3_apply,
    val_main_v2_apply, val_main_v1_apply, val_main_v0_apply, val_main_cst_apply, val_main_cst_0_apply, idx_0, idx_1]
  pointwise [gated, sigmoid]

theorem ref_out : (val_main_v9 (F := Ideal) x0 x1 : S8192x1024.Idx → EReal) = out x0 x1 := by
  funext i
  obtain ⟨r, b, rfl⟩ : ∃ r b, i = (ix2 r b : S8192x1024.Idx) := ⟨i 0, i 1, by funext i; fin_cases i <;> rfl⟩
  exact ref_row x0 x1 r b

theorem ref_den (i : Cert.GateFwdRefIdeal.S8192x1.Idx) : (val_main_v16 (F := Ideal) x0 x1 i : EReal)
    = den (gated (fun k => x0 (ix2 (i 0) k)) (fun k => x1 (ix2 (i 0) k))) := by
  simp only [val_main_v16_apply, val_main_v15_apply, val_main_v14_apply, val_main_v13_apply, val_main_v12_apply, val_main_v11_apply,
    val_main_v10_apply, val_main_cst_1_apply, val_main_cst_2_apply, val_main_cst_3_apply]
  pointwise [eps, len]
  exact congrArg den (funext fun k => (congrArg (val_main_v9 (F := Ideal) x0 x1 : S8192x1024.Idx → EReal)
    (show idx_main_v11 (idx_main_v12 i) k = ix2 (i 0) k by funext a; fin_cases a <;> rfl)).trans (ref_row x0 x1 (i 0) k))

theorem ref_norm : (val_main_v22 (F := Ideal) x0 x1 x2 : S8192x1024.Idx → EReal) = norm x0 x1 x2 := by
  funext i
  obtain ⟨r, b, rfl⟩ : ∃ r b, i = (ix2 r b : S8192x1024.Idx) := ⟨i 0, i 1, by funext i; fin_cases i <;> rfl⟩
  simp only [val_main_v22_apply, val_main_v21_apply, val_main_v20_apply, val_main_v19_apply, val_main_v18_apply, val_main_v17_apply, ref_den,
    ref_row]
  pointwise [norm, normed]
  exact congrArg (fun s : EReal => gated (fun k => x0 (ix2 r k)) (fun k => x1 (ix2 r k)) b
      * Ideal.rsqrt (den (gated (fun k => x0 (ix2 r k)) (fun k => x1 (ix2 r k)))) * s)
    (congrArg (x2 : S1x1024.Idx → EReal) (show idx_main_v20 (ix2 r b) = ix2 (0 : Fin 1) b by funext a; fin_cases a <;> rfl))

end

/-- The printed body table and the idealised one are the same table. -/
theorem defs₀_eq : Cert.GateFwd.defs₀ (F := Bits) = Cert.GateFwdIdeal.defs₀ (F := Bits) := by
  unfold Cert.GateFwd.defs₀ Cert.GateFwdIdeal.defs₀
  refine congrArg _ ?_
  funext l x
  match l, x with
  | 0, (t, s) => rfl

theorem defs_eq : Cert.GateFwd.defs (F := Bits) = Cert.GateFwdIdeal.defs (F := Bits) :=
  congrArg (Pipeline.defs (Cert.GateFwd.pcfgs (F := Bits))) defs₀_eq

theorem frame_bits : Cert.quiescent_GateFwd := by
  intro m ρ _
  rw [defs_eq]
  exact Cert.GateFwdIdeal.Gen.frame (F := Bits) m ρ

theorem frame_ref : Cert.quiescent_GateFwdRefIdeal := fun m ρ _ =>
  (θ_run _ _ _).mono (fun _ h => ⟨fun c => (h c).2.2, sem_eq_zero_of_no_sems rfl _⟩) (Cert.GateFwdRefIdeal.Value.run m ρ)

theorem algebraic : Cert.algebraic_GateFwdIdeal_GateFwdRefIdeal := by
  intro m g m' g' _ ha
  refine ⟨fun c => (dats m 0 c).arrAt 3 cfg0.N, fun c => (dats m 0 c).arrAt 4 cfg0.N, Cert.GateFwdIdeal.Value.run_blocks m g, ?_⟩
  refine (θ_run _ _ _).mono (fun r h c => ?_) (Cert.GateFwdRefIdeal.Value.run m' g')
  obtain ⟨r0, r1, hargs⟩ := h c
  obtain ⟨e0, e1, e2⟩ := ha c
  rw [Cert.GateFwdRefIdeal.Read.val_main_v9_eq, e0, e1] at r0
  rw [Cert.GateFwdRefIdeal.Read.val_main_v22_eq, e0, e1, e2] at r1
  exact ⟨r0.trans ((ref_out _ _).trans (arrO m c).symm), r1.trans ((ref_norm _ _ _).trans (arrN m c).symm), hargs⟩

end Cert.GateFwdIdeal.Mlp

end
-- ==== Proof.RowGateDx.lean ====
module

public import proofs.«01_k».proof.Proof.Gen.GateDxIdeal.Value
public import proofs.«01_k».proof.Proof.Gen.GateDxRefIdeal.Run
public import proofs.«01_k».proof.Proof.Gen.GateDxRefIdeal.Read
public import proofs.«01_k».proof.Proof.Gen.GateDx
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.GateDxIdeal.Mlp

open Idealize.ShloMosaic Idealize.ShloMosaic.TcCoe Idealize.SL.Sem Cert.GateDxIdeal Cert.GateDxIdeal.Gen Cert.Mlp
open Idealize.ShloMosaic.Tactic

/-! The gradient of the gated linear unit's two halves: of the values, and of the gates through the sigmoid function. -/

theorem idx : ∀ t : Fin grid0.N, win0_0.index t = ![t.val, 0] ∧ win0_1.index t = ![t.val, 0] ∧ win0_2.index t = ![t.val, 0] := by
  decide +kernel

theorem pt_lt (t : Fin cfg0.N) : t.val < 16 := Nat.lt_of_lt_of_eq t.isLt N_0

abbrev row (t : Fin cfg0.N) (a : Fin 512) : Fin 8192 := rowOf t.val (pt_lt t) a

/-- The gradients of a row's values and gates side by side: `z` the row, `d` its cotangent. -/
def both (z : Fin 2048 → EReal) (d : Fin 1024 → EReal) (b : Fin 2048) : EReal :=
  if h : b.val < 1024 then d ⟨b.val, h⟩ * sigmoid (z (gateCol ⟨b.val, h⟩))
  else
    have k : b.val - 1024 < 1024 := by have := b.isLt; omega
    d ⟨b.val - 1024, k⟩ * z (valCol ⟨b.val - 1024, k⟩) * sigmoid (z (gateCol ⟨b.val - 1024, k⟩))
      * (1 - sigmoid (z (gateCol ⟨b.val - 1024, k⟩)))

def val (x0 : S8192x2048.Idx → EReal) (x1 : S8192x1024.Idx → EReal) (i : S8192x2048.Idx) : EReal :=
  both (fun k => x0 (ix2 (i 0) k)) (fun k => x1 (ix2 (i 0) k)) (i 1)

variable (m : (ℓ : Loc nD τ sig) → Buf (Elt Ideal) ℓ) (c : Dev nD)

abbrev a0 : S8192x2048.Idx → EReal := m ((c.tc : Thread nD τ).loc main_arg0)
abbrev a1 : S8192x1024.Idx → EReal := m ((c.tc : Thread nD τ).loc main_arg1)

theorem iblk_0 (t : Fin cfg0.N) (a : Fin 512) (b : Fin 2048) :
    (iblk m c 0 t : S512x2048.Idx → EReal) (ix2 a b) = a0 m c (ix2 (row t a) b) := by
  blk_ext [iblk, (idx t).1, row, rowOf]

theorem iblk_1 (t : Fin cfg0.N) (a : Fin 512) (b : Fin 1024) :
    (iblk m c 1 t : S512x1024.Idx → EReal) (ix2 a b) = a1 m c (ix2 (row t a) b) := by
  blk_ext [iblk, (idx t).2.1, row, rowOf]

theorem p1 (Z : Vec Ideal S512x2048 .f32) (D : Vec Ideal S512x1024 .f32) (a : Fin 512) (b : Fin 2048) :
    (k0_pay1 Z D (ix2 a b) : EReal) = both (fun k => Z (ix2 a k)) (fun k => D (ix2 a k)) b := by
  pointwise [k0_pay1, both, sigmoid, gateCol, valCol, zero_sub]

theorem arr : (dats m 0 c).arrAt 2 cfg0.N = val (a0 m c) (a1 m c) := by
  refine (dats m 0 c).arrAt_eq_of_covers 2 _ (by decide +kernel) fun t hf y => ?_
  blk_simp
  rw [after0_2]
  obtain ⟨a, b, rfl⟩ : ∃ a b, y = (ix2 a b : S512x2048.Idx) := ⟨y 0, y 1, by funext i; fin_cases i <;> rfl⟩
  have e : ((cfg0.win 2).blk t).view.emb (ix2 a b : S512x2048.Idx) = (ix2 (row t a) b : S8192x2048.Idx) := by
    blk_ext [(idx t).2.2, row, rowOf]
  frame_out
  refine (p1 _ _ a b).trans (Eq.trans ?_ (congrArg (val (a0 m c) (a1 m c)) e).symm)
  simp only [iblk_0, iblk_1]
  rfl

section
open Cert.GateDxRefIdeal.Read
variable (x0 : (⟨S8192x2048, .f32⟩ : BufTy).Contents (Elt Ideal)) (x1 : (⟨S8192x1024, .f32⟩ : BufTy).Contents (Elt Ideal))

theorem idx_0 (r : Fin 8192) (b : Fin 1024) : idx_main_v0 (ix2 r b) = ix2 r (valCol b) := by funext a; fin_cases a <;> rfl

theorem idx_1 (r : Fin 8192) (b : Fin 1024) : idx_main_v1 (ix2 r b) = ix2 r (gateCol b) := by funext a; fin_cases a <;> rfl

theorem ref_7 (r : Fin 8192) (b : Fin 1024) : (val_main_v7 (F := Ideal) x0 (ix2 r b) : EReal) = sigmoid (x0 (ix2 r (gateCol b))) := by
  simp only [val_main_v7_apply, val_main_v6_apply, val_main_v5_apply, val_main_v4_apply, val_main_v3_apply, val_main_v2_apply, val_main_v1_apply,
    val_main_cst_apply, val_main_cst_0_apply, idx_1]
  pointwise [sigmoid]

theorem ref_13 (r : Fin 8192) (b : Fin 1024) : (val_main_v13 (F := Ideal) x0 x1 (ix2 r b) : EReal)
    = x1 (ix2 r b) * sigmoid (x0 (ix2 r (gateCol b))) := by
  simp only [val_main_v13_apply, ref_7]
  rfl

theorem ref_14 (r : Fin 8192) (b : Fin 1024) : (val_main_v14 (F := Ideal) x0 x1 (ix2 r b) : EReal)
    = x1 (ix2 r b) * x0 (ix2 r (valCol b)) * sigmoid (x0 (ix2 r (gateCol b))) * (1 - sigmoid (x0 (ix2 r (gateCol b)))) := by
  simp only [val_main_v14_apply, val_main_v12_apply, val_main_v10_apply, val_main_v9_apply, val_main_v8_apply, val_main_v0_apply,
    val_main_cst_1_apply, ref_7, idx_0]
  pointwise []
  rw [mul_comm (x0 (ix2 r (valCol b)) : EReal), mul_assoc (x1 (ix2 r b) * x0 (ix2 r (valCol b)) : EReal)]

theorem ref_eq : (val_main_v16 (F := Ideal) x0 x1 : S8192x2048.Idx → EReal) = val x0 x1 := by
  funext i
  obtain ⟨r, b, rfl⟩ : ∃ r b, i = (ix2 r b : S8192x2048.Idx) := ⟨i 0, i 1, by funext i; fin_cases i <;> rfl⟩
  show (val_main_v15 (F := Ideal) x0 x1 (ix2 r b) : EReal) = both (fun k => x0 (ix2 r k)) (fun k => x1 (ix2 r k)) b
  unfold both val_main_v15
  split
  · rename_i h
    refine (concatenate_pair_apply_left (t := S8192x2048) (s₁ := S8192x1024) (s₂ := S8192x1024) 1 _ _ _ (ix2 r b) rfl (ix2 r ⟨b.val, h⟩) (fun q => ?_)).trans
      (ref_13 x0 x1 r ⟨b.val, h⟩)
    match q with | ⟨0, _⟩ => rfl | ⟨1, _⟩ => rfl
  · rename_i h
    have k : b.val - 1024 < 1024 := by have := b.isLt; omega
    refine (concatenate_pair_apply_right (t := S8192x2048) (s₁ := S8192x1024) (s₂ := S8192x1024) 1 _ _ _ (ix2 r b) rfl rfl (ix2 r ⟨b.val - 1024, k⟩)
      (fun q hq => ?_) (by show b.val - 1024 + 1024 = b.val; omega)).trans (ref_14 x0 x1 r ⟨b.val - 1024, k⟩)
    match q with | ⟨0, _⟩ => rfl | ⟨1, _⟩ => exact absurd rfl hq

end

/-- The printed body table and the idealised one are the same table. -/
theorem defs₀_eq : Cert.GateDx.defs₀ (F := Bits) = Cert.GateDxIdeal.defs₀ (F := Bits) := by
  unfold Cert.GateDx.defs₀ Cert.GateDxIdeal.defs₀
  refine congrArg _ ?_
  funext l x
  match l, x with
  | 0, (t, s) => rfl

theorem defs_eq : Cert.GateDx.defs (F := Bits) = Cert.GateDxIdeal.defs (F := Bits) :=
  congrArg (Pipeline.defs (Cert.GateDx.pcfgs (F := Bits))) defs₀_eq

theorem frame_bits : Cert.quiescent_GateDx := by
  intro m ρ _
  rw [defs_eq]
  exact Cert.GateDxIdeal.Gen.frame (F := Bits) m ρ

theorem frame_ref : Cert.quiescent_GateDxRefIdeal := fun m ρ _ =>
  (θ_run _ _ _).mono (fun _ h => ⟨fun c => (h c).2, sem_eq_zero_of_no_sems rfl _⟩) (Cert.GateDxRefIdeal.Value.run m ρ)

theorem algebraic : Cert.algebraic_GateDxIdeal_GateDxRefIdeal := by
  intro m g m' g' _ ha
  refine ⟨fun c => (dats m 0 c).arrAt 2 cfg0.N, Cert.GateDxIdeal.Value.run_blocks m g, ?_⟩
  refine (θ_run _ _ _).mono (fun r h c => ?_) (Cert.GateDxRefIdeal.Value.run m' g')
  obtain ⟨r0, hargs⟩ := h c
  obtain ⟨e0, e1⟩ := ha c
  rw [Cert.GateDxRefIdeal.Read.val_main_v16_eq, e0, e1] at r0
  exact ⟨r0.trans ((ref_eq _ _).trans (arr m c).symm), hargs⟩

end Cert.GateDxIdeal.Mlp

end
-- ==== Proof.RowMixDx.lean ====
module

public import proofs.«01_k».proof.Proof.Gen.MixDxIdeal.Value
public import proofs.«01_k».proof.Proof.Gen.MixDxRefIdeal.Run
public import proofs.«01_k».proof.Proof.Gen.MixDxRefIdeal.Read
public import proofs.«01_k».proof.Proof.Gen.MixDx
public import proofs.«01_k».proof.Proof.RowShared
public import proofs.«01_k».proof.Defs
public import Idealize.ShloMosaic.Lib.Quiescent

@[expose] public section

set_option maxRecDepth 16384
set_option backward.isDefEq.respectTransparency.types false

noncomputable section

namespace Cert.MixDxIdeal.Mlp

open Idealize.ShloMosaic Idealize.ShloMosaic.TcCoe Idealize.SL.Sem Cert.MixDxIdeal Cert.MixDxIdeal.Gen Cert.Mlp
open Idealize.ShloMosaic.Tactic

/-! The derivative of the root-mean-square norm of each row, with what is added to it, and the gradient of the norm's gain. -/

theorem idx : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![0, 0] := by
  decide +kernel

theorem pt_lt (t : Fin cfg0.N) : t.val < 16 := Nat.lt_of_lt_of_eq t.isLt N_0

abbrev row (t : Fin cfg0.N) (a : Fin 512) : Fin 8192 := rowOf t.val (pt_lt t) a

/-- The gradient of the rows: `x0` the rows, `x1` the gain, `x2` the cotangent of the normed rows, `x3` what is added. -/
def gradX (x0 : S8192x1024.Idx → EReal) (x1 : S1x1024.Idx → EReal) (x2 x3 : S8192x1024.Idx → EReal) (i : S8192x1024.Idx) : EReal :=
  rowGrad (fun k => x0 (ix2 (i 0) k)) (fun k => x1 (ix2 (0 : Fin 1) k)) (fun k => x2 (ix2 (i 0) k)) (x3 i) (i 1)

/-- One row's part of the gain's gradient, at a column. -/
def gpart (x0 x2 : S8192x1024.Idx → EReal) (b : Fin 1024) (r : Fin 8192) : EReal :=
  gainPart (fun k => x0 (ix2 r k)) (fun k => x2 (ix2 r k)) b

/-- The gradient of the norm's gain. -/
def gradG (x0 x2 : S8192x1024.Idx → EReal) (i : S1x1024.Idx) : EReal := ∑ r : Fin 8192, gpart x0 x2 (i 1) r

variable (m : (ℓ : Loc nD τ sig) → Buf (Elt Ideal) ℓ) (c : Dev nD)

abbrev a0 : S8192x1024.Idx → EReal := m ((c.tc : Thread nD τ).loc main_arg0)
abbrev a1 : S1x1024.Idx → EReal := m ((c.tc : Thread nD τ).loc main_arg1)
abbrev a2 : S8192x1024.Idx → EReal := m ((c.tc : Thread nD τ).loc main_arg2)
abbrev a3 : S8192x1024.Idx → EReal := m ((c.tc : Thread nD τ).loc main_arg3)

theorem iblk_0 (t : Fin cfg0.N) (a : Fin 512) (b : Fin 1024) :
    (iblk m c 0 t : S512x1024.Idx → EReal) (ix2 a b) = a0 m c (ix2 (row t a) b) := by
  blk_ext [iblk, (idx t).1, row, rowOf]

theorem iblk_1 (t : Fin cfg0.N) (a : Fin 512) (b : Fin 1024) :
    (iblk m c 1 t : S512x1024.Idx → EReal) (ix2 a b) = a2 m c (ix2 (row t a) b) := by
  blk_ext [iblk, (idx t).2.1, row, rowOf]

theorem iblk_2 (t : Fin cfg0.N) (a : Fin 512) (b : Fin 1024) :
    (iblk m c 2 t : S512x1024.Idx → EReal) (ix2 a b) = a3 m c (ix2 (row t a) b) := by
  blk_ext [iblk, (idx t).2.2.1, row, rowOf]

theorem iblk_3 (t : Fin cfg0.N) (b : Fin 1024) :
    (iblk m c 3 t : S1x1024.Idx → EReal) (ix2 (0 : Fin 1) b) = a1 m c (ix2 (0 : Fin 1) b) := by
  blk_ext [iblk, (idx t).2.2.2.1]

theorem p5 (X A H : Vec Ideal S512x1024 .f32) (G : Vec Ideal S1x1024 .f32) (a : Fin 512) (b : Fin 1024) :
    (k0_pay5 X A H G (ix2 a b) : EReal)
      = rowGrad (fun k => X (ix2 a k)) (fun k => G (ix2 (0 : Fin 1) k)) (fun k => A (ix2 a k)) (H (ix2 a b)) b := by
  pointwise [k0_pay5, k0_pay3, k0_pay2, rowGrad, normSlope, den, len, eps, half]
  simp only [Fintype.sum_unique]

theorem p4 (X A : Vec Ideal S512x1024 .f32) (b : Fin 1024) :
    (k0_pay4 X A (ix2 (0 : Fin 1) b) : EReal) = ∑ a : Fin 512, gainPart (fun k => X (ix2 a k)) (fun k => A (ix2 a k)) b := by
  pointwise [k0_pay4, k0_pay3, k0_pay2, gainPart, den, len, eps]

theorem p1 (A B : Vec Ideal S1x1024 .f32) (b : Fin 1024) :
    k0_pay1 A B (ix2 (0 : Fin 1) b) = (B (ix2 (0 : Fin 1) b) + A (ix2 (0 : Fin 1) b) : EReal) := by
  pointwise [k0_pay1]

theorem pt_dx (t : Fin cfg0.N) :
    (outsAt0 m c t.val t.isLt).1 = k0_pay5 (iblk m c 0 t) (iblk m c 1 t) (iblk m c 2 t) (iblk m c 3 t) := by
  have hl := pt_lt t
  by_cases h : t.val % 16 = 0
  · rw [outsAt0_A m c t h (by omega)]
    frame_out
  · rw [outsAt0_B m c t h (by omega)]
    frame_out

theorem first_gain (t : Fin cfg0.N) (h : t.val = 0) :
    (outsAt0 m c t.val t.isLt).2 = k0_pay4 (iblk m c 0 t) (iblk m c 1 t) := by
  rw [outsAt0_A m c t (by omega) (by omega)]
  frame_out

theorem next_gain (t : Fin cfg0.N) (h : 1 ≤ t.val) :
    (outsAt0 m c t.val t.isLt).2 = k0_pay1 (k0_pay4 (iblk m c 0 t) (iblk m c 1 t))
      (outsAt0 m c (t.val - 1) (Nat.lt_of_le_of_lt (Nat.sub_le _ _) t.isLt)).2 := by
  have hl := pt_lt t
  rw [outsAt0_B m c t (by omega) h]
  frame_out

theorem tile_gain (t : Fin cfg0.N) (b : Fin 1024) :
    (k0_pay4 (iblk m c 0 t) (iblk m c 1 t) (ix2 (0 : Fin 1) b) : EReal)
      = ∑ a : Fin 512, pad (gpart (a0 m c) (a2 m c) b) (t.val * 512 + a.val) := by
  refine (p4 _ _ b).trans (Finset.sum_congr rfl fun a _ => ?_)
  refine Eq.trans ?_ (pad_row (gpart (a0 m c) (a2 m c) b) t.val (pt_lt t) a).symm
  exact congrArg₂ (fun x y => gainPart x y b) (funext fun k => iblk_0 m c t a k) (funext fun k => iblk_1 m c t a k)

/-- The second result's block after each tile of rows. -/
theorem gain (b : Fin 1024) : ∀ (n : ℕ) (h : n < 16), ((outsAt0 m c n (Nat.lt_of_lt_of_eq h N_0.symm)).2 (ix2 (0 : Fin 1) b) : EReal)
    = ∑ s ∈ Finset.range (n + 1), ∑ a : Fin 512, pad (gpart (a0 m c) (a2 m c) b) (s * 512 + a.val) := by
  refine running (fun n h => (outsAt0 m c n (Nat.lt_of_lt_of_eq h N_0.symm)).2 (ix2 (0 : Fin 1) b)) _ ?_ fun n h => ?_
  · exact (congrFun (first_gain m c ⟨0, Nat.lt_of_lt_of_eq (by decide) N_0.symm⟩ rfl) _).trans (tile_gain m c ⟨0, Nat.lt_of_lt_of_eq (by decide) N_0.symm⟩ b)
  · have hn : n + 1 < cfg0.N := Nat.lt_of_lt_of_eq h N_0.symm
    refine (congrFun (next_gain m c ⟨n + 1, hn⟩ (Nat.le_add_left 1 n)) _).trans ((p1 _ _ b).trans ?_)
    exact congrArg (fun s : EReal => ((outsAt0 m c n (Nat.lt_of_succ_lt hn)).2 (ix2 (0 : Fin 1) b) : EReal) + s) (tile_gain m c ⟨n + 1, hn⟩ b)

theorem arrX : (dats m 0 c).arrAt 4 cfg0.N = gradX (a0 m c) (a1 m c) (a2 m c) (a3 m c) := by
  refine (dats m 0 c).arrAt_eq_of_covers 4 _ (by decide +kernel) fun t hf y => ?_
  blk_simp
  rw [after0_4]
  obtain ⟨a, b, rfl⟩ : ∃ a b, y = (ix2 a b : S512x1024.Idx) := ⟨y 0, y 1, by funext i; fin_cases i <;> rfl⟩
  have e : ((cfg0.win 4).blk t).view.emb (ix2 a b : S512x1024.Idx) = (ix2 (row t a) b : S8192x1024.Idx) := by
    blk_ext [(idx t).2.2.2.2.1, row, rowOf]
  refine ((congrFun (pt_dx m c t) _).trans (p5 _ _ _ _ a b)).trans ?_
  refine Eq.trans ?_ (congrArg (gradX (a0 m c) (a1 m c) (a2 m c) (a3 m c)) e).symm
  simp only [iblk_0, iblk_1, iblk_2, iblk_3]
  rfl

theorem arrG : (dats m 0 c).arrAt 5 cfg0.N = gradG (a0 m c) (a2 m c) := by
  refine (dats m 0 c).arrAt_eq_of_covers 5 _ (by decide +kernel) fun t hf y => ?_
  blk_simp
  have h := (flush0_5 t).mp hf
  rw [after0_5]
  obtain ⟨a, b, rfl⟩ : ∃ a b, y = (ix2 a b : S1x1024.Idx) := ⟨y 0, y 1, by funext i; fin_cases i <;> rfl⟩
  obtain rfl : a = 0 := Subsingleton.elim _ _
  have e : ((cfg0.win 5).blk t).view.emb (ix2 (0 : Fin 1) b : S1x1024.Idx) = (ix2 (0 : Fin 1) b : S1x1024.Idx) := by
    blk_ext [(idx t).2.2.2.2.2]
  have hl := pt_lt t
  exact ((gain m c b t.val hl).trans (all_rows _ (by omega))).trans (congrArg (gradG (a0 m c) (a2 m c)) e).symm

/-! The reference, stage by stage. -/

section
open Cert.MixDxRefIdeal.Read
variable (x0 : (⟨S8192x1024, .f32⟩ : BufTy).Contents (Elt Ideal)) (x1 : (⟨S1x1024, .f32⟩ : BufTy).Contents (Elt Ideal))
  (x2 x3 : (⟨S8192x1024, .f32⟩ : BufTy).Contents (Elt Ideal))

theorem ref_den (i : Cert.MixDxRefIdeal.S8192x1.Idx) : (val_main_v6 (F := Ideal) x0 i : EReal) = den (fun k => x0 (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  pointwise [eps, len]
  exact congrArg den (funext fun k => congrArg (x0 : S8192x1024.Idx → EReal)
    (show idx_main_v1 (idx_main_v2 i) k = ix2 (i 0) k by funext a; fin_cases a <;> rfl))

theorem idx_18 (r : Fin 8192) (b : Fin 1024) : idx_main_v18 (ix2 r b) = ix2 (0 : Fin 1) b := by funext a; fin_cases a <;> rfl

theorem idx_30 (r : Fin 8192) (b : Fin 1024) : idx_main_v30 (ix2 r b) = ix1 r := by funext a; fin_cases a; rfl

theorem idx_21 (r : Fin 8192) (z : Fin 1) (k : Fin 1024) : idx_main_v21 (idx_main_v22 (idx_main_v29 (ix1 r) z)) k = ix2 r k := by
  funext a
  fin_cases a
  · exact Fin.ext (by show r.val * 1 + z.val = r.val; have := z.isLt; omega)
  · rfl

theorem idx_16 (z : Fin 1) (b : Fin 1024) (k : Fin 8192) : idx_main_v16 (idx_main_v17 (ix2 z b)) k = ix2 k b := by
  funext a
  fin_cases a
  · rfl
  · exact Fin.ext (by show z.val * 1024 + b.val = b.val; have := z.isLt; omega)

theorem ref_29 (r : Fin 8192) : (val_main_v29 (F := Ideal) x0 x1 x2 (ix1 r) : EReal)
    = normSlope (fun k => x0 (ix2 r k)) (fun k => x1 (ix2 (0 : Fin 1) k)) (fun k => x2 (ix2 r k)) := by
  simp only [val_main_v29_apply, val_main_v28_apply, val_main_v27_apply, val_main_v26_apply, val_main_v22_apply, val_main_v21_apply,
    val_main_v20_apply, val_main_v19_apply, val_main_v18_apply, val_main_v10_apply, val_main_v9_apply, val_main_v8_apply, val_main_v7_apply,
    val_main_cst_2_apply, val_main_cst_4_apply, val_main_cst_5_apply, val_main_cst_6_apply, ref_den]
  pointwise [normSlope, half, len]
  simp only [idx_21, idx_18, ref_den, Fintype.sum_unique]
  rfl

theorem ref_X : (val_main_v34 (F := Ideal) x0 x1 x2 x3 : S8192x1024.Idx → EReal) = gradX x0 x1 x2 x3 := by
  funext i
  obtain ⟨r, b, rfl⟩ : ∃ r b, i = (ix2 r b : S8192x1024.Idx) := ⟨i 0, i 1, by funext i; fin_cases i <;> rfl⟩
  simp only [val_main_v34_apply, val_main_v33_apply, val_main_v32_apply, val_main_v31_apply, val_main_v30_apply, val_main_v25_apply,
    val_main_v24_apply, val_main_v23_apply, val_main_v19_apply, val_main_v18_apply, val_main_v7_apply, ref_den]
  pointwise [gradX, rowGrad]
  simp only [idx_18, idx_30, ref_29, ref_den]
  exact last_add _ _ _ _

theorem ref_G : (val_main_v17 (F := Ideal) x0 x2 : S1x1024.Idx → EReal) = gradG x0 x2 := by
  funext i
  obtain ⟨r, b, rfl⟩ : ∃ r b, i = (ix2 r b : S1x1024.Idx) := ⟨i 0, i 1, by funext i; fin_cases i <;> rfl⟩
  simp only [val_main_v17_apply, val_main_v16_apply, val_main_v15_apply, val_main_v12_apply, val_main_v11_apply, val_main_v7_apply,
    val_main_cst_3_apply, ref_den]
  pointwise [gradG, gpart, gainPart]
  simp only [idx_16, ref_den]
  rfl

end

/-- The printed body table and the idealised one are the same table. -/
theorem defs₀_eq : Cert.MixDx.defs₀ (F := Bits) = Cert.MixDxIdeal.defs₀ (F := Bits) := by
  unfold Cert.MixDx.defs₀ Cert.MixDxIdeal.defs₀
  refine congrArg _ ?_
  funext l x
  match l, x with
  | 0, (t, s) => rfl

theorem defs_eq : Cert.MixDx.defs (F := Bits) = Cert.MixDxIdeal.defs (F := Bits) :=
  congrArg (Pipeline.defs (Cert.MixDx.pcfgs (F := Bits))) defs₀_eq

theorem frame_bits : Cert.quiescent_MixDx := by
  intro m ρ _
  rw [defs_eq]
  exact Cert.MixDxIdeal.Gen.frame (F := Bits) m ρ

theorem frame_ref : Cert.quiescent_MixDxRefIdeal := fun m ρ _ =>
  (θ_run _ _ _).mono (fun _ h => ⟨fun c => (h c).2.2, sem_eq_zero_of_no_sems rfl _⟩) (Cert.MixDxRefIdeal.Value.run m ρ)

theorem algebraic : Cert.algebraic_MixDxIdeal_MixDxRefIdeal := by
  intro m g m' g' _ ha
  refine ⟨fun c => (dats m 0 c).arrAt 4 cfg0.N, fun c => (dats m 0 c).arrAt 5 cfg0.N, Cert.MixDxIdeal.Value.run_blocks m g, ?_⟩
  refine (θ_run _ _ _).mono (fun r h c => ?_) (Cert.MixDxRefIdeal.Value.run m' g')
  obtain ⟨r0, r1, hargs⟩ := h c
  obtain ⟨e0, e1, e2, e3⟩ := ha c
  rw [Cert.MixDxRefIdeal.Read.val_main_v34_eq, e0, e1, e2, e3] at r0
  rw [Cert.MixDxRefIdeal.Read.val_main_v17_eq, e0, e2] at r1
  exact ⟨r0.trans ((ref_X _ _ _ _).trans (arrX m c).symm), r1.trans ((ref_G _ _).trans (arrG m c).symm), hargs⟩

end Cert.MixDxIdeal.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FoxFrame
public import proofs.«01_k».proof.Proof.FoxAll
public import proofs.«01_k».proof.Proof.MlpDownDx
public import proofs.«01_k».proof.Proof.MlpDownDw
public import proofs.«01_k».proof.Proof.MlpUpDw
public import proofs.«01_k».proof.Proof.MlpUpDx
public import proofs.«01_k».proof.Proof.MmGluDx
public import proofs.«01_k».proof.Proof.MmGluDw
public import proofs.«01_k».proof.Proof.MmOutDx
public import proofs.«01_k».proof.Proof.MmOutDw
public import proofs.«01_k».proof.Proof.MmQueryDw
public import proofs.«01_k».proof.Proof.MmQueryDx
public import proofs.«01_k».proof.Proof.MmMlpUp
public import proofs.«01_k».proof.Proof.MmMlpDown
public import proofs.«01_k».proof.Proof.MmGluFwd
public import proofs.«01_k».proof.Proof.MmOutFwd
public import proofs.«01_k».proof.Proof.MmKvfFwd
public import proofs.«01_k».proof.Proof.MmKvfDw
public import proofs.«01_k».proof.Proof.MmKvfDx
public import proofs.«01_k».proof.Proof.MmQueryFwd
public import proofs.«01_k».proof.Proof.RowAdamUp
public import proofs.«01_k».proof.Proof.RowCumDx
public import proofs.«01_k».proof.Proof.RowLossHead
public import proofs.«01_k».proof.Proof.RowNormFwd
public import proofs.«01_k».proof.Proof.RowGateFwd
public import proofs.«01_k».proof.Proof.RowGateDx
public import proofs.«01_k».proof.Proof.RowMixDx
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.GluDx.Gen.facts, Cert.GluDxIdeal.Gen.facts, Cert.GluDxRefIdeal.Gen.facts,
  Cert.GluDw.Gen.facts, Cert.GluDwIdeal.Gen.facts, Cert.GluDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.QueryDw.Gen.facts, Cert.QueryDwIdeal.Gen.facts, Cert.QueryDwRefIdeal.Gen.facts,
  Cert.QueryDx.Gen.facts, Cert.QueryDxIdeal.Gen.facts, Cert.QueryDxRefIdeal.Gen.facts,
  Cert.MlpUp.Gen.facts, Cert.MlpUpIdeal.Gen.facts, Cert.MlpUpRefIdeal.Gen.facts,
  Cert.MlpDown.Gen.facts, Cert.MlpDownIdeal.Gen.facts, Cert.MlpDownRefIdeal.Gen.facts,
  Cert.GluFwd.Gen.facts, Cert.GluFwdIdeal.Gen.facts, Cert.GluFwdRefIdeal.Gen.facts,
  Cert.OutFwd.Gen.facts, Cert.OutFwdIdeal.Gen.facts, Cert.OutFwdRefIdeal.Gen.facts,
  Cert.KvfFwd.Gen.facts, Cert.KvfFwdIdeal.Gen.facts, Cert.KvfFwdRefIdeal.Gen.facts,
  Cert.KvfDw.Gen.facts, Cert.KvfDwIdeal.Gen.facts, Cert.KvfDwRefIdeal.Gen.facts,
  Cert.KvfDx.Gen.facts, Cert.KvfDxIdeal.Gen.facts, Cert.KvfDxRefIdeal.Gen.facts,
  Cert.MixDx.Gen.facts, Cert.MixDxIdeal.Gen.facts, Cert.MixDxRefIdeal.Gen.facts,
  Cert.GateDx.Gen.facts, Cert.GateDxIdeal.Gen.facts, Cert.GateDxRefIdeal.Gen.facts,
  Cert.GateFwd.Gen.facts, Cert.GateFwdIdeal.Gen.facts, Cert.GateFwdRefIdeal.Gen.facts,
  Cert.NormFwd.Gen.facts, Cert.NormFwdIdeal.Gen.facts, Cert.NormFwdRefIdeal.Gen.facts,
  Cert.LossHead.Gen.facts, Cert.LossHeadIdeal.Gen.facts, Cert.LossHeadRefIdeal.Gen.facts,
  Cert.AdamUp.Gen.facts, Cert.AdamUpIdeal.Gen.facts, Cert.AdamUpRefIdeal.Gen.facts,
  Cert.QueryFwd.Gen.facts, Cert.QueryFwdIdeal.Gen.facts, Cert.QueryFwdRefIdeal.Gen.facts, Cert.CumDx.Gen.facts, Cert.CumDxIdeal.Gen.facts, Cert.CumDxRefIdeal.Gen.facts,
  Cert.Pre_finite.facts,
  fun m ρ _ => Cert.Kernel.Fox.frame m ρ,
  fun m ρ _ => Cert.KernelIdeal.Fox.frame m ρ,
  fun m ρ _ => Cert.KernelIdeal.Fox.frame m ρ,
  fun m ρ _ => Cert.KernelIdeal.Fox.ref_frame m ρ,
  fun m ρ _ => Cert.KernelIdeal.Fox.ref_frame m ρ,
  Cert.DownDxIdeal.Mlp.frame_bits, fun m ρ _ => Cert.DownDxIdeal.Gen.frame m ρ, Cert.DownDxIdeal.Mlp.frame_ref,
  Cert.DownDwIdeal.Mlp.frame_bits, fun m ρ _ => Cert.DownDwIdeal.Gen.frame m ρ, Cert.DownDwIdeal.Mlp.frame_ref,
  Cert.UpDwIdeal.Mlp.frame_bits, fun m ρ _ => Cert.UpDwIdeal.Gen.frame m ρ, Cert.UpDwIdeal.Mlp.frame_ref,
  Cert.UpDxIdeal.Mlp.frame_bits, fun m ρ _ => Cert.UpDxIdeal.Gen.frame m ρ, Cert.UpDxIdeal.Mlp.frame_ref,
  Cert.GluDxIdeal.Mlp.frame_bits, fun m ρ _ => Cert.GluDxIdeal.Gen.frame m ρ, Cert.GluDxIdeal.Mlp.frame_ref,
  Cert.GluDwIdeal.Mlp.frame_bits, fun m ρ _ => Cert.GluDwIdeal.Gen.frame m ρ, Cert.GluDwIdeal.Mlp.frame_ref,
  Cert.OutDxIdeal.Mlp.frame_bits, fun m ρ _ => Cert.OutDxIdeal.Gen.frame m ρ, Cert.OutDxIdeal.Mlp.frame_ref,
  Cert.OutDwIdeal.Mlp.frame_bits, fun m ρ _ => Cert.OutDwIdeal.Gen.frame m ρ, Cert.OutDwIdeal.Mlp.frame_ref,
  Cert.QueryDwIdeal.Mlp.frame_bits, fun m ρ _ => Cert.QueryDwIdeal.Gen.frame m ρ, Cert.QueryDwIdeal.Mlp.frame_ref,
  Cert.QueryDxIdeal.Mlp.frame_bits, fun m ρ _ => Cert.QueryDxIdeal.Gen.frame m ρ, Cert.QueryDxIdeal.Mlp.frame_ref,
  Cert.MlpUpIdeal.Mlp.frame_bits, fun m ρ _ => Cert.MlpUpIdeal.Gen.frame m ρ, Cert.MlpUpIdeal.Mlp.frame_ref,
  Cert.MlpDownIdeal.Mlp.frame_bits, fun m ρ _ => Cert.MlpDownIdeal.Gen.frame m ρ, Cert.MlpDownIdeal.Mlp.frame_ref,
  Cert.GluFwdIdeal.Mlp.frame_bits, fun m ρ _ => Cert.GluFwdIdeal.Gen.frame m ρ, Cert.GluFwdIdeal.Mlp.frame_ref,
  Cert.OutFwdIdeal.Mlp.frame_bits, fun m ρ _ => Cert.OutFwdIdeal.Gen.frame m ρ, Cert.OutFwdIdeal.Mlp.frame_ref,
  Cert.KvfFwdIdeal.Mlp.frame_bits, fun m ρ _ => Cert.KvfFwdIdeal.Gen.frame m ρ, Cert.KvfFwdIdeal.Mlp.frame_ref,
  Cert.KvfDwIdeal.Mlp.frame_bits, fun m ρ _ => Cert.KvfDwIdeal.Gen.frame m ρ, Cert.KvfDwIdeal.Mlp.frame_ref,
  Cert.KvfDxIdeal.Mlp.frame_bits, fun m ρ _ => Cert.KvfDxIdeal.Gen.frame m ρ, Cert.KvfDxIdeal.Mlp.frame_ref,
  Cert.MixDxIdeal.Mlp.frame_bits, fun m ρ _ => Cert.MixDxIdeal.Gen.frame m ρ, Cert.MixDxIdeal.Mlp.frame_ref,
  Cert.GateDxIdeal.Mlp.frame_bits, fun m ρ _ => Cert.GateDxIdeal.Gen.frame m ρ, Cert.GateDxIdeal.Mlp.frame_ref,
  Cert.GateFwdIdeal.Mlp.frame_bits, fun m ρ _ => Cert.GateFwdIdeal.Gen.frame m ρ, Cert.GateFwdIdeal.Mlp.frame_ref,
  Cert.NormFwdIdeal.Mlp.frame_bits, fun m ρ _ => Cert.NormFwdIdeal.Gen.frame m ρ, Cert.NormFwdIdeal.Mlp.frame_ref,
  Cert.LossHeadIdeal.Mlp.frame_bits, fun m ρ _ => Cert.LossHeadIdeal.Gen.frame m ρ, Cert.LossHeadIdeal.Mlp.frame_ref,
  Cert.AdamUpIdeal.Mlp.frame_bits, fun m ρ _ => Cert.AdamUpIdeal.Gen.frame m ρ, Cert.AdamUpIdeal.Mlp.frame_ref,
  Cert.QueryFwdIdeal.Mlp.frame_bits, fun m ρ _ => Cert.QueryFwdIdeal.Gen.frame m ρ, Cert.QueryFwdIdeal.Mlp.frame_ref,
  Cert.CumDxIdeal.Mlp.frame_bits, fun m ρ _ => Cert.CumDxIdeal.Gen.frame m ρ, Cert.CumDxIdeal.Mlp.frame_ref,
  IdealRules.named_const.statement Cert.KernelIdeal.κ "ln2" .f32 0x3F317218#32 ((Real.log 2 : ℝ) : EReal) rfl,
  Cert.KernelIdeal.Fox.algebraic,
  trivial, Cert.DownDxIdeal.Mlp.algebraic,
  trivial, Cert.DownDwIdeal.Mlp.algebraic,
  trivial, Cert.UpDwIdeal.Mlp.algebraic,
  trivial, Cert.UpDxIdeal.Mlp.algebraic,
  trivial, Cert.GluDxIdeal.Mlp.algebraic,
  trivial, Cert.GluDwIdeal.Mlp.algebraic,
  trivial, Cert.OutDxIdeal.Mlp.algebraic,
  trivial, Cert.OutDwIdeal.Mlp.algebraic,
  trivial, Cert.QueryDwIdeal.Mlp.algebraic,
  trivial, Cert.QueryDxIdeal.Mlp.algebraic,
  trivial, Cert.MlpUpIdeal.Mlp.algebraic,
  trivial, Cert.MlpDownIdeal.Mlp.algebraic,
  trivial, Cert.GluFwdIdeal.Mlp.algebraic,
  trivial, Cert.OutFwdIdeal.Mlp.algebraic,
  trivial, Cert.KvfFwdIdeal.Mlp.algebraic,
  trivial, Cert.KvfDwIdeal.Mlp.algebraic,
  trivial, Cert.KvfDxIdeal.Mlp.algebraic,
  trivial, Cert.MixDxIdeal.Mlp.algebraic,
  trivial, Cert.GateDxIdeal.Mlp.algebraic,
  trivial, Cert.GateFwdIdeal.Mlp.algebraic,
  trivial, Cert.NormFwdIdeal.Mlp.algebraic,
  trivial, Cert.LossHeadIdeal.Mlp.algebraic,
  trivial, Cert.AdamUpIdeal.Mlp.algebraic,
  IdealRules.named_const.statement Cert.QueryFwdIdeal.κ "scale" .f32 0x3E38AA3B#32 (((8 * (Real.log 2))⁻¹ : ℝ) : EReal) rfl,
  Cert.QueryFwdIdeal.Mlp.algebraic,
  trivial, Cert.CumDxIdeal.Mlp.algebraic⟩

end Cert.Proof

end
